-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "qscale" .f32 0x3E38AA3B#32 (((Real.log 2)⁻¹ * (1 / 8) : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v12_3)) (v2 : (c : Dev Cert.KernelIdeal.nD) → Buf (Elt Ideal) ((c.tc : Thread Cert.KernelIdeal.nD Cert.KernelIdeal.τ).loc Cert.KernelIdeal.main_v12_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v12_3) = v1 c
          ∧ r.2.mem ((c.tc : Thread Cert.KernelIdeal.nD Cert.KernelIdeal.τ).loc Cert.KernelIdeal.main_v12_4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_v71) = v1 c
          ∧ r.2.mem ((c.tc : Thread Cert.Reference2Ideal.nD Cert.Reference2Ideal.τ).loc Cert.Reference2Ideal.main_v73) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S4x4096x1024 : Shape := ⟨3, ![4, 4096, 1024]⟩
abbrev S4x1x1024 : Shape := ⟨3, ![4, 1, 1024]⟩
abbrev S1024x4616 : Shape := ⟨2, ![1024, 4616]⟩
abbrev S8 : Shape := ⟨1, ![8]⟩
abbrev S_ : Shape := ⟨0, ![]⟩

class Facts : Prop where
  bcast_S_S4x1x1024 : S_.BroadcastsInDim S4x1x1024 (![] : Fin 0 → Fin S4x1x1024.rank)
  reducesTo_S4x1x1024_S_d0_1_2 : S4x1x1024.ReducesTo [0, 1, 2] S_
  h_S_ : 0 < S_.numel
  bcast_S_S1024x4616 : S_.BroadcastsInDim S1024x4616 (![] : Fin 0 → Fin S1024x4616.rank)
  reducesTo_S1024x4616_S_d0_1 : S1024x4616.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S4x4096x1024 .f32) (main_arg1 : FVec F S4x1x1024 .f32) (main_arg2 : FVec F S4x1x1024 .f32) (main_arg3 : FVec F S1024x4616 .f32) (main_arg4 : FVec F S8 .f32) : IVec S_ 1 :=
  let main_v0 : FVec F S4x1x1024 .f32 := Host.absf main_arg1
  let main_cst : FVec F S_ .f32 := constant S_ .f32 0x7F800000#32
  let main_v1 : FVec F S4x1x1024 .f32 := broadcastInDim S4x1x1024 ![] bcast_S_S4x1x1024 main_cst
  let main_v2 : IVec S4x1x1024 1 := cmpf .olt main_v0 main_v1
  let main_c : IVec S_ 1 := constantI S_ 1 1#1
  let main_v3 : IVec S_ 1 := (fun x v => Host.reduce IntOp.andi x v reducesTo_S4x1x1024_S_d0_1_2 h_S_) main_v2 main_c
  let main_v4 : FVec F S4x1x1024 .f32 := Host.absf main_arg2
  let main_cst_0 : FVec F S_ .f32 := constant S_ .f32 0x7F800000#32
  let main_v5 : FVec F S4x1x1024 .f32 := broadcastInDim S4x1x1024 ![] bcast_S_S4x1x1024 main_cst_0
  let main_v6 : IVec S4x1x1024 1 := cmpf .olt main_v4 main_v5
  let main_c_1 : IVec S_ 1 := constantI S_ 1 1#1
  let main_v7 : IVec S_ 1 := (fun x v => Host.reduce IntOp.andi x v reducesTo_S4x1x1024_S_d0_1_2 h_S_) main_v6 main_c_1
  let main_v8 : IVec S_ 1 := andi main_v3 main_v7
  let main_v9 : FVec F S1024x4616 .f32 := Host.absf main_arg3
  let main_cst_2 : FVec F S_ .f32 := constant S_ .f32 0x7F800000#32
  let main_v10 : FVec F S1024x4616 .f32 := broadcastInDim S1024x4616 ![] bcast_S_S1024x4616 main_cst_2
  let main_v11 : IVec S1024x4616 1 := cmpf .olt main_v9 main_v10
  let main_c_3 : IVec S_ 1 := constantI S_ 1 1#1
  let main_v12 : IVec S_ 1 := (fun x v => Host.reduce IntOp.andi x v reducesTo_S1024x4616_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S4x4096x1024 : Shape := ⟨3, ![4, 4096, 1024]⟩
abbrev S4x1x1024 : Shape := ⟨3, ![4, 1, 1024]⟩
abbrev S1024x4616 : Shape := ⟨2, ![1024, 4616]⟩
abbrev S8 : Shape := ⟨1, ![8]⟩
abbrev S3 : Shape := ⟨1, ![3]⟩
abbrev S16384x1024 : Shape := ⟨2, ![16384, 1024]⟩
abbrev S1024x1536 : Shape := ⟨2, ![1024, 1536]⟩
abbrev S1024x8 : Shape := ⟨2, ![1024, 8]⟩
abbrev S_ : Shape := ⟨0, ![]⟩
abbrev S1024x128 : Shape := ⟨2, ![1024, 128]⟩
abbrev S1024x1024 : Shape := ⟨2, ![1024, 1024]⟩
abbrev S1024x2048 : Shape := ⟨2, ![1024, 2048]⟩
abbrev S128 : Shape := ⟨1, ![128]⟩
abbrev S1x128 : Shape := ⟨2, ![1, 128]⟩
abbrev S16384x1536 : Shape := ⟨2, ![16384, 1536]⟩
abbrev S16384x512 : Shape := ⟨2, ![16384, 512]⟩
abbrev S16384x2048 : Shape := ⟨2, ![16384, 2048]⟩
abbrev S512x1024 : Shape := ⟨2, ![512, 1024]⟩
abbrev S1x1x1024 : Shape := ⟨3, ![1, 1, 1024]⟩
abbrev S512x1536 : Shape := ⟨2, ![512, 1536]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩
abbrev S512x128 : Shape := ⟨2, ![512, 128]⟩
abbrev S2048x128 : Shape := ⟨2, ![2048, 128]⟩
abbrev S1 : Shape := ⟨1, ![1]⟩
abbrev S2048x256 : Shape := ⟨2, ![2048, 256]⟩
abbrev S2x2048x256 : Shape := ⟨3, ![2, 2048, 256]⟩
abbrev S2x2048x128 : Shape := ⟨3, ![2, 2048, 128]⟩
abbrev S1x2048x128 : Shape := ⟨3, ![1, 2048, 128]⟩
abbrev S512x256 : Shape := ⟨2, ![512, 256]⟩
abbrev S1x512x256 : Shape := ⟨3, ![1, 512, 256]⟩
abbrev S1x512x128 : Shape := ⟨3, ![1, 512, 128]⟩
abbrev S1024x256 : Shape := ⟨2, ![1024, 256]⟩
abbrev S1536x128 : Shape := ⟨2, ![1536, 128]⟩
abbrev S1536x256 : Shape := ⟨2, ![1536, 256]⟩

abbrev nBuf : Space → Nat
  | .hbm => 27
  | .vmem => 38
  | .smem => 3
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024x4616, .f32⟩
  | .hbm, ⟨4, _⟩ => ⟨S8, .f32⟩
  | .hbm, ⟨5, _⟩ => ⟨S16384x1024, .f32⟩
  | .hbm, ⟨6, _⟩ => ⟨S1024x1536, .f32⟩
  | .hbm, ⟨7, _⟩ => ⟨S1024x1536, .bf16⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1024x1024, .f32⟩
  | .hbm, ⟨14, _⟩ => ⟨S1024x1024, .bf16⟩
  | .hbm, ⟨15, _⟩ => ⟨S1024x2048, .f32⟩
  | .hbm, ⟨16, _⟩ => ⟨S1024x2048, .bf16⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S16384x1536, .bf16⟩
  | .hbm, ⟨22, _⟩ => ⟨S16384x1024, .bf16⟩
  | .hbm, ⟨23, _⟩ => ⟨S16384x1024, .bf16⟩
  | .hbm, ⟨24, _⟩ => ⟨S16384x512, .f32⟩
  | .hbm, ⟨25, _⟩ => ⟨S16384x2048, .f32⟩
  | .hbm, ⟨26, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1536, .bf16⟩
  | .local _ .vmem, ⟨7, _⟩ => ⟨S1024x128, .bf16⟩
  | .local _ .vmem, ⟨8, _⟩ => ⟨S1024x1024, .bf16⟩
  | .local _ .vmem, ⟨9, _⟩ => ⟨S1024x2048, .bf16⟩
  | .local _ .vmem, ⟨10, _⟩ => ⟨S1x128, .f32⟩
  | .local _ .vmem, ⟨11, _⟩ => ⟨S512x1536, .bf16⟩
  | .local _ .vmem, ⟨12, _⟩ => ⟨S512x1536, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x512, .f32⟩
  | .local _ .vmem, ⟨18, _⟩ => ⟨S512x512, .f32⟩
  | .local _ .vmem, ⟨19, _⟩ => ⟨S512x2048, .f32⟩
  | .local _ .vmem, ⟨20, _⟩ => ⟨S512x2048, .f32⟩
  | .local _ .vmem, ⟨21, _⟩ => ⟨S1x128, .f32⟩
  | .local _ .vmem, ⟨22, _⟩ => ⟨S2048x128, .bf16⟩
  | .local _ .vmem, ⟨23, _⟩ => ⟨S2048x128, .bf16⟩
  | .local _ .vmem, ⟨24, _⟩ => ⟨S2048x256, .bf16⟩
  | .local _ .vmem, ⟨25, _⟩ => ⟨S2048x256, .bf16⟩
  | .local _ .vmem, ⟨26, _⟩ => ⟨S2048x128, .bf16⟩
  | .local _ .vmem, ⟨27, _⟩ => ⟨S2048x128, .bf16⟩
  | .local _ .vmem, ⟨28, _⟩ => ⟨S2048x256, .bf16⟩
  | .local _ .vmem, ⟨29, _⟩ => ⟨S2048x256, .bf16⟩
  | .local _ .vmem, ⟨30, _⟩ => ⟨S2048x128, .bf16⟩
  | .local _ .vmem, ⟨31, _⟩ => ⟨S2048x128, .bf16⟩
  | .local _ .vmem, ⟨32, _⟩ => ⟨S2048x128, .bf16⟩
  | .local _ .vmem, ⟨33, _⟩ => ⟨S2048x128, .bf16⟩
  | .local _ .vmem, ⟨34, _⟩ => ⟨S2x2048x256, .bf16⟩
  | .local _ .vmem, ⟨35, _⟩ => ⟨S2x2048x128, .f32⟩
  | .local _ .vmem, ⟨36, _⟩ => ⟨S2x2048x128, .f32⟩
  | .local _ .vmem, ⟨37, _⟩ => ⟨S2048x128, .f32⟩
  | .local _ .smem, ⟨0, _⟩ => ⟨S3, .i32⟩
  | .local _ .smem, ⟨1, _⟩ => ⟨S3, .i32⟩
  | .local _ .smem, ⟨2, _⟩ => ⟨S3, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_2 : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_3 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev main_v13 : Ref sig .tc := ⟨.hbm, 26, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_scratch0 : Ref sig .tc := ⟨.vmem, 34, rfl⟩
abbrev cc1_scratch1 : Ref sig .tc := ⟨.vmem, 35, rfl⟩
abbrev cc1_scratch2 : Ref sig .tc := ⟨.vmem, 36, rfl⟩
abbrev cc1_scratch3 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28
abbrev cc1_sem4_0 : DmaSem sig := 29
abbrev cc1_sem4_1 : DmaSem sig := 30
abbrev cc1_sem5_0 : DmaSem sig := 31
abbrev cc1_sem5_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨3, ![4, 4, 3], ![false, false, false]⟩

abbrev pre1 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k1_off1 (i : grid1.Coords) : Fin 1 → Nat :=
  let arg2 : BitVec 32 := BitVec.ofNat 32 (i 2).val
  let v1 : Index := Scalar.indexCast arg2
  ![v1.toNat]
def k1_cond4 (v3 : BitVec 32) : BitVec 1 :=
  let c2_i32 : BitVec 32 := 2#32
  let v40 : BitVec 32 := Scalar.andi v3 c2_i32
  let c0_i32_12 : BitVec 32 := 0#32
  let v41 : BitVec 1 := Scalar.cmpi .ne v40 c0_i32_12
  let v42 : BitVec 32 := Scalar.extui v41
  let c0_i32_13 : BitVec 32 := 0#32
  let v43 : BitVec 1 := Scalar.cmpi .ne v42 c0_i32_13
  v43

def cc1_transform_0 (k1_off1_inb : ∀ i : grid1.Coords, ∀ a, (k1_off1 i) a + S1.size a ≤ S3.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : Index := Scalar.indexCast arg2
  let v2 : BitVec 32 := pf.at 0 (Rect.unit (s := S3) ![v1.toNat] S1.size (k1_off1_inb i)) numel1_S1
  let v3 : BitVec 32 := Scalar.addi v0 v2
  let c0_i32 : BitVec 32 := 0#32
  ![v3.toNat, arg1.toNat]

def cc1_transform_1 (k1_off1_inb : ∀ i : grid1.Coords, ∀ a, (k1_off1 i) a + S1.size a ≤ S3.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : Index := Scalar.indexCast arg2
  let v2 : BitVec 32 := pf.at 0 (Rect.unit (s := S3) ![v1.toNat] S1.size (k1_off1_inb i)) numel1_S1
  let v3 : BitVec 32 := Scalar.addi v0 v2
  let c0_i32 : BitVec 32 := 0#32
  ![v3.toNat, arg1.toNat]

def cc1_transform_2 (k1_off1_inb : ∀ i : grid1.Coords, ∀ a, (k1_off1 i) a + S1.size a ≤ S3.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : Index := Scalar.indexCast arg2
  let v2 : BitVec 32 := pf.at 1 (Rect.unit (s := S3) ![v1.toNat] S1.size (k1_off1_inb i)) numel1_S1
  let v3 : BitVec 32 := Scalar.addi v0 v2
  let c4_i32 : BitVec 32 := 4#32
  let v4 : BitVec 32 := Scalar.addi c4_i32 arg1
  let c0_i32 : BitVec 32 := 0#32
  ![v3.toNat, v4.toNat]

def cc1_transform_3 (k1_off1_inb : ∀ i : grid1.Coords, ∀ a, (k1_off1 i) a + S1.size a ≤ S3.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : Index := Scalar.indexCast arg2
  let v2 : BitVec 32 := pf.at 1 (Rect.unit (s := S3) ![v1.toNat] S1.size (k1_off1_inb i)) numel1_S1
  let v3 : BitVec 32 := Scalar.addi v0 v2
  let c0_i32 : BitVec 32 := 0#32
  ![v3.toNat, arg1.toNat]

def cc1_transform_4 (k1_off1_inb : ∀ i : grid1.Coords, ∀ a, (k1_off1 i) a + S1.size a ≤ S3.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : Index := Scalar.indexCast arg2
  let v2 : BitVec 32 := pf.at 1 (Rect.unit (s := S3) ![v1.toNat] S1.size (k1_off1_inb i)) numel1_S1
  let v3 : BitVec 32 := Scalar.addi v0 v2
  let c8_i32 : BitVec 32 := 8#32
  let v4 : BitVec 32 := Scalar.addi c8_i32 arg1
  let c0_i32 : BitVec 32 := 0#32
  ![v3.toNat, v4.toNat]

def cc1_transform_5 (k1_off1_inb : ∀ i : grid1.Coords, ∀ a, (k1_off1 i) a + S1.size a ≤ S3.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : Index := Scalar.indexCast arg2
  let v2 : BitVec 32 := pf.at 0 (Rect.unit (s := S3) ![v1.toNat] S1.size (k1_off1_inb i)) numel1_S1
  let v3 : BitVec 32 := Scalar.addi v0 v2
  let c0_i32 : BitVec 32 := 0#32
  ![v3.toNat, arg1.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S2048x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]
-- ==== KernelIdeal.lean ====
variable {F : FTy → Type} [FloatOps F] [Named F]
def κ : String → Option EReal := fun
  | "log2e" => some (((Real.log 2)⁻¹ : ℝ) : EReal)
  | "qscale" => some (((Real.log 2)⁻¹ * (1 / 8) : ℝ) : EReal)
  | _ => none
-- ==== ReferenceIdeal.lean ====
abbrev S4x4096x1024 : Shape := ⟨3, ![4, 4096, 1024]⟩
abbrev S4x1x1024 : Shape := ⟨3, ![4, 1, 1024]⟩
abbrev S1024x4616 : Shape := ⟨2, ![1024, 4616]⟩
abbrev S8 : Shape := ⟨1, ![8]⟩
abbrev S_ : Shape := ⟨0, ![]⟩
abbrev S4x4096 : Shape := ⟨2, ![4, 4096]⟩
abbrev S4x4096x1 : Shape := ⟨3, ![4, 4096, 1]⟩
abbrev S4x4096x4616 : Shape := ⟨3, ![4, 4096, 4616]⟩
abbrev S4x4096x512 : Shape := ⟨3, ![4, 4096, 512]⟩
abbrev S4x4096x8 : Shape := ⟨3, ![4, 4096, 8]⟩
abbrev S1x1x8 : Shape := ⟨3, ![1, 1, 8]⟩
abbrev S4x8x4096 : Shape := ⟨3, ![4, 8, 4096]⟩
abbrev S4x4096x8x64 : Shape := ⟨4, ![4, 4096, 8, 64]⟩
abbrev S4x8x4096x64 : Shape := ⟨4, ![4, 8, 4096, 64]⟩
abbrev S4x8x4096x4096 : Shape := ⟨4, ![4, 8, 4096, 4096]⟩
abbrev S4x8x4096x1 : Shape := ⟨4, ![4, 8, 4096, 1]⟩
abbrev S4x8x1x4096 : Shape := ⟨4, ![4, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16384x512 : Shape := ⟨2, ![16384, 512]⟩
abbrev S4x4096x2048 : Shape := ⟨3, ![4, 4096, 2048]⟩
abbrev S16384x2048 : Shape := ⟨2, ![16384, 2048]⟩

abbrev nBuf : Space → Nat
  | .hbm => 140
  | .vmem => 0
  | .smem => 0
  | _ => 0

abbrev hbmTy0_0 (i : Nat) : BufTy := match i % 128 with
  | 0 => ⟨S4x4096x1024, .f32⟩
  | 1 => ⟨S4x1x1024, .f32⟩
  | 2 => ⟨S4x1x1024, .f32⟩
  | 3 => ⟨S1024x4616, .f32⟩
  | 4 => ⟨S8, .f32⟩
  | 5 => ⟨S_, .f32⟩
  | 6 => ⟨S4x4096, .f32⟩
  | 7 => ⟨S4x4096x1, .f32⟩
  | 8 => ⟨S_, .f32⟩
  | 9 => ⟨S4x4096x1, .f32⟩
  | 10 => ⟨S4x4096x1, .f32⟩
  | 11 => ⟨S4x4096x1024, .f32⟩
  | 12 => ⟨S4x4096x1024, .f32⟩
  | 13 => ⟨S4x4096x1024, .f32⟩
  | 14 => ⟨S_, .f32⟩
  | 15 => ⟨S4x4096, .f32⟩
  | 16 => ⟨S4x4096x1, .f32⟩
  | 17 => ⟨S_, .f32⟩
  | 18 => ⟨S4x4096x1, .f32⟩
  | 19 => ⟨S4x4096x1, .f32⟩
  | 20 => ⟨S4x4096x1024, .f32⟩
  | 21 => ⟨S4x4096x1024, .f32⟩
  | 22 => ⟨S_, .f32⟩
  | 23 => ⟨S4x4096x1, .f32⟩
  | 24 => ⟨S4x4096x1, .f32⟩
  | 25 => ⟨S4x4096x1, .f32⟩
  | 26 => ⟨S4x4096x1024, .f32⟩
  | 27 => ⟨S4x4096x1024, .f32⟩
  | 28 => ⟨S_, .f32⟩
  | 29 => ⟨S4x1x1024, .f32⟩
  | 30 => ⟨S4x1x1024, .f32⟩
  | 31 => ⟨S4x4096x1024, .f32⟩
  | 32 => ⟨S4x4096x1024, .f32⟩
  | 33 => ⟨S4x4096x1024, .f32⟩
  | 34 => ⟨S4x4096x1024, .f32⟩
  | 35 => ⟨S4x4096x4616, .f32⟩
  | 36 => ⟨S4x4096x512, .f32⟩
  | 37 => ⟨S4x4096x512, .f32⟩
  | 38 => ⟨S4x4096x512, .f32⟩
  | 39 => ⟨S4x4096x8, .f32⟩
  | 40 => ⟨S4x4096x512, .f32⟩
  | 41 => ⟨S4x4096x512, .f32⟩
  | 42 => ⟨S4x4096x1024, .f32⟩
  | 43 => ⟨S4x4096x1024, .f32⟩
  | 44 => ⟨S1x1x8, .f32⟩
  | 45 => ⟨S4x4096x8, .f32⟩
  | 46 => ⟨S4x4096x8, .f32⟩
  | 47 => ⟨S4x4096x8, .f32⟩
  | 48 => ⟨S_, .f32⟩
  | 49 => ⟨S4x4096x8, .f32⟩
  | 50 => ⟨S4x4096x8, .f32⟩
  | 51 => ⟨S4x4096x8, .f32⟩
  | 52 => ⟨S4x4096x8, .f32⟩
  | 53 => ⟨S4x4096x8, .i1⟩
  | 54 => ⟨S4x4096x8, .f32⟩
  | 55 => ⟨S4x4096x8, .f32⟩
  | 56 => ⟨S4x4096x8, .f32⟩
  | 57 => ⟨S4x4096x8, .f32⟩
  | 58 => ⟨S4x4096x8, .f32⟩
  | 59 => ⟨S4x4096x8, .f32⟩
  | 60 => ⟨S4x4096x8, .f32⟩
  | 61 => ⟨S4x4096x8, .f32⟩
  | 62 => ⟨S4x4096x8, .f32⟩
  | 63 => ⟨S_, .f32⟩
  | 64 => ⟨S_, .f32⟩
  | 65 => ⟨S4x4096x8, .f32⟩
  | 66 => ⟨S4x8x4096, .f32⟩
  | 67 => ⟨S4x4096x8x64, .f32⟩
  | 68 => ⟨S4x8x4096x64, .f32⟩
  | 69 => ⟨S4x4096x8x64, .f32⟩
  | 70 => ⟨S4x8x4096x64, .f32⟩
  | 71 => ⟨S4x4096x8x64, .f32⟩
  | 72 => ⟨S4x8x4096x64, .f32⟩
  | 73 => ⟨S4x8x4096x4096, .f32⟩
  | 74 => ⟨S_, .f32⟩
  | 75 => ⟨S4x8x4096x4096, .f32⟩
  | 76 => ⟨S4x8x4096x4096, .f32⟩
  | 77 => ⟨S4x8x4096x1, .f32⟩
  | 78 => ⟨S4x8x4096x4096, .f32⟩
  | 79 => ⟨S4x8x4096x4096, .f32⟩
  | 80 => ⟨S4x8x1x4096, .f32⟩
  | 81 => ⟨S4x8x4096x4096, .f32⟩
  | 82 => ⟨S4x8x4096x4096, .f32⟩
  | 83 => ⟨S4096, .i32⟩
  | 84 => ⟨S1x4096, .i32⟩
  | 85 => ⟨S4096x1, .i32⟩
  | 86 => ⟨S4096x4096, .i32⟩
  | 87 => ⟨S4096x4096, .i32⟩
  | 88 => ⟨S4096x4096, .i1⟩
  | 89 => ⟨S_, .f32⟩
  | 90 => ⟨S_, .f32⟩
  | 91 => ⟨S4x8x4096x4096, .i1⟩
  | 92 => ⟨S4x8x4096x4096, .f32⟩
  | 93 => ⟨S4x8x4096x4096, .f32⟩
  | 94 => ⟨S_, .f32⟩
  | 95 => ⟨S4x8x4096, .f32⟩
  | 96 => ⟨S_, .f32⟩
  | 97 => ⟨S4x8x4096, .f32⟩
  | 98 => ⟨S4x8x4096, .f32⟩
  | 99 => ⟨S4x8x4096x1, .f32⟩
  | 100 => ⟨S4x8x4096x4096, .f32⟩
  | 101 => ⟨S4x8x4096x4096, .f32⟩
  | 102 => ⟨S4x8x4096x4096, .f32⟩
  | 103 => ⟨S_, .f32⟩
  | 104 => ⟨S4x8x4096, .f32⟩
  | 105 => ⟨S4x8x4096x1, .f32⟩
  | 106 => ⟨S4x8x4096x4096, .f32⟩
  | 107 => ⟨S4x8x4096x4096, .f32⟩
  | 108 => ⟨S4x8x4096x64, .f32⟩
  | 109 => ⟨S4x4096x8x64, .f32⟩
  | 110 => ⟨S16384x512, .f32⟩
  | 111 => ⟨S16384x512, .bf16⟩
  | 112 => ⟨S4x4096x512, .f32⟩
  | 113 => ⟨S4x4096x512, .f32⟩
  | 114 => ⟨S_, .f32⟩
  | 115 => ⟨S4x4096x512, .f32⟩
  | 116 => ⟨S4x4096x512, .f32⟩
  | 117 => ⟨S_, .f32⟩
  | 118 => ⟨S4x4096x512, .f32⟩
  | 119 => ⟨S4x4096x512, .f32⟩
  | 120 => ⟨S4x4096x512, .f32⟩
  | 121 => ⟨S16384x512, .f32⟩
  | 122 => ⟨S4x4096x1024, .f32⟩
  | 123 => ⟨S4x4096x1024, .f32⟩
  | 124 => ⟨S_, .f32⟩
  | 125 => ⟨S4x4096x1024, .f32⟩
  | 126 => ⟨S4x4096x1024, .f32⟩
  | 127 => ⟨S_, .f32⟩
  | _ => ⟨S4x4096x1024, .f32⟩

abbrev hbmTy0_1 (i : Nat) : BufTy := match i % 128 with
  | 0 => ⟨S4x4096x1024, .f32⟩
  | 1 => ⟨S4x4096x1024, .f32⟩
  | 2 => ⟨S4x4096x1024, .f32⟩
  | 3 => ⟨S4x4096x1024, .f32⟩
  | 4 => ⟨S_, .f32⟩
  | 5 => ⟨S4x4096x1024, .f32⟩
  | 6 => ⟨S4x4096x1024, .f32⟩
  | 7 => ⟨S_, .f32⟩
  | 8 => ⟨S4x4096x1024, .f32⟩
  | 9 => ⟨S4x4096x1024, .f32⟩
  | 10 => ⟨S4x4096x2048, .f32⟩
  | 11 => ⟨S16384x2048, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_call0_cst : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_v4 : Ref sig .tc := ⟨.hbm, 53, rfl⟩
abbrev main_call0_call0_v5 : Ref sig .tc := ⟨.hbm, 54, rfl⟩
abbrev main_call0_call0_v6 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_v1 : Ref sig .tc := ⟨.hbm, 61, rfl⟩
abbrev main_v36 : Ref sig .tc := ⟨.hbm, 62, rfl⟩
abbrev main_call1_call0_cst : Ref sig .tc := ⟨.hbm, 63, rfl⟩
abbrev main_call1_call0_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_5 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_6 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_v60 : Ref sig .tc := ⟨.hbm, 93, rfl⟩
abbrev main_cst_7 : Ref sig .tc := ⟨.hbm, 94, rfl⟩
abbrev main_v61 : Ref sig .tc := ⟨.hbm, 95, rfl⟩
abbrev main_cst_8 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_9 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_10 : Ref sig .tc := ⟨.hbm, 114, rfl⟩
abbrev main_v78 : Ref sig .tc := ⟨.hbm, 115, rfl⟩
abbrev main_v79 : Ref sig .tc := ⟨.hbm, 116, rfl⟩
abbrev main_cst_11 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_12 : Ref sig .tc := ⟨.hbm, 124, rfl⟩
abbrev main_v86 : Ref sig .tc := ⟨.hbm, 125, rfl⟩
abbrev main_v87 : Ref sig .tc := ⟨.hbm, 126, rfl⟩
abbrev main_cst_13 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_14 : Ref sig .tc := ⟨.hbm, 132, rfl⟩
abbrev main_v92 : Ref sig .tc := ⟨.hbm, 133, rfl⟩
abbrev main_v93 : Ref sig .tc := ⟨.hbm, 134, rfl⟩
abbrev main_cst_15 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩

abbrev nD : Nat := 1
abbrev τ : Topo := Topo.v7x

variable {F : FTy → Type} [FloatOps F]
-- ==== Kernel2.lean ====
abbrev S16384x512 : Shape := ⟨2, ![16384, 512]⟩
abbrev S16384x2048 : Shape := ⟨2, ![16384, 2048]⟩
abbrev S4x4096x1024 : Shape := ⟨3, ![4, 4096, 1024]⟩
abbrev S4x1x1024 : Shape := ⟨3, ![4, 1, 1024]⟩
abbrev S512x1024 : Shape := ⟨2, ![512, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x512 : Shape := ⟨2, ![512, 512]⟩
abbrev S512x2048 : Shape := ⟨2, ![512, 2048]⟩
abbrev S1x1x1024 : Shape := ⟨3, ![1, 1, 1024]⟩
abbrev S512 : Shape := ⟨1, ![512]⟩
abbrev S512x1 : Shape := ⟨2, ![512, 1]⟩

abbrev nBuf : Space → Nat
  | .hbm => 23
  | .vmem => 26
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x2048, .f32⟩
  | .hbm, ⟨3, _⟩ => ⟨S4x4096x1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x1024, .f32⟩
  | .hbm, ⟨13, _⟩ => ⟨S16384x1024, .f32⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S16384x1024, .f32⟩
  | .hbm, ⟨21, _⟩ => ⟨S16384x1024, .bf16⟩
  | .hbm, ⟨22, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .f32⟩
  | .local _ .vmem, ⟨5, _⟩ => ⟨S512x2048, .f32⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S16384x512 : Shape := ⟨2, ![16384, 512]⟩
abbrev S16384x2048 : Shape := ⟨2, ![16384, 2048]⟩
abbrev S4x4096x1024 : Shape := ⟨3, ![4, 4096, 1024]⟩
abbrev S4x1x1024 : Shape := ⟨3, ![4, 1, 1024]⟩
abbrev S512x1024 : Shape := ⟨2, ![512, 1024]⟩
abbrev S1024x1024 : Shape := ⟨2, ![1024, 1024]⟩
abbrev S1024 : Shape := ⟨1, ![1024]⟩
abbrev S4x4096x512 : Shape := ⟨3, ![4, 4096, 512]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 100
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x2048, .f32⟩
  | .hbm, ⟨3, _⟩ => ⟨S4x4096x1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x1024, .f32⟩
  | .hbm, ⟨13, _⟩ => ⟨S16384x512, .f32⟩
  | .hbm, ⟨14, _⟩ => ⟨S4x4096x512, .f32⟩
  | .hbm, ⟨15, _⟩ => ⟨S4x4096x1024, .f32⟩
  | .hbm, ⟨16, _⟩ => ⟨S16384x512, .f32⟩
  | .hbm, ⟨17, _⟩ => ⟨S4x4096x512, .f32⟩
  | .hbm, ⟨18, _⟩ => ⟨S4x4096x1024, .f32⟩
  | .hbm, ⟨19, _⟩ => ⟨S4x4096x2048, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x1024, .f32⟩
  | .hbm, ⟨51, _⟩ => ⟨S4x4096x1024, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x4096x1, .f32⟩
  | .hbm, ⟨56, _⟩ => ⟨S4x4096x1024, .f32⟩
  | .hbm, ⟨57, _⟩ => ⟨S4x4096x1024, .f32⟩
  | .hbm, ⟨58, _⟩ => ⟨S1x1x1024, .f32⟩
  | .hbm, ⟨59, _⟩ => ⟨S4x4096x1024, .f32⟩
  | .hbm, ⟨60, _⟩ => ⟨S4x4096x1024, .f32⟩
  | .hbm, ⟨61, _⟩ => ⟨S1x1x1024, .f32⟩
  | .hbm, ⟨62, _⟩ => ⟨S4x4096x1024, .f32⟩
  | .hbm, ⟨63, _⟩ => ⟨S4x4096x1024, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4x4096x1024, .f32⟩
  | .hbm, ⟨71, _⟩ => ⟨S4x4096x1024, .f32⟩
  | .hbm, ⟨72, _⟩ => ⟨S4x4096x1024, .f32⟩
  | .hbm, ⟨73, _⟩ => ⟨S_, .f32⟩
  | .hbm, ⟨74, _⟩ => ⟨S4x4096, .f32⟩
  | .hbm, ⟨75, _⟩ => ⟨S4x4096x1, .f32⟩
  | .hbm, ⟨76, _⟩ => ⟨S_, .f32⟩
  | .hbm, ⟨77, _⟩ => ⟨S4x4096x1, .f32⟩
  | .hbm, ⟨78, _⟩ => ⟨S4x4096x1, .f32⟩
  | .hbm, ⟨79, _⟩ => ⟨S4x4096x1024, .f32⟩
  | .hbm, ⟨80, _⟩ => ⟨S4x4096x1024, .f32⟩
  | .hbm, ⟨81, _⟩ => ⟨S_, .f32⟩
  | .hbm, ⟨82, _⟩ => ⟨S4x4096x1, .f32⟩
  | .hbm, ⟨83, _⟩ => ⟨S4x4096x1, .f32⟩
  | .hbm, ⟨84, _⟩ => ⟨S4x4096x1, .f32⟩
  | .hbm, ⟨85, _⟩ => ⟨S4x4096x1024, .f32⟩
  | .hbm, ⟨86, _⟩ => ⟨S4x4096x1024, .f32⟩
  | .hbm, ⟨87, _⟩ => ⟨S_, .f32⟩
  | .hbm, ⟨88, _⟩ => ⟨S4x1x1024, .f32⟩
  | .hbm, ⟨89, _⟩ => ⟨S4x1x1024, .f32⟩
  | .hbm, ⟨90, _⟩ => ⟨S4x4096x1024, .f32⟩
  | .hbm, ⟨91, _⟩ => ⟨S4x4096x1024, .f32⟩
  | .hbm, ⟨92, _⟩ => ⟨S4x4096x1024, .f32⟩
  | .hbm, ⟨93, _⟩ => ⟨S4x4096x1024, .f32⟩
  | .hbm, ⟨94, _⟩ => ⟨S4x4096x1024, .f32⟩
  | .hbm, ⟨95, _⟩ => ⟨S16384x1024, .f32⟩
  | .hbm, ⟨96, _⟩ => ⟨S16384x1024, .f32⟩
  | .hbm, ⟨97, _⟩ => ⟨S16384x1024, .bf16⟩
  | .hbm, ⟨98, _⟩ => ⟨S16384x1024, .f32⟩
  | .hbm, ⟨99, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Kernel3.lean ====
abbrev S4x1024 : Shape := ⟨2, ![4, 1024]⟩
abbrev S1024x6144 : Shape := ⟨2, ![1024, 6144]⟩
abbrev S6144 : Shape := ⟨1, ![6144]⟩
abbrev S_ : Shape := ⟨0, ![]⟩
abbrev S8x1024 : Shape := ⟨2, ![8, 1024]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩
abbrev S4x6144 : Shape := ⟨2, ![4, 6144]⟩

abbrev nBuf : Space → Nat
  | .hbm => 9
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024x6144, .f32⟩
  | .hbm, ⟨2, _⟩ => ⟨S6144, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S1x6144, .f32⟩
  | .hbm, ⟨7, _⟩ => ⟨S8x6144, .f32⟩
  | .hbm, ⟨8, _⟩ => ⟨S4x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S4x1024 : Shape := ⟨2, ![4, 1024]⟩
abbrev S1024x6144 : Shape := ⟨2, ![1024, 6144]⟩
abbrev S6144 : Shape := ⟨1, ![6144]⟩
abbrev S_ : Shape := ⟨0, ![]⟩
abbrev S4x6144 : Shape := ⟨2, ![4, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024x6144, .f32⟩
  | .hbm, ⟨2, _⟩ => ⟨S6144, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x6144, .f32⟩
  | .hbm, ⟨13, _⟩ => ⟨S1x6144, .f32⟩
  | .hbm, ⟨14, _⟩ => ⟨S4x6144, .f32⟩
  | .hbm, ⟨15, _⟩ => ⟨S4x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.InRuns.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The projection call's body, run in its two cases: at a batch's first block (the carried sum is reset) and at any other -/

/-- The condition under which the body resets the carried sum. -/
abbrev cond0_0 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32) = 1#1
/-- It holds at the points divisible by 8. -/
theorem hcond0_0 : ∀ t : Fin cfg0.N, cond0_0 (grid0.coords t) ↔ t.val % 8 = 0 :=
  (by decide +kernel : ∀ t : Fin grid0.N, cond0_0 (grid0.coords t) ↔ t.val % 8 = 0)

/-! One staging buffer of each output, through which its contents are stated; the memrefs at a point; the carried scratch. -/
abbrev VO0_8 : View sig .tc .vmem S512x1536 .bf16 := (Memref.whole cc0_stg8_0 : Memref sig .tc .vmem S512x1536 .bf16).view
abbrev VO0_9 : View sig .tc .vmem S512x1024 .bf16 := (Memref.whole cc0_stg9_0 : Memref sig .tc .vmem S512x1024 .bf16).view
abbrev VO0_10 : View sig .tc .vmem S512x1024 .bf16 := (Memref.whole cc0_stg10_0 : Memref sig .tc .vmem S512x1024 .bf16).view
abbrev VO0_11 : View sig .tc .vmem S512x512 .f32 := (Memref.whole cc0_stg11_0 : Memref sig .tc .vmem S512x512 .f32).view
abbrev VO0_12 : View sig .tc .vmem S512x2048 .f32 := (Memref.whole cc0_stg12_0 : Memref sig .tc .vmem S512x2048 .f32).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1536 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1536 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x2048 .f32 := win0_12.stage (cfg0.slots t 12)
abbrev hs0_12 (t : Fin cfg0.N) : (ms0_12 t).IsWhole := hstage0_12 ((cfg0.slots t 12).cast nbuf0_12)
abbrev scM0_0 : Memref sig .tc .vmem S1x128 .f32 := Memref.whole cc0_scratch0
abbrev VS0_0 : View sig .tc .vmem S1x128 .f32 := scM0_0.view

variable (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S1024x1024 .bf16) (harg6 : arg6.IsWhole) (arg7 : Memref sig .tc .vmem S1024x2048 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x512 .f32) (harg12 : arg12.IsWhole) (arg13 : Memref sig .tc .vmem S512x2048 .f32) (harg13 : arg13.IsWhole) (arg14 : Memref sig .tc .vmem S1x128 .f32) (harg14 : arg14.IsWhole)

set_option maxHeartbeats 1000000 in
/-- The body at a batch's first block: the pieces it leaves in each output and in the carried scratch. -/
noncomputable def kernelRun0_A (hc0 : cond0_0 i) (x0 : Vec F S512x1024 .f32) (x1 : Vec F S1x1x1024 .f32) (x2 : Vec F S1x1x1024 .f32) (x3 : Vec F S1024x1536 .bf16) (x4 : Vec F S1024x128 .bf16) (x5 : Vec F S1024x1024 .bf16) (x6 : Vec F S1024x2048 .bf16) (x7 : Vec F S1x128 .f32) :
    Σ' (L8 : List (View.Piece (Elt F) S512x1536 .bf16)), Σ' (L9 : List (View.Piece (Elt F) S512x1024 .bf16)), Σ' (L10 : List (View.Piece (Elt F) S512x1024 .bf16)), Σ' (L11 : List (View.Piece (Elt F) S512x512 .f32)), Σ' (L12 : List (View.Piece (Elt F) S512x2048 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0)) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact HS0

set_option maxHeartbeats 1000000 in
/-- The body at any other block, from the carried sum `xs0`. -/
noncomputable def kernelRun0_B (hc0 : ¬cond0_0 i) (x0 : Vec F S512x1024 .f32) (x1 : Vec F S1x1x1024 .f32) (x2 : Vec F S1x1x1024 .f32) (x3 : Vec F S1024x1536 .bf16) (x4 : Vec F S1024x128 .bf16) (x5 : Vec F S1024x1024 .bf16) (x6 : Vec F S1024x2048 .bf16) (x7 : Vec F S1x128 .f32) (xs0 : Vec F S1x128 .f32) :
    Σ' (L8 : List (View.Piece (Elt F) S512x1536 .bf16)), Σ' (L9 : List (View.Piece (Elt F) S512x1024 .bf16)), Σ' (L10 : List (View.Piece (Elt F) S512x1024 .bf16)), Σ' (L11 : List (View.Piece (Elt F) S512x512 .f32)), Σ' (L12 : List (View.Piece (Elt F) S512x2048 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0)) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg14.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact HS0

end Cert.KernelIdeal.Gen

end
-- ==== Proof.InRegion.lean ====
module

public import proofs.«01_k».proof.Proof.InRuns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The projection call's region: what its body leaves at every point, over any contents the region is entered with -/

variable (V : Dev nD → Valuation τ sig (Elt F))

/-- Window `w`'s block at point `t`, of the array as the region finds it. -/
def inblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The run of the body at a batch's first block, -/
abbrev runA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (inblk V c 0 t) (inblk V c 1 t) (inblk V c 2 t) (inblk V c 3 t) (inblk V c 4 t) (inblk V c 5 t) (inblk V c 6 t) (inblk V c 7 t)
/-- and at any other, from the carried sum `xs`. -/
abbrev runB (c : Dev nD) (t : Fin cfg0.N) (h0 : ¬t.val % 8 = 0) (xs : Vec F S1x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (inblk V c 0 t) (inblk V c 1 t) (inblk V c 2 t) (inblk V c 3 t) (inblk V c 4 t) (inblk V c 5 t) (inblk V c 6 t) (inblk V c 7 t) xs
/-- Case A's pieces for output 8 cover it. -/
theorem incov_A_8 (c : Dev nD) (t : Fin cfg0.N) (h0 : t.val % 8 = 0) (y : S512x1536.Idx) : ∃ pc ∈ (runA V c t h0).1, y ∈ pc.1.set :=
  View.cover_of_tiledBy (runA V c t h0).1 ![512, 512] (by sl_kernel_rfl) y
/-- What case A leaves in output 8. -/
def inout_A_8 (c : Dev nD) (t : Fin cfg0.N) (h0 : t.val % 8 = 0) : Vec F S512x1536 .bf16 :=
  VO0_8.read (Elt F) (VO0_8.writes (Elt F) VO0_8.junk (runA V c t h0).1)
/-- Case A's pieces for output 9 cover it. -/
theorem incov_A_9 (c : Dev nD) (t : Fin cfg0.N) (h0 : t.val % 8 = 0) (y : S512x1024.Idx) : ∃ pc ∈ (runA V c t h0).2.1, y ∈ pc.1.set :=
  View.cover_of_tiledL (runA V c t h0).2.1 S512x128.size (by sl_kernel_rfl) y
/-- What case A leaves in output 9. -/
def inout_A_9 (c : Dev nD) (t : Fin cfg0.N) (h0 : t.val % 8 = 0) : Vec F S512x1024 .bf16 :=
  VO0_9.read (Elt F) (VO0_9.writes (Elt F) VO0_9.junk (runA V c t h0).2.1)
/-- Case A's pieces for output 10 cover it. -/
theorem incov_A_10 (c : Dev nD) (t : Fin cfg0.N) (h0 : t.val % 8 = 0) (y : S512x1024.Idx) : ∃ pc ∈ (runA V c t h0).2.2.1, y ∈ pc.1.set :=
  View.cover_of_tiledL (runA V c t h0).2.2.1 S512x128.size (by sl_kernel_rfl) y
/-- What case A leaves in output 10. -/
def inout_A_10 (c : Dev nD) (t : Fin cfg0.N) (h0 : t.val % 8 = 0) : Vec F S512x1024 .bf16 :=
  VO0_10.read (Elt F) (VO0_10.writes (Elt F) VO0_10.junk (runA V c t h0).2.2.1)
/-- Case A's pieces for output 11 cover it. -/
theorem incov_A_11 (c : Dev nD) (t : Fin cfg0.N) (h0 : t.val % 8 = 0) (y : S512x512.Idx) : ∃ pc ∈ (runA V c t h0).2.2.2.1, y ∈ pc.1.set :=
  View.cover_of_tiledL (runA V c t h0).2.2.2.1 S512x512.size (by sl_kernel_rfl) y
/-- What case A leaves in output 11. -/
def inout_A_11 (c : Dev nD) (t : Fin cfg0.N) (h0 : t.val % 8 = 0) : Vec F S512x512 .f32 :=
  VO0_11.read (Elt F) (VO0_11.writes (Elt F) VO0_11.junk (runA V c t h0).2.2.2.1)
/-- Case A's pieces for output 12 cover it. -/
theorem incov_A_12 (c : Dev nD) (t : Fin cfg0.N) (h0 : t.val % 8 = 0) (y : S512x2048.Idx) : ∃ pc ∈ (runA V c t h0).2.2.2.2.1, y ∈ pc.1.set :=
  View.cover_of_tiledL (runA V c t h0).2.2.2.2.1 S512x2048.size (by sl_kernel_rfl) y
/-- What case A leaves in output 12. -/
def inout_A_12 (c : Dev nD) (t : Fin cfg0.N) (h0 : t.val % 8 = 0) : Vec F S512x2048 .f32 :=
  VO0_12.read (Elt F) (VO0_12.writes (Elt F) VO0_12.junk (runA V c t h0).2.2.2.2.1)
/-- Case A's pieces for the carried sum cover it. -/
theorem incov_A_s (c : Dev nD) (t : Fin cfg0.N) (h0 : t.val % 8 = 0) (y : S1x128.Idx) : ∃ pc ∈ (runA V c t h0).2.2.2.2.2.1, y ∈ pc.1.set :=
  View.cover_of_tiledL (runA V c t h0).2.2.2.2.2.1 S1x128.size (by sl_kernel_rfl) y
/-- What case A leaves in the carried sum. -/
def inout_A_s (c : Dev nD) (t : Fin cfg0.N) (h0 : t.val % 8 = 0) : Vec F S1x128 .f32 :=
  VS0_0.read (Elt F) (VS0_0.writes (Elt F) VS0_0.junk (runA V c t h0).2.2.2.2.2.1)
/-- Case B's pieces for output 8 cover it. -/
theorem incov_B_8 (c : Dev nD) (t : Fin cfg0.N) (h0 : ¬t.val % 8 = 0) (xs : Vec F S1x128 .f32) (y : S512x1536.Idx) : ∃ pc ∈ (runB V c t h0 xs).1, y ∈ pc.1.set :=
  View.cover_of_tiledBy (runB V c t h0 xs).1 ![512, 512] (by sl_kernel_rfl) y
/-- What case B leaves in output 8. -/
def inout_B_8 (c : Dev nD) (t : Fin cfg0.N) (h0 : ¬t.val % 8 = 0) (xs : Vec F S1x128 .f32) : Vec F S512x1536 .bf16 :=
  VO0_8.read (Elt F) (VO0_8.writes (Elt F) VO0_8.junk (runB V c t h0 xs).1)
/-- Case B's pieces for output 9 cover it. -/
theorem incov_B_9 (c : Dev nD) (t : Fin cfg0.N) (h0 : ¬t.val % 8 = 0) (xs : Vec F S1x128 .f32) (y : S512x1024.Idx) : ∃ pc ∈ (runB V c t h0 xs).2.1, y ∈ pc.1.set :=
  View.cover_of_tiledL (runB V c t h0 xs).2.1 S512x128.size (by sl_kernel_rfl) y
/-- What case B leaves in output 9. -/
def inout_B_9 (c : Dev nD) (t : Fin cfg0.N) (h0 : ¬t.val % 8 = 0) (xs : Vec F S1x128 .f32) : Vec F S512x1024 .bf16 :=
  VO0_9.read (Elt F) (VO0_9.writes (Elt F) VO0_9.junk (runB V c t h0 xs).2.1)
/-- Case B's pieces for output 10 cover it. -/
theorem incov_B_10 (c : Dev nD) (t : Fin cfg0.N) (h0 : ¬t.val % 8 = 0) (xs : Vec F S1x128 .f32) (y : S512x1024.Idx) : ∃ pc ∈ (runB V c t h0 xs).2.2.1, y ∈ pc.1.set :=
  View.cover_of_tiledL (runB V c t h0 xs).2.2.1 S512x128.size (by sl_kernel_rfl) y
/-- What case B leaves in output 10. -/
def inout_B_10 (c : Dev nD) (t : Fin cfg0.N) (h0 : ¬t.val % 8 = 0) (xs : Vec F S1x128 .f32) : Vec F S512x1024 .bf16 :=
  VO0_10.read (Elt F) (VO0_10.writes (Elt F) VO0_10.junk (runB V c t h0 xs).2.2.1)
/-- Case B's pieces for output 11 cover it. -/
theorem incov_B_11 (c : Dev nD) (t : Fin cfg0.N) (h0 : ¬t.val % 8 = 0) (xs : Vec F S1x128 .f32) (y : S512x512.Idx) : ∃ pc ∈ (runB V c t h0 xs).2.2.2.1, y ∈ pc.1.set :=
  View.cover_of_tiledL (runB V c t h0 xs).2.2.2.1 S512x512.size (by sl_kernel_rfl) y
/-- What case B leaves in output 11. -/
def inout_B_11 (c : Dev nD) (t : Fin cfg0.N) (h0 : ¬t.val % 8 = 0) (xs : Vec F S1x128 .f32) : Vec F S512x512 .f32 :=
  VO0_11.read (Elt F) (VO0_11.writes (Elt F) VO0_11.junk (runB V c t h0 xs).2.2.2.1)
/-- Case B's pieces for output 12 cover it. -/
theorem incov_B_12 (c : Dev nD) (t : Fin cfg0.N) (h0 : ¬t.val % 8 = 0) (xs : Vec F S1x128 .f32) (y : S512x2048.Idx) : ∃ pc ∈ (runB V c t h0 xs).2.2.2.2.1, y ∈ pc.1.set :=
  View.cover_of_tiledL (runB V c t h0 xs).2.2.2.2.1 S512x2048.size (by sl_kernel_rfl) y
/-- What case B leaves in output 12. -/
def inout_B_12 (c : Dev nD) (t : Fin cfg0.N) (h0 : ¬t.val % 8 = 0) (xs : Vec F S1x128 .f32) : Vec F S512x2048 .f32 :=
  VO0_12.read (Elt F) (VO0_12.writes (Elt F) VO0_12.junk (runB V c t h0 xs).2.2.2.2.1)
/-- Case B's pieces for the carried sum cover it. -/
theorem incov_B_s (c : Dev nD) (t : Fin cfg0.N) (h0 : ¬t.val % 8 = 0) (xs : Vec F S1x128 .f32) (y : S1x128.Idx) : ∃ pc ∈ (runB V c t h0 xs).2.2.2.2.2.1, y ∈ pc.1.set :=
  View.cover_of_tiledL (runB V c t h0 xs).2.2.2.2.2.1 S1x128.size (by sl_kernel_rfl) y
/-- What case B leaves in the carried sum. -/
def inout_B_s (c : Dev nD) (t : Fin cfg0.N) (h0 : ¬t.val % 8 = 0) (xs : Vec F S1x128 .f32) : Vec F S1x128 .f32 :=
  VS0_0.read (Elt F) (VS0_0.writes (Elt F) VS0_0.junk (runB V c t h0 xs).2.2.2.2.2.1)

/-- What the outputs' buffers and the carried sum hold after the body at position `n`. -/
def outsAt0 (c : Dev nD) : (n : ℕ) → n < cfg0.N → Vec F S512x1536 .bf16 × Vec F S512x1024 .bf16 × Vec F S512x1024 .bf16 × Vec F S512x512 .f32 × Vec F S512x2048 .f32 × Vec F S1x128 .f32
  | 0, hn => (inout_A_8 V c ⟨0, hn⟩ (Nat.zero_mod _), inout_A_9 V c ⟨0, hn⟩ (Nat.zero_mod _), inout_A_10 V c ⟨0, hn⟩ (Nat.zero_mod _), inout_A_11 V c ⟨0, hn⟩ (Nat.zero_mod _), inout_A_12 V c ⟨0, hn⟩ (Nat.zero_mod _), inout_A_s V c ⟨0, hn⟩ (Nat.zero_mod _))
  | n + 1, hn =>
    if h0 : (n + 1) % 8 = 0 then (inout_A_8 V c ⟨n + 1, hn⟩ h0, inout_A_9 V c ⟨n + 1, hn⟩ h0, inout_A_10 V c ⟨n + 1, hn⟩ h0, inout_A_11 V c ⟨n + 1, hn⟩ h0, inout_A_12 V c ⟨n + 1, hn⟩ h0, inout_A_s V c ⟨n + 1, hn⟩ h0)
    else (inout_B_8 V c ⟨n + 1, hn⟩ h0 (outsAt0 c n (Nat.lt_of_succ_lt hn)).2.2.2.2.2, inout_B_9 V c ⟨n + 1, hn⟩ h0 (outsAt0 c n (Nat.lt_of_succ_lt hn)).2.2.2.2.2, inout_B_10 V c ⟨n + 1, hn⟩ h0 (outsAt0 c n (Nat.lt_of_succ_lt hn)).2.2.2.2.2, inout_B_11 V c ⟨n + 1, hn⟩ h0 (outsAt0 c n (Nat.lt_of_succ_lt hn)).2.2.2.2.2, inout_B_12 V c ⟨n + 1, hn⟩ h0 (outsAt0 c n (Nat.lt_of_succ_lt hn)).2.2.2.2.2, inout_B_s V c ⟨n + 1, hn⟩ h0 (outsAt0 c n (Nat.lt_of_succ_lt hn)).2.2.2.2.2)

theorem outsAt0_A (c : Dev nD) (t : Fin cfg0.N) (h0 : t.val % 8 = 0) :
    outsAt0 V c t.val t.isLt = (inout_A_8 V c t h0, inout_A_9 V c t h0, inout_A_10 V c t h0, inout_A_11 V c t h0, inout_A_12 V c t h0, inout_A_s V c t h0) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = (inout_B_8 V c t h0 (outsAt0 V c (t.val - 1) (Nat.lt_of_le_of_lt (Nat.sub_le _ _) t.isLt)).2.2.2.2.2, inout_B_9 V c t h0 (outsAt0 V c (t.val - 1) (Nat.lt_of_le_of_lt (Nat.sub_le _ _) t.isLt)).2.2.2.2.2, inout_B_10 V c t h0 (outsAt0 V c (t.val - 1) (Nat.lt_of_le_of_lt (Nat.sub_le _ _) t.isLt)).2.2.2.2.2, inout_B_11 V c t h0 (outsAt0 V c (t.val - 1) (Nat.lt_of_le_of_lt (Nat.sub_le _ _) t.isLt)).2.2.2.2.2, inout_B_12 V c t h0 (outsAt0 V c (t.val - 1) (Nat.lt_of_le_of_lt (Nat.sub_le _ _) t.isLt)).2.2.2.2.2, inout_B_s V c t h0 (outsAt0 V c (t.val - 1) (Nat.lt_of_le_of_lt (Nat.sub_le _ _) t.isLt)).2.2.2.2.2) := by
  obtain ⟨n, hn⟩ := t
  cases n with
  | zero => exact (by exfalso; exact absurd (Nat.zero_mod _) h0)
  | succ n => exact (dif_neg h0).trans rfl

/-- The scoped buffers that are neither a staging buffer of this call nor its scratch. -/
abbrev inRest (c : Dev nD) : sProp 𝕄 := Pipeline.scopedRestBut (Ix := Unit) (Name := ℕ) (U := UR sig nD τ) (Lvl := ℕ) (Val := Elt F) spec0 c [cc0_scratch0]

/-- The scoped rest split at the call's scratch. -/
theorem inRest_split (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ inRest (F := F) c) := by
  refine (Pipeline.scopedRest_split_of_list spec0 c [cc0_scratch0] (by decide) (by decide)).trans ?_
  simp only [bigSepL, owns_whole]; rfl

/-- The region's invariant before position `n`: the carried sum at anything before the first point, then at what the point before left. -/
def PhiS (c : Dev nD) : (n : ℕ) → n ≤ cfg0.N → sProp 𝕄
  | 0, _ => iprop((∃ d, owns (c : Thread nD τ) scM0_0 fullShare d) ∗ inRest (F := F) c)
  | n + 1, hn => iprop(owns (c : Thread nD τ) scM0_0 fullShare ((outsAt0 V c n hn).2.2.2.2.2) ∗ inRest (F := F) c)

theorem PhiS_zero (c : Dev nD) (n : ℕ) (h : n ≤ cfg0.N) (hz : n = 0) : PhiS V c n h = iprop((∃ d, owns (c : Thread nD τ) scM0_0 fullShare d) ∗ inRest (F := F) c) := by
  subst hz; rfl

theorem PhiS_succ (c : Dev nD) (n : ℕ) (hn : n < cfg0.N) :
    PhiS V c (n + 1) hn = iprop(owns (c : Thread nD τ) scM0_0 fullShare ((outsAt0 V c n hn).2.2.2.2.2) ∗ inRest (F := F) c) := rfl

theorem PhiS_pos (c : Dev nD) (n : ℕ) (h : n ≤ cfg0.N) (hz : n ≠ 0) :
    PhiS V c n h = iprop(owns (c : Thread nD τ) scM0_0 fullShare ((outsAt0 V c (n - 1) (by omega)).2.2.2.2.2) ∗ inRest (F := F) c) := by
  cases n with
  | zero => exact absurd rfl hz
  | succ n => rfl

/-- The region's data on core `c`. -/
def dat0 (c : Dev nD) : Dat τ (Elt F) Unit ℕ (UR sig nD τ) ℕ cfg0 c where
  A w := V c (Proc.devRef .tc (Pipeline.arrRef spec0 w))
  after w t := match w with
    | ⟨0, _⟩ => inblk V c 0 t
    | ⟨1, _⟩ => inblk V c 1 t
    | ⟨2, _⟩ => inblk V c 2 t
    | ⟨3, _⟩ => inblk V c 3 t
    | ⟨4, _⟩ => inblk V c 4 t
    | ⟨5, _⟩ => inblk V c 5 t
    | ⟨6, _⟩ => inblk V c 6 t
    | ⟨7, _⟩ => inblk V c 7 t
    | ⟨8, _⟩ => (outsAt0 V c t.val t.isLt).1
    | ⟨9, _⟩ => (outsAt0 V c t.val t.isLt).2.1
    | ⟨10, _⟩ => (outsAt0 V c t.val t.isLt).2.2.1
    | ⟨11, _⟩ => (outsAt0 V c t.val t.isLt).2.2.2.1
    | ⟨12, _⟩ => (outsAt0 V c t.val t.isLt).2.2.2.2.1
  Φ t := PhiS V c t.val (Nat.le_of_lt_succ t.isLt)
  q _ := fullShare
  owed _ := 0

theorem dat0_A (c : Dev nD) (w : Fin cfg0.W) : (dat0 V c).A w = V c (Proc.devRef .tc (Pipeline.arrRef spec0 w)) := by
  dsimp only [dat0]

theorem PhiS_castSucc (c : Dev nD) (t : Fin cfg0.N) : (dat0 V c).Φ t.castSucc = PhiS V c t.val (Nat.le_of_lt t.isLt) := by
  dsimp only [dat0]; exact Pipeline.Dat.Φ_castSucc (PhiS V c) t

theorem after0_0 (c : Dev nD) (t : Fin cfg0.N) : (dat0 V c).after 0 t = inblk V c 0 t := by dsimp only [dat0]
theorem after0_1 (c : Dev nD) (t : Fin cfg0.N) : (dat0 V c).after 1 t = inblk V c 1 t := by dsimp only [dat0]
theorem after0_2 (c : Dev nD) (t : Fin cfg0.N) : (dat0 V c).after 2 t = inblk V c 2 t := by dsimp only [dat0]
theorem after0_3 (c : Dev nD) (t : Fin cfg0.N) : (dat0 V c).after 3 t = inblk V c 3 t := by dsimp only [dat0]
theorem after0_4 (c : Dev nD) (t : Fin cfg0.N) : (dat0 V c).after 4 t = inblk V c 4 t := by dsimp only [dat0]
theorem after0_5 (c : Dev nD) (t : Fin cfg0.N) : (dat0 V c).after 5 t = inblk V c 5 t := by dsimp only [dat0]
theorem after0_6 (c : Dev nD) (t : Fin cfg0.N) : (dat0 V c).after 6 t = inblk V c 6 t := by dsimp only [dat0]
theorem after0_7 (c : Dev nD) (t : Fin cfg0.N) : (dat0 V c).after 7 t = inblk V c 7 t := by dsimp only [dat0]
theorem after0_8 (c : Dev nD) (t : Fin cfg0.N) : (dat0 V c).after 8 t = (outsAt0 V c t.val t.isLt).1 := by dsimp only [dat0]
theorem after0_9 (c : Dev nD) (t : Fin cfg0.N) : (dat0 V c).after 9 t = (outsAt0 V c t.val t.isLt).2.1 := by dsimp only [dat0]
theorem after0_10 (c : Dev nD) (t : Fin cfg0.N) : (dat0 V c).after 10 t = (outsAt0 V c t.val t.isLt).2.2.1 := by dsimp only [dat0]
theorem after0_11 (c : Dev nD) (t : Fin cfg0.N) : (dat0 V c).after 11 t = (outsAt0 V c t.val t.isLt).2.2.2.1 := by dsimp only [dat0]
theorem after0_12 (c : Dev nD) (t : Fin cfg0.N) : (dat0 V c).after 12 t = (outsAt0 V c t.val t.isLt).2.2.2.2.1 := by dsimp only [dat0]
theorem before0_0 (c : Dev nD) (t : Fin cfg0.N) (d) : (dat0 V c).before 0 t d = inblk V c 0 t :=
  ((dat0 V c).before_in_eq_fetched 0 rfl (fun _ => rfl) (fun _ _ _ => rfl) (fun t => by rw [after0_0]; unfold Dat.blockOf inblk; rw [dat0_A]; try rfl) t d).trans
    (by unfold Dat.fetched Dat.blockOf inblk; rw [dat0_A]; try rfl)
theorem before0_1 (c : Dev nD) (t : Fin cfg0.N) (d) : (dat0 V c).before 1 t d = inblk V c 1 t :=
  ((dat0 V c).before_in_eq_fetched 1 rfl (fun _ => rfl) (fun _ _ _ => rfl) (fun t => by rw [after0_1]; unfold Dat.blockOf inblk; rw [dat0_A]; try rfl) t d).trans
    (by unfold Dat.fetched Dat.blockOf inblk; rw [dat0_A]; try rfl)
theorem before0_2 (c : Dev nD) (t : Fin cfg0.N) (d) : (dat0 V c).before 2 t d = inblk V c 2 t :=
  ((dat0 V c).before_in_eq_fetched 2 rfl (fun _ => rfl) (fun _ _ _ => rfl) (fun t => by rw [after0_2]; unfold Dat.blockOf inblk; rw [dat0_A]; try rfl) t d).trans
    (by unfold Dat.fetched Dat.blockOf inblk; rw [dat0_A]; try rfl)
theorem before0_3 (c : Dev nD) (t : Fin cfg0.N) (d) : (dat0 V c).before 3 t d = inblk V c 3 t :=
  ((dat0 V c).before_in_eq_fetched 3 rfl (fun _ => rfl) (fun _ _ _ => rfl) (fun t => by rw [after0_3]; unfold Dat.blockOf inblk; rw [dat0_A]; try rfl) t d).trans
    (by unfold Dat.fetched Dat.blockOf inblk; rw [dat0_A]; try rfl)
theorem before0_4 (c : Dev nD) (t : Fin cfg0.N) (d) : (dat0 V c).before 4 t d = inblk V c 4 t :=
  ((dat0 V c).before_in_eq_fetched 4 rfl (fun _ => rfl) (fun _ _ _ => rfl) (fun t => by rw [after0_4]; unfold Dat.blockOf inblk; rw [dat0_A]; try rfl) t d).trans
    (by unfold Dat.fetched Dat.blockOf inblk; rw [dat0_A]; try rfl)
theorem before0_5 (c : Dev nD) (t : Fin cfg0.N) (d) : (dat0 V c).before 5 t d = inblk V c 5 t :=
  ((dat0 V c).before_in_eq_fetched 5 rfl (fun _ => rfl) (fun _ _ _ => rfl) (fun t => by rw [after0_5]; unfold Dat.blockOf inblk; rw [dat0_A]; try rfl) t d).trans
    (by unfold Dat.fetched Dat.blockOf inblk; rw [dat0_A]; try rfl)
theorem before0_6 (c : Dev nD) (t : Fin cfg0.N) (d) : (dat0 V c).before 6 t d = inblk V c 6 t :=
  ((dat0 V c).before_in_eq_fetched 6 rfl (fun _ => rfl) (fun _ _ _ => rfl) (fun t => by rw [after0_6]; unfold Dat.blockOf inblk; rw [dat0_A]; try rfl) t d).trans
    (by unfold Dat.fetched Dat.blockOf inblk; rw [dat0_A]; try rfl)
theorem before0_7 (c : Dev nD) (t : Fin cfg0.N) (d) : (dat0 V c).before 7 t d = inblk V c 7 t :=
  ((dat0 V c).before_in_eq_fetched 7 rfl (fun _ => rfl) (fun _ _ _ => rfl) (fun t => by rw [after0_7]; unfold Dat.blockOf inblk; rw [dat0_A]; try rfl) t d).trans
    (by unfold Dat.fetched Dat.blockOf inblk; rw [dat0_A]; try rfl)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))
/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t))

set_option maxHeartbeats 9600000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl,
    after0_0, after0_1, after0_2, after0_3, after0_4, after0_5, after0_6, after0_7, after0_8, after0_9, after0_10, after0_11, after0_12]
  rw [show (dat0 V c).Φ t.succ = PhiS V c (t.val + 1) t.isLt from rfl, PhiS_succ]
  by_cases h0 : t.val % 8 = 0
  · rw [outsAt0_A V c t h0]; dsimp only
    have hPhi : (dat0 V c).Φ t.castSucc ⊢ iprop((∃ d, owns (c : Thread nD τ) scM0_0 fullShare d) ∗ inRest (F := F) c) := by
      by_cases hz : t.val = 0
      · rw [PhiS_castSucc V c t, PhiS_zero V c _ _ hz]
      · rw [PhiS_castSucc V c t, PhiS_pos V c _ _ hz]
        iintro ⟨HS0, HR⟩; isplitl [HS0]; · iexists _; iexact HS0
        iexact HR
    refine (sep_mono hPhi .rfl).trans ?_
    iintro ⟨⟨HS0, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runA V c t h0).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    iintro ⟨H0, H1, H2, H3, H4, H5, H6, H7, ⟨%e8, H8⟩, ⟨%e9, H9⟩, ⟨%e10, H10⟩, ⟨%e11, H11⟩, ⟨%e12, H12⟩, ⟨%es0, HS0⟩⟩
    isplitl [HS0 HR]
    · isplitl [HS0]
      · unfold owns; iexists _; isplitr
        swap; · iexact HS0
        ipureintro; exact View.read_writes_of_cover _ _ _ _ _ (incov_A_s V c t h0)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (incov_A_8 V c t h0)
    isplitl [H9]
    · unfold owns; iexists _; isplitr
      swap; · iexact H9
      ipureintro; exact View.read_writes_of_cover _ _ _ _ _ (incov_A_9 V c t h0)
    isplitl [H10]
    · unfold owns; iexists _; isplitr
      swap; · iexact H10
      ipureintro; exact View.read_writes_of_cover _ _ _ _ _ (incov_A_10 V c t h0)
    isplitl [H11]
    · unfold owns; iexists _; isplitr
      swap; · iexact H11
      ipureintro; exact View.read_writes_of_cover _ _ _ _ _ (incov_A_11 V c t h0)
    unfold owns; iexists _; isplitr
    swap; · iexact H12
    ipureintro; exact View.read_writes_of_cover _ _ _ _ _ (incov_A_12 V c t h0)
  · have hz : t.val ≠ 0 := fun e => h0 (by rw [e])
    rw [PhiS_castSucc V c t, PhiS_pos V c _ _ hz]
    rw [outsAt0_B V c t h0]; dsimp only
    iintro ⟨⟨HS0, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runB V c t h0 _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    iintro ⟨H0, H1, H2, H3, H4, H5, H6, H7, ⟨%e8, H8⟩, ⟨%e9, H9⟩, ⟨%e10, H10⟩, ⟨%e11, H11⟩, ⟨%e12, H12⟩, ⟨%es0, HS0⟩⟩
    isplitl [HS0 HR]
    · isplitl [HS0]
      · unfold owns; iexists _; isplitr
        swap; · iexact HS0
        ipureintro; exact View.read_writes_of_cover _ _ _ _ _ (incov_B_s V c t h0 _)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (incov_B_8 V c t h0 _)
    isplitl [H9]
    · unfold owns; iexists _; isplitr
      swap; · iexact H9
      ipureintro; exact View.read_writes_of_cover _ _ _ _ _ (incov_B_9 V c t h0 _)
    isplitl [H10]
    · unfold owns; iexists _; isplitr
      swap; · iexact H10
      ipureintro; exact View.read_writes_of_cover _ _ _ _ _ (incov_B_10 V c t h0 _)
    isplitl [H11]
    · unfold owns; iexists _; isplitr
      swap; · iexact H11
      ipureintro; exact View.read_writes_of_cover _ _ _ _ _ (incov_B_11 V c t h0 _)
    unfold owns; iexists _; isplitr
    swap; · iexact H12
    ipureintro; exact View.read_writes_of_cover _ _ _ _ _ (incov_B_12 V c t h0 _)

theorem defs₀_row0 (t : Fin cfg0.N) :
    defs₀ (F := F) .tc cfg0.body (cfg0.bodyArgs t (cfg0.slots t)) = bodyAt0 t := by
  unfold defs₀; rw [Defs.onTc_tc]

/-- The body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem hin0 (c : Dev nD) : (Pipeline.scopedRest (Ix := Unit) (Name := ℕ) (U := UR sig nD τ) (Lvl := ℕ) (Val := Elt F) spec0 c : sProp 𝕄) ⊢ (dat0 V c).Φ 0 := by
  rw [show (dat0 V c).Φ 0 = PhiS V c 0 (Nat.zero_le _) from rfl, PhiS_zero V c 0 _ rfl, inRest_split]

theorem hout0 (c : Dev nD) : (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), inRest_split]
  iintro ⟨HS0, HR⟩; isplitl [HS0]; · iexists _; iexact HS0
  iexact HR

end Cert.KernelIdeal.Gen

end
-- ==== Proof.AttnRuns.lean ====
module

public import proofs.«01_k».proof.Proof.Gen.KernelIdeal.Launch
public import proofs.«01_k».proof.Proof.Gen.KernelIdeal.Skeleton
public import proofs.«01_k».proof.Proof.Gen.KernelIdeal.Regions
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.PureOps.Ideal
public import Idealize.ShloMosaic.Adequacy
public import Idealize.ShloMosaic.Init

@[expose] public section

set_option maxRecDepth 16384
set_option Elab.async false

noncomputable section

namespace Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! # The attention call's body, run along its three paths: a first block that is also the last (A), a first block of two (B),
a last block of two (C) -/

abbrev tbM1_0 : Memref sig .tc .smem S3 .i32 := Memref.whole main_c
abbrev tbM1_1 : Memref sig .tc .smem S3 .i32 := Memref.whole main_c_0
abbrev tbM1_2 : Memref sig .tc .smem S3 .i32 := Memref.whole main_c_1
abbrev scM1_0 : Memref sig .tc .vmem S2x2048x256 .bf16 := Memref.whole cc1_scratch0
abbrev scM1_1 : Memref sig .tc .vmem S2x2048x128 .f32 := Memref.whole cc1_scratch1
abbrev scM1_2 : Memref sig .tc .vmem S2x2048x128 .f32 := Memref.whole cc1_scratch2
abbrev scM1_3 : Memref sig .tc .vmem S2048x128 .f32 := Memref.whole cc1_scratch3
/-- One staging buffer of the output, through which its contents are stated. -/
abbrev VO1_5 : View sig .tc .vmem S2048x128 .bf16 := (Memref.whole cc1_stg5_0 : Memref sig .tc .vmem S2048x128 .bf16).view

/-- The path's decisions, over the words the body reads: the first key block; on the diagonal; below it; the last. -/
abbrev hcI (i : grid1.Coords) (T : S3.Idx → Elt Ideal .i32) : Prop := (Scalar.cmpi .ne (Scalar.extui (Scalar.cmpi .eq (View.readAt (Elt Ideal) (tbM1_1).view (Rect.unit (s := S3) (k1_off1 i) S1.size (k1_off1_inb i)).toLoadRect T (Shape.Idx.first (numel1_S1.symm ▸ Nat.one_pos))) 0#32)) 0#32) = 1#1
abbrev hcD (i : grid1.Coords) (T : S3.Idx → Elt Ideal .i32) : Prop := (Scalar.cmpi .ne (Scalar.extui (Scalar.cmpi .ne (Scalar.andi (View.readAt (Elt Ideal) (tbM1_2).view (Rect.unit (s := S3) (k1_off1 i) S1.size (k1_off1_inb i)).toLoadRect T (Shape.Idx.first (numel1_S1.symm ▸ Nat.one_pos))) 1#32) 0#32)) 0#32) = 1#1
abbrev hcF (i : grid1.Coords) (T : S3.Idx → Elt Ideal .i32) : Prop := (Scalar.cmpi .ne (Scalar.extui (Scalar.cmpi .eq (Scalar.andi (View.readAt (Elt Ideal) (tbM1_2).view (Rect.unit (s := S3) (k1_off1 i) S1.size (k1_off1_inb i)).toLoadRect T (Shape.Idx.first (numel1_S1.symm ▸ Nat.one_pos))) 1#32) 0#32)) 0#32) = 1#1
abbrev hcE (i : grid1.Coords) (T : S3.Idx → Elt Ideal .i32) : Prop := k1_cond4 (View.readAt (Elt Ideal) (tbM1_2).view (Rect.unit (s := S3) (k1_off1 i) S1.size (k1_off1_inb i)).toLoadRect T (Shape.Idx.first (numel1_S1.symm ▸ Nat.one_pos))) = 1#1

variable (c : Dev nD) (i : grid1.Coords) (arg6 : Memref sig .tc .vmem S2048x128 .bf16) (harg6 : arg6.IsWhole) (arg7 : Memref sig .tc .vmem S2048x256 .bf16) (harg7 : arg7.IsWhole) (arg8 : Memref sig .tc .vmem S2048x128 .bf16) (harg8 : arg8.IsWhole) (arg9 : Memref sig .tc .vmem S2048x256 .bf16) (harg9 : arg9.IsWhole) (arg10 : Memref sig .tc .vmem S2048x128 .bf16) (harg10 : arg10.IsWhole) (arg11 : Memref sig .tc .vmem S2048x128 .bf16) (harg11 : arg11.IsWhole) (T0 : (S3.Idx → Elt Ideal .i32)) (T1 : (S3.Idx → Elt Ideal .i32)) (T2 : (S3.Idx → Elt Ideal .i32))
     (x0 : Vec Ideal S2048x128 .bf16) (x1 : Vec Ideal S2048x256 .bf16) (x2 : Vec Ideal S2048x128 .bf16) (x3 : Vec Ideal S2048x256 .bf16) (x4 : Vec Ideal S2048x128 .bf16)

set_option backward.proofsInPublic true in
set_option maxHeartbeats 8000000 in
/-- Path A: what the body leaves in the output (as pieces) and in the four scratches. -/
noncomputable def kernelRun1_A (hc0 : hcI i T1) (hc1 : hcD i T2) (hc2 : ¬hcF i T2) (k1_h4 : hcE i T2) :
    Σ' (out0 : List (View.Piece (Elt Ideal) S2048x128 .bf16)) (out1 : Buf (Elt Ideal) ((c : Thread nD τ).loc cc1_scratch0)) (out2 : Buf (Elt Ideal) ((c : Thread nD τ).loc cc1_scratch1)) (out3 : Buf (Elt Ideal) ((c : Thread nD τ).loc cc1_scratch2)), { out4 : Buf (Elt Ideal) ((c : Thread nD τ).loc cc1_scratch3) //
      ∀ (xa0 : Buf (Elt Ideal) ((c : Thread nD τ).loc cc1_scratch0)) (xa1 : Buf (Elt Ideal) ((c : Thread nD τ).loc cc1_scratch1)) (xa2 : Buf (Elt Ideal) ((c : Thread nD τ).loc cc1_scratch2)) (xa3 : Buf (Elt Ideal) ((c : Thread nD τ).loc cc1_scratch3)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (arg10.view.loc (c : Thread nD τ) ↦[arg10.view.set]{fullShare} arg10.view.rep x4)
          ∗ (tbM1_0.view.loc (c : Thread nD τ) ↦{fullShare} T0)
          ∗ (tbM1_1.view.loc (c : Thread nD τ) ↦{fullShare} T1)
          ∗ (tbM1_2.view.loc (c : Thread nD τ) ↦{fullShare} T2)
          ∗ (∃ d, owns (c : Thread nD τ) arg11 fullShare d)
          ∗ (scM1_0.view.loc (c : Thread nD τ) ↦{fullShare} xa0)
          ∗ (scM1_1.view.loc (c : Thread nD τ) ↦{fullShare} xa1)
          ∗ (scM1_2.view.loc (c : Thread nD τ) ↦{fullShare} xa2)
          ∗ (scM1_3.view.loc (c : Thread nD τ) ↦{fullShare} xa3)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (arg9.view.loc (c : Thread nD τ) ↦[arg9.view.set]{fullShare} arg9.view.rep x3)
              ∗ (arg10.view.loc (c : Thread nD τ) ↦[arg10.view.set]{fullShare} arg10.view.rep x4)
              ∗ (tbM1_0.view.loc (c : Thread nD τ) ↦{fullShare} T0)
              ∗ (tbM1_1.view.loc (c : Thread nD τ) ↦{fullShare} T1)
              ∗ (tbM1_2.view.loc (c : Thread nD τ) ↦{fullShare} T2)
              ∗ (∃ f, arg11.view.loc (c : Thread nD τ) ↦[arg11.view.set]{fullShare} arg11.view.writes (Elt Ideal) f out0)
              ∗ (scM1_0.view.loc (c : Thread nD τ) ↦{fullShare} out1)
              ∗ (scM1_1.view.loc (c : Thread nD τ) ↦{fullShare} out2)
              ∗ (scM1_2.view.loc (c : Thread nD τ) ↦{fullShare} out3)
              ∗ (scM1_3.view.loc (c : Thread nD τ) ↦{fullShare} out4)) -∗ K ⟨⟩))
          ⊢ wp frame (wpE (defs₀ (F := Ideal)) Variants.none c none) Set.univ (cc1_attn i tbM1_0 (Memref.isWhole_whole _) tbM1_1 (Memref.isWhole_whole _) tbM1_2 (Memref.isWhole_whole _) arg6 harg6 arg7 harg7 arg8 harg8 arg9 harg9 arg10 harg10 arg11 harg11 scM1_0 (Memref.isWhole_whole _) scM1_1 (Memref.isWhole_whole _) scM1_2 (Memref.isWhole_whole _) scM1_3 (Memref.isWhole_whole _)) K } :=
  ⟨_, _, _, _, _, fun (xa0 : Buf (Elt Ideal) ((c : Thread nD τ).loc cc1_scratch0)) (xa1 : Buf (Elt Ideal) ((c : Thread nD τ).loc cc1_scratch1)) (xa2 : Buf (Elt Ideal) ((c : Thread nD τ).loc cc1_scratch2)) (xa3 : Buf (Elt Ideal) ((c : Thread nD τ).loc cc1_scratch3)) K => by
    unfold owns
    rw [cc1_attn_eq_skeleton]; unfold cc1_attn_skel
    iintro ⟨H0, H1, H2, H3, H4, HT0, HT1, HT2, ⟨%d5, %f5, -, HO5⟩, HS0, HS1, HS2, HS3, Hk⟩
    have hS0 : scM1_0.IsWhole := Memref.isWhole_whole _
    have hS1 : scM1_1.IsWhole := Memref.isWhole_whole _
    have hS2 : scM1_2.IsWhole := Memref.isWhole_whole _
    have hS3 : scM1_3.IsWhole := Memref.isWhole_whole _
    have hT0 : tbM1_0.IsWhole := Memref.isWhole_whole _
    have hT1 : tbM1_1.IsWhole := Memref.isWhole_whole _
    have hT2 : tbM1_2.IsWhole := Memref.isWhole_whole _
    sl_exec! (disch := first | (guard_target = Scalar.cmpi = _; exact hc0) | (guard_target = Scalar.cmpi = _; exact hc1) | (guard_target = ¬(Scalar.cmpi = _); exact hc2) | (guard_target = k1_cond4 _ = _; exact k1_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    isplitl [HO5]; · iexists _; iexact HO5
    isplitl [HS0]; · iexact HS0
    isplitl [HS1]; · iexact HS1
    isplitl [HS2]; · iexact HS2
    iexact HS3⟩

set_option backward.proofsInPublic true in
set_option maxHeartbeats 8000000 in
/-- Path B: what the body leaves in the output (as pieces) and in the four scratches. -/
noncomputable def kernelRun1_B (hc0 : hcI i T1) (hc1 : ¬hcD i T2) (hc2 : hcF i T2) (k1_h4 : ¬hcE i T2) :
    Σ' (out0 : Buf (Elt Ideal) ((c : Thread nD τ).loc cc1_scratch0)) (out1 : Buf (Elt Ideal) ((c : Thread nD τ).loc cc1_scratch1)) (out2 : Buf (Elt Ideal) ((c : Thread nD τ).loc cc1_scratch2)), { out3 : Buf (Elt Ideal) ((c : Thread nD τ).loc cc1_scratch3) //
      ∀ (y5 : Vec Ideal S2048x128 .bf16) (xa0 : Buf (Elt Ideal) ((c : Thread nD τ).loc cc1_scratch0)) (xa1 : Buf (Elt Ideal) ((c : Thread nD τ).loc cc1_scratch1)) (xa2 : Buf (Elt Ideal) ((c : Thread nD τ).loc cc1_scratch2)) (xa3 : Buf (Elt Ideal) ((c : Thread nD τ).loc cc1_scratch3)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (arg10.view.loc (c : Thread nD τ) ↦[arg10.view.set]{fullShare} arg10.view.rep x4)
          ∗ (tbM1_0.view.loc (c : Thread nD τ) ↦{fullShare} T0)
          ∗ (tbM1_1.view.loc (c : Thread nD τ) ↦{fullShare} T1)
          ∗ (tbM1_2.view.loc (c : Thread nD τ) ↦{fullShare} T2)
          ∗ owns (c : Thread nD τ) arg11 fullShare y5
          ∗ (scM1_0.view.loc (c : Thread nD τ) ↦{fullShare} xa0)
          ∗ (scM1_1.view.loc (c : Thread nD τ) ↦{fullShare} xa1)
          ∗ (scM1_2.view.loc (c : Thread nD τ) ↦{fullShare} xa2)
          ∗ (scM1_3.view.loc (c : Thread nD τ) ↦{fullShare} xa3)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (arg9.view.loc (c : Thread nD τ) ↦[arg9.view.set]{fullShare} arg9.view.rep x3)
              ∗ (arg10.view.loc (c : Thread nD τ) ↦[arg10.view.set]{fullShare} arg10.view.rep x4)
              ∗ (tbM1_0.view.loc (c : Thread nD τ) ↦{fullShare} T0)
              ∗ (tbM1_1.view.loc (c : Thread nD τ) ↦{fullShare} T1)
              ∗ (tbM1_2.view.loc (c : Thread nD τ) ↦{fullShare} T2)
              ∗ owns (c : Thread nD τ) arg11 fullShare y5
              ∗ (scM1_0.view.loc (c : Thread nD τ) ↦{fullShare} out0)
              ∗ (scM1_1.view.loc (c : Thread nD τ) ↦{fullShare} out1)
              ∗ (scM1_2.view.loc (c : Thread nD τ) ↦{fullShare} out2)
              ∗ (scM1_3.view.loc (c : Thread nD τ) ↦{fullShare} out3)) -∗ K ⟨⟩))
          ⊢ wp frame (wpE (defs₀ (F := Ideal)) Variants.none c none) Set.univ (cc1_attn i tbM1_0 (Memref.isWhole_whole _) tbM1_1 (Memref.isWhole_whole _) tbM1_2 (Memref.isWhole_whole _) arg6 harg6 arg7 harg7 arg8 harg8 arg9 harg9 arg10 harg10 arg11 harg11 scM1_0 (Memref.isWhole_whole _) scM1_1 (Memref.isWhole_whole _) scM1_2 (Memref.isWhole_whole _) scM1_3 (Memref.isWhole_whole _)) K } :=
  ⟨_, _, _, _, fun (y5 : Vec Ideal S2048x128 .bf16) (xa0 : Buf (Elt Ideal) ((c : Thread nD τ).loc cc1_scratch0)) (xa1 : Buf (Elt Ideal) ((c : Thread nD τ).loc cc1_scratch1)) (xa2 : Buf (Elt Ideal) ((c : Thread nD τ).loc cc1_scratch2)) (xa3 : Buf (Elt Ideal) ((c : Thread nD τ).loc cc1_scratch3)) K => by
    unfold owns
    rw [cc1_attn_eq_skeleton]; unfold cc1_attn_skel
    iintro ⟨H0, H1, H2, H3, H4, HT0, HT1, HT2, ⟨%f5, %hf5, HO5⟩, HS0, HS1, HS2, HS3, Hk⟩
    obtain rfl := harg11.eq_unread hf5
    have hS0 : scM1_0.IsWhole := Memref.isWhole_whole _
    have hS1 : scM1_1.IsWhole := Memref.isWhole_whole _
    have hS2 : scM1_2.IsWhole := Memref.isWhole_whole _
    have hS3 : scM1_3.IsWhole := Memref.isWhole_whole _
    have hT0 : tbM1_0.IsWhole := Memref.isWhole_whole _
    have hT1 : tbM1_1.IsWhole := Memref.isWhole_whole _
    have hT2 : tbM1_2.IsWhole := Memref.isWhole_whole _
    sl_exec! (disch := first | (guard_target = Scalar.cmpi = _; exact hc0) | (guard_target = ¬(Scalar.cmpi = _); exact hc1) | (guard_target = Scalar.cmpi = _; exact hc2) | (guard_target = ¬(k1_cond4 _ = _); exact k1_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    isplitl [HO5]
    · iexists _; isplitr; · ipureintro; exact harg11.read_unread _
      iexact HO5
    isplitl [HS0]; · iexact HS0
    isplitl [HS1]; · iexact HS1
    isplitl [HS2]; · iexact HS2
    iexact HS3⟩

set_option backward.proofsInPublic true in
set_option maxHeartbeats 8000000 in
/-- Path C: what the body leaves in the output (as pieces) and in the four scratches. -/
noncomputable def kernelRun1_C (xa0 : Buf (Elt Ideal) ((c : Thread nD τ).loc cc1_scratch0)) (xa1 : Buf (Elt Ideal) ((c : Thread nD τ).loc cc1_scratch1)) (xa2 : Buf (Elt Ideal) ((c : Thread nD τ).loc cc1_scratch2)) (xa3 : Buf (Elt Ideal) ((c : Thread nD τ).loc cc1_scratch3)) (hc0 : ¬hcI i T1) (hc1 : hcD i T2) (hc2 : ¬hcF i T2) (k1_h4 : hcE i T2) :
    Σ' (out0 : List (View.Piece (Elt Ideal) S2048x128 .bf16)) (out1 : Buf (Elt Ideal) ((c : Thread nD τ).loc cc1_scratch0)) (out2 : Buf (Elt Ideal) ((c : Thread nD τ).loc cc1_scratch1)) (out3 : Buf (Elt Ideal) ((c : Thread nD τ).loc cc1_scratch2)), { out4 : Buf (Elt Ideal) ((c : Thread nD τ).loc cc1_scratch3) //
      ∀ (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (arg10.view.loc (c : Thread nD τ) ↦[arg10.view.set]{fullShare} arg10.view.rep x4)
          ∗ (tbM1_0.view.loc (c : Thread nD τ) ↦{fullShare} T0)
          ∗ (tbM1_1.view.loc (c : Thread nD τ) ↦{fullShare} T1)
          ∗ (tbM1_2.view.loc (c : Thread nD τ) ↦{fullShare} T2)
          ∗ (∃ d, owns (c : Thread nD τ) arg11 fullShare d)
          ∗ (scM1_0.view.loc (c : Thread nD τ) ↦{fullShare} xa0)
          ∗ (scM1_1.view.loc (c : Thread nD τ) ↦{fullShare} xa1)
          ∗ (scM1_2.view.loc (c : Thread nD τ) ↦{fullShare} xa2)
          ∗ (scM1_3.view.loc (c : Thread nD τ) ↦{fullShare} xa3)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (arg9.view.loc (c : Thread nD τ) ↦[arg9.view.set]{fullShare} arg9.view.rep x3)
              ∗ (arg10.view.loc (c : Thread nD τ) ↦[arg10.view.set]{fullShare} arg10.view.rep x4)
              ∗ (tbM1_0.view.loc (c : Thread nD τ) ↦{fullShare} T0)
              ∗ (tbM1_1.view.loc (c : Thread nD τ) ↦{fullShare} T1)
              ∗ (tbM1_2.view.loc (c : Thread nD τ) ↦{fullShare} T2)
              ∗ (∃ f, arg11.view.loc (c : Thread nD τ) ↦[arg11.view.set]{fullShare} arg11.view.writes (Elt Ideal) f out0)
              ∗ (scM1_0.view.loc (c : Thread nD τ) ↦{fullShare} out1)
              ∗ (scM1_1.view.loc (c : Thread nD τ) ↦{fullShare} out2)
              ∗ (scM1_2.view.loc (c : Thread nD τ) ↦{fullShare} out3)
              ∗ (scM1_3.view.loc (c : Thread nD τ) ↦{fullShare} out4)) -∗ K ⟨⟩))
          ⊢ wp frame (wpE (defs₀ (F := Ideal)) Variants.none c none) Set.univ (cc1_attn i tbM1_0 (Memref.isWhole_whole _) tbM1_1 (Memref.isWhole_whole _) tbM1_2 (Memref.isWhole_whole _) arg6 harg6 arg7 harg7 arg8 harg8 arg9 harg9 arg10 harg10 arg11 harg11 scM1_0 (Memref.isWhole_whole _) scM1_1 (Memref.isWhole_whole _) scM1_2 (Memref.isWhole_whole _) scM1_3 (Memref.isWhole_whole _)) K } :=
  ⟨_, _, _, _, _, fun K => by
    unfold owns
    rw [cc1_attn_eq_skeleton]; unfold cc1_attn_skel
    iintro ⟨H0, H1, H2, H3, H4, HT0, HT1, HT2, ⟨%d5, %f5, -, HO5⟩, HS0, HS1, HS2, HS3, Hk⟩
    have hS0 : scM1_0.IsWhole := Memref.isWhole_whole _
    have hS1 : scM1_1.IsWhole := Memref.isWhole_whole _
    have hS2 : scM1_2.IsWhole := Memref.isWhole_whole _
    have hS3 : scM1_3.IsWhole := Memref.isWhole_whole _
    have hT0 : tbM1_0.IsWhole := Memref.isWhole_whole _
    have hT1 : tbM1_1.IsWhole := Memref.isWhole_whole _
    have hT2 : tbM1_2.IsWhole := Memref.isWhole_whole _
    sl_exec! (disch := first | (guard_target = ¬(Scalar.cmpi = _); exact hc0) | (guard_target = Scalar.cmpi = _; exact hc1) | (guard_target = ¬(Scalar.cmpi = _); exact hc2) | (guard_target = k1_cond4 _ = _; exact k1_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    isplitl [HO5]; · iexists _; iexact HO5
    isplitl [HS0]; · iexact HS0
    isplitl [HS1]; · iexact HS1
    isplitl [HS2]; · iexact HS2
    iexact HS3⟩

end Cert.KernelIdeal.Gen

end
-- ==== Proof.AttnPins.lean ====
module

public import proofs.«01_k».proof.Proof.AttnRuns
public import proofs.«01_k».proof.Proof.Gen.KernelIdeal.Skeleton
public import proofs.«01_k».proof.Proof.Gen.KernelIdeal.Regions
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.PureOps.Ideal
public import Idealize.ShloMosaic.Adequacy
public import Idealize.ShloMosaic.Init

@[expose] public section

set_option maxRecDepth 16384
set_option Elab.async false

noncomputable section

namespace Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! # The attention call's schedule: the tables' words, the pipeline at them, and what is decided of its 48 points -/

/-- The three tables: query block, key block, and the two flags of each of the three steps. -/
def pinT_0 : S3.Idx → BitVec 32 := fun x => ([0#32, 1#32, 1#32] : List (BitVec 32)).getD (x 0).val 0#32
def pinT_1 : S3.Idx → BitVec 32 := fun x => ([0#32, 0#32, 1#32] : List (BitVec 32)).getD (x 0).val 0#32
def pinT_2 : S3.Idx → BitVec 32 := fun x => ([3#32, 0#32, 3#32] : List (BitVec 32)).getD (x 0).val 0#32
def pfN : pre1.Contents (Elt Ideal) := fun | ⟨0, _⟩ => pinT_0 | ⟨1, _⟩ => pinT_1 | ⟨2, _⟩ => pinT_2 | ⟨_ + 3, h⟩ => absurd h (by simp)

theorem inb1_0 : ∀ i : grid1.Coords, ∀ a, (cc1_transform_0 k1_off1_inb numel1_S1 pfN i a + 1) * S2048x128.size a ≤ S16384x1536.size a := by decide +kernel
theorem inb1_1 : ∀ i : grid1.Coords, ∀ a, (cc1_transform_1 k1_off1_inb numel1_S1 pfN i a + 1) * S2048x256.size a ≤ S16384x1024.size a := by decide +kernel
theorem inb1_2 : ∀ i : grid1.Coords, ∀ a, (cc1_transform_2 k1_off1_inb numel1_S1 pfN i a + 1) * S2048x128.size a ≤ S16384x1536.size a := by decide +kernel
theorem inb1_3 : ∀ i : grid1.Coords, ∀ a, (cc1_transform_3 k1_off1_inb numel1_S1 pfN i a + 1) * S2048x256.size a ≤ S16384x1024.size a := by decide +kernel
theorem inb1_4 : ∀ i : grid1.Coords, ∀ a, (cc1_transform_4 k1_off1_inb numel1_S1 pfN i a + 1) * S2048x128.size a ≤ S16384x1536.size a := by decide +kernel
theorem inb1_5 : ∀ i : grid1.Coords, ∀ a, (cc1_transform_5 k1_off1_inb numel1_S1 pfN i a + 1) * S2048x128.size a ≤ S16384x512.size a := by decide +kernel
/-- Every block the tables name lies inside its array. -/
theorem ok_pfN : ok1 (F := Ideal) pfN :=
  ⟨fun i => ⟨inb1_0 i, .inr (Affine.block_words_dvd (s := S16384x1536) (p := EltTy.packing .bf16) (by decide) (by decide))⟩, fun i => ⟨inb1_1 i, .inr (Affine.block_words_dvd (s := S16384x1024) (p := EltTy.packing .bf16) (by decide) (by decide))⟩, fun i => ⟨inb1_2 i, .inr (Affine.block_words_dvd (s := S16384x1536) (p := EltTy.packing .bf16) (by decide) (by decide))⟩, fun i => ⟨inb1_3 i, .inr (Affine.block_words_dvd (s := S16384x1024) (p := EltTy.packing .bf16) (by decide) (by decide))⟩, fun i => ⟨inb1_4 i, .inr (Affine.block_words_dvd (s := S16384x1536) (p := EltTy.packing .bf16) (by decide) (by decide))⟩, fun i => ⟨inb1_5 i, .inr (Affine.block_words_dvd (s := S16384x512) (p := EltTy.packing .bf16) (by decide) (by decide))⟩⟩

def adm1 : (pcfg1 (F := Ideal)).Adm := ⟨pfN, ok_pfN⟩
abbrev cfgA : Pipeline.Cfg sig Λ₀ := cfg1 (F := Ideal) adm1
abbrev crd (t : Fin cfgA.N) : cfgA.grid.Coords := cfgA.grid.coords t
abbrev ms1_0 (t : Fin cfgA.N) : Memref sig .tc .vmem S2048x128 .bf16 := spec1_0.stage (cfgA.slots t (0 : Fin 6))
abbrev hs1_0 (t : Fin cfgA.N) : (ms1_0 t).IsWhole := hstage1_0 ((cfgA.slots t (0 : Fin 6)).cast nbuf1_0)
abbrev ms1_1 (t : Fin cfgA.N) : Memref sig .tc .vmem S2048x256 .bf16 := spec1_1.stage (cfgA.slots t (1 : Fin 6))
abbrev hs1_1 (t : Fin cfgA.N) : (ms1_1 t).IsWhole := hstage1_1 ((cfgA.slots t (1 : Fin 6)).cast nbuf1_1)
abbrev ms1_2 (t : Fin cfgA.N) : Memref sig .tc .vmem S2048x128 .bf16 := spec1_2.stage (cfgA.slots t (2 : Fin 6))
abbrev hs1_2 (t : Fin cfgA.N) : (ms1_2 t).IsWhole := hstage1_2 ((cfgA.slots t (2 : Fin 6)).cast nbuf1_2)
abbrev ms1_3 (t : Fin cfgA.N) : Memref sig .tc .vmem S2048x256 .bf16 := spec1_3.stage (cfgA.slots t (3 : Fin 6))
abbrev hs1_3 (t : Fin cfgA.N) : (ms1_3 t).IsWhole := hstage1_3 ((cfgA.slots t (3 : Fin 6)).cast nbuf1_3)
abbrev ms1_4 (t : Fin cfgA.N) : Memref sig .tc .vmem S2048x128 .bf16 := spec1_4.stage (cfgA.slots t (4 : Fin 6))
abbrev hs1_4 (t : Fin cfgA.N) : (ms1_4 t).IsWhole := hstage1_4 ((cfgA.slots t (4 : Fin 6)).cast nbuf1_4)
abbrev ms1_5 (t : Fin cfgA.N) : Memref sig .tc .vmem S2048x128 .bf16 := spec1_5.stage (cfgA.slots t (5 : Fin 6))
abbrev hs1_5 (t : Fin cfgA.N) : (ms1_5 t).IsWhole := hstage1_5 ((cfgA.slots t (5 : Fin 6)).cast nbuf1_5)

/-- What is decided at a point: its path's branches, and whether the output is idle there and is written back. -/
abbrev FactsAt (t : Fin cfgA.N) : Prop :=
  (t.val % 3 = 0 → hcI (crd t) pinT_1 ∧ hcD (crd t) pinT_2 ∧ ¬hcF (crd t) pinT_2 ∧ hcE (crd t) pinT_2
    ∧ cfgA.idle (5 : Fin 6) (crd t) = false ∧ (cfgA.win (5 : Fin 6)).flush t = true)
  ∧ (t.val % 3 = 1 → hcI (crd t) pinT_1 ∧ ¬hcD (crd t) pinT_2 ∧ hcF (crd t) pinT_2 ∧ ¬hcE (crd t) pinT_2
    ∧ cfgA.idle (5 : Fin 6) (crd t) = true ∧ (cfgA.win (5 : Fin 6)).flush t = false)
  ∧ (t.val % 3 = 2 → ¬hcI (crd t) pinT_1 ∧ hcD (crd t) pinT_2 ∧ ¬hcF (crd t) pinT_2 ∧ hcE (crd t) pinT_2
    ∧ cfgA.idle (5 : Fin 6) (crd t) = false ∧ (cfgA.win (5 : Fin 6)).flush t = true)

theorem facts_0 : ∀ t : Fin cfgA.N, 0 ≤ t.val → t.val < 6 → FactsAt t := by decide +kernel
theorem facts_1 : ∀ t : Fin cfgA.N, 6 ≤ t.val → t.val < 12 → FactsAt t := by decide +kernel
theorem facts_2 : ∀ t : Fin cfgA.N, 12 ≤ t.val → t.val < 18 → FactsAt t := by decide +kernel
theorem facts_3 : ∀ t : Fin cfgA.N, 18 ≤ t.val → t.val < 24 → FactsAt t := by decide +kernel
theorem facts_4 : ∀ t : Fin cfgA.N, 24 ≤ t.val → t.val < 30 → FactsAt t := by decide +kernel
theorem facts_5 : ∀ t : Fin cfgA.N, 30 ≤ t.val → t.val < 36 → FactsAt t := by decide +kernel
theorem facts_6 : ∀ t : Fin cfgA.N, 36 ≤ t.val → t.val < 42 → FactsAt t := by decide +kernel
theorem facts_7 : ∀ t : Fin cfgA.N, 42 ≤ t.val → t.val < 48 → FactsAt t := by decide +kernel
theorem factsAt : ∀ t : Fin cfgA.N, FactsAt t := fun t => by
  have h0 : 0 ≤ t.val := Nat.zero_le _
  rcases Nat.lt_or_ge t.val 6 with h1 | h1; · exact facts_0 t h0 h1
  rcases Nat.lt_or_ge t.val 12 with h2 | h2; · exact facts_1 t h1 h2
  rcases Nat.lt_or_ge t.val 18 with h3 | h3; · exact facts_2 t h2 h3
  rcases Nat.lt_or_ge t.val 24 with h4 | h4; · exact facts_3 t h3 h4
  rcases Nat.lt_or_ge t.val 30 with h5 | h5; · exact facts_4 t h4 h5
  rcases Nat.lt_or_ge t.val 36 with h6 | h6; · exact facts_5 t h5 h6
  rcases Nat.lt_or_ge t.val 42 with h7 | h7; · exact facts_6 t h6 h7
  exact facts_7 t h7 t.isLt

end Cert.KernelIdeal.Gen

end
-- ==== Proof.AttnRegion.lean ====
module

public import proofs.«01_k».proof.Proof.AttnPins

@[expose] public section

set_option maxRecDepth 16384
set_option Elab.async false

noncomputable section

namespace Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! # The attention call's region: what its body leaves at every point, over any contents the region is entered with -/

variable (V : Dev nD → Valuation τ sig (Elt Ideal))

/-- Window `w`'s block at point `t`, of the array as the region finds it. -/
def atblk (c : Dev nD) (w : Fin cfgA.W) (t : Fin cfgA.N) : ((cfgA.win w).xblock (crd t)).Idx → Elt Ideal (cfgA.win w).elt :=
  ((cfgA.win w).blk t).view.read (Elt Ideal) (V c (Proc.devRef .tc (Pipeline.arrRef spec1 w)))

/-- The run at a first block that is the last, -/
abbrev rA (c : Dev nD) (t : Fin cfgA.N) (h : t.val % 3 = 0) :=
  kernelRun1_A c (crd t) (ms1_0 t) (hs1_0 t) (ms1_1 t) (hs1_1 t) (ms1_2 t) (hs1_2 t) (ms1_3 t) (hs1_3 t) (ms1_4 t) (hs1_4 t) (ms1_5 t) (hs1_5 t) pinT_0 pinT_1 pinT_2 (atblk V c (0 : Fin 6) t) (atblk V c (1 : Fin 6) t) (atblk V c (2 : Fin 6) t) (atblk V c (3 : Fin 6) t) (atblk V c (4 : Fin 6) t) ((factsAt t).1 h).1 ((factsAt t).1 h).2.1 ((factsAt t).1 h).2.2.1 ((factsAt t).1 h).2.2.2.1
/-- at a first block of two, -/
abbrev rB (c : Dev nD) (t : Fin cfgA.N) (h : t.val % 3 = 1) :=
  kernelRun1_B c (crd t) (ms1_0 t) (hs1_0 t) (ms1_1 t) (hs1_1 t) (ms1_2 t) (hs1_2 t) (ms1_3 t) (hs1_3 t) (ms1_4 t) (hs1_4 t) (ms1_5 t) (hs1_5 t) pinT_0 pinT_1 pinT_2 (atblk V c (0 : Fin 6) t) (atblk V c (1 : Fin 6) t) (atblk V c (2 : Fin 6) t) (atblk V c (3 : Fin 6) t) (atblk V c (4 : Fin 6) t) ((factsAt t).2.1 h).1 ((factsAt t).2.1 h).2.1 ((factsAt t).2.1 h).2.2.1 ((factsAt t).2.1 h).2.2.2.1
/-- and at a last block of two, from the scratches `xa0` … `xa3`. -/
abbrev rC (c : Dev nD) (t : Fin cfgA.N) (xa0 : Buf (Elt Ideal) ((c : Thread nD τ).loc cc1_scratch0)) (xa1 : Buf (Elt Ideal) ((c : Thread nD τ).loc cc1_scratch1)) (xa2 : Buf (Elt Ideal) ((c : Thread nD τ).loc cc1_scratch2)) (xa3 : Buf (Elt Ideal) ((c : Thread nD τ).loc cc1_scratch3)) (h : t.val % 3 = 2) :=
  kernelRun1_C c (crd t) (ms1_0 t) (hs1_0 t) (ms1_1 t) (hs1_1 t) (ms1_2 t) (hs1_2 t) (ms1_3 t) (hs1_3 t) (ms1_4 t) (hs1_4 t) (ms1_5 t) (hs1_5 t) pinT_0 pinT_1 pinT_2 (atblk V c (0 : Fin 6) t) (atblk V c (1 : Fin 6) t) (atblk V c (2 : Fin 6) t) (atblk V c (3 : Fin 6) t) (atblk V c (4 : Fin 6) t) xa0 xa1 xa2 xa3 ((factsAt t).2.2 h).1 ((factsAt t).2.2 h).2.1 ((factsAt t).2.2 h).2.2.1 ((factsAt t).2.2 h).2.2.2.1

/-- The point before a last block of two. -/
abbrev prv (t : Fin cfgA.N) : Fin cfgA.N := ⟨t.val - 1, Nat.lt_of_le_of_lt (Nat.sub_le _ _) t.isLt⟩
theorem prv_mod (t : Fin cfgA.N) (h : t.val % 3 = 2) : (prv t).val % 3 = 1 := by
  show (t.val - 1) % 3 = 1; omega

/-- The run at a last block of two, from what the point before left. -/
abbrev rCp (c : Dev nD) (t : Fin cfgA.N) (h : t.val % 3 = 2) :=
  rC V c t (rB V c (prv t) (prv_mod t h)).1 (rB V c (prv t) (prv_mod t h)).2.1 (rB V c (prv t) (prv_mod t h)).2.2.1 (rB V c (prv t) (prv_mod t h)).2.2.2.1 h

theorem atcov_A (c : Dev nD) (t : Fin cfgA.N) (h : t.val % 3 = 0) (y : S2048x128.Idx) : ∃ pc ∈ (rA V c t h).1, y ∈ pc.1.set :=
  View.cover_of_tiledL (rA V c t h).1 S2048x128.size (by sl_kernel_rfl) y
theorem atcov_C (c : Dev nD) (t : Fin cfgA.N) (xa0 xa1 xa2 xa3) (h : t.val % 3 = 2) (y : S2048x128.Idx) : ∃ pc ∈ (rC V c t xa0 xa1 xa2 xa3 h).1, y ∈ pc.1.set :=
  View.cover_of_tiledL (rC V c t xa0 xa1 xa2 xa3 h).1 S2048x128.size (by sl_kernel_rfl) y

/-- What a finishing point leaves in the output's buffer. -/
def atout_A (c : Dev nD) (t : Fin cfgA.N) (h : t.val % 3 = 0) : S2048x128.Idx → Elt Ideal .bf16 :=
  VO1_5.read (Elt Ideal) (VO1_5.writes (Elt Ideal) VO1_5.junk (rA V c t h).1)
def atout_C (c : Dev nD) (t : Fin cfgA.N) (h : t.val % 3 = 2) : S2048x128.Idx → Elt Ideal .bf16 :=
  VO1_5.read (Elt Ideal) (VO1_5.writes (Elt Ideal) VO1_5.junk (rCp V c t h).1)
/-- The output's buffer after point `t` (nothing is said of it where the point does not finish). -/
def atout (c : Dev nD) (t : Fin cfgA.N) : S2048x128.Idx → Elt Ideal .bf16 :=
  if h : t.val % 3 = 0 then atout_A V c t h else if h : t.val % 3 = 2 then atout_C V c t h else default
theorem atout_eA (c : Dev nD) (t : Fin cfgA.N) (h : t.val % 3 = 0) : atout V c t = atout_A V c t h := by
  unfold atout; exact dif_pos h
theorem atout_eC (c : Dev nD) (t : Fin cfgA.N) (h : t.val % 3 = 2) : atout V c t = atout_C V c t h := by
  unfold atout; rw [dif_neg (by omega), dif_pos h]

/-- The four scratches at given contents, -/
def scrAt (c : Dev nD) (xa0 : Buf (Elt Ideal) ((c : Thread nD τ).loc cc1_scratch0)) (xa1 : Buf (Elt Ideal) ((c : Thread nD τ).loc cc1_scratch1)) (xa2 : Buf (Elt Ideal) ((c : Thread nD τ).loc cc1_scratch2)) (xa3 : Buf (Elt Ideal) ((c : Thread nD τ).loc cc1_scratch3)) : sProp 𝕄 :=
  iprop((scM1_0.view.loc (c : Thread nD τ) ↦{fullShare} xa0) ∗ (scM1_1.view.loc (c : Thread nD τ) ↦{fullShare} xa1) ∗ (scM1_2.view.loc (c : Thread nD τ) ↦{fullShare} xa2) ∗ (scM1_3.view.loc (c : Thread nD τ) ↦{fullShare} xa3))
/-- and at any. -/
def scrAny (c : Dev nD) : sProp 𝕄 :=
  iprop((∃ f : Buf (Elt Ideal) ((c : Thread nD τ).loc cc1_scratch0), ((c : Thread nD τ).loc cc1_scratch0) ↦{fullShare} f) ∗ (∃ f : Buf (Elt Ideal) ((c : Thread nD τ).loc cc1_scratch1), ((c : Thread nD τ).loc cc1_scratch1) ↦{fullShare} f) ∗ (∃ f : Buf (Elt Ideal) ((c : Thread nD τ).loc cc1_scratch2), ((c : Thread nD τ).loc cc1_scratch2) ↦{fullShare} f) ∗ (∃ f : Buf (Elt Ideal) ((c : Thread nD τ).loc cc1_scratch3), ((c : Thread nD τ).loc cc1_scratch3) ↦{fullShare} f))
theorem scrAt_any (c : Dev nD) (xa0 xa1 xa2 xa3) : scrAt c xa0 xa1 xa2 xa3 ⊢ scrAny c := by
  unfold scrAt scrAny
  iintro ⟨H0, H1, H2, H3⟩
  isplitl [H0]; · iexists _; iexact H0
  isplitl [H1]; · iexists _; iexact H1
  isplitl [H2]; · iexists _; iexact H2
  iexists _; iexact H3
/-- The scratches between points: named only before a last block of two. -/
def scrPhi (c : Dev nD) (n : ℕ) (hn : n ≤ cfgA.N) : sProp 𝕄 :=
  if h : n % 3 = 2 then
    scrAt c (rB V c ⟨n - 1, by omega⟩ (by show (n - 1) % 3 = 1; omega)).1 (rB V c ⟨n - 1, by omega⟩ (by show (n - 1) % 3 = 1; omega)).2.1 (rB V c ⟨n - 1, by omega⟩ (by show (n - 1) % 3 = 1; omega)).2.2.1 (rB V c ⟨n - 1, by omega⟩ (by show (n - 1) % 3 = 1; omega)).2.2.2.1
  else scrAny c
theorem scrPhi_any (c : Dev nD) (n : ℕ) (hn : n ≤ cfgA.N) : scrPhi V c n hn ⊢ scrAny c := by
  unfold scrPhi
  by_cases h : n % 3 = 2
  · rw [dif_pos h]; exact scrAt_any c _ _ _ _
  · rw [dif_neg h]

/-- The three tables, whole. -/
def tabs (c : Dev nD) : sProp 𝕄 :=
  iprop((tbM1_0.view.loc (c : Thread nD τ) ↦{fullShare} pinT_0) ∗ (tbM1_1.view.loc (c : Thread nD τ) ↦{fullShare} pinT_1) ∗ (tbM1_2.view.loc (c : Thread nD τ) ↦{fullShare} pinT_2))
theorem tabs_eq (c : Dev nD) :
    (Pipeline.prefHeld (Ix := Unit) (Name := ℕ) (U := UR sig nD τ) (Lvl := ℕ) pre1 c (fun _ => fullShare) pfN : sProp 𝕄) = tabs c := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl
/-- The scoped buffers the call does not use. -/
abbrev atRest (c : Dev nD) : sProp 𝕄 := Pipeline.scopedRestBut (Ix := Unit) (Name := ℕ) (U := UR sig nD τ) (Lvl := ℕ) (Val := Elt Ideal) spec1 c [cc1_scratch0, cc1_scratch1, cc1_scratch2, cc1_scratch3]

/-- The region's invariant. -/
def Phi1 (c : Dev nD) (n : ℕ) (hn : n ≤ cfgA.N) : sProp 𝕄 := iprop(scrPhi V c n hn ∗ tabs c ∗ atRest c)

/-- The region's data on core `c`: windows on one array take shares of it. -/
def dat1 (c : Dev nD) : Dat τ (Elt Ideal) Unit ℕ (UR sig nD τ) ℕ cfgA c where
  A w := V c (Proc.devRef .tc (Pipeline.arrRef spec1 w))
  after w t := match w with
    | ⟨0, _⟩ => atblk V c (0 : Fin 6) t
    | ⟨1, _⟩ => atblk V c (1 : Fin 6) t
    | ⟨2, _⟩ => atblk V c (2 : Fin 6) t
    | ⟨3, _⟩ => atblk V c (3 : Fin 6) t
    | ⟨4, _⟩ => atblk V c (4 : Fin 6) t
    | ⟨5, _⟩ => atout V c t
  Φ t := Phi1 V c t.val (Nat.le_of_lt_succ t.isLt)
  q w := Pipeline.shareOf spec1 w
  owed _ := 0

theorem dat1_A (c : Dev nD) (w : Fin cfgA.W) : (dat1 V c).A w = V c (Proc.devRef .tc (Pipeline.arrRef spec1 w)) := by
  dsimp only [dat1]
theorem after1_0 (c : Dev nD) (t : Fin cfgA.N) : (dat1 V c).after (0 : Fin 6) t = atblk V c (0 : Fin 6) t := by dsimp only [dat1]
theorem after1_1 (c : Dev nD) (t : Fin cfgA.N) : (dat1 V c).after (1 : Fin 6) t = atblk V c (1 : Fin 6) t := by dsimp only [dat1]
theorem after1_2 (c : Dev nD) (t : Fin cfgA.N) : (dat1 V c).after (2 : Fin 6) t = atblk V c (2 : Fin 6) t := by dsimp only [dat1]
theorem after1_3 (c : Dev nD) (t : Fin cfgA.N) : (dat1 V c).after (3 : Fin 6) t = atblk V c (3 : Fin 6) t := by dsimp only [dat1]
theorem after1_4 (c : Dev nD) (t : Fin cfgA.N) : (dat1 V c).after (4 : Fin 6) t = atblk V c (4 : Fin 6) t := by dsimp only [dat1]
theorem after1_5 (c : Dev nD) (t : Fin cfgA.N) : (dat1 V c).after (5 : Fin 6) t = atout V c t := by dsimp only [dat1]
theorem before1_0 (c : Dev nD) (t : Fin cfgA.N) (d) : (dat1 V c).before (0 : Fin 6) t d = atblk V c (0 : Fin 6) t :=
  ((dat1 V c).before_in_eq_fetched (0 : Fin 6) rfl (fun _ => rfl) (fun _ _ _ => rfl) (fun t => by rw [after1_0]; unfold Dat.blockOf atblk; rw [dat1_A]; try rfl) t d).trans
    (by unfold Dat.fetched Dat.blockOf atblk; rw [dat1_A]; try rfl)
theorem before1_1 (c : Dev nD) (t : Fin cfgA.N) (d) : (dat1 V c).before (1 : Fin 6) t d = atblk V c (1 : Fin 6) t :=
  ((dat1 V c).before_in_eq_fetched (1 : Fin 6) rfl (fun _ => rfl) (fun _ _ _ => rfl) (fun t => by rw [after1_1]; unfold Dat.blockOf atblk; rw [dat1_A]; try rfl) t d).trans
    (by unfold Dat.fetched Dat.blockOf atblk; rw [dat1_A]; try rfl)
theorem before1_2 (c : Dev nD) (t : Fin cfgA.N) (d) : (dat1 V c).before (2 : Fin 6) t d = atblk V c (2 : Fin 6) t :=
  ((dat1 V c).before_in_eq_fetched (2 : Fin 6) rfl (fun _ => rfl) (fun _ _ _ => rfl) (fun t => by rw [after1_2]; unfold Dat.blockOf atblk; rw [dat1_A]; try rfl) t d).trans
    (by unfold Dat.fetched Dat.blockOf atblk; rw [dat1_A]; try rfl)
theorem before1_3 (c : Dev nD) (t : Fin cfgA.N) (d) : (dat1 V c).before (3 : Fin 6) t d = atblk V c (3 : Fin 6) t :=
  ((dat1 V c).before_in_eq_fetched (3 : Fin 6) rfl (fun _ => rfl) (fun _ _ _ => rfl) (fun t => by rw [after1_3]; unfold Dat.blockOf atblk; rw [dat1_A]; try rfl) t d).trans
    (by unfold Dat.fetched Dat.blockOf atblk; rw [dat1_A]; try rfl)
theorem before1_4 (c : Dev nD) (t : Fin cfgA.N) (d) : (dat1 V c).before (4 : Fin 6) t d = atblk V c (4 : Fin 6) t :=
  ((dat1 V c).before_in_eq_fetched (4 : Fin 6) rfl (fun _ => rfl) (fun _ _ _ => rfl) (fun t => by rw [after1_4]; unfold Dat.blockOf atblk; rw [dat1_A]; try rfl) t d).trans
    (by unfold Dat.fetched Dat.blockOf atblk; rw [dat1_A]; try rfl)

/-- The body at point `t`, as the pipeline calls it. -/
abbrev bodyAt1 (t : Fin cfgA.N) : Prog (TpuEff nD τ sig (Elt Ideal) Λ₀ .tc) PUnit :=
  cc1_attn (crd t) tbM1_0 (Memref.isWhole_whole _) tbM1_1 (Memref.isWhole_whole _) tbM1_2 (Memref.isWhole_whole _) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _)

set_option maxHeartbeats 4000000 in
/-- The body at any point. -/
theorem sound_body1 (c : Dev nD) (t : Fin cfgA.N) :
    iprop((dat1 V c).Φ t.castSucc ∗ (dat1 V c).owesAt () t.castSucc
        ∗ (∃ d, owns (c : Thread nD τ) (ms1_0 t) fullShare ((dat1 V c).before (0 : Fin 6) t d))
        ∗ (∃ d, owns (c : Thread nD τ) (ms1_1 t) fullShare ((dat1 V c).before (1 : Fin 6) t d))
        ∗ (∃ d, owns (c : Thread nD τ) (ms1_2 t) fullShare ((dat1 V c).before (2 : Fin 6) t d))
        ∗ (∃ d, owns (c : Thread nD τ) (ms1_3 t) fullShare ((dat1 V c).before (3 : Fin 6) t d))
        ∗ (∃ d, owns (c : Thread nD τ) (ms1_4 t) fullShare ((dat1 V c).before (4 : Fin 6) t d))
        ∗ (∃ d, owns (c : Thread nD τ) (ms1_5 t) fullShare ((dat1 V c).before (5 : Fin 6) t d)))
      ⊢ wp frame (wpE (defs₀ (F := Ideal)) Variants.none c none) Set.univ (bodyAt1 t) fun _ =>
          iprop((dat1 V c).Φ t.succ ∗ (dat1 V c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dat1 V c).before w t d))
                  | true => owns (c : Thread nD τ) ((cfgA.win w).stage (cfgA.slots t w)) fullShare ((dat1 V c).after w t)
                | false => owns (c : Thread nD τ) ((cfgA.win w).stage (cfgA.slots t w)) fullShare ((dat1 V c).after w t)) := by
  rw [bigSep_W1]
  rewrite [show (dat1 V c).Φ t.succ = Phi1 V c (t.val + 1) t.isLt from rfl, show (dat1 V c).Φ t.castSucc = Phi1 V c t.val (Nat.le_of_lt t.isLt) from rfl,
    show (dat1 V c).owesAt () t.succ = (dat1 V c).owesAt () t.castSucc from rfl]
  have h3 : t.val % 3 = 0 ∨ t.val % 3 = 1 ∨ t.val % 3 = 2 := by omega
  rcases h3 with h | h | h
  · obtain ⟨hc0, hc1, hc2, k1_h4, i5, f5⟩ := (factsAt t).1 h
    rewrite [i5]
    simp only [before1_0, before1_1, before1_2, before1_3, before1_4, after1_0, after1_1, after1_2, after1_3, after1_4, after1_5, f5]
    rw [atout_eA V c t h]
    have hpost : scrAny c ⊢ scrPhi V c (t.val + 1) t.isLt := by
      unfold scrPhi; rw [dif_neg (by omega)]
    refine (sep_mono (sep_mono (scrPhi_any V c t.val (Nat.le_of_lt t.isLt)) .rfl) .rfl).trans ?_
    unfold Phi1 tabs scrAny
    iintro ⟨⟨⟨⟨%a0, HS0⟩, ⟨%a1, HS1⟩, ⟨%a2, HS2⟩, ⟨%a3, HS3⟩⟩, ⟨HT0, HT1, HT2⟩, HR⟩, Ho, ⟨%d0, H0⟩, ⟨%d1, H1⟩, ⟨%d2, H2⟩, ⟨%d3, H3⟩, ⟨%d4, H4⟩, ⟨%d5, H5⟩⟩
    iapply ((rA V c t h).2.2.2.2.2 a0 a1 a2 a3 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HT2]; · iexact HT2
    isplitl [H5]; · iexists _; iexact H5
    isplitl [HS0]; · iexact HS0
    isplitl [HS1]; · iexact HS1
    isplitl [HS2]; · iexact HS2
    isplitl [HS3]; · iexact HS3
    iintro ⟨H0, H1, H2, H3, H4, HT0, HT1, HT2, ⟨%e5, H5⟩, HS0, HS1, HS2, HS3⟩
    isplitl [HS0 HS1 HS2 HS3 HT0 HT1 HT2 HR]
    · isplitl [HS0 HS1 HS2 HS3]
      · iapply hpost; unfold scrAny
        isplitl [HS0]; · iexists _; iexact HS0
        isplitl [HS1]; · iexists _; iexact HS1
        isplitl [HS2]; · iexists _; iexact HS2
        iexists _; iexact HS3
      isplitl [HT0 HT1 HT2]
      · isplitl [HT0]; · iexact HT0
        isplitl [HT1]; · iexact HT1
        iexact HT2
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact View.read_writes_of_cover _ _ _ _ _ (atcov_A V c t h)
  · obtain ⟨hc0, hc1, hc2, k1_h4, i5, f5⟩ := (factsAt t).2.1 h
    rewrite [i5]
    simp only [before1_0, before1_1, before1_2, before1_3, before1_4, after1_0, after1_1, after1_2, after1_3, after1_4, after1_5, f5]
    have hpost : scrAt c (rB V c t h).1 (rB V c t h).2.1 (rB V c t h).2.2.1 (rB V c t h).2.2.2.1 ⊢ scrPhi V c (t.val + 1) t.isLt := by
      unfold scrPhi; rw [dif_pos (by omega)]; exact .rfl
    refine (sep_mono (sep_mono (scrPhi_any V c t.val (Nat.le_of_lt t.isLt)) .rfl) .rfl).trans ?_
    unfold Phi1 tabs scrAny
    iintro ⟨⟨⟨⟨%a0, HS0⟩, ⟨%a1, HS1⟩, ⟨%a2, HS2⟩, ⟨%a3, HS3⟩⟩, ⟨HT0, HT1, HT2⟩, HR⟩, Ho, ⟨%d0, H0⟩, ⟨%d1, H1⟩, ⟨%d2, H2⟩, ⟨%d3, H3⟩, ⟨%d4, H4⟩, ⟨%d5, H5⟩⟩
    iapply ((rB V c t h).2.2.2.2 _ a0 a1 a2 a3 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HT2]; · iexact HT2
    isplitl [H5]; · iexact H5
    isplitl [HS0]; · iexact HS0
    isplitl [HS1]; · iexact HS1
    isplitl [HS2]; · iexact HS2
    isplitl [HS3]; · iexact HS3
    iintro ⟨H0, H1, H2, H3, H4, HT0, HT1, HT2, H5, HS0, HS1, HS2, HS3⟩
    isplitl [HS0 HS1 HS2 HS3 HT0 HT1 HT2 HR]
    · isplitl [HS0 HS1 HS2 HS3]
      · iapply hpost; unfold scrAt
        isplitl [HS0]; · iexact HS0
        isplitl [HS1]; · iexact HS1
        isplitl [HS2]; · iexact HS2
        iexact HS3
      isplitl [HT0 HT1 HT2]
      · isplitl [HT0]; · iexact HT0
        isplitl [HT1]; · iexact HT1
        iexact HT2
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    iexists d5; iexact H5
  · obtain ⟨hc0, hc1, hc2, k1_h4, i5, f5⟩ := (factsAt t).2.2 h
    rewrite [i5]
    simp only [before1_0, before1_1, before1_2, before1_3, before1_4, after1_0, after1_1, after1_2, after1_3, after1_4, after1_5, f5]
    rw [atout_eC V c t h]
    have hpost : scrAny c ⊢ scrPhi V c (t.val + 1) t.isLt := by
      unfold scrPhi; rw [dif_neg (by omega)]
    have hpre : scrPhi V c t.val (Nat.le_of_lt t.isLt) ⊢ scrAt c (rB V c (prv t) (prv_mod t h)).1 (rB V c (prv t) (prv_mod t h)).2.1 (rB V c (prv t) (prv_mod t h)).2.2.1 (rB V c (prv t) (prv_mod t h)).2.2.2.1 := by
      unfold scrPhi; rw [dif_pos h]
    refine (sep_mono (sep_mono hpre .rfl) .rfl).trans ?_
    unfold Phi1 tabs scrAt
    iintro ⟨⟨⟨HS0, HS1, HS2, HS3⟩, ⟨HT0, HT1, HT2⟩, HR⟩, Ho, ⟨%d0, H0⟩, ⟨%d1, H1⟩, ⟨%d2, H2⟩, ⟨%d3, H3⟩, ⟨%d4, H4⟩, ⟨%d5, H5⟩⟩
    iapply ((rCp V c t h).2.2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HT2]; · iexact HT2
    isplitl [H5]; · iexists _; iexact H5
    isplitl [HS0]; · iexact HS0
    isplitl [HS1]; · iexact HS1
    isplitl [HS2]; · iexact HS2
    isplitl [HS3]; · iexact HS3
    iintro ⟨H0, H1, H2, H3, H4, HT0, HT1, HT2, ⟨%e5, H5⟩, HS0, HS1, HS2, HS3⟩
    isplitl [HS0 HS1 HS2 HS3 HT0 HT1 HT2 HR]
    · isplitl [HS0 HS1 HS2 HS3]
      · iapply hpost; unfold scrAny
        isplitl [HS0]; · iexists _; iexact HS0
        isplitl [HS1]; · iexists _; iexact HS1
        isplitl [HS2]; · iexists _; iexact HS2
        iexists _; iexact HS3
      isplitl [HT0 HT1 HT2]
      · isplitl [HT0]; · iexact HT0
        isplitl [HT1]; · iexact HT1
        iexact HT2
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact View.read_writes_of_cover _ _ _ _ _ (atcov_C V c t _ _ _ _ h)

/-- The body obligation, at every point. -/
theorem body_obligation1 (c : Dev nD) : BodyObligation (dat1 V c) (defs₀ (F := Ideal)) Variants.none () Set.univ := fun t => by
  rw [bigSep_W1]
  exact sound_body1 V c t

theorem hin1 (c : Dev nD) : iprop(Pipeline.prefHeld (Ix := Unit) (Name := ℕ) (U := UR sig nD τ) (Lvl := ℕ) pre1 c (fun _ => fullShare) pfN ∗ (Pipeline.scopedRest (Ix := Unit) (Name := ℕ) (U := UR sig nD τ) (Lvl := ℕ) (Val := Elt Ideal) spec1 c : sProp 𝕄)) ⊢ (dat1 V c).Φ 0 := by
  rw [show (dat1 V c).Φ 0 = Phi1 V c 0 (Nat.zero_le _) from rfl, tabs_eq, scopedRest1_split]
  unfold Phi1 scrPhi; rw [dif_neg (by decide)]; unfold scrAny
  iintro ⟨HT, HS, HR⟩
  isplitl [HS]; · iexact HS
  isplitl [HT]; · iexact HT
  iexact HR

theorem hout1 (c : Dev nD) : (dat1 V c).Φ (Fin.last cfgA.N) ⊢ iprop(Pipeline.prefHeld (Ix := Unit) (Name := ℕ) (U := UR sig nD τ) (Lvl := ℕ) pre1 c (fun _ => fullShare) pfN ∗ (Pipeline.scopedRest (Ix := Unit) (Name := ℕ) (U := UR sig nD τ) (Lvl := ℕ) (Val := Elt Ideal) spec1 c : sProp 𝕄)) := by
  rw [show (dat1 V c).Φ (Fin.last cfgA.N) = Phi1 V c (Fin.last cfgA.N).val (Nat.le_of_lt_succ (Fin.last cfgA.N).isLt) from rfl, tabs_eq, scopedRest1_split]
  unfold Phi1
  refine (sep_mono (scrPhi_any V c _ _) .rfl).trans ?_
  unfold scrAny
  iintro ⟨HS, HT, HR⟩
  isplitl [HT]; · iexact HT
  isplitl [HS]; · iexact HS
  iexact HR

end Cert.KernelIdeal.Gen

end
-- ==== Proof.Run.lean ====
module

public import proofs.«01_k».proof.Proof.InRegion
public import proofs.«01_k».proof.Proof.AttnRegion
public import proofs.«01_k».proof.Proof.Gen.KernelIdeal.Regions
public import Idealize.ShloMosaic.Lib.Pipeline.RegionArraysTS
public import Idealize.ShloMosaic.Lib.Claim
public import Idealize.ShloMosaic.Lib.StableHlo.RunRead

@[expose] public section

set_option maxRecDepth 16384

noncomputable section

namespace Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)

local notation "𝕄" => MT nD τ sig Unit (Elt Ideal) ℕ (UR sig nD τ) ℕ

/-! # The whole program's run: the host operations, the projection call and the attention call, one after another -/

variable (m : (ℓ : Loc nD τ sig) → Buf (Elt Ideal) ℓ)

/-- Core `c`'s buffers after the projection call, -/
def W6 (c : Dev nD) : Valuation τ sig (Elt Ideal) := Pipeline.afterRegion (dat0 (V5 m) c) (V5 m c)
/-- and after the attention call. -/
def W7 (c : Dev nD) : Valuation τ sig (Elt Ideal) := Function.update (W6 m c) main_v13 ((dat1 (W6 m) c).arrAt (5 : Fin 6) cfgA.N)

theorem W7_of (c : Dev nD) (r : Ref sig .tc) (h : r ≠ main_v13) : W7 m c r = W6 m c r := by
  unfold W7
  exact Function.update_of_ne (StableHlo.devRef_ne_of_ne h) _ _
theorem W6_of (c : Dev nD) (r : Ref sig .tc) (h : ∀ w, Pipeline.arrRef spec0 w = r → (cfg0.win w).isOut = false) : W6 m c r = V5 m c r :=
  Pipeline.afterRegion_keeps (dat0 (V5 m) c) (V5 m c) winFacts0.arr_inj (dat0_A (V5 m) c) r h
theorem W6_out (c : Dev nD) (w : Fin cfg0.W) : W6 m c (Pipeline.arrRef spec0 w) = (dat0 (V5 m) c).arrAt w cfg0.N :=
  Pipeline.afterRegion_arr (dat0 (V5 m) c) (V5 m c) winFacts0.arr_inj w
theorem W7_v13 (c : Dev nD) : W7 m c main_v13 = (dat1 (W6 m) c).arrAt (5 : Fin 6) cfgA.N := by
  unfold W7
  exact Function.update_self _ _ _

theorem W7_main_arg0 (c : Dev nD) : W7 m c main_arg0 = m ((c : Thread nD τ).loc main_arg0) :=
  (W7_of m c main_arg0 (by decide)).trans <| (W6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem W7_main_arg1 (c : Dev nD) : W7 m c main_arg1 = m ((c : Thread nD τ).loc main_arg1) :=
  (W7_of m c main_arg1 (by decide)).trans <| (W6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem W7_main_arg2 (c : Dev nD) : W7 m c main_arg2 = m ((c : Thread nD τ).loc main_arg2) :=
  (W7_of m c main_arg2 (by decide)).trans <| (W6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem W7_main_arg3 (c : Dev nD) : W7 m c main_arg3 = m ((c : Thread nD τ).loc main_arg3) :=
  (W7_of m c main_arg3 (by decide)).trans <| (W6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl
theorem W7_main_arg4 (c : Dev nD) : W7 m c main_arg4 = m ((c : Thread nD τ).loc main_arg4) :=
  (W7_of m c main_arg4 (by decide)).trans <| (W6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl

theorem tabw_0 : ∀ x : S3.Idx, lit0 (S3.rowMajor x) = pinT_0 x := by decide
theorem tabw_1 : ∀ x : S3.Idx, lit1 (S3.rowMajor x) = pinT_1 x := by decide
theorem tabw_2 : ∀ x : S3.Idx, lit2 (S3.rowMajor x) = pinT_2 x := by decide
theorem tab_0 (V : Valuation τ sig (Elt Ideal)) : StableHlo.after hostOps0 V main_c = pinT_0 := by
  rw [show StableHlo.after hostOps0 V main_c = (fun i => lit0 (S3.rowMajor i)) from by after_reads_simp; rfl]
  funext x; exact tabw_0 x
theorem tab_1 (V : Valuation τ sig (Elt Ideal)) : StableHlo.after hostOps0 V main_c_0 = pinT_1 := by
  rw [show StableHlo.after hostOps0 V main_c_0 = (fun i => lit1 (S3.rowMajor i)) from by after_reads_simp; rfl]
  funext x; exact tabw_1 x
theorem tab_2 (V : Valuation τ sig (Elt Ideal)) : StableHlo.after hostOps0 V main_c_1 = pinT_2 := by
  rw [show StableHlo.after hostOps0 V main_c_1 = (fun i => lit2 (S3.rowMajor i)) from by after_reads_simp; rfl]
  funext x; exact tabw_2 x

/-- The tables are what the host wrote. -/
theorem V5_tab (c : Dev nD) (j : Fin 3) : V5 m c (pre1.ref j) = pfN j := by
  fin_cases j
  · refine (V5_of m c main_c (by decide)).trans <| (V4_of m c main_c (by decide)).trans <| (V3_of m c main_c (by decide)).trans <| (V2_of m c main_c (by decide)).trans ?_
    exact tab_0 _
  · refine (V5_of m c main_c_0 (by decide)).trans <| (V4_of m c main_c_0 (by decide)).trans <| (V3_of m c main_c_0 (by decide)).trans <| (V2_of m c main_c_0 (by decide)).trans ?_
    exact tab_1 _
  · refine (V5_of m c main_c_1 (by decide)).trans <| (V4_of m c main_c_1 (by decide)).trans <| (V3_of m c main_c_1 (by decide)).trans <| (V2_of m c main_c_1 (by decide)).trans ?_
    exact tab_2 _

/-- Each call's admissible tables. -/
def adms : (p : Fin 2) → (pcfgs (F := Ideal) p).Adm
  | ⟨0, _⟩ => cfg0.toPCfg_adm
  | ⟨1, _⟩ => adm1
/-- Each call's data. -/
def pdats : (p : Fin 2) → (c : Dev nD) → Dat τ (Elt Ideal) Unit ℕ (UR sig nD τ) ℕ (Pipeline.pin (pcfgs (F := Ideal)) adms p) c
  | ⟨0, _⟩ => dat0 (V5 m)
  | ⟨1, _⟩ => dat1 (W6 m)

/-- One level, at the cores' own semaphores. -/
def Lv (g : GSem nD τ sig) : Finset Unit := if g.1.2 = .tc then {()} else ∅
/-- What a core holds between items beside its buffers: it owes nothing. -/
abbrev Ow (c : Dev nD) : sProp 𝕄 := iprop(∃ W, owes (c : Thread nD τ) (0 : CellTallies nD τ sig Unit) W)

theorem cut (p : Fin 2) : Pipeline.LevelCut (pcfgs (F := Ideal)) adms () Lv (fun _ _ => (0 : ℕ)) p (fun _ : Dev nD => 0) fun _ => 0 where
  hι c w s := by unfold Lv; rw [if_pos rfl]; exact Finset.mem_singleton_self _
  hιb c w s := le_rfl
  hD c g i h := absurd h (Nat.lt_irrefl 0)

set_option backward.isDefEq.respectTransparency.types false in
/-- The projection call's segment. -/
def reg0 : RegionSeg (pcfgs (F := Ideal)) adms (pdats m) () (defs₀ (F := Ideal)) Variants.none Lv (fun _ _ => 0) 0 :=
  RegionSeg.ofHeldIn (pcfgs (F := Ideal)) adms (pdats m) () defs₀ Variants.none Lv (fun _ _ => 0) 0 (fun _ => 0) (Pipeline.ucRefs τ sig)
    (fun _ => iprop(emp)) (fun _ => iprop(emp)) launch0 rfl (fun c => (body_obligation0 (V5 m) c).loose) (fun _ _ => rfl) (fun _ => rfl) (fun c => (dat0 (V5 m) c).share_full fun _ => rfl)
    (fun c => by
      show iprop(Pipeline.scopedRest spec0 c ∗ emp) ⊢ (dat0 (V5 m) c).Φ 0
      iintro ⟨H, -⟩; iapply (hin0 (V5 m) c); iexact H)
    (fun c => by
      show (dat0 (V5 m) c).Φ (Fin.last cfg0.N) ⊢ iprop(Pipeline.scopedRest spec0 c ∗ emp)
      refine (hout0 (V5 m) c).trans ?_
      iintro H; isplitl [H]; · iexact H
      iempintro)
    (fun _ => 0) (cut 0) (fun _ => iprop(emp)) (V5 m) (fun c w => dat0_A (V5 m) c w)

set_option backward.isDefEq.respectTransparency.types false in
/-- The attention call's segment: the buffers it does not touch ride along. -/
def reg1 : RegionSeg (pcfgs (F := Ideal)) adms (pdats m) () (defs₀ (F := Ideal)) Variants.none Lv (fun _ _ => 0) 1 :=
  RegionSeg.ofArraysT (pcfgs (F := Ideal)) adms (pdats m) () defs₀ Variants.none Lv (fun _ _ => 0) 1 (fun _ => 0)
    (fun _ => iprop(emp)) (fun _ => iprop(emp)) launch₀1 (fun c => (body_obligation1 (W6 m) c).loose) (fun _ _ => rfl) (fun _ => rfl)
    (fun c => by
      show iprop(iprop(Pipeline.scopedRest spec1 c ∗ emp) ∗ Pipeline.prefHeld pre1 c (fun _ => fullShare) pfN) ⊢ (dat1 (W6 m) c).Φ 0
      iintro ⟨⟨H, -⟩, HT⟩; iapply (hin1 (W6 m) c)
      isplitl [HT]; · iexact HT
      iexact H)
    (fun c => by
      show (dat1 (W6 m) c).Φ (Fin.last cfgA.N) ⊢ iprop(iprop(Pipeline.scopedRest spec1 c ∗ emp) ∗ Pipeline.prefHeld pre1 c (fun _ => fullShare) pfN)
      refine (hout1 (W6 m) c).trans ?_
      iintro ⟨HT, H⟩
      isplitl [H]
      · isplitl [H]; · iexact H
        iempintro
      iexact HT)
    (fun _ => 0) (cut 1) (fun c => Pipeline.unscopedRestP pre1 spec1 c (fun b => W6 m c b))

set_option backward.isDefEq.respectTransparency.types false in
/-- Into the projection call, -/
theorem hpre0 (c : Dev nD) : iprop(StableHlo.held (c : Thread nD τ) (Pipeline.ucRefs τ sig) (V5 m c) ∗ Ow c) ⊢ (reg0 m).pre c := by
  show _ ⊢ iprop(StableHlo.held (c : Thread nD τ) (Pipeline.arrRefs spec0) (V5 m c) ∗ emp
    ∗ (StableHlo.held (c : Thread nD τ) (Pipeline.ucRefs τ sig \ Pipeline.arrRefs spec0) (V5 m c) ∗ emp) ∗ Ow c)
  rw [StableHlo.held_sub_split (c : Thread nD τ) (Pipeline.arrRefs_sub_ucRefs spec0 winFacts0.arr_unscoped) (V5 m c)]
  iintro ⟨⟨Ha, Hu⟩, HO⟩
  isplitl [Ha]; · iexact Ha
  isplitl []; · iempintro
  isplitl [Hu]
  · isplitl [Hu]; · iexact Hu
    iempintro
  iexact HO
set_option backward.isDefEq.respectTransparency.types false in
/-- out of it, -/
theorem hpost0 (c : Dev nD) : (reg0 m).post c ⊢ iprop(StableHlo.held (c : Thread nD τ) (Pipeline.ucRefs τ sig) (W6 m c) ∗ Ow c) := by
  show iprop(StableHlo.held (c : Thread nD τ) (Pipeline.arrRefs spec0) (W6 m c) ∗ emp
    ∗ (StableHlo.held (c : Thread nD τ) (Pipeline.ucRefs τ sig \ Pipeline.arrRefs spec0) (V5 m c) ∗ emp) ∗ Ow c) ⊢ _
  rw [StableHlo.held_sub_split (c : Thread nD τ) (Pipeline.arrRefs_sub_ucRefs spec0 winFacts0.arr_unscoped) (W6 m c),
    StableHlo.held_congr (c : Thread nD τ) (S := Pipeline.ucRefs τ sig \ Pipeline.arrRefs spec0) (V := W6 m c) (V' := V5 m c)
      (Pipeline.afterRegion_off (dat0 (V5 m) c) (V5 m c) (Pipeline.ucRefs τ sig))]
  iintro ⟨Ha, -, ⟨Hu, -⟩, HO⟩
  isplitl [Ha Hu]
  · isplitl [Ha]; · iexact Ha
    iexact Hu
  iexact HO

theorem W6_tab (c : Dev nD) : (fun j => W6 m c (pre1.ref j)) = pfN := by
  funext j
  refine (W6_of m c (pre1.ref j) ?_).trans (V5_tab m c j)
  revert j; decide

set_option backward.isDefEq.respectTransparency.types false in
/-- into the attention call -/
theorem hpre1 (c : Dev nD) : iprop(StableHlo.held (c : Thread nD τ) (Pipeline.ucRefs τ sig) (W6 m c) ∗ Ow c) ⊢ (reg1 m).pre c := by
  show _ ⊢ iprop((dat1 (W6 m) c).arrays ((dat1 (W6 m) c).arrAt · 0) ∗ Pipeline.prefHeld pre1 c (fun _ => fullShare) pfN ∗ emp
    ∗ Pipeline.unscopedRestP pre1 spec1 c (fun b => W6 m c b) ∗ Ow c)
  rw [← Pipeline.unscopedBufs_held (Ix := Unit) (Name := ℕ) (U := UR sig nD τ) (Lvl := ℕ) c (W6 m c)]
  have hs := Pipeline.arrays_of_unscopedBufs_shared (pcfgs (F := Ideal)) adms (pdats m) (p := 1) winFacts₀1 sharedIn1 arr_whole1 c (fun w _ => rfl)
    (fun b => W6 m c b) (fun w => dat1_A (W6 m) c w)
  have ht := Pipeline.unscopedRest_split (Ix := Unit) (Name := ℕ) (U := UR sig nD τ) (Lvl := ℕ) preFacts1 c (fun b => W6 m c b)
  rw [W6_tab m c] at ht
  iintro ⟨H, HO⟩
  ihave H' := hs $$ H
  icases H' with ⟨HA, HR⟩
  ihave HR' := (Entails.of_eq ht) $$ HR
  icases HR' with ⟨HT, HR⟩
  isplitl [HA]; · iexact HA
  isplitl [HT]; · iexact HT
  isplitl []; · iempintro
  isplitl [HR]; · iexact HR
  iexact HO

theorem W7_arr (c : Dev nD) (w : Fin cfgA.W) : (dat1 (W6 m) c).arrAt w cfgA.N = W7 m c (Proc.devRef .tc (Pipeline.arrRef spec1 w)) := by
  by_cases hw : (cfgA.win w).isOut = false
  · refine ((dat1 (W6 m) c).arrAt_in w hw _).trans ((dat1_A (W6 m) c w).trans (W7_of m c _ ?_).symm)
    revert w; decide
  · have h5 : w = (5 : Fin 6) := by revert w; decide
    subst h5
    exact (W7_v13 m c).symm

set_option backward.isDefEq.respectTransparency.types false in
/-- and out of it. -/
theorem hpost1 (c : Dev nD) : (reg1 m).post c ⊢ iprop(StableHlo.held (c : Thread nD τ) (Pipeline.ucRefs τ sig) (W7 m c) ∗ Ow c) := by
  show iprop((dat1 (W6 m) c).arrays ((dat1 (W6 m) c).arrAt · cfgA.N) ∗ Pipeline.prefHeld pre1 c (fun _ => fullShare) pfN ∗ emp
    ∗ Pipeline.unscopedRestP pre1 spec1 c (fun b => W6 m c b) ∗ Ow c) ⊢ _
  rw [← Pipeline.unscopedBufs_held (Ix := Unit) (Name := ℕ) (U := UR sig nD τ) (Lvl := ℕ) c (W7 m c)]
  have hs := Pipeline.unscopedBufs_of_arrays_shared (pcfgs (F := Ideal)) adms (p := 1) winFacts₀1 sharedIn1 arr_whole1 c (pdats m) (fun w _ => rfl)
    (fun b => W6 m c b) (fun b => W7 m c b) ((dat1 (W6 m) c).arrAt · cfgA.N) (fun w => W7_arr m c w)
    (fun b hb => W7_of m c b (fun e => hb (e ▸ Finset.mem_image.mpr ⟨(5 : Fin 6), Finset.mem_univ _, rfl⟩)))
  have ht := Pipeline.unscopedRest_split (Ix := Unit) (Name := ℕ) (U := UR sig nD τ) (Lvl := ℕ) preFacts1 c (fun b => W6 m c b)
  rw [W6_tab m c] at ht
  iintro ⟨HA, HT, -, HR, HO⟩
  isplitr [HO]
  · iapply hs
    isplitl [HA]; · iexact HA
    iapply (Entails.of_eq ht.symm)
    isplitl [HT]; · iexact HT
    iexact HR
  iexact HO

/-- The launch's ghost state. -/
def u₀ : UR sig nD τ := initOf (Pipeline.cells (Pipeline.pin (pcfgs (F := Ideal)) adms) (cellOf_inj adms)) (Pipeline.launchToks (Pipeline.pin (pcfgs (F := Ideal)) adms) (cellOf_inj adms))

set_option backward.isDefEq.respectTransparency.types false in
/-- From any memory, with every counter at zero: every run ends, and leaves the arguments as they were, each result at its contents,
    and every counter at zero. -/
theorem run_main (ρ : Dev nD → PrngReg) :
    θ_run defs (onTc (τ := τ) (main (F := Ideal))) ⟨m, fun _ => 0, ρ⟩ (fun r => (∀ c : Dev nD, (fun s : MemSt nD τ sig (Elt Ideal) => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_v13) = W7 m c main_v13 ∧ s.mem ((c.tc : Thread nD τ).loc main_v12_3) = W7 m c main_v12_3 ∧ s.mem ((c.tc : Thread nD τ).loc main_v12_4) = W7 m c main_v12_4) r.2)
      ∧ r.2.sem = fun _ => 0) := by
  have hinit : ∀ c : Dev nD, iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ emp)
      ⊢ (iprop(StableHlo.held (c : Thread nD τ) (Pipeline.ucRefs τ sig) (V0 m c) ∗ Ow c) : sProp 𝕄) := fun c => by
    rw [← Pipeline.unscopedBufs_held (Ix := Unit) (Name := ℕ) (U := UR sig nD τ) (Lvl := ℕ) c (V0 m c)]
    iintro ⟨H, -, HO, -⟩
    isplitl [H]; · iexact H
    iexists _; iexact HO
  refine Pipeline.θ_run_regions_kit_dev_sems (pcfgs (F := Ideal)) adms (pdats m) () (cellOf_inj adms) emb₁ defs₀ Variants.none Lv (fun _ _ => 0) m ρ main
    (segs m Variants.none Lv (fun _ _ => 0) (fun _ => Ow) () adms (pdats m) (reg0 m) (reg1 m))
    (fun c Q => by
      rewrite [main_chain c, Seg.run_eq_chain,
        show (segs m Variants.none Lv (fun _ _ => 0) (fun _ => Ow) () adms (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g hg => if_neg hg) (fun _ => iprop(emp)) u₀ ?_
    (T₀ := fun c => iprop(StableHlo.held (c : Thread nD τ) (Pipeline.ucRefs τ sig) (V0 m c) ∗ Ow c))
    (Tₙ := fun c => StableHlo.held (c : Thread nD τ) (Pipeline.ucRefs τ sig) (W7 m c))
    (hch := fun c => ⟨.rfl, .rfl, .rfl, .rfl, .rfl, hpre0 m c, (hpost0 m c).trans (hpre1 m c), hpost1 m c⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_v13) = W7 m c main_v13 ∧ s.mem ((c.tc : Thread nD τ).loc main_v12_3) = W7 m c main_v12_3 ∧ s.mem ((c.tc : Thread nD τ).loc main_v12_4) = W7 m c main_v12_4)
    (hfin := fun c s' => ?_) (hQ := fun _ h hz => ⟨h, funext fun g => hz g (.inr (regions_no_unscoped g.2))⟩)
  · refine Entails.trans ?_ fupd_intro
    show BI.own (emb₁.toFun u₀) ⊢ _
    iintro H
    isplitl [H]; · iexact H
    iapply (show (BI.emp : sProp 𝕄) ⊢ bigSep Finset.univ (fun _ : Dev nD => (BI.emp : sProp 𝕄)) from by rw [BI.bigSep_emp_const])
    iempintro
  · refine Entails.trans ?_ fupd_intro
    refine BIBase.Entails.trans (Q := bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)) ?_ ?_
    · iintro ⟨H, -⟩; iexact H
    · exact bigSep_mono fun c _ => hinit c
  · unfold StableHlo.held
    iintro ⟨Hh, HSI⟩
    ihave Hr := (pointsTo_read_all (Pipeline.ucRefs τ sig) (fun b => ((c : Thread nD τ).1, b)) (W7 m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (W7_main_arg0 m c),
        (h (Proc.devRef .tc main_arg1) (Finset.mem_filter.mpr ⟨StableHlo.devRef_mem_tcRefs main_arg1, by decide⟩)).trans (W7_main_arg1 m c),
        (h (Proc.devRef .tc main_arg2) (Finset.mem_filter.mpr ⟨StableHlo.devRef_mem_tcRefs main_arg2, by decide⟩)).trans (W7_main_arg2 m c),
        (h (Proc.devRef .tc main_arg3) (Finset.mem_filter.mpr ⟨StableHlo.devRef_mem_tcRefs main_arg3, by decide⟩)).trans (W7_main_arg3 m c),
        (h (Proc.devRef .tc main_arg4) (Finset.mem_filter.mpr ⟨StableHlo.devRef_mem_tcRefs main_arg4, by decide⟩)).trans (W7_main_arg4 m c),
        (h (Proc.devRef .tc main_v13) (Finset.mem_filter.mpr ⟨StableHlo.devRef_mem_tcRefs main_v13, by decide⟩)),
        (h (Proc.devRef .tc main_v12_3) (Finset.mem_filter.mpr ⟨StableHlo.devRef_mem_tcRefs main_v12_3, by decide⟩)),
        (h (Proc.devRef .tc main_v12_4) (Finset.mem_filter.mpr ⟨StableHlo.devRef_mem_tcRefs main_v12_4, by decide⟩))⟩
    · iexact HSI

end Cert.KernelIdeal.Gen

end
-- ==== Proof.Bits.AttnRuns.lean ====
module

public import proofs.«01_k».proof.Proof.Gen.Kernel.Launch
public import proofs.«01_k».proof.Proof.Gen.Kernel.Skeleton
public import proofs.«01_k».proof.Proof.Gen.Kernel.Regions
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.PureOps.Ideal
public import Idealize.ShloMosaic.Adequacy
public import Idealize.ShloMosaic.Init

@[expose] public section

set_option maxRecDepth 16384
set_option Elab.async false

noncomputable section

namespace Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! # The attention call's body, run along its three paths: a first block that is also the last (A), a first block of two (B),
a last block of two (C) -/

abbrev tbM1_0 : Memref sig .tc .smem S3 .i32 := Memref.whole main_c
abbrev tbM1_1 : Memref sig .tc .smem S3 .i32 := Memref.whole main_c_0
abbrev tbM1_2 : Memref sig .tc .smem S3 .i32 := Memref.whole main_c_1
abbrev scM1_0 : Memref sig .tc .vmem S2x2048x256 .bf16 := Memref.whole cc1_scratch0
abbrev scM1_1 : Memref sig .tc .vmem S2x2048x128 .f32 := Memref.whole cc1_scratch1
abbrev scM1_2 : Memref sig .tc .vmem S2x2048x128 .f32 := Memref.whole cc1_scratch2
abbrev scM1_3 : Memref sig .tc .vmem S2048x128 .f32 := Memref.whole cc1_scratch3
/-- One staging buffer of the output, through which its contents are stated. -/
abbrev VO1_5 : View sig .tc .vmem S2048x128 .bf16 := (Memref.whole cc1_stg5_0 : Memref sig .tc .vmem S2048x128 .bf16).view

/-- The path's decisions, over the words the body reads: the first key block; on the diagonal; below it; the last. -/
abbrev hcI (i : grid1.Coords) (T : S3.Idx → Elt Bits .i32) : Prop := (Scalar.cmpi .ne (Scalar.extui (Scalar.cmpi .eq (View.readAt (Elt Bits) (tbM1_1).view (Rect.unit (s := S3) (k1_off1 i) S1.size (k1_off1_inb i)).toLoadRect T (Shape.Idx.first (numel1_S1.symm ▸ Nat.one_pos))) 0#32)) 0#32) = 1#1
abbrev hcD (i : grid1.Coords) (T : S3.Idx → Elt Bits .i32) : Prop := (Scalar.cmpi .ne (Scalar.extui (Scalar.cmpi .ne (Scalar.andi (View.readAt (Elt Bits) (tbM1_2).view (Rect.unit (s := S3) (k1_off1 i) S1.size (k1_off1_inb i)).toLoadRect T (Shape.Idx.first (numel1_S1.symm ▸ Nat.one_pos))) 1#32) 0#32)) 0#32) = 1#1
abbrev hcF (i : grid1.Coords) (T : S3.Idx → Elt Bits .i32) : Prop := (Scalar.cmpi .ne (Scalar.extui (Scalar.cmpi .eq (Scalar.andi (View.readAt (Elt Bits) (tbM1_2).view (Rect.unit (s := S3) (k1_off1 i) S1.size (k1_off1_inb i)).toLoadRect T (Shape.Idx.first (numel1_S1.symm ▸ Nat.one_pos))) 1#32) 0#32)) 0#32) = 1#1
abbrev hcE (i : grid1.Coords) (T : S3.Idx → Elt Bits .i32) : Prop := k1_cond4 (View.readAt (Elt Bits) (tbM1_2).view (Rect.unit (s := S3) (k1_off1 i) S1.size (k1_off1_inb i)).toLoadRect T (Shape.Idx.first (numel1_S1.symm ▸ Nat.one_pos))) = 1#1

variable (c : Dev nD) (i : grid1.Coords) (arg6 : Memref sig .tc .vmem S2048x128 .bf16) (harg6 : arg6.IsWhole) (arg7 : Memref sig .tc .vmem S2048x256 .bf16) (harg7 : arg7.IsWhole) (arg8 : Memref sig .tc .vmem S2048x128 .bf16) (harg8 : arg8.IsWhole) (arg9 : Memref sig .tc .vmem S2048x256 .bf16) (harg9 : arg9.IsWhole) (arg10 : Memref sig .tc .vmem S2048x128 .bf16) (harg10 : arg10.IsWhole) (arg11 : Memref sig .tc .vmem S2048x128 .bf16) (harg11 : arg11.IsWhole) (T0 : (S3.Idx → Elt Bits .i32)) (T1 : (S3.Idx → Elt Bits .i32)) (T2 : (S3.Idx → Elt Bits .i32))
     (x0 : Vec Bits S2048x128 .bf16) (x1 : Vec Bits S2048x256 .bf16) (x2 : Vec Bits S2048x128 .bf16) (x3 : Vec Bits S2048x256 .bf16) (x4 : Vec Bits S2048x128 .bf16)

set_option backward.proofsInPublic true in
set_option maxHeartbeats 8000000 in
/-- Path A: what the body leaves in the output (as pieces) and in the four scratches. -/
noncomputable def kernelRun1_A (hc0 : hcI i T1) (hc1 : hcD i T2) (hc2 : ¬hcF i T2) (k1_h4 : hcE i T2) :
    Σ' (out0 : List (View.Piece (Elt Bits) S2048x128 .bf16)) (out1 : Buf (Elt Bits) ((c : Thread nD τ).loc cc1_scratch0)) (out2 : Buf (Elt Bits) ((c : Thread nD τ).loc cc1_scratch1)) (out3 : Buf (Elt Bits) ((c : Thread nD τ).loc cc1_scratch2)), { out4 : Buf (Elt Bits) ((c : Thread nD τ).loc cc1_scratch3) //
      ∀ (xa0 : Buf (Elt Bits) ((c : Thread nD τ).loc cc1_scratch0)) (xa1 : Buf (Elt Bits) ((c : Thread nD τ).loc cc1_scratch1)) (xa2 : Buf (Elt Bits) ((c : Thread nD τ).loc cc1_scratch2)) (xa3 : Buf (Elt Bits) ((c : Thread nD τ).loc cc1_scratch3)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (arg10.view.loc (c : Thread nD τ) ↦[arg10.view.set]{fullShare} arg10.view.rep x4)
          ∗ (tbM1_0.view.loc (c : Thread nD τ) ↦{fullShare} T0)
          ∗ (tbM1_1.view.loc (c : Thread nD τ) ↦{fullShare} T1)
          ∗ (tbM1_2.view.loc (c : Thread nD τ) ↦{fullShare} T2)
          ∗ (∃ d, owns (c : Thread nD τ) arg11 fullShare d)
          ∗ (scM1_0.view.loc (c : Thread nD τ) ↦{fullShare} xa0)
          ∗ (scM1_1.view.loc (c : Thread nD τ) ↦{fullShare} xa1)
          ∗ (scM1_2.view.loc (c : Thread nD τ) ↦{fullShare} xa2)
          ∗ (scM1_3.view.loc (c : Thread nD τ) ↦{fullShare} xa3)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (arg9.view.loc (c : Thread nD τ) ↦[arg9.view.set]{fullShare} arg9.view.rep x3)
              ∗ (arg10.view.loc (c : Thread nD τ) ↦[arg10.view.set]{fullShare} arg10.view.rep x4)
              ∗ (tbM1_0.view.loc (c : Thread nD τ) ↦{fullShare} T0)
              ∗ (tbM1_1.view.loc (c : Thread nD τ) ↦{fullShare} T1)
              ∗ (tbM1_2.view.loc (c : Thread nD τ) ↦{fullShare} T2)
              ∗ (∃ f, arg11.view.loc (c : Thread nD τ) ↦[arg11.view.set]{fullShare} arg11.view.writes (Elt Bits) f out0)
              ∗ (scM1_0.view.loc (c : Thread nD τ) ↦{fullShare} out1)
              ∗ (scM1_1.view.loc (c : Thread nD τ) ↦{fullShare} out2)
              ∗ (scM1_2.view.loc (c : Thread nD τ) ↦{fullShare} out3)
              ∗ (scM1_3.view.loc (c : Thread nD τ) ↦{fullShare} out4)) -∗ K ⟨⟩))
          ⊢ wp frame (wpE (defs₀ (F := Bits)) Variants.none c none) Set.univ (cc1_attn i tbM1_0 (Memref.isWhole_whole _) tbM1_1 (Memref.isWhole_whole _) tbM1_2 (Memref.isWhole_whole _) arg6 harg6 arg7 harg7 arg8 harg8 arg9 harg9 arg10 harg10 arg11 harg11 scM1_0 (Memref.isWhole_whole _) scM1_1 (Memref.isWhole_whole _) scM1_2 (Memref.isWhole_whole _) scM1_3 (Memref.isWhole_whole _)) K } :=
  ⟨_, _, _, _, _, fun (xa0 : Buf (Elt Bits) ((c : Thread nD τ).loc cc1_scratch0)) (xa1 : Buf (Elt Bits) ((c : Thread nD τ).loc cc1_scratch1)) (xa2 : Buf (Elt Bits) ((c : Thread nD τ).loc cc1_scratch2)) (xa3 : Buf (Elt Bits) ((c : Thread nD τ).loc cc1_scratch3)) K => by
    unfold owns
    rw [cc1_attn_eq_skeleton]; unfold cc1_attn_skel
    iintro ⟨H0, H1, H2, H3, H4, HT0, HT1, HT2, ⟨%d5, %f5, -, HO5⟩, HS0, HS1, HS2, HS3, Hk⟩
    have hS0 : scM1_0.IsWhole := Memref.isWhole_whole _
    have hS1 : scM1_1.IsWhole := Memref.isWhole_whole _
    have hS2 : scM1_2.IsWhole := Memref.isWhole_whole _
    have hS3 : scM1_3.IsWhole := Memref.isWhole_whole _
    have hT0 : tbM1_0.IsWhole := Memref.isWhole_whole _
    have hT1 : tbM1_1.IsWhole := Memref.isWhole_whole _
    have hT2 : tbM1_2.IsWhole := Memref.isWhole_whole _
    sl_exec! (disch := first | (guard_target = Scalar.cmpi = _; exact hc0) | (guard_target = Scalar.cmpi = _; exact hc1) | (guard_target = ¬(Scalar.cmpi = _); exact hc2) | (guard_target = k1_cond4 _ = _; exact k1_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    isplitl [HO5]; · iexists _; iexact HO5
    isplitl [HS0]; · iexact HS0
    isplitl [HS1]; · iexact HS1
    isplitl [HS2]; · iexact HS2
    iexact HS3⟩

set_option backward.proofsInPublic true in
set_option maxHeartbeats 8000000 in
/-- Path B: what the body leaves in the output (as pieces) and in the four scratches. -/
noncomputable def kernelRun1_B (hc0 : hcI i T1) (hc1 : ¬hcD i T2) (hc2 : hcF i T2) (k1_h4 : ¬hcE i T2) :
    Σ' (out0 : Buf (Elt Bits) ((c : Thread nD τ).loc cc1_scratch0)) (out1 : Buf (Elt Bits) ((c : Thread nD τ).loc cc1_scratch1)) (out2 : Buf (Elt Bits) ((c : Thread nD τ).loc cc1_scratch2)), { out3 : Buf (Elt Bits) ((c : Thread nD τ).loc cc1_scratch3) //
      ∀ (y5 : Vec Bits S2048x128 .bf16) (xa0 : Buf (Elt Bits) ((c : Thread nD τ).loc cc1_scratch0)) (xa1 : Buf (Elt Bits) ((c : Thread nD τ).loc cc1_scratch1)) (xa2 : Buf (Elt Bits) ((c : Thread nD τ).loc cc1_scratch2)) (xa3 : Buf (Elt Bits) ((c : Thread nD τ).loc cc1_scratch3)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (arg10.view.loc (c : Thread nD τ) ↦[arg10.view.set]{fullShare} arg10.view.rep x4)
          ∗ (tbM1_0.view.loc (c : Thread nD τ) ↦{fullShare} T0)
          ∗ (tbM1_1.view.loc (c : Thread nD τ) ↦{fullShare} T1)
          ∗ (tbM1_2.view.loc (c : Thread nD τ) ↦{fullShare} T2)
          ∗ owns (c : Thread nD τ) arg11 fullShare y5
          ∗ (scM1_0.view.loc (c : Thread nD τ) ↦{fullShare} xa0)
          ∗ (scM1_1.view.loc (c : Thread nD τ) ↦{fullShare} xa1)
          ∗ (scM1_2.view.loc (c : Thread nD τ) ↦{fullShare} xa2)
          ∗ (scM1_3.view.loc (c : Thread nD τ) ↦{fullShare} xa3)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (arg9.view.loc (c : Thread nD τ) ↦[arg9.view.set]{fullShare} arg9.view.rep x3)
              ∗ (arg10.view.loc (c : Thread nD τ) ↦[arg10.view.set]{fullShare} arg10.view.rep x4)
              ∗ (tbM1_0.view.loc (c : Thread nD τ) ↦{fullShare} T0)
              ∗ (tbM1_1.view.loc (c : Thread nD τ) ↦{fullShare} T1)
              ∗ (tbM1_2.view.loc (c : Thread nD τ) ↦{fullShare} T2)
              ∗ owns (c : Thread nD τ) arg11 fullShare y5
              ∗ (scM1_0.view.loc (c : Thread nD τ) ↦{fullShare} out0)
              ∗ (scM1_1.view.loc (c : Thread nD τ) ↦{fullShare} out1)
              ∗ (scM1_2.view.loc (c : Thread nD τ) ↦{fullShare} out2)
              ∗ (scM1_3.view.loc (c : Thread nD τ) ↦{fullShare} out3)) -∗ K ⟨⟩))
          ⊢ wp frame (wpE (defs₀ (F := Bits)) Variants.none c none) Set.univ (cc1_attn i tbM1_0 (Memref.isWhole_whole _) tbM1_1 (Memref.isWhole_whole _) tbM1_2 (Memref.isWhole_whole _) arg6 harg6 arg7 harg7 arg8 harg8 arg9 harg9 arg10 harg10 arg11 harg11 scM1_0 (Memref.isWhole_whole _) scM1_1 (Memref.isWhole_whole _) scM1_2 (Memref.isWhole_whole _) scM1_3 (Memref.isWhole_whole _)) K } :=
  ⟨_, _, _, _, fun (y5 : Vec Bits S2048x128 .bf16) (xa0 : Buf (Elt Bits) ((c : Thread nD τ).loc cc1_scratch0)) (xa1 : Buf (Elt Bits) ((c : Thread nD τ).loc cc1_scratch1)) (xa2 : Buf (Elt Bits) ((c : Thread nD τ).loc cc1_scratch2)) (xa3 : Buf (Elt Bits) ((c : Thread nD τ).loc cc1_scratch3)) K => by
    unfold owns
    rw [cc1_attn_eq_skeleton]; unfold cc1_attn_skel
    iintro ⟨H0, H1, H2, H3, H4, HT0, HT1, HT2, ⟨%f5, %hf5, HO5⟩, HS0, HS1, HS2, HS3, Hk⟩
    obtain rfl := harg11.eq_unread hf5
    have hS0 : scM1_0.IsWhole := Memref.isWhole_whole _
    have hS1 : scM1_1.IsWhole := Memref.isWhole_whole _
    have hS2 : scM1_2.IsWhole := Memref.isWhole_whole _
    have hS3 : scM1_3.IsWhole := Memref.isWhole_whole _
    have hT0 : tbM1_0.IsWhole := Memref.isWhole_whole _
    have hT1 : tbM1_1.IsWhole := Memref.isWhole_whole _
    have hT2 : tbM1_2.IsWhole := Memref.isWhole_whole _
    sl_exec! (disch := first | (guard_target = Scalar.cmpi = _; exact hc0) | (guard_target = ¬(Scalar.cmpi = _); exact hc1) | (guard_target = Scalar.cmpi = _; exact hc2) | (guard_target = ¬(k1_cond4 _ = _); exact k1_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    isplitl [HO5]
    · iexists _; isplitr; · ipureintro; exact harg11.read_unread _
      iexact HO5
    isplitl [HS0]; · iexact HS0
    isplitl [HS1]; · iexact HS1
    isplitl [HS2]; · iexact HS2
    iexact HS3⟩

set_option backward.proofsInPublic true in
set_option maxHeartbeats 8000000 in
/-- Path C: what the body leaves in the output (as pieces) and in the four scratches. -/
noncomputable def kernelRun1_C (xa0 : Buf (Elt Bits) ((c : Thread nD τ).loc cc1_scratch0)) (xa1 : Buf (Elt Bits) ((c : Thread nD τ).loc cc1_scratch1)) (xa2 : Buf (Elt Bits) ((c : Thread nD τ).loc cc1_scratch2)) (xa3 : Buf (Elt Bits) ((c : Thread nD τ).loc cc1_scratch3)) (hc0 : ¬hcI i T1) (hc1 : hcD i T2) (hc2 : ¬hcF i T2) (k1_h4 : hcE i T2) :
    Σ' (out0 : List (View.Piece (Elt Bits) S2048x128 .bf16)) (out1 : Buf (Elt Bits) ((c : Thread nD τ).loc cc1_scratch0)) (out2 : Buf (Elt Bits) ((c : Thread nD τ).loc cc1_scratch1)) (out3 : Buf (Elt Bits) ((c : Thread nD τ).loc cc1_scratch2)), { out4 : Buf (Elt Bits) ((c : Thread nD τ).loc cc1_scratch3) //
      ∀ (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (arg10.view.loc (c : Thread nD τ) ↦[arg10.view.set]{fullShare} arg10.view.rep x4)
          ∗ (tbM1_0.view.loc (c : Thread nD τ) ↦{fullShare} T0)
          ∗ (tbM1_1.view.loc (c : Thread nD τ) ↦{fullShare} T1)
          ∗ (tbM1_2.view.loc (c : Thread nD τ) ↦{fullShare} T2)
          ∗ (∃ d, owns (c : Thread nD τ) arg11 fullShare d)
          ∗ (scM1_0.view.loc (c : Thread nD τ) ↦{fullShare} xa0)
          ∗ (scM1_1.view.loc (c : Thread nD τ) ↦{fullShare} xa1)
          ∗ (scM1_2.view.loc (c : Thread nD τ) ↦{fullShare} xa2)
          ∗ (scM1_3.view.loc (c : Thread nD τ) ↦{fullShare} xa3)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (arg9.view.loc (c : Thread nD τ) ↦[arg9.view.set]{fullShare} arg9.view.rep x3)
              ∗ (arg10.view.loc (c : Thread nD τ) ↦[arg10.view.set]{fullShare} arg10.view.rep x4)
              ∗ (tbM1_0.view.loc (c : Thread nD τ) ↦{fullShare} T0)
              ∗ (tbM1_1.view.loc (c : Thread nD τ) ↦{fullShare} T1)
              ∗ (tbM1_2.view.loc (c : Thread nD τ) ↦{fullShare} T2)
              ∗ (∃ f, arg11.view.loc (c : Thread nD τ) ↦[arg11.view.set]{fullShare} arg11.view.writes (Elt Bits) f out0)
              ∗ (scM1_0.view.loc (c : Thread nD τ) ↦{fullShare} out1)
              ∗ (scM1_1.view.loc (c : Thread nD τ) ↦{fullShare} out2)
              ∗ (scM1_2.view.loc (c : Thread nD τ) ↦{fullShare} out3)
              ∗ (scM1_3.view.loc (c : Thread nD τ) ↦{fullShare} out4)) -∗ K ⟨⟩))
          ⊢ wp frame (wpE (defs₀ (F := Bits)) Variants.none c none) Set.univ (cc1_attn i tbM1_0 (Memref.isWhole_whole _) tbM1_1 (Memref.isWhole_whole _) tbM1_2 (Memref.isWhole_whole _) arg6 harg6 arg7 harg7 arg8 harg8 arg9 harg9 arg10 harg10 arg11 harg11 scM1_0 (Memref.isWhole_whole _) scM1_1 (Memref.isWhole_whole _) scM1_2 (Memref.isWhole_whole _) scM1_3 (Memref.isWhole_whole _)) K } :=
  ⟨_, _, _, _, _, fun K => by
    unfold owns
    rw [cc1_attn_eq_skeleton]; unfold cc1_attn_skel
    iintro ⟨H0, H1, H2, H3, H4, HT0, HT1, HT2, ⟨%d5, %f5, -, HO5⟩, HS0, HS1, HS2, HS3, Hk⟩
    have hS0 : scM1_0.IsWhole := Memref.isWhole_whole _
    have hS1 : scM1_1.IsWhole := Memref.isWhole_whole _
    have hS2 : scM1_2.IsWhole := Memref.isWhole_whole _
    have hS3 : scM1_3.IsWhole := Memref.isWhole_whole _
    have hT0 : tbM1_0.IsWhole := Memref.isWhole_whole _
    have hT1 : tbM1_1.IsWhole := Memref.isWhole_whole _
    have hT2 : tbM1_2.IsWhole := Memref.isWhole_whole _
    sl_exec! (disch := first | (guard_target = ¬(Scalar.cmpi = _); exact hc0) | (guard_target = Scalar.cmpi = _; exact hc1) | (guard_target = ¬(Scalar.cmpi = _); exact hc2) | (guard_target = k1_cond4 _ = _; exact k1_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    isplitl [HO5]; · iexists _; iexact HO5
    isplitl [HS0]; · iexact HS0
    isplitl [HS1]; · iexact HS1
    isplitl [HS2]; · iexact HS2
    iexact HS3⟩

end Cert.Kernel.Gen

end
-- ==== Proof.Bits.AttnRegion.lean ====
module

public import proofs.«01_k».proof.Proof.Bits.AttnPins

@[expose] public section

set_option maxRecDepth 16384
set_option Elab.async false

noncomputable section

namespace Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! # The attention call's region: what its body leaves at every point, over any contents the region is entered with -/

variable (V : Dev nD → Valuation τ sig (Elt Bits))

/-- Window `w`'s block at point `t`, of the array as the region finds it. -/
def atblk (c : Dev nD) (w : Fin cfgA.W) (t : Fin cfgA.N) : ((cfgA.win w).xblock (crd t)).Idx → Elt Bits (cfgA.win w).elt :=
  ((cfgA.win w).blk t).view.read (Elt Bits) (V c (Proc.devRef .tc (Pipeline.arrRef spec1 w)))

/-- The run at a first block that is the last, -/
abbrev rA (c : Dev nD) (t : Fin cfgA.N) (h : t.val % 3 = 0) :=
  kernelRun1_A c (crd t) (ms1_0 t) (hs1_0 t) (ms1_1 t) (hs1_1 t) (ms1_2 t) (hs1_2 t) (ms1_3 t) (hs1_3 t) (ms1_4 t) (hs1_4 t) (ms1_5 t) (hs1_5 t) pinT_0 pinT_1 pinT_2 (atblk V c (0 : Fin 6) t) (atblk V c (1 : Fin 6) t) (atblk V c (2 : Fin 6) t) (atblk V c (3 : Fin 6) t) (atblk V c (4 : Fin 6) t) ((factsAt t).1 h).1 ((factsAt t).1 h).2.1 ((factsAt t).1 h).2.2.1 ((factsAt t).1 h).2.2.2.1
/-- at a first block of two, -/
abbrev rB (c : Dev nD) (t : Fin cfgA.N) (h : t.val % 3 = 1) :=
  kernelRun1_B c (crd t) (ms1_0 t) (hs1_0 t) (ms1_1 t) (hs1_1 t) (ms1_2 t) (hs1_2 t) (ms1_3 t) (hs1_3 t) (ms1_4 t) (hs1_4 t) (ms1_5 t) (hs1_5 t) pinT_0 pinT_1 pinT_2 (atblk V c (0 : Fin 6) t) (atblk V c (1 : Fin 6) t) (atblk V c (2 : Fin 6) t) (atblk V c (3 : Fin 6) t) (atblk V c (4 : Fin 6) t) ((factsAt t).2.1 h).1 ((factsAt t).2.1 h).2.1 ((factsAt t).2.1 h).2.2.1 ((factsAt t).2.1 h).2.2.2.1
/-- and at a last block of two, from the scratches `xa0` … `xa3`. -/
abbrev rC (c : Dev nD) (t : Fin cfgA.N) (xa0 : Buf (Elt Bits) ((c : Thread nD τ).loc cc1_scratch0)) (xa1 : Buf (Elt Bits) ((c : Thread nD τ).loc cc1_scratch1)) (xa2 : Buf (Elt Bits) ((c : Thread nD τ).loc cc1_scratch2)) (xa3 : Buf (Elt Bits) ((c : Thread nD τ).loc cc1_scratch3)) (h : t.val % 3 = 2) :=
  kernelRun1_C c (crd t) (ms1_0 t) (hs1_0 t) (ms1_1 t) (hs1_1 t) (ms1_2 t) (hs1_2 t) (ms1_3 t) (hs1_3 t) (ms1_4 t) (hs1_4 t) (ms1_5 t) (hs1_5 t) pinT_0 pinT_1 pinT_2 (atblk V c (0 : Fin 6) t) (atblk V c (1 : Fin 6) t) (atblk V c (2 : Fin 6) t) (atblk V c (3 : Fin 6) t) (atblk V c (4 : Fin 6) t) xa0 xa1 xa2 xa3 ((factsAt t).2.2 h).1 ((factsAt t).2.2 h).2.1 ((factsAt t).2.2 h).2.2.1 ((factsAt t).2.2 h).2.2.2.1

/-- The point before a last block of two. -/
abbrev prv (t : Fin cfgA.N) : Fin cfgA.N := ⟨t.val - 1, Nat.lt_of_le_of_lt (Nat.sub_le _ _) t.isLt⟩
theorem prv_mod (t : Fin cfgA.N) (h : t.val % 3 = 2) : (prv t).val % 3 = 1 := by
  show (t.val - 1) % 3 = 1; omega

/-- The run at a last block of two, from what the point before left. -/
abbrev rCp (c : Dev nD) (t : Fin cfgA.N) (h : t.val % 3 = 2) :=
  rC V c t (rB V c (prv t) (prv_mod t h)).1 (rB V c (prv t) (prv_mod t h)).2.1 (rB V c (prv t) (prv_mod t h)).2.2.1 (rB V c (prv t) (prv_mod t h)).2.2.2.1 h

theorem atcov_A (c : Dev nD) (t : Fin cfgA.N) (h : t.val % 3 = 0) (y : S2048x128.Idx) : ∃ pc ∈ (rA V c t h).1, y ∈ pc.1.set :=
  View.cover_of_tiledL (rA V c t h).1 S2048x128.size (by sl_kernel_rfl) y
theorem atcov_C (c : Dev nD) (t : Fin cfgA.N) (xa0 xa1 xa2 xa3) (h : t.val % 3 = 2) (y : S2048x128.Idx) : ∃ pc ∈ (rC V c t xa0 xa1 xa2 xa3 h).1, y ∈ pc.1.set :=
  View.cover_of_tiledL (rC V c t xa0 xa1 xa2 xa3 h).1 S2048x128.size (by sl_kernel_rfl) y

/-- What a finishing point leaves in the output's buffer. -/
def atout_A (c : Dev nD) (t : Fin cfgA.N) (h : t.val % 3 = 0) : S2048x128.Idx → Elt Bits .bf16 :=
  VO1_5.read (Elt Bits) (VO1_5.writes (Elt Bits) VO1_5.junk (rA V c t h).1)
def atout_C (c : Dev nD) (t : Fin cfgA.N) (h : t.val % 3 = 2) : S2048x128.Idx → Elt Bits .bf16 :=
  VO1_5.read (Elt Bits) (VO1_5.writes (Elt Bits) VO1_5.junk (rCp V c t h).1)
/-- The output's buffer after point `t` (nothing is said of it where the point does not finish). -/
def atout (c : Dev nD) (t : Fin cfgA.N) : S2048x128.Idx → Elt Bits .bf16 :=
  if h : t.val % 3 = 0 then atout_A V c t h else if h : t.val % 3 = 2 then atout_C V c t h else default
theorem atout_eA (c : Dev nD) (t : Fin cfgA.N) (h : t.val % 3 = 0) : atout V c t = atout_A V c t h := by
  unfold atout; exact dif_pos h
theorem atout_eC (c : Dev nD) (t : Fin cfgA.N) (h : t.val % 3 = 2) : atout V c t = atout_C V c t h := by
  unfold atout; rw [dif_neg (by omega), dif_pos h]

/-- The four scratches at given contents, -/
def scrAt (c : Dev nD) (xa0 : Buf (Elt Bits) ((c : Thread nD τ).loc cc1_scratch0)) (xa1 : Buf (Elt Bits) ((c : Thread nD τ).loc cc1_scratch1)) (xa2 : Buf (Elt Bits) ((c : Thread nD τ).loc cc1_scratch2)) (xa3 : Buf (Elt Bits) ((c : Thread nD τ).loc cc1_scratch3)) : sProp 𝕄 :=
  iprop((scM1_0.view.loc (c : Thread nD τ) ↦{fullShare} xa0) ∗ (scM1_1.view.loc (c : Thread nD τ) ↦{fullShare} xa1) ∗ (scM1_2.view.loc (c : Thread nD τ) ↦{fullShare} xa2) ∗ (scM1_3.view.loc (c : Thread nD τ) ↦{fullShare} xa3))
/-- and at any. -/
def scrAny (c : Dev nD) : sProp 𝕄 :=
  iprop((∃ f : Buf (Elt Bits) ((c : Thread nD τ).loc cc1_scratch0), ((c : Thread nD τ).loc cc1_scratch0) ↦{fullShare} f) ∗ (∃ f : Buf (Elt Bits) ((c : Thread nD τ).loc cc1_scratch1), ((c : Thread nD τ).loc cc1_scratch1) ↦{fullShare} f) ∗ (∃ f : Buf (Elt Bits) ((c : Thread nD τ).loc cc1_scratch2), ((c : Thread nD τ).loc cc1_scratch2) ↦{fullShare} f) ∗ (∃ f : Buf (Elt Bits) ((c : Thread nD τ).loc cc1_scratch3), ((c : Thread nD τ).loc cc1_scratch3) ↦{fullShare} f))
theorem scrAt_any (c : Dev nD) (xa0 xa1 xa2 xa3) : scrAt c xa0 xa1 xa2 xa3 ⊢ scrAny c := by
  unfold scrAt scrAny
  iintro ⟨H0, H1, H2, H3⟩
  isplitl [H0]; · iexists _; iexact H0
  isplitl [H1]; · iexists _; iexact H1
  isplitl [H2]; · iexists _; iexact H2
  iexists _; iexact H3
/-- The scratches between points: named only before a last block of two. -/
def scrPhi (c : Dev nD) (n : ℕ) (hn : n ≤ cfgA.N) : sProp 𝕄 :=
  if h : n % 3 = 2 then
    scrAt c (rB V c ⟨n - 1, by omega⟩ (by show (n - 1) % 3 = 1; omega)).1 (rB V c ⟨n - 1, by omega⟩ (by show (n - 1) % 3 = 1; omega)).2.1 (rB V c ⟨n - 1, by omega⟩ (by show (n - 1) % 3 = 1; omega)).2.2.1 (rB V c ⟨n - 1, by omega⟩ (by show (n - 1) % 3 = 1; omega)).2.2.2.1
  else scrAny c
theorem scrPhi_any (c : Dev nD) (n : ℕ) (hn : n ≤ cfgA.N) : scrPhi V c n hn ⊢ scrAny c := by
  unfold scrPhi
  by_cases h : n % 3 = 2
  · rw [dif_pos h]; exact scrAt_any c _ _ _ _
  · rw [dif_neg h]

/-- The three tables, whole. -/
def tabs (c : Dev nD) : sProp 𝕄 :=
  iprop((tbM1_0.view.loc (c : Thread nD τ) ↦{fullShare} pinT_0) ∗ (tbM1_1.view.loc (c : Thread nD τ) ↦{fullShare} pinT_1) ∗ (tbM1_2.view.loc (c : Thread nD τ) ↦{fullShare} pinT_2))
theorem tabs_eq (c : Dev nD) :
    (Pipeline.prefHeld (Ix := Unit) (Name := ℕ) (U := UR sig nD τ) (Lvl := ℕ) pre1 c (fun _ => fullShare) pfN : sProp 𝕄) = tabs c := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl
/-- The scoped buffers the call does not use. -/
abbrev atRest (c : Dev nD) : sProp 𝕄 := Pipeline.scopedRestBut (Ix := Unit) (Name := ℕ) (U := UR sig nD τ) (Lvl := ℕ) (Val := Elt Bits) spec1 c [cc1_scratch0, cc1_scratch1, cc1_scratch2, cc1_scratch3]

/-- The region's invariant. -/
def Phi1 (c : Dev nD) (n : ℕ) (hn : n ≤ cfgA.N) : sProp 𝕄 := iprop(scrPhi V c n hn ∗ tabs c ∗ atRest c)

/-- The region's data on core `c`: windows on one array take shares of it. -/
def dat1 (c : Dev nD) : Dat τ (Elt Bits) Unit ℕ (UR sig nD τ) ℕ cfgA c where
  A w := V c (Proc.devRef .tc (Pipeline.arrRef spec1 w))
  after w t := match w with
    | ⟨0, _⟩ => atblk V c (0 : Fin 6) t
    | ⟨1, _⟩ => atblk V c (1 : Fin 6) t
    | ⟨2, _⟩ => atblk V c (2 : Fin 6) t
    | ⟨3, _⟩ => atblk V c (3 : Fin 6) t
    | ⟨4, _⟩ => atblk V c (4 : Fin 6) t
    | ⟨5, _⟩ => atout V c t
  Φ t := Phi1 V c t.val (Nat.le_of_lt_succ t.isLt)
  q w := Pipeline.shareOf spec1 w
  owed _ := 0

theorem dat1_A (c : Dev nD) (w : Fin cfgA.W) : (dat1 V c).A w = V c (Proc.devRef .tc (Pipeline.arrRef spec1 w)) := by
  dsimp only [dat1]
theorem after1_0 (c : Dev nD) (t : Fin cfgA.N) : (dat1 V c).after (0 : Fin 6) t = atblk V c (0 : Fin 6) t := by dsimp only [dat1]
theorem after1_1 (c : Dev nD) (t : Fin cfgA.N) : (dat1 V c).after (1 : Fin 6) t = atblk V c (1 : Fin 6) t := by dsimp only [dat1]
theorem after1_2 (c : Dev nD) (t : Fin cfgA.N) : (dat1 V c).after (2 : Fin 6) t = atblk V c (2 : Fin 6) t := by dsimp only [dat1]
theorem after1_3 (c : Dev nD) (t : Fin cfgA.N) : (dat1 V c).after (3 : Fin 6) t = atblk V c (3 : Fin 6) t := by dsimp only [dat1]
theorem after1_4 (c : Dev nD) (t : Fin cfgA.N) : (dat1 V c).after (4 : Fin 6) t = atblk V c (4 : Fin 6) t := by dsimp only [dat1]
theorem after1_5 (c : Dev nD) (t : Fin cfgA.N) : (dat1 V c).after (5 : Fin 6) t = atout V c t := by dsimp only [dat1]
theorem before1_0 (c : Dev nD) (t : Fin cfgA.N) (d) : (dat1 V c).before (0 : Fin 6) t d = atblk V c (0 : Fin 6) t :=
  ((dat1 V c).before_in_eq_fetched (0 : Fin 6) rfl (fun _ => rfl) (fun _ _ _ => rfl) (fun t => by rw [after1_0]; unfold Dat.blockOf atblk; rw [dat1_A]; try rfl) t d).trans
    (by unfold Dat.fetched Dat.blockOf atblk; rw [dat1_A]; try rfl)
theorem before1_1 (c : Dev nD) (t : Fin cfgA.N) (d) : (dat1 V c).before (1 : Fin 6) t d = atblk V c (1 : Fin 6) t :=
  ((dat1 V c).before_in_eq_fetched (1 : Fin 6) rfl (fun _ => rfl) (fun _ _ _ => rfl) (fun t => by rw [after1_1]; unfold Dat.blockOf atblk; rw [dat1_A]; try rfl) t d).trans
    (by unfold Dat.fetched Dat.blockOf atblk; rw [dat1_A]; try rfl)
theorem before1_2 (c : Dev nD) (t : Fin cfgA.N) (d) : (dat1 V c).before (2 : Fin 6) t d = atblk V c (2 : Fin 6) t :=
  ((dat1 V c).before_in_eq_fetched (2 : Fin 6) rfl (fun _ => rfl) (fun _ _ _ => rfl) (fun t => by rw [after1_2]; unfold Dat.blockOf atblk; rw [dat1_A]; try rfl) t d).trans
    (by unfold Dat.fetched Dat.blockOf atblk; rw [dat1_A]; try rfl)
theorem before1_3 (c : Dev nD) (t : Fin cfgA.N) (d) : (dat1 V c).before (3 : Fin 6) t d = atblk V c (3 : Fin 6) t :=
  ((dat1 V c).before_in_eq_fetched (3 : Fin 6) rfl (fun _ => rfl) (fun _ _ _ => rfl) (fun t => by rw [after1_3]; unfold Dat.blockOf atblk; rw [dat1_A]; try rfl) t d).trans
    (by unfold Dat.fetched Dat.blockOf atblk; rw [dat1_A]; try rfl)
theorem before1_4 (c : Dev nD) (t : Fin cfgA.N) (d) : (dat1 V c).before (4 : Fin 6) t d = atblk V c (4 : Fin 6) t :=
  ((dat1 V c).before_in_eq_fetched (4 : Fin 6) rfl (fun _ => rfl) (fun _ _ _ => rfl) (fun t => by rw [after1_4]; unfold Dat.blockOf atblk; rw [dat1_A]; try rfl) t d).trans
    (by unfold Dat.fetched Dat.blockOf atblk; rw [dat1_A]; try rfl)

/-- The body at point `t`, as the pipeline calls it. -/
abbrev bodyAt1 (t : Fin cfgA.N) : Prog (TpuEff nD τ sig (Elt Bits) Λ₀ .tc) PUnit :=
  cc1_attn (crd t) tbM1_0 (Memref.isWhole_whole _) tbM1_1 (Memref.isWhole_whole _) tbM1_2 (Memref.isWhole_whole _) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _)

set_option maxHeartbeats 4000000 in
/-- The body at any point. -/
theorem sound_body1 (c : Dev nD) (t : Fin cfgA.N) :
    iprop((dat1 V c).Φ t.castSucc ∗ (dat1 V c).owesAt () t.castSucc
        ∗ (∃ d, owns (c : Thread nD τ) (ms1_0 t) fullShare ((dat1 V c).before (0 : Fin 6) t d))
        ∗ (∃ d, owns (c : Thread nD τ) (ms1_1 t) fullShare ((dat1 V c).before (1 : Fin 6) t d))
        ∗ (∃ d, owns (c : Thread nD τ) (ms1_2 t) fullShare ((dat1 V c).before (2 : Fin 6) t d))
        ∗ (∃ d, owns (c : Thread nD τ) (ms1_3 t) fullShare ((dat1 V c).before (3 : Fin 6) t d))
        ∗ (∃ d, owns (c : Thread nD τ) (ms1_4 t) fullShare ((dat1 V c).before (4 : Fin 6) t d))
        ∗ (∃ d, owns (c : Thread nD τ) (ms1_5 t) fullShare ((dat1 V c).before (5 : Fin 6) t d)))
      ⊢ wp frame (wpE (defs₀ (F := Bits)) Variants.none c none) Set.univ (bodyAt1 t) fun _ =>
          iprop((dat1 V c).Φ t.succ ∗ (dat1 V c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dat1 V c).before w t d))
                  | true => owns (c : Thread nD τ) ((cfgA.win w).stage (cfgA.slots t w)) fullShare ((dat1 V c).after w t)
                | false => owns (c : Thread nD τ) ((cfgA.win w).stage (cfgA.slots t w)) fullShare ((dat1 V c).after w t)) := by
  rw [bigSep_W1]
  rewrite [show (dat1 V c).Φ t.succ = Phi1 V c (t.val + 1) t.isLt from rfl, show (dat1 V c).Φ t.castSucc = Phi1 V c t.val (Nat.le_of_lt t.isLt) from rfl,
    show (dat1 V c).owesAt () t.succ = (dat1 V c).owesAt () t.castSucc from rfl]
  have h3 : t.val % 3 = 0 ∨ t.val % 3 = 1 ∨ t.val % 3 = 2 := by omega
  rcases h3 with h | h | h
  · obtain ⟨hc0, hc1, hc2, k1_h4, i5, f5⟩ := (factsAt t).1 h
    rewrite [i5]
    simp only [before1_0, before1_1, before1_2, before1_3, before1_4, after1_0, after1_1, after1_2, after1_3, after1_4, after1_5, f5]
    rw [atout_eA V c t h]
    have hpost : scrAny c ⊢ scrPhi V c (t.val + 1) t.isLt := by
      unfold scrPhi; rw [dif_neg (by omega)]
    refine (sep_mono (sep_mono (scrPhi_any V c t.val (Nat.le_of_lt t.isLt)) .rfl) .rfl).trans ?_
    unfold Phi1 tabs scrAny
    iintro ⟨⟨⟨⟨%a0, HS0⟩, ⟨%a1, HS1⟩, ⟨%a2, HS2⟩, ⟨%a3, HS3⟩⟩, ⟨HT0, HT1, HT2⟩, HR⟩, Ho, ⟨%d0, H0⟩, ⟨%d1, H1⟩, ⟨%d2, H2⟩, ⟨%d3, H3⟩, ⟨%d4, H4⟩, ⟨%d5, H5⟩⟩
    iapply ((rA V c t h).2.2.2.2.2 a0 a1 a2 a3 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HT2]; · iexact HT2
    isplitl [H5]; · iexists _; iexact H5
    isplitl [HS0]; · iexact HS0
    isplitl [HS1]; · iexact HS1
    isplitl [HS2]; · iexact HS2
    isplitl [HS3]; · iexact HS3
    iintro ⟨H0, H1, H2, H3, H4, HT0, HT1, HT2, ⟨%e5, H5⟩, HS0, HS1, HS2, HS3⟩
    isplitl [HS0 HS1 HS2 HS3 HT0 HT1 HT2 HR]
    · isplitl [HS0 HS1 HS2 HS3]
      · iapply hpost; unfold scrAny
        isplitl [HS0]; · iexists _; iexact HS0
        isplitl [HS1]; · iexists _; iexact HS1
        isplitl [HS2]; · iexists _; iexact HS2
        iexists _; iexact HS3
      isplitl [HT0 HT1 HT2]
      · isplitl [HT0]; · iexact HT0
        isplitl [HT1]; · iexact HT1
        iexact HT2
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact View.read_writes_of_cover _ _ _ _ _ (atcov_A V c t h)
  · obtain ⟨hc0, hc1, hc2, k1_h4, i5, f5⟩ := (factsAt t).2.1 h
    rewrite [i5]
    simp only [before1_0, before1_1, before1_2, before1_3, before1_4, after1_0, after1_1, after1_2, after1_3, after1_4, after1_5, f5]
    have hpost : scrAt c (rB V c t h).1 (rB V c t h).2.1 (rB V c t h).2.2.1 (rB V c t h).2.2.2.1 ⊢ scrPhi V c (t.val + 1) t.isLt := by
      unfold scrPhi; rw [dif_pos (by omega)]; exact .rfl
    refine (sep_mono (sep_mono (scrPhi_any V c t.val (Nat.le_of_lt t.isLt)) .rfl) .rfl).trans ?_
    unfold Phi1 tabs scrAny
    iintro ⟨⟨⟨⟨%a0, HS0⟩, ⟨%a1, HS1⟩, ⟨%a2, HS2⟩, ⟨%a3, HS3⟩⟩, ⟨HT0, HT1, HT2⟩, HR⟩, Ho, ⟨%d0, H0⟩, ⟨%d1, H1⟩, ⟨%d2, H2⟩, ⟨%d3, H3⟩, ⟨%d4, H4⟩, ⟨%d5, H5⟩⟩
    iapply ((rB V c t h).2.2.2.2 _ a0 a1 a2 a3 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HT2]; · iexact HT2
    isplitl [H5]; · iexact H5
    isplitl [HS0]; · iexact HS0
    isplitl [HS1]; · iexact HS1
    isplitl [HS2]; · iexact HS2
    isplitl [HS3]; · iexact HS3
    iintro ⟨H0, H1, H2, H3, H4, HT0, HT1, HT2, H5, HS0, HS1, HS2, HS3⟩
    isplitl [HS0 HS1 HS2 HS3 HT0 HT1 HT2 HR]
    · isplitl [HS0 HS1 HS2 HS3]
      · iapply hpost; unfold scrAt
        isplitl [HS0]; · iexact HS0
        isplitl [HS1]; · iexact HS1
        isplitl [HS2]; · iexact HS2
        iexact HS3
      isplitl [HT0 HT1 HT2]
      · isplitl [HT0]; · iexact HT0
        isplitl [HT1]; · iexact HT1
        iexact HT2
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    iexists d5; iexact H5
  · obtain ⟨hc0, hc1, hc2, k1_h4, i5, f5⟩ := (factsAt t).2.2 h
    rewrite [i5]
    simp only [before1_0, before1_1, before1_2, before1_3, before1_4, after1_0, after1_1, after1_2, after1_3, after1_4, after1_5, f5]
    rw [atout_eC V c t h]
    have hpost : scrAny c ⊢ scrPhi V c (t.val + 1) t.isLt := by
      unfold scrPhi; rw [dif_neg (by omega)]
    have hpre : scrPhi V c t.val (Nat.le_of_lt t.isLt) ⊢ scrAt c (rB V c (prv t) (prv_mod t h)).1 (rB V c (prv t) (prv_mod t h)).2.1 (rB V c (prv t) (prv_mod t h)).2.2.1 (rB V c (prv t) (prv_mod t h)).2.2.2.1 := by
      unfold scrPhi; rw [dif_pos h]
    refine (sep_mono (sep_mono hpre .rfl) .rfl).trans ?_
    unfold Phi1 tabs scrAt
    iintro ⟨⟨⟨HS0, HS1, HS2, HS3⟩, ⟨HT0, HT1, HT2⟩, HR⟩, Ho, ⟨%d0, H0⟩, ⟨%d1, H1⟩, ⟨%d2, H2⟩, ⟨%d3, H3⟩, ⟨%d4, H4⟩, ⟨%d5, H5⟩⟩
    iapply ((rCp V c t h).2.2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HT2]; · iexact HT2
    isplitl [H5]; · iexists _; iexact H5
    isplitl [HS0]; · iexact HS0
    isplitl [HS1]; · iexact HS1
    isplitl [HS2]; · iexact HS2
    isplitl [HS3]; · iexact HS3
    iintro ⟨H0, H1, H2, H3, H4, HT0, HT1, HT2, ⟨%e5, H5⟩, HS0, HS1, HS2, HS3⟩
    isplitl [HS0 HS1 HS2 HS3 HT0 HT1 HT2 HR]
    · isplitl [HS0 HS1 HS2 HS3]
      · iapply hpost; unfold scrAny
        isplitl [HS0]; · iexists _; iexact HS0
        isplitl [HS1]; · iexists _; iexact HS1
        isplitl [HS2]; · iexists _; iexact HS2
        iexists _; iexact HS3
      isplitl [HT0 HT1 HT2]
      · isplitl [HT0]; · iexact HT0
        isplitl [HT1]; · iexact HT1
        iexact HT2
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact View.read_writes_of_cover _ _ _ _ _ (atcov_C V c t _ _ _ _ h)

/-- The body obligation, at every point. -/
theorem body_obligation1 (c : Dev nD) : BodyObligation (dat1 V c) (defs₀ (F := Bits)) Variants.none () Set.univ := fun t => by
  rw [bigSep_W1]
  exact sound_body1 V c t

theorem hin1 (c : Dev nD) : iprop(Pipeline.prefHeld (Ix := Unit) (Name := ℕ) (U := UR sig nD τ) (Lvl := ℕ) pre1 c (fun _ => fullShare) pfN ∗ (Pipeline.scopedRest (Ix := Unit) (Name := ℕ) (U := UR sig nD τ) (Lvl := ℕ) (Val := Elt Bits) spec1 c : sProp 𝕄)) ⊢ (dat1 V c).Φ 0 := by
  rw [show (dat1 V c).Φ 0 = Phi1 V c 0 (Nat.zero_le _) from rfl, tabs_eq, scopedRest1_split]
  unfold Phi1 scrPhi; rw [dif_neg (by decide)]; unfold scrAny
  iintro ⟨HT, HS, HR⟩
  isplitl [HS]; · iexact HS
  isplitl [HT]; · iexact HT
  iexact HR

theorem hout1 (c : Dev nD) : (dat1 V c).Φ (Fin.last cfgA.N) ⊢ iprop(Pipeline.prefHeld (Ix := Unit) (Name := ℕ) (U := UR sig nD τ) (Lvl := ℕ) pre1 c (fun _ => fullShare) pfN ∗ (Pipeline.scopedRest (Ix := Unit) (Name := ℕ) (U := UR sig nD τ) (Lvl := ℕ) (Val := Elt Bits) spec1 c : sProp 𝕄)) := by
  rw [show (dat1 V c).Φ (Fin.last cfgA.N) = Phi1 V c (Fin.last cfgA.N).val (Nat.le_of_lt_succ (Fin.last cfgA.N).isLt) from rfl, tabs_eq, scopedRest1_split]
  unfold Phi1
  refine (sep_mono (scrPhi_any V c _ _) .rfl).trans ?_
  unfold scrAny
  iintro ⟨HS, HT, HR⟩
  isplitl [HT]; · iexact HT
  isplitl [HS]; · iexact HS
  iexact HR

end Cert.Kernel.Gen

end
-- ==== Proof.Bits.Run.lean ====
module

public import proofs.«01_k».proof.Proof.Bits.InRegion
public import proofs.«01_k».proof.Proof.Bits.AttnRegion
public import proofs.«01_k».proof.Proof.Gen.Kernel.Regions
public import Idealize.ShloMosaic.Lib.Pipeline.RegionArraysTS
public import Idealize.ShloMosaic.Lib.Claim
public import Idealize.ShloMosaic.Lib.StableHlo.RunRead

@[expose] public section

set_option maxRecDepth 16384

noncomputable section

namespace Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)

local notation "𝕄" => MT nD τ sig Unit (Elt Bits) ℕ (UR sig nD τ) ℕ

/-! # The whole program's run: the host operations, the projection call and the attention call, one after another -/

variable (m : (ℓ : Loc nD τ sig) → Buf (Elt Bits) ℓ)

/-- Core `c`'s buffers after the projection call, -/
def W6 (c : Dev nD) : Valuation τ sig (Elt Bits) := Pipeline.afterRegion (dat0 (V5 m) c) (V5 m c)
/-- and after the attention call. -/
def W7 (c : Dev nD) : Valuation τ sig (Elt Bits) := Function.update (W6 m c) main_v13 ((dat1 (W6 m) c).arrAt (5 : Fin 6) cfgA.N)

theorem W7_of (c : Dev nD) (r : Ref sig .tc) (h : r ≠ main_v13) : W7 m c r = W6 m c r := by
  unfold W7
  exact Function.update_of_ne (StableHlo.devRef_ne_of_ne h) _ _
theorem W6_of (c : Dev nD) (r : Ref sig .tc) (h : ∀ w, Pipeline.arrRef spec0 w = r → (cfg0.win w).isOut = false) : W6 m c r = V5 m c r :=
  Pipeline.afterRegion_keeps (dat0 (V5 m) c) (V5 m c) winFacts0.arr_inj (dat0_A (V5 m) c) r h
theorem W6_out (c : Dev nD) (w : Fin cfg0.W) : W6 m c (Pipeline.arrRef spec0 w) = (dat0 (V5 m) c).arrAt w cfg0.N :=
  Pipeline.afterRegion_arr (dat0 (V5 m) c) (V5 m c) winFacts0.arr_inj w
theorem W7_v13 (c : Dev nD) : W7 m c main_v13 = (dat1 (W6 m) c).arrAt (5 : Fin 6) cfgA.N := by
  unfold W7
  exact Function.update_self _ _ _

theorem W7_main_arg0 (c : Dev nD) : W7 m c main_arg0 = m ((c : Thread nD τ).loc main_arg0) :=
  (W7_of m c main_arg0 (by decide)).trans <| (W6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem W7_main_arg1 (c : Dev nD) : W7 m c main_arg1 = m ((c : Thread nD τ).loc main_arg1) :=
  (W7_of m c main_arg1 (by decide)).trans <| (W6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem W7_main_arg2 (c : Dev nD) : W7 m c main_arg2 = m ((c : Thread nD τ).loc main_arg2) :=
  (W7_of m c main_arg2 (by decide)).trans <| (W6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem W7_main_arg3 (c : Dev nD) : W7 m c main_arg3 = m ((c : Thread nD τ).loc main_arg3) :=
  (W7_of m c main_arg3 (by decide)).trans <| (W6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl
theorem W7_main_arg4 (c : Dev nD) : W7 m c main_arg4 = m ((c : Thread nD τ).loc main_arg4) :=
  (W7_of m c main_arg4 (by decide)).trans <| (W6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl

theorem tabw_0 : ∀ x : S3.Idx, lit0 (S3.rowMajor x) = pinT_0 x := by decide
theorem tabw_1 : ∀ x : S3.Idx, lit1 (S3.rowMajor x) = pinT_1 x := by decide
theorem tabw_2 : ∀ x : S3.Idx, lit2 (S3.rowMajor x) = pinT_2 x := by decide
theorem tab_0 (V : Valuation τ sig (Elt Bits)) : StableHlo.after hostOps0 V main_c = pinT_0 := by
  rw [show StableHlo.after hostOps0 V main_c = (fun i => lit0 (S3.rowMajor i)) from by after_reads_simp; rfl]
  funext x; exact tabw_0 x
theorem tab_1 (V : Valuation τ sig (Elt Bits)) : StableHlo.after hostOps0 V main_c_0 = pinT_1 := by
  rw [show StableHlo.after hostOps0 V main_c_0 = (fun i => lit1 (S3.rowMajor i)) from by after_reads_simp; rfl]
  funext x; exact tabw_1 x
theorem tab_2 (V : Valuation τ sig (Elt Bits)) : StableHlo.after hostOps0 V main_c_1 = pinT_2 := by
  rw [show StableHlo.after hostOps0 V main_c_1 = (fun i => lit2 (S3.rowMajor i)) from by after_reads_simp; rfl]
  funext x; exact tabw_2 x

/-- The tables are what the host wrote. -/
theorem V5_tab (c : Dev nD) (j : Fin 3) : V5 m c (pre1.ref j) = pfN j := by
  fin_cases j
  · refine (V5_of m c main_c (by decide)).trans <| (V4_of m c main_c (by decide)).trans <| (V3_of m c main_c (by decide)).trans <| (V2_of m c main_c (by decide)).trans ?_
    exact tab_0 _
  · refine (V5_of m c main_c_0 (by decide)).trans <| (V4_of m c main_c_0 (by decide)).trans <| (V3_of m c main_c_0 (by decide)).trans <| (V2_of m c main_c_0 (by decide)).trans ?_
    exact tab_1 _
  · refine (V5_of m c main_c_1 (by decide)).trans <| (V4_of m c main_c_1 (by decide)).trans <| (V3_of m c main_c_1 (by decide)).trans <| (V2_of m c main_c_1 (by decide)).trans ?_
    exact tab_2 _

/-- Each call's admissible tables. -/
def adms : (p : Fin 2) → (pcfgs (F := Bits) p).Adm
  | ⟨0, _⟩ => cfg0.toPCfg_adm
  | ⟨1, _⟩ => adm1
/-- Each call's data. -/
def pdats : (p : Fin 2) → (c : Dev nD) → Dat τ (Elt Bits) Unit ℕ (UR sig nD τ) ℕ (Pipeline.pin (pcfgs (F := Bits)) adms p) c
  | ⟨0, _⟩ => dat0 (V5 m)
  | ⟨1, _⟩ => dat1 (W6 m)

/-- One level, at the cores' own semaphores. -/
def Lv (g : GSem nD τ sig) : Finset Unit := if g.1.2 = .tc then {()} else ∅
/-- What a core holds between items beside its buffers: it owes nothing. -/
abbrev Ow (c : Dev nD) : sProp 𝕄 := iprop(∃ W, owes (c : Thread nD τ) (0 : CellTallies nD τ sig Unit) W)

theorem cut (p : Fin 2) : Pipeline.LevelCut (pcfgs (F := Bits)) adms () Lv (fun _ _ => (0 : ℕ)) p (fun _ : Dev nD => 0) fun _ => 0 where
  hι c w s := by unfold Lv; rw [if_pos rfl]; exact Finset.mem_singleton_self _
  hιb c w s := le_rfl
  hD c g i h := absurd h (Nat.lt_irrefl 0)

set_option backward.isDefEq.respectTransparency.types false in
/-- The projection call's segment. -/
def reg0 : RegionSeg (pcfgs (F := Bits)) adms (pdats m) () (defs₀ (F := Bits)) Variants.none Lv (fun _ _ => 0) 0 :=
  RegionSeg.ofHeldIn (pcfgs (F := Bits)) adms (pdats m) () defs₀ Variants.none Lv (fun _ _ => 0) 0 (fun _ => 0) (Pipeline.ucRefs τ sig)
    (fun _ => iprop(emp)) (fun _ => iprop(emp)) launch0 rfl (fun c => (body_obligation0 (V5 m) c).loose) (fun _ _ => rfl) (fun _ => rfl) (fun c => (dat0 (V5 m) c).share_full fun _ => rfl)
    (fun c => by
      show iprop(Pipeline.scopedRest spec0 c ∗ emp) ⊢ (dat0 (V5 m) c).Φ 0
      iintro ⟨H, -⟩; iapply (hin0 (V5 m) c); iexact H)
    (fun c => by
      show (dat0 (V5 m) c).Φ (Fin.last cfg0.N) ⊢ iprop(Pipeline.scopedRest spec0 c ∗ emp)
      refine (hout0 (V5 m) c).trans ?_
      iintro H; isplitl [H]; · iexact H
      iempintro)
    (fun _ => 0) (cut 0) (fun _ => iprop(emp)) (V5 m) (fun c w => dat0_A (V5 m) c w)

set_option backward.isDefEq.respectTransparency.types false in
/-- The attention call's segment: the buffers it does not touch ride along. -/
def reg1 : RegionSeg (pcfgs (F := Bits)) adms (pdats m) () (defs₀ (F := Bits)) Variants.none Lv (fun _ _ => 0) 1 :=
  RegionSeg.ofArraysT (pcfgs (F := Bits)) adms (pdats m) () defs₀ Variants.none Lv (fun _ _ => 0) 1 (fun _ => 0)
    (fun _ => iprop(emp)) (fun _ => iprop(emp)) launch₀1 (fun c => (body_obligation1 (W6 m) c).loose) (fun _ _ => rfl) (fun _ => rfl)
    (fun c => by
      show iprop(iprop(Pipeline.scopedRest spec1 c ∗ emp) ∗ Pipeline.prefHeld pre1 c (fun _ => fullShare) pfN) ⊢ (dat1 (W6 m) c).Φ 0
      iintro ⟨⟨H, -⟩, HT⟩; iapply (hin1 (W6 m) c)
      isplitl [HT]; · iexact HT
      iexact H)
    (fun c => by
      show (dat1 (W6 m) c).Φ (Fin.last cfgA.N) ⊢ iprop(iprop(Pipeline.scopedRest spec1 c ∗ emp) ∗ Pipeline.prefHeld pre1 c (fun _ => fullShare) pfN)
      refine (hout1 (W6 m) c).trans ?_
      iintro ⟨HT, H⟩
      isplitl [H]
      · isplitl [H]; · iexact H
        iempintro
      iexact HT)
    (fun _ => 0) (cut 1) (fun c => Pipeline.unscopedRestP pre1 spec1 c (fun b => W6 m c b))

set_option backward.isDefEq.respectTransparency.types false in
/-- Into the projection call, -/
theorem hpre0 (c : Dev nD) : iprop(StableHlo.held (c : Thread nD τ) (Pipeline.ucRefs τ sig) (V5 m c) ∗ Ow c) ⊢ (reg0 m).pre c := by
  show _ ⊢ iprop(StableHlo.held (c : Thread nD τ) (Pipeline.arrRefs spec0) (V5 m c) ∗ emp
    ∗ (StableHlo.held (c : Thread nD τ) (Pipeline.ucRefs τ sig \ Pipeline.arrRefs spec0) (V5 m c) ∗ emp) ∗ Ow c)
  rw [StableHlo.held_sub_split (c : Thread nD τ) (Pipeline.arrRefs_sub_ucRefs spec0 winFacts0.arr_unscoped) (V5 m c)]
  iintro ⟨⟨Ha, Hu⟩, HO⟩
  isplitl [Ha]; · iexact Ha
  isplitl []; · iempintro
  isplitl [Hu]
  · isplitl [Hu]; · iexact Hu
    iempintro
  iexact HO
set_option backward.isDefEq.respectTransparency.types false in
/-- out of it, -/
theorem hpost0 (c : Dev nD) : (reg0 m).post c ⊢ iprop(StableHlo.held (c : Thread nD τ) (Pipeline.ucRefs τ sig) (W6 m c) ∗ Ow c) := by
  show iprop(StableHlo.held (c : Thread nD τ) (Pipeline.arrRefs spec0) (W6 m c) ∗ emp
    ∗ (StableHlo.held (c : Thread nD τ) (Pipeline.ucRefs τ sig \ Pipeline.arrRefs spec0) (V5 m c) ∗ emp) ∗ Ow c) ⊢ _
  rw [StableHlo.held_sub_split (c : Thread nD τ) (Pipeline.arrRefs_sub_ucRefs spec0 winFacts0.arr_unscoped) (W6 m c),
    StableHlo.held_congr (c : Thread nD τ) (S := Pipeline.ucRefs τ sig \ Pipeline.arrRefs spec0) (V := W6 m c) (V' := V5 m c)
      (Pipeline.afterRegion_off (dat0 (V5 m) c) (V5 m c) (Pipeline.ucRefs τ sig))]
  iintro ⟨Ha, -, ⟨Hu, -⟩, HO⟩
  isplitl [Ha Hu]
  · isplitl [Ha]; · iexact Ha
    iexact Hu
  iexact HO

theorem W6_tab (c : Dev nD) : (fun j => W6 m c (pre1.ref j)) = pfN := by
  funext j
  refine (W6_of m c (pre1.ref j) ?_).trans (V5_tab m c j)
  revert j; decide

set_option backward.isDefEq.respectTransparency.types false in
/-- into the attention call -/
theorem hpre1 (c : Dev nD) : iprop(StableHlo.held (c : Thread nD τ) (Pipeline.ucRefs τ sig) (W6 m c) ∗ Ow c) ⊢ (reg1 m).pre c := by
  show _ ⊢ iprop((dat1 (W6 m) c).arrays ((dat1 (W6 m) c).arrAt · 0) ∗ Pipeline.prefHeld pre1 c (fun _ => fullShare) pfN ∗ emp
    ∗ Pipeline.unscopedRestP pre1 spec1 c (fun b => W6 m c b) ∗ Ow c)
  rw [← Pipeline.unscopedBufs_held (Ix := Unit) (Name := ℕ) (U := UR sig nD τ) (Lvl := ℕ) c (W6 m c)]
  have hs := Pipeline.arrays_of_unscopedBufs_shared (pcfgs (F := Bits)) adms (pdats m) (p := 1) winFacts₀1 sharedIn1 arr_whole1 c (fun w _ => rfl)
    (fun b => W6 m c b) (fun w => dat1_A (W6 m) c w)
  have ht := Pipeline.unscopedRest_split (Ix := Unit) (Name := ℕ) (U := UR sig nD τ) (Lvl := ℕ) preFacts1 c (fun b => W6 m c b)
  rw [W6_tab m c] at ht
  iintro ⟨H, HO⟩
  ihave H' := hs $$ H
  icases H' with ⟨HA, HR⟩
  ihave HR' := (Entails.of_eq ht) $$ HR
  icases HR' with ⟨HT, HR⟩
  isplitl [HA]; · iexact HA
  isplitl [HT]; · iexact HT
  isplitl []; · iempintro
  isplitl [HR]; · iexact HR
  iexact HO

theorem W7_arr (c : Dev nD) (w : Fin cfgA.W) : (dat1 (W6 m) c).arrAt w cfgA.N = W7 m c (Proc.devRef .tc (Pipeline.arrRef spec1 w)) := by
  by_cases hw : (cfgA.win w).isOut = false
  · refine ((dat1 (W6 m) c).arrAt_in w hw _).trans ((dat1_A (W6 m) c w).trans (W7_of m c _ ?_).symm)
    revert w; decide
  · have h5 : w = (5 : Fin 6) := by revert w; decide
    subst h5
    exact (W7_v13 m c).symm

set_option backward.isDefEq.respectTransparency.types false in
/-- and out of it. -/
theorem hpost1 (c : Dev nD) : (reg1 m).post c ⊢ iprop(StableHlo.held (c : Thread nD τ) (Pipeline.ucRefs τ sig) (W7 m c) ∗ Ow c) := by
  show iprop((dat1 (W6 m) c).arrays ((dat1 (W6 m) c).arrAt · cfgA.N) ∗ Pipeline.prefHeld pre1 c (fun _ => fullShare) pfN ∗ emp
    ∗ Pipeline.unscopedRestP pre1 spec1 c (fun b => W6 m c b) ∗ Ow c) ⊢ _
  rw [← Pipeline.unscopedBufs_held (Ix := Unit) (Name := ℕ) (U := UR sig nD τ) (Lvl := ℕ) c (W7 m c)]
  have hs := Pipeline.unscopedBufs_of_arrays_shared (pcfgs (F := Bits)) adms (p := 1) winFacts₀1 sharedIn1 arr_whole1 c (pdats m) (fun w _ => rfl)
    (fun b => W6 m c b) (fun b => W7 m c b) ((dat1 (W6 m) c).arrAt · cfgA.N) (fun w => W7_arr m c w)
    (fun b hb => W7_of m c b (fun e => hb (e ▸ Finset.mem_image.mpr ⟨(5 : Fin 6), Finset.mem_univ _, rfl⟩)))
  have ht := Pipeline.unscopedRest_split (Ix := Unit) (Name := ℕ) (U := UR sig nD τ) (Lvl := ℕ) preFacts1 c (fun b => W6 m c b)
  rw [W6_tab m c] at ht
  iintro ⟨HA, HT, -, HR, HO⟩
  isplitr [HO]
  · iapply hs
    isplitl [HA]; · iexact HA
    iapply (Entails.of_eq ht.symm)
    isplitl [HT]; · iexact HT
    iexact HR
  iexact HO

/-- The launch's ghost state. -/
def u₀ : UR sig nD τ := initOf (Pipeline.cells (Pipeline.pin (pcfgs (F := Bits)) adms) (cellOf_inj adms)) (Pipeline.launchToks (Pipeline.pin (pcfgs (F := Bits)) adms) (cellOf_inj adms))

set_option backward.isDefEq.respectTransparency.types false in
/-- From any memory, with every counter at zero: every run ends, and leaves the arguments as they were, each result at its contents,
    and every counter at zero. -/
theorem run_main (ρ : Dev nD → PrngReg) :
    θ_run defs (onTc (τ := τ) (main (F := Bits))) ⟨m, fun _ => 0, ρ⟩ (fun r => (∀ c : Dev nD, (fun s : MemSt nD τ sig (Elt Bits) => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_v13) = W7 m c main_v13 ∧ s.mem ((c.tc : Thread nD τ).loc main_v12_3) = W7 m c main_v12_3 ∧ s.mem ((c.tc : Thread nD τ).loc main_v12_4) = W7 m c main_v12_4) r.2)
      ∧ r.2.sem = fun _ => 0) := by
  have hinit : ∀ c : Dev nD, iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ emp)
      ⊢ (iprop(StableHlo.held (c : Thread nD τ) (Pipeline.ucRefs τ sig) (V0 m c) ∗ Ow c) : sProp 𝕄) := fun c => by
    rw [← Pipeline.unscopedBufs_held (Ix := Unit) (Name := ℕ) (U := UR sig nD τ) (Lvl := ℕ) c (V0 m c)]
    iintro ⟨H, -, HO, -⟩
    isplitl [H]; · iexact H
    iexists _; iexact HO
  refine Pipeline.θ_run_regions_kit_dev_sems (pcfgs (F := Bits)) adms (pdats m) () (cellOf_inj adms) emb₁ defs₀ Variants.none Lv (fun _ _ => 0) m ρ main
    (segs m Variants.none Lv (fun _ _ => 0) (fun _ => Ow) () adms (pdats m) (reg0 m) (reg1 m))
    (fun c Q => by
      rewrite [main_chain c, Seg.run_eq_chain,
        show (segs m Variants.none Lv (fun _ _ => 0) (fun _ => Ow) () adms (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g hg => if_neg hg) (fun _ => iprop(emp)) u₀ ?_
    (T₀ := fun c => iprop(StableHlo.held (c : Thread nD τ) (Pipeline.ucRefs τ sig) (V0 m c) ∗ Ow c))
    (Tₙ := fun c => StableHlo.held (c : Thread nD τ) (Pipeline.ucRefs τ sig) (W7 m c))
    (hch := fun c => ⟨.rfl, .rfl, .rfl, .rfl, .rfl, hpre0 m c, (hpost0 m c).trans (hpre1 m c), hpost1 m c⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_v13) = W7 m c main_v13 ∧ s.mem ((c.tc : Thread nD τ).loc main_v12_3) = W7 m c main_v12_3 ∧ s.mem ((c.tc : Thread nD τ).loc main_v12_4) = W7 m c main_v12_4)
    (hfin := fun c s' => ?_) (hQ := fun _ h hz => ⟨h, funext fun g => hz g (.inr (regions_no_unscoped g.2))⟩)
  · refine Entails.trans ?_ fupd_intro
    show BI.own (emb₁.toFun u₀) ⊢ _
    iintro H
    isplitl [H]; · iexact H
    iapply (show (BI.emp : sProp 𝕄) ⊢ bigSep Finset.univ (fun _ : Dev nD => (BI.emp : sProp 𝕄)) from by rw [BI.bigSep_emp_const])
    iempintro
  · refine Entails.trans ?_ fupd_intro
    refine BIBase.Entails.trans (Q := bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)) ?_ ?_
    · iintro ⟨H, -⟩; iexact H
    · exact bigSep_mono fun c _ => hinit c
  · unfold StableHlo.held
    iintro ⟨Hh, HSI⟩
    ihave Hr := (pointsTo_read_all (Pipeline.ucRefs τ sig) (fun b => ((c : Thread nD τ).1, b)) (W7 m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (W7_main_arg0 m c),
        (h (Proc.devRef .tc main_arg1) (Finset.mem_filter.mpr ⟨StableHlo.devRef_mem_tcRefs main_arg1, by decide⟩)).trans (W7_main_arg1 m c),
        (h (Proc.devRef .tc main_arg2) (Finset.mem_filter.mpr ⟨StableHlo.devRef_mem_tcRefs main_arg2, by decide⟩)).trans (W7_main_arg2 m c),
        (h (Proc.devRef .tc main_arg3) (Finset.mem_filter.mpr ⟨StableHlo.devRef_mem_tcRefs main_arg3, by decide⟩)).trans (W7_main_arg3 m c),
        (h (Proc.devRef .tc main_arg4) (Finset.mem_filter.mpr ⟨StableHlo.devRef_mem_tcRefs main_arg4, by decide⟩)).trans (W7_main_arg4 m c),
        (h (Proc.devRef .tc main_v13) (Finset.mem_filter.mpr ⟨StableHlo.devRef_mem_tcRefs main_v13, by decide⟩)),
        (h (Proc.devRef .tc main_v12_3) (Finset.mem_filter.mpr ⟨StableHlo.devRef_mem_tcRefs main_v12_3, by decide⟩)),
        (h (Proc.devRef .tc main_v12_4) (Finset.mem_filter.mpr ⟨StableHlo.devRef_mem_tcRefs main_v12_4, by decide⟩))⟩
    · iexact HSI

end Cert.Kernel.Gen

end
-- ==== Proof.Finite.lean ====
module

public import proofs.«01_k».proof.Pre_finite
public import Idealize.ShloMosaic.Lib.ReduceAll
public import Idealize.ShloMosaic.Lib.Pointwise

@[expose] public section

set_option maxRecDepth 16384

noncomputable section

namespace Cert.Pre_finite

open Idealize.ShloMosaic

/-- The shape conditions the precondition states. -/
instance shapes : Facts := ⟨by decide, by decide, by decide, by decide, by decide, by decide, by decide⟩

/-! # What the precondition says: every entry of the four arrays is a real number -/

/-- An entry whose absolute value is below infinity is a real number. -/
theorem real_of_lt (x : EReal) (h : Ideal.cmp .olt (max x (-x)) (Ideal.ofBits .f32 0x7F800000#32) = 1#1) : x = ((x.toReal : ℝ) : EReal) := by
  have h1 : Ideal.ofBits .f32 0x7F800000#32 = ⊤ := by simp [Ideal.ofBits, Ideal.ieee]
  rw [h1] at h
  induction x using EReal.rec with
  | bot => simp [Ideal.cmp] at h
  | top => simp [Ideal.cmp] at h
  | coe r => rfl

/-- Of an array of which that is so of every entry, -/
theorem real_of_all {s : Shape} {axes : List (Fin s.rank)} (x : FVec Ideal s .f32) (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1) (i : s.Idx) :
    x i = (((x i).toReal : ℝ) : EReal) := by
  haveI : Subsingleton S_.Idx := ⟨fun a b => funext fun k => k.elim0⟩
  exact real_of_lt _ (Host.reduce_andi_all _ _ hr hu j e i)

theorem andi_at {s : Shape} (a b : IVec s 1) (j : s.Idx) (h : andi a b j = 1#1) : a j = 1#1 ∧ b j = 1#1 := IntOp.andi_eq_one.1 h

/-- the precondition, taken apart. -/
theorem reals [Facts] (x : FVec Ideal S4x4096x1024 .f32) (a b : FVec Ideal S4x1x1024 .f32) (w : FVec Ideal S1024x4616 .f32) (f : FVec Ideal S8 .f32)
    (h : fn (F := Ideal) x a b w f = fun _ => 1#1) :
    (∀ i, a i = (((a i).toReal : ℝ) : EReal)) ∧ (∀ i, b i = (((b i).toReal : ℝ) : EReal)) ∧ (∀ i, w i = (((w i).toReal : ℝ) : EReal)) ∧ (∀ i, f i = (((f i).toReal : ℝ) : EReal)) := by
  have j : S_.Idx := fun k => k.elim0
  have h0 := congrFun h j
  unfold fn fn_part1 at h0
  dsimp only at h0
  obtain ⟨h1, hf⟩ := andi_at _ _ j h0
  obtain ⟨h2, hw⟩ := andi_at _ _ j h1
  obtain ⟨ha, hb⟩ := andi_at _ _ j h2
  exact ⟨real_of_all a _ _ _ j ha, real_of_all b _ _ _ j hb, real_of_all w _ _ _ j hw, real_of_all f _ _ _ j hf⟩

end Cert.Pre_finite
-- ==== Proof.Softmax.lean ====
module

public import Idealize.ShloMosaic.Lib.Pointwise

@[expose] public section

set_option maxRecDepth 16384

noncomputable section

namespace Cert.Softmax

open Idealize.ShloMosaic Finset

/-! # The running maximum of a softmax, at the extended reals

A row's statistics kept over part of its keys: the greatest score `m`, the sum `l` of `2^(score - m)` and the sum `a` of the values so
weighted. They stand for the two sums `L`, `A` the maximum is not subtracted in. -/

/-- A sum of reals, read in the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s h ih => rw [sum_insert h, sum_insert h, ih, EReal.coe_add]

/-- The row's statistics `m`, `l`, `a` stand for the sums `L`, `A`: nothing met yet, or a real maximum subtracted. -/
def Rep (m l a : EReal) (L A : ℝ) : Prop :=
  (∃ μ : ℝ, m = (μ : EReal) ∧ l = ((L * (2 : ℝ) ^ (-μ) : ℝ) : EReal) ∧ a = ((A * (2 : ℝ) ^ (-μ) : ℝ) : EReal))
    ∨ (m = ⊥ ∧ l = 0 ∧ a = 0 ∧ L = 0 ∧ A = 0)

theorem Rep.init : Rep ⊥ 0 0 0 0 := Or.inr ⟨rfl, rfl, rfl, rfl, rfl⟩

/-- The greatest of a maximum and of finitely many scores, one of them real and none infinite upwards, is real. -/
theorem max_real {n : ℕ} (s : Fin n → EReal) (σ : ℕ → ℝ) (cnt : ℕ) (hc : 0 < cnt) (hn : cnt ≤ n)
    (hs : ∀ k : Fin n, s k = if k.val < cnt then (σ k.val : EReal) else ⊥) (m : EReal) (hm : m ≠ ⊤) :
    ∃ μ : ℝ, max m ((univ : Finset (Fin n)).fold max ⊥ s) = (μ : EReal) := by
  have h1 : max m ((univ : Finset (Fin n)).fold max ⊥ s) ≠ ⊤ := by
    have : (univ : Finset (Fin n)).sup s < ⊤ := by
      rw [Finset.sup_lt_iff (by decide)]
      intro k _
      rw [hs k]
      split
      · exact EReal.coe_lt_top _
      · exact bot_lt_top
    exact (max_lt (lt_top_iff_ne_top.mpr hm) this).ne
  have h2 : max m ((univ : Finset (Fin n)).fold max ⊥ s) ≠ ⊥ := by
    have h0 : (σ 0 : EReal) ≤ (univ : Finset (Fin n)).sup s := by
      have := Finset.le_sup (f := s) (mem_univ (⟨0, by omega⟩ : Fin n))
      rw [hs] at this
      simpa [hc] using this
    intro hb
    have h3 : (univ : Finset (Fin n)).sup s ≤ ⊥ := le_trans (le_max_right m _) hb.le
    exact absurd (le_trans h0 h3) (not_le.mpr (EReal.bot_lt_coe _))
  exact ⟨_, (EReal.coe_toReal h1 h2).symm⟩

/-- A sum over the first `n` places of what is there only below `cnt`. -/
theorem sum_cnt {n : ℕ} (f : ℕ → ℝ) (cnt : ℕ) (hn : cnt ≤ n) :
    (∑ k : Fin n, if k.val < cnt then f k.val else 0) = ∑ k ∈ range cnt, f k := by
  rw [Fin.sum_univ_eq_sum_range (fun k => if k < cnt then f k else 0) n, ← sum_filter]
  congr 1
  ext k
  simp only [mem_filter, mem_range]
  omega

/-- One block of keys taken in: the sums grow by the block's terms. -/
theorem Rep.step {n : ℕ} (s : Fin n → EReal) (σ v : ℕ → ℝ) (cnt : ℕ) (hc : 0 < cnt) (hn : cnt ≤ n)
    (hs : ∀ k : Fin n, s k = if k.val < cnt then (σ k.val : EReal) else ⊥) {m l a : EReal} {L A : ℝ} (h : Rep m l a L A)
    (M : EReal) (hM : M = max m ((univ : Finset (Fin n)).fold max ⊥ s)) :
    Rep M (Ideal.exp2 (m - M) * l + ∑ k : Fin n, Ideal.exp2 (s k - M))
      (Ideal.exp2 (m - M) * a + ∑ k : Fin n, Ideal.exp2 (s k - M) * ((v k.val : ℝ) : EReal))
      (L + ∑ k ∈ range cnt, (2 : ℝ) ^ σ k) (A + ∑ k ∈ range cnt, (2 : ℝ) ^ σ k * v k) := by
  have hm : m ≠ ⊤ := by
    rcases h with ⟨μ, rfl, _⟩ | ⟨rfl, _⟩
    · exact EReal.coe_ne_top μ
    · exact bot_ne_top
  obtain ⟨μ, hμ⟩ := max_real s σ cnt hc hn hs m hm
  rw [hμ] at hM
  subst hM
  have two : (0 : ℝ) < 2 := by norm_num
  have he : ∀ k : Fin n, Ideal.exp2 (s k - (μ : EReal)) = (((if k.val < cnt then (2 : ℝ) ^ σ k.val else 0) * (2 : ℝ) ^ (-μ) : ℝ) : EReal) := by
    intro k
    rw [hs k]
    split
    · rw [← EReal.coe_sub, Ideal.exp2_coe]
      congr 1
      rw [← Real.rpow_add two, ← sub_eq_add_neg]
      rfl
    · rw [EReal.bot_sub, Ideal.exp2_bot]; simp
  have e1 : (∑ k : Fin n, Ideal.exp2 (s k - (μ : EReal))) = (((∑ k ∈ range cnt, (2 : ℝ) ^ σ k) * (2 : ℝ) ^ (-μ) : ℝ) : EReal) := by
    rw [← sum_cnt (n := n) (fun k => (2 : ℝ) ^ σ k) cnt hn, sum_mul, ← coe_sum]
    exact sum_congr rfl fun k _ => he k
  have e2 : (∑ k : Fin n, Ideal.exp2 (s k - (μ : EReal)) * ((v k.val : ℝ) : EReal))
      = (((∑ k ∈ range cnt, (2 : ℝ) ^ σ k * v k) * (2 : ℝ) ^ (-μ) : ℝ) : EReal) := by
    rw [← sum_cnt (n := n) (fun k => (2 : ℝ) ^ σ k * v k) cnt hn, sum_mul, ← coe_sum]
    refine sum_congr rfl fun k _ => ?_
    rw [he k, ← EReal.coe_mul]
    congr 1
    split <;> ring
  rw [e1, e2]
  left
  refine ⟨μ, rfl, ?_⟩
  rcases h with ⟨ν, rfl, rfl, rfl⟩ | ⟨rfl, rfl, rfl, rfl, rfl⟩
  · rw [← EReal.coe_sub, Ideal.exp2_coe]
    have : Real.rpow 2 (ν - μ) = (2 : ℝ) ^ ν * (2 : ℝ) ^ (-μ) := by
      rw [← Real.rpow_add two, ← sub_eq_add_neg]; rfl
    have h1 : (2 : ℝ) ^ ν * (2 : ℝ) ^ (-ν) = 1 := by rw [← Real.rpow_add two]; simp
    rw [this]
    constructor
    · rw [← EReal.coe_mul, ← EReal.coe_add]; congr 1; linear_combination (L * (2 : ℝ) ^ (-μ)) * h1
    · rw [← EReal.coe_mul, ← EReal.coe_add]; congr 1; linear_combination (A * (2 : ℝ) ^ (-μ)) * h1
  · rw [EReal.bot_sub, Ideal.exp2_bot]
    simp

/-- The weighted sum over the sum: the maximum subtracted drops out. -/
theorem Rep.quot {m l a : EReal} {L A : ℝ} (h : Rep m l a L A) (hL : 0 < L) : Ideal.div a l = ((A / L : ℝ) : EReal) := by
  rcases h with ⟨μ, rfl, rfl, rfl⟩ | ⟨_, _, _, rfl, _⟩
  · have hp : (0 : ℝ) < (2 : ℝ) ^ (-μ) := Real.rpow_pos_of_pos (by norm_num) _
    have hne : L * (2 : ℝ) ^ (-μ) ≠ 0 := (mul_pos hL hp).ne'
    rw [Ideal.div_coe hne, ← EReal.coe_mul]
    congr 1
    field_simp
  · exact absurd hL (lt_irrefl _)

end Cert.Softmax

end
end
-- ==== Proof.LayerNorm.lean ====
module

public import proofs.«01_k».proof.Proof.Softmax
public import Idealize.ShloMosaic.PureOps.Ideal

@[expose] public section

noncomputable section

namespace Cert.LayerNorm

open Idealize.ShloMosaic Cert.Softmax

/-! # The normalised row: a real number whatever the row holds -/

/-- The divisor and the small addend, as real numbers. -/
theorem c1024 : Ideal.ofBits .f32 0x44800000#32 = ((1024 : ℝ) : EReal) := by
  simp [Ideal.ofBits, Ideal.ieee]; rw [← EReal.coe_mul]; norm_num
theorem eps_real : ∃ e : ℝ, 0 < e ∧ Ideal.ofBits .f32 0x3727C5AC#32 = (e : EReal) := by
  refine ⟨_, ?_, by simp [Ideal.ofBits, Ideal.ieee]; rfl⟩
  positivity

/-- The mean of a row, -/
def mean (x : Fin 1024 → EReal) : EReal := Ideal.div (∑ d, x d) (Ideal.ofBits .f32 0x44800000#32)
/-- its variance about that mean, -/
def var (x : Fin 1024 → EReal) : EReal := Ideal.div (∑ d, (x d - mean x) * (x d - mean x)) (Ideal.ofBits .f32 0x44800000#32)
/-- and an entry of the normalised row. -/
def norm (x : Fin 1024 → EReal) (d : Fin 1024) : EReal := (x d - mean x) * Ideal.rsqrt (var x + Ideal.ofBits .f32 0x3727C5AC#32)

theorem sum_top {n : ℕ} (x : Fin n → EReal) (hn : ∀ d, x d ≠ ⊥) (i : Fin n) (hi : x i = ⊤) : ∑ d, x d = ⊤ := by
  rw [← Finset.add_sum_erase _ _ (Finset.mem_univ i), hi]
  refine EReal.top_add_of_ne_bot ?_
  refine Finset.sum_induction x (· ≠ ⊥) (fun a b ha hb => ?_) (by simp) (fun d _ => hn d)
  exact fun h => (EReal.add_eq_bot_iff.1 h).elim ha hb

theorem sum_bot {n : ℕ} (x : Fin n → EReal) (i : Fin n) (hi : x i = ⊥) : ∑ d, x d = ⊥ := by
  rw [← Finset.add_sum_erase _ _ (Finset.mem_univ i), hi, EReal.bot_add]

theorem div_top : Ideal.div ⊤ ((1024 : ℝ) : EReal) = ⊤ := by
  rw [Ideal.div_coe (by norm_num)]; exact EReal.top_mul_coe_of_pos (by norm_num)
theorem div_bot : Ideal.div ⊥ ((1024 : ℝ) : EReal) = ⊥ := by
  rw [Ideal.div_coe (by norm_num)]; exact EReal.bot_mul_coe_of_pos (by norm_num)

theorem norm_of_sq (x : Fin 1024 → EReal) (h : ∀ d, (x d - mean x) * (x d - mean x) = ⊤) (d : Fin 1024) : norm x d = ((0 : ℝ) : EReal) := by
  unfold norm var
  obtain ⟨e, he, hE⟩ := eps_real
  simp only [h]
  rw [sum_top (fun _ : Fin 1024 => (⊤ : EReal)) (by simp) 0 rfl, c1024, div_top, hE, EReal.top_add_coe, Ideal.rsqrt_top, mul_zero]
  rfl

/-- An entry of the normalised row is a real number, whatever the row holds. -/
theorem norm_real (x : Fin 1024 → EReal) (d : Fin 1024) : ∃ r : ℝ, norm x d = (r : EReal) := by
  by_cases hb : ∃ i, x i = ⊥
  · obtain ⟨i, hi⟩ := hb
    have hm : mean x = ⊥ := by unfold mean; rw [sum_bot x i hi, c1024, div_bot]
    refine ⟨0, norm_of_sq x (fun k => ?_) d⟩
    rw [hm, sub_eq_add_neg, EReal.neg_bot]
    induction x k using EReal.rec with
    | bot => simp
    | coe r => rw [EReal.coe_add_top]; simp
    | top => simp
  · have hb' : ∀ i, x i ≠ ⊥ := fun i h => hb ⟨i, h⟩
    by_cases ht : ∃ i, x i = ⊤
    · obtain ⟨i, hi⟩ := ht
      have hm : mean x = ⊤ := by unfold mean; rw [sum_top x hb' i hi, c1024, div_top]
      refine ⟨0, norm_of_sq x (fun k => ?_) d⟩
      rw [hm, sub_eq_add_neg, EReal.neg_top, EReal.add_bot]
      simp
    · have hr : ∀ i, ∃ r : ℝ, x i = (r : EReal) := fun i => ⟨(x i).toReal, (EReal.coe_toReal (fun h => ht ⟨i, h⟩) (hb' i)).symm⟩
      choose r hr using hr
      obtain ⟨e, he, hE⟩ := eps_real
      have hm : mean x = (((∑ d, r d) * (1 / 1024) : ℝ) : EReal) := by
        unfold mean; simp only [hr]; rw [coe_sum, c1024, Ideal.div_coe (by norm_num), ← EReal.coe_mul]
      set μ : ℝ := (∑ d, r d) * (1 / 1024)
      have hv : var x = (((∑ d, (r d - μ) * (r d - μ)) * (1 / 1024) : ℝ) : EReal) := by
        unfold var; rw [hm]; simp only [hr, ← EReal.coe_sub, ← EReal.coe_mul]; rw [coe_sum, c1024, Ideal.div_coe (by norm_num), ← EReal.coe_mul]
      have hp : 0 < (∑ d, (r d - μ) * (r d - μ)) * (1 / 1024) + e :=
        add_pos_of_nonneg_of_pos (mul_nonneg (Finset.sum_nonneg fun d _ => mul_self_nonneg _) (by norm_num)) he
      refine ⟨(r d - μ) * (Real.sqrt ((∑ d, (r d - μ) * (r d - μ)) * (1 / 1024) + e))⁻¹, ?_⟩
      unfold norm
      rw [hv, hm, hE, hr, ← EReal.coe_add, Ideal.rsqrt_coe, if_neg (not_lt.2 hp.le), if_neg hp.ne', ← EReal.coe_sub, ← EReal.coe_mul]

/-- That real number. -/
def nrm (x : Fin 1024 → EReal) (d : Fin 1024) : ℝ := (norm x d).toReal

theorem norm_eq (x : Fin 1024 → EReal) (d : Fin 1024) : norm x d = ((nrm x d : ℝ) : EReal) := by
  obtain ⟨r, hr⟩ := norm_real x d
  unfold nrm
  rw [hr]; rfl

/-! # The logarithm of the sigmoid, in the two forms it is written in -/

theorem cmax (a b : ℝ) : max (a : EReal) (b : EReal) = ((max a b : ℝ) : EReal) := (EReal.coe_strictMono.monotone.map_max).symm
theorem cmin (a b : ℝ) : min (a : EReal) (b : EReal) = ((min a b : ℝ) : EReal) := (EReal.coe_strictMono.monotone.map_min).symm

/-- `log (sigmoid z)`. -/
def lsg (z : ℝ) : ℝ := min z 0 - Real.log (1 + Real.exp (-|z|))

theorem lsg_kernel (z : ℝ) : min (z : EReal) 0 - Ideal.log1p (Ideal.exp (0 - max (z : EReal) (-(z : EReal)))) = ((lsg z : ℝ) : EReal) := by
  have e1 : max (z : EReal) (-(z : EReal)) = ((|z| : ℝ) : EReal) := by
    rw [← EReal.coe_neg, cmax]; rfl
  have e2 : min (z : EReal) 0 = ((min z 0 : ℝ) : EReal) := by
    rw [← EReal.coe_zero, cmin]
  rw [e1, e2, zero_sub, ← EReal.coe_neg, Ideal.exp_coe]
  unfold Ideal.log1p lsg
  have : (1 : EReal) + ((Real.exp (-|z|) : ℝ) : EReal) = ((1 + Real.exp (-|z|) : ℝ) : EReal) := by rw [EReal.coe_add]; rfl
  rw [this, Ideal.log_coe, if_neg (not_le.2 (by positivity)), ← EReal.coe_sub]

theorem lsg_reference (z : ℝ) : -(max (-(z : EReal)) 0 + Ideal.log1p (Ideal.exp (-(max (-(z : EReal) - 0) (-(-(z : EReal) - 0)))))) = ((lsg z : ℝ) : EReal) := by
  have e1 : max (-(z : EReal) - 0) (-(-(z : EReal) - 0)) = ((|z| : ℝ) : EReal) := by
    rw [sub_zero, neg_neg, ← EReal.coe_neg, cmax, max_comm]; rfl
  have e2 : max (-(z : EReal)) 0 = ((max (-z) 0 : ℝ) : EReal) := by
    rw [← EReal.coe_zero, ← EReal.coe_neg, cmax]
  rw [e1, e2, ← EReal.coe_neg, Ideal.exp_coe]
  unfold Ideal.log1p lsg
  have : (1 : EReal) + ((Real.exp (-|z|) : ℝ) : EReal) = ((1 + Real.exp (-|z|) : ℝ) : EReal) := by rw [EReal.coe_add]; rfl
  rw [this, Ideal.log_coe, if_neg (not_le.2 (by positivity)), ← EReal.coe_add, ← EReal.coe_neg]
  congr 1
  rcases le_total z 0 with h | h
  · rw [max_eq_left (by linarith), min_eq_left h]; ring
  · rw [max_eq_right (by linarith), min_eq_right h]; ring

end Cert.LayerNorm
-- ==== Proof.InPay.lean ====
module

public import proofs.«01_k».proof.Proof.Gen.KernelIdeal
public import proofs.«01_k».proof.Proof.Gen.KernelIdeal.Skeleton
public import Idealize.ShloMosaic.Lib.Pointwise
public import proofs.«01_k».proof.Proof.LayerNorm

@[expose] public section

set_option maxRecDepth 16384

noncomputable section

namespace Cert.KernelIdeal.Gen

open Idealize.ShloMosaic Idealize.ShloMosaic.TcCoe Idealize.SL.Sem
open Facts₀ Cert.Softmax Cert.LayerNorm

/-! # The projection body's words over a block of 512 rows, read at an index -/

theorem negOneF : Ideal.ofBits .f32 0xBF800000#32 = ((-1 : ℝ) : EReal) := by
  simp [Ideal.ofBits, Ideal.ieee]; rw [← EReal.coe_mul]; norm_num

/-- The normalised, scaled and shifted row of a block. -/
def ublk (x : Fin 1024 → EReal) (sc sh : Fin 1024 → ℝ) (d : Fin 1024) : ℝ := nrm x d * (1 + sc d) + sh d

/-- A product of real factors summed is real. -/
theorem dot_real {n : ℕ} (a b : Fin n → EReal) (A B : Fin n → ℝ) (ha : ∀ i, a i = ((A i : ℝ) : EReal)) (hb : ∀ i, b i = ((B i : ℝ) : EReal)) :
    ∑ i, a i * b i = ((∑ i, A i * B i : ℝ) : EReal) := by
  simp only [ha, hb, ← EReal.coe_mul]
  exact coe_sum _ _

/-- The logistic function of a real number. -/
def sg (z : ℝ) : ℝ := (1 + Real.exp (-z))⁻¹

section
variable {x : FVec Ideal S512x1024 .f32} {v1 v2 : FVec Ideal S1x1x1024 .f32} {sc sh : Fin 1024 → ℝ}
  (h1 : ∀ d, v1 (ix3 0 0 d) = ((sc d : ℝ) : EReal)) (h2 : ∀ d, v2 (ix3 0 0 d) = ((sh d : ℝ) : EReal))
include h1 h2

/-- The block's rows, normalised, scaled and shifted. -/
theorem pay2_val (r : Fin 512) (d : Fin 1024) : k0_pay2 (F := Ideal) x v1 v2 (ix2 r d) = ((ublk (fun d => x (ix2 r d)) sc sh d : ℝ) : EReal) := by
  pointwise [k0_pay2]
  show norm (fun d => x (ix2 r d)) d * (1 + v1 (ix3 0 0 d)) + v2 (ix3 0 0 d) = _
  rw [norm_eq, h1, h2]
  simp only [ublk, EReal.coe_add, EReal.coe_mul, EReal.coe_one]

end

theorem sel_ite {α : Type} (p : Prop) [Decidable p] (a b : α) : Scalar.select (if p then 1#1 else 0#1) a b = if p then a else b := by
  by_cases h : p <;> simp only [h, if_true, if_false] <;> rfl

theorem tri (x r : Fin 512) : IntOp.cmpi CmpIPredicate.sle (BitVec.ofNat 32 x.val) (BitVec.ofNat 32 r.val) = if x.val < r.val + 1 then 1#1 else 0#1 := by
  have hi : ∀ a : ℕ, a < 512 → (BitVec.ofNat 32 a).toInt = a := by
    intro a ha
    rw [BitVec.toInt_eq_toNat_bmod, BitVec.toNat_ofNat, Nat.mod_eq_of_lt (by omega)]
    simp only [Int.bmod]
    omega
  simp only [IntOp.cmpi, BitVec.sle, hi x.val x.isLt, hi r.val r.isLt]
  by_cases h : x.val < r.val + 1
  · rw [if_pos h, decide_eq_true (by push_cast; omega)]; rfl
  · rw [if_neg h, decide_eq_false (by push_cast; omega)]; rfl

section
variable {u : FVec Ideal S512x1024 .bf16} {U : Fin 512 → Fin 1024 → ℝ} (hu : ∀ r d, u (ix2 r d) = ((U r d : ℝ) : EReal)) {W : Fin 1024 → ℕ → ℝ}
include hu

/-- The gates. -/
theorem pay1_val {w : FVec Ideal S1024x2048 .bf16} (hw : ∀ d (n : Fin 2048), w (ix2 d n) = ((W d n.val : ℝ) : EReal)) (r : Fin 512) (n : Fin 2048) :
    k0_pay1 (F := Ideal) u w (ix2 r n) = ((sg (∑ d, U r d * W d n) : ℝ) : EReal) := by
  pointwise [k0_pay1]
  rw [dot_real _ _ (U r) (fun d => W d n) (hu r) fun d => hw d n, Ideal.logistic_coe]
  rfl

/-- The gated product. -/
theorem pay77_val {w : FVec Ideal S1024x1024 .bf16} (hw : ∀ d (n : Fin 1024), w (ix2 d n) = ((W d n.val : ℝ) : EReal)) (r : Fin 512) (n : Fin 512) :
    k0_pay77 (F := Ideal) u w (ix2 r n) = (((∑ d, U r d * W d n.val) * sg (∑ d, U r d * W d (512 + n.val)) : ℝ) : EReal) := by
  pointwise [k0_pay77]
  rw [dot_real _ _ (U r) (fun d => W d n.val) (hu r) fun d => hw d _, dot_real _ _ (U r) (fun d => W d (512 + n.val)) (hu r) fun d => hw d _, Ideal.logistic_coe, ← EReal.coe_mul]
  rfl

/-- The running sum, within the block, of the logarithms of the forget gates. -/
theorem pay8_val {w : FVec Ideal S1024x128 .bf16} (hw : ∀ d (n : Fin 128), w (ix2 d n) = ((W d n.val : ℝ) : EReal))
    {b : FVec Ideal S1x128 .f32} {B : ℕ → ℝ} (hb : ∀ n : Fin 128, b (ix2 0 n) = ((B n.val : ℝ) : EReal)) (L : ℕ → ℝ) (n : Fin 128)
    (hL : ∀ k : Fin 512, L k.val = lsg ((∑ d, U k d * W d n.val) + B n.val)) (r : Fin 512) :
    k0_pay8 (F := Ideal) u w b (ix2 r n) = ((∑ k ∈ Finset.range (r.val + 1), L k : ℝ) : EReal) := by
  pointwise [k0_pay8]
  have key : ∀ k : Fin 512, (min (∑ d, u (ix2 k d) * w (ix2 d n) + b (ix2 0 n)) 0 -
          Ideal.log1p (Ideal.exp (0 - FloatOps.absf (F := Ideal) (φ := .f32) (∑ d, u (ix2 k d) * w (ix2 d n) + b (ix2 0 n))))) = ((L k.val : ℝ) : EReal) := fun k => by
    rw [dot_real _ _ (U k) (fun d => W d n.val) (hu k) fun d => hw d n, hb, ← EReal.coe_add, hL]
    exact lsg_kernel _
  simp only [key, tri]
  refine ((Finset.sum_congr rfl fun k _ => ?_).trans (coe_sum _ fun k : Fin 512 => if k.val < r.val + 1 then L k.val else 0)).trans
    (congrArg _ (sum_cnt (n := 512) L (r.val + 1) (by omega)))
  rw [sel_ite]
  by_cases h : k.val < r.val + 1
  · rw [if_pos h, if_pos h]
  · rw [if_neg h, if_neg h]; rfl
end

section
variable {x : FVec Ideal S512x1024 .f32} {v1 v2 : FVec Ideal S1x1x1024 .f32} {U : Fin 512 → Fin 1024 → ℝ}
  (hu : ∀ r d, k0_pay2 (F := Ideal) x v1 v2 (ix2 r d) = ((U r d : ℝ) : EReal))
  {w : FVec Ideal S1024x1536 .bf16} {W : Fin 1024 → ℕ → ℝ} (hw : ∀ d (n : Fin 1536), w (ix2 d n) = ((W d n.val : ℝ) : EReal))
include hu hw

theorem pay3_val (r : Fin 512) (n : Fin 1536) : k0_pay3 (F := Ideal) x v1 v2 w (ix2 r n) = ((∑ d, U r d * W d n : ℝ) : EReal) := by
  pointwise [k0_pay3]
  exact dot_real _ _ (U r) (fun d => W d n) (hu r) fun d => hw d n

/-- The query columns, scaled, -/
theorem pay4_val (r : Fin 512) (n : Fin 512) : k0_pay4 (F := Ideal) x v1 v2 w (ix2 r n) = (((∑ d, U r d * W d n) * ((Real.log 2)⁻¹ * (1 / 8)) : ℝ) : EReal) := by
  have e := pay3_val hu hw r ⟨n.val, by omega⟩
  pointwise [k0_pay4]
  rw [e, EReal.coe_mul]
  rfl

/-- and the key and value columns. -/
theorem pay6_val (r : Fin 512) (n : Fin 1024) : k0_pay6 (F := Ideal) (k0_pay5 x v1 v2 w) (ix2 r n) = ((∑ d, U r d * W d (512 + n.val) : ℝ) : EReal) := by
  have e := pay3_val hu hw r ⟨512 + n.val, by omega⟩
  pointwise [k0_pay6, k0_pay5]
  exact e

end

theorem pay7_val (n : Fin 128) : k0_pay7 (F := Ideal) (ix2 0 n) = ((0 : ℝ) : EReal) := by
  pointwise [k0_pay7]
  rfl

section
variable {f : FVec Ideal S512x128 .f32} {b : FVec Ideal S1x128 .f32} {f' : Fin 512 → ℝ} {b' : ℝ} {n : Fin 128}
  (hf : ∀ r, f (ix2 r n) = ((f' r : ℝ) : EReal)) (hb : b (ix2 0 n) = ((b' : ℝ) : EReal))
include hf hb

/-- The sum carried on: the last row's. -/
theorem pay10_val : k0_pay10 (F := Ideal) f b (ix2 0 n) = ((f' 511 + b' : ℝ) : EReal) := by
  have e : f (ix2 511 n) = ((f' 511 : ℝ) : EReal) := hf ⟨511, by omega⟩
  pointwise [k0_pay10, k0_pay9]
  rw [e, hb, EReal.coe_add]

/-- The running sum in base two, -/
theorem pay12_val (r : Fin 512) : k0_pay12 (F := Ideal) f b (ix2 r n) = (((f' r + b') * (Real.log 2)⁻¹ : ℝ) : EReal) := by
  pointwise [k0_pay12, k0_pay11, k0_pay9]
  rw [hf, hb, EReal.coe_mul, EReal.coe_add]
  rfl

theorem sub_self_real {y : EReal} {a : ℝ} (h : y = ((a : ℝ) : EReal)) : y - y = ((0 : ℝ) : EReal) := by
  rw [h, ← EReal.coe_sub, sub_self]

/-- of which nothing is left over. -/
theorem pay14_val (r : Fin 512) : k0_pay14 (F := Ideal) f b (ix2 r n) = ((0 : ℝ) : EReal) := by
  have e := pay12_val hf hb r
  refine Eq.trans ?_ (sub_self_real hf hb e)
  pointwise [k0_pay14, k0_pay13, k0_pay12]

theorem pay15_val (r : Fin 512) : k0_pay15 (F := Ideal) f b (ix2 r n) = ((0 : ℝ) : EReal) := by
  have e := pay14_val hf hb r
  refine Eq.trans ?_ (sub_self_real hf hb e)
  pointwise [k0_pay14, k0_pay13, k0_pay12, k0_pay15]

end

/-! The bias lanes of a head: the query's `(x, 0, 0, −1, −1, −1, 0, …)` against the key's `(1, 1, 1, x, 0, 0, 0, …)`. -/

def qbv (x : ℝ) (n : ℕ) : ℝ := if n = 0 then x else if 3 ≤ n ∧ n < 6 then -1 else 0
def kbv (x : ℝ) (n : ℕ) : ℝ := if n < 3 then 1 else if n = 3 then x else 0

theorem ceq (k : Fin 8) : ∀ n : Fin 128, IntOp.cmpi CmpIPredicate.eq (BitVec.ofNat 32 n.val) (BitVec.ofNat 32 k.val) = if n.val = k.val then 1#1 else 0#1 := by
  revert k; decide +kernel
theorem c36 : ∀ n : Fin 128, IntOp.andi (IntOp.cmpi CmpIPredicate.sge (BitVec.ofNat 32 n.val) 3#32) (IntOp.cmpi CmpIPredicate.slt (BitVec.ofNat 32 n.val) 6#32)
    = if 3 ≤ n.val ∧ n.val < 6 then 1#1 else 0#1 := by decide +kernel
theorem c3 : ∀ n : Fin 128, IntOp.cmpi CmpIPredicate.slt (BitVec.ofNat 32 n.val) 3#32 = if n.val < 3 then 1#1 else 0#1 := by decide +kernel

theorem qsel (n : Fin 128) {x y z : EReal} {a : ℝ} (hx : x = ((a : ℝ) : EReal)) (hy : y = ((0 : ℝ) : EReal)) (hz : z = ((0 : ℝ) : EReal)) :
    Scalar.select (IntOp.cmpi CmpIPredicate.eq (BitVec.ofNat 32 n.val) 2#32) z
      (Scalar.select (IntOp.cmpi CmpIPredicate.eq (BitVec.ofNat 32 n.val) 1#32) y
        (Scalar.select (IntOp.cmpi CmpIPredicate.eq (BitVec.ofNat 32 n.val) 0#32) x
          (Scalar.select (IntOp.andi (IntOp.cmpi CmpIPredicate.sge (BitVec.ofNat 32 n.val) 3#32) (IntOp.cmpi CmpIPredicate.slt (BitVec.ofNat 32 n.val) 6#32))
            (Ideal.ofBits FTy.f32 3212836864#32) 0))) = ((qbv a n.val : ℝ) : EReal) := by
  rw [show (2#32) = BitVec.ofNat 32 (2 : Fin 8).val from rfl, show (1#32) = BitVec.ofNat 32 (1 : Fin 8).val from rfl, show (0#32) = BitVec.ofNat 32 (0 : Fin 8).val from rfl,
    ceq, ceq, ceq, c36, sel_ite, sel_ite, sel_ite, sel_ite, hx, hy, hz, negOneF]
  show (if n.val = 2 then _ else if n.val = 1 then _ else if n.val = 0 then _ else _) = _
  unfold qbv
  by_cases h2 : n.val = 2
  · simp [h2]
  · by_cases h1 : n.val = 1
    · simp [h1]
    · by_cases h0 : n.val = 0
      · simp [h0]
      · by_cases h3 : 3 ≤ n.val ∧ n.val < 6
        · simp [h0, h1, h2, h3]
        · simp [h0, h1, h2, h3]

theorem ksel (n : Fin 128) {x y z : EReal} {a : ℝ} (hx : x = ((a : ℝ) : EReal)) (hy : y = ((0 : ℝ) : EReal)) (hz : z = ((0 : ℝ) : EReal)) :
    Scalar.select (IntOp.cmpi CmpIPredicate.eq (BitVec.ofNat 32 n.val) 5#32) z
      (Scalar.select (IntOp.cmpi CmpIPredicate.eq (BitVec.ofNat 32 n.val) 4#32) y
        (Scalar.select (IntOp.cmpi CmpIPredicate.eq (BitVec.ofNat 32 n.val) 3#32) x
          (Scalar.select (IntOp.cmpi CmpIPredicate.slt (BitVec.ofNat 32 n.val) 3#32) 1 0))) = ((kbv a n.val : ℝ) : EReal) := by
  rw [c3]
  rw [show (5#32) = BitVec.ofNat 32 (5 : Fin 8).val from rfl, show (4#32) = BitVec.ofNat 32 (4 : Fin 8).val from rfl, show (3#32) = BitVec.ofNat 32 (3 : Fin 8).val from rfl,
    ceq, ceq, ceq, sel_ite, sel_ite, sel_ite, sel_ite, hx, hy, hz]
  show (if n.val = 5 then _ else if n.val = 4 then _ else if n.val = 3 then _ else _) = _
  unfold kbv
  by_cases h5 : n.val = 5
  · simp [h5]
  · by_cases h4 : n.val = 4
    · simp [h4]
    · by_cases h3 : n.val = 3
      · simp [h3]
      · by_cases h : n.val < 3
        · simp [h3, h4, h5, h]
        · simp [h3, h4, h5, h]

/-- The lanes' numbers. -/
abbrev lanes : IVec S512x128 32 := iota .tc S512x128 32 [1] iota_S512x128_d1_w32

section
variable {f : FVec Ideal S512x128 .f32} {b : FVec Ideal S1x128 .f32} {T : Fin 512 → Fin 128 → ℝ}
  (h85 : ∀ r n, k0_pay12 (F := Ideal) f b (ix2 r n) = ((T r n : ℝ) : EReal))
  (h88 : ∀ r n, k0_pay14 (F := Ideal) f b (ix2 r n) = ((0 : ℝ) : EReal))
  (h91 : ∀ r n, k0_pay15 (F := Ideal) f b (ix2 r n) = ((0 : ℝ) : EReal)) (r : Fin 512) (n : Fin 128)
include h85 h88 h91

theorem qb0 : k0_pay22 (F := Ideal) (k0_pay15 f b) lanes (k0_pay17 f b) (k0_pay19 f b) k0_pay20 (ix2 r n) = ((qbv (T r ⟨0, by omega⟩) n.val : ℝ) : EReal) := by
  refine Eq.trans ?_ (qsel n (h85 r ⟨0, by omega⟩) (h88 r ⟨0, by omega⟩) (h91 r ⟨0, by omega⟩))
  pointwise [k0_pay22, k0_pay17, k0_pay19, k0_pay20, k0_pay16, k0_pay21]
theorem qb1 : k0_pay29 (F := Ideal) (k0_pay15 f b) lanes (k0_pay25 (k0_pay12 f b) lanes) (k0_pay27 (k0_pay14 f b)) (ix2 r n) = ((qbv (T r ⟨1, by omega⟩) n.val : ℝ) : EReal) := by
  refine Eq.trans ?_ (qsel n (h85 r ⟨1, by omega⟩) (h88 r ⟨1, by omega⟩) (h91 r ⟨1, by omega⟩))
  pointwise [k0_pay29, k0_pay25, k0_pay27, k0_pay24, k0_pay28]
theorem qb2 : k0_pay36 (F := Ideal) (k0_pay14 f b) (k0_pay15 f b) lanes (k0_pay32 (k0_pay12 f b) lanes) (ix2 r n) = ((qbv (T r ⟨2, by omega⟩) n.val : ℝ) : EReal) := by
  refine Eq.trans ?_ (qsel n (h85 r ⟨2, by omega⟩) (h88 r ⟨2, by omega⟩) (h91 r ⟨2, by omega⟩))
  pointwise [k0_pay36, k0_pay32, k0_pay31, k0_pay34, k0_pay35]
theorem qb3 : k0_pay43 (F := Ideal) (k0_pay14 f b) (k0_pay15 f b) lanes (k0_pay40 (k0_pay12 f b) lanes) (ix2 r n) = ((qbv (T r ⟨3, by omega⟩) n.val : ℝ) : EReal) := by
  refine Eq.trans ?_ (qsel n (h85 r ⟨3, by omega⟩) (h88 r ⟨3, by omega⟩) (h91 r ⟨3, by omega⟩))
  pointwise [k0_pay43, k0_pay40, k0_pay39, k0_pay41, k0_pay42]
theorem qb4 : k0_pay51 (F := Ideal) (k0_pay14 f b) (k0_pay15 f b) lanes (k0_pay45 lanes) (k0_pay47 (k0_pay12 f b)) k0_pay48 (ix2 r n) = ((qbv (T r ⟨4, by omega⟩) n.val : ℝ) : EReal) := by
  refine Eq.trans ?_ (qsel n (h85 r ⟨4, by omega⟩) (h88 r ⟨4, by omega⟩) (h91 r ⟨4, by omega⟩))
  pointwise [k0_pay51, k0_pay45, k0_pay47, k0_pay48, k0_pay49, k0_pay50]
theorem qb5 : k0_pay59 (F := Ideal) (k0_pay14 f b) (k0_pay15 f b) lanes (k0_pay53 lanes) (k0_pay55 (k0_pay12 f b)) (ix2 r n) = ((qbv (T r ⟨5, by omega⟩) n.val : ℝ) : EReal) := by
  refine Eq.trans ?_ (qsel n (h85 r ⟨5, by omega⟩) (h88 r ⟨5, by omega⟩) (h91 r ⟨5, by omega⟩))
  pointwise [k0_pay59, k0_pay53, k0_pay55, k0_pay56, k0_pay57, k0_pay58]
theorem qb6 : k0_pay68 (F := Ideal) (k0_pay12 f b) (k0_pay14 f b) (k0_pay15 f b) lanes (k0_pay61 lanes) (ix2 r n) = ((qbv (T r ⟨6, by omega⟩) n.val : ℝ) : EReal) := by
  refine Eq.trans ?_ (qsel n (h85 r ⟨6, by omega⟩) (h88 r ⟨6, by omega⟩) (h91 r ⟨6, by omega⟩))
  pointwise [k0_pay68, k0_pay61, k0_pay65, k0_pay66, k0_pay67]
theorem qb7 : k0_pay75 (F := Ideal) (k0_pay12 f b) (k0_pay14 f b) (k0_pay15 f b) lanes (k0_pay70 lanes) (ix2 r n) = ((qbv (T r ⟨7, by omega⟩) n.val : ℝ) : EReal) := by
  refine Eq.trans ?_ (qsel n (h85 r ⟨7, by omega⟩) (h88 r ⟨7, by omega⟩) (h91 r ⟨7, by omega⟩))
  pointwise [k0_pay75, k0_pay70, k0_pay72, k0_pay73, k0_pay74]

theorem kb0 : k0_pay23 (F := Ideal) (k0_pay15 f b) lanes (k0_pay18 f b) (k0_pay19 f b) (ix2 r n) = ((kbv (T r ⟨0, by omega⟩) n.val : ℝ) : EReal) := by
  refine Eq.trans ?_ (ksel n (h85 r ⟨0, by omega⟩) (h88 r ⟨0, by omega⟩) (h91 r ⟨0, by omega⟩))
  pointwise [k0_pay23, k0_pay18, k0_pay19, k0_pay16, k0_pay21]
theorem kb1 : k0_pay30 (F := Ideal) (k0_pay15 f b) lanes (k0_pay26 (k0_pay12 f b) lanes) (k0_pay27 (k0_pay14 f b)) (ix2 r n) = ((kbv (T r ⟨1, by omega⟩) n.val : ℝ) : EReal) := by
  refine Eq.trans ?_ (ksel n (h85 r ⟨1, by omega⟩) (h88 r ⟨1, by omega⟩) (h91 r ⟨1, by omega⟩))
  pointwise [k0_pay30, k0_pay26, k0_pay27, k0_pay24, k0_pay28]
theorem kb2 : k0_pay37 (F := Ideal) (k0_pay14 f b) (k0_pay15 f b) lanes (k0_pay33 (k0_pay12 f b) lanes) (ix2 r n) = ((kbv (T r ⟨2, by omega⟩) n.val : ℝ) : EReal) := by
  refine Eq.trans ?_ (ksel n (h85 r ⟨2, by omega⟩) (h88 r ⟨2, by omega⟩) (h91 r ⟨2, by omega⟩))
  pointwise [k0_pay37, k0_pay33, k0_pay31, k0_pay34, k0_pay35]
theorem kb3 : k0_pay44 (F := Ideal) (k0_pay14 f b) (k0_pay15 f b) lanes (k0_pay38 lanes) (k0_pay39 (k0_pay12 f b)) 3#32 (ix2 r n) = ((kbv (T r ⟨3, by omega⟩) n.val : ℝ) : EReal) := by
  refine Eq.trans ?_ (ksel n (h85 r ⟨3, by omega⟩) (h88 r ⟨3, by omega⟩) (h91 r ⟨3, by omega⟩))
  pointwise [k0_pay44, k0_pay38, k0_pay39, k0_pay41, k0_pay42]
theorem kb4 : k0_pay52 (F := Ideal) (k0_pay14 f b) (k0_pay15 f b) lanes (k0_pay46 lanes) (k0_pay47 (k0_pay12 f b)) (ix2 r n) = ((kbv (T r ⟨4, by omega⟩) n.val : ℝ) : EReal) := by
  refine Eq.trans ?_ (ksel n (h85 r ⟨4, by omega⟩) (h88 r ⟨4, by omega⟩) (h91 r ⟨4, by omega⟩))
  pointwise [k0_pay52, k0_pay46, k0_pay47, k0_pay49, k0_pay50]
theorem kb5 : k0_pay60 (F := Ideal) (k0_pay14 f b) (k0_pay15 f b) lanes (k0_pay54 lanes) (k0_pay55 (k0_pay12 f b)) (ix2 r n) = ((kbv (T r ⟨5, by omega⟩) n.val : ℝ) : EReal) := by
  refine Eq.trans ?_ (ksel n (h85 r ⟨5, by omega⟩) (h88 r ⟨5, by omega⟩) (h91 r ⟨5, by omega⟩))
  pointwise [k0_pay60, k0_pay54, k0_pay55, k0_pay56, k0_pay57, k0_pay58]
theorem kb6 : k0_pay69 (F := Ideal) (k0_pay12 f b) (k0_pay14 f b) (k0_pay15 f b) lanes (k0_pay62 lanes) k0_pay63 k0_pay64 (ix2 r n) = ((kbv (T r ⟨6, by omega⟩) n.val : ℝ) : EReal) := by
  refine Eq.trans ?_ (ksel n (h85 r ⟨6, by omega⟩) (h88 r ⟨6, by omega⟩) (h91 r ⟨6, by omega⟩))
  pointwise [k0_pay69, k0_pay62, k0_pay63, k0_pay64, k0_pay65, k0_pay66, k0_pay67]
theorem kb7 : k0_pay76 (F := Ideal) (k0_pay12 f b) (k0_pay14 f b) (k0_pay15 f b) lanes (k0_pay71 lanes) (Scalar.ofBits .f32 0x3F800000#32) (ix2 r n) = ((kbv (T r ⟨7, by omega⟩) n.val : ℝ) : EReal) := by
  refine Eq.trans ?_ (ksel n (h85 r ⟨7, by omega⟩) (h88 r ⟨7, by omega⟩) (h91 r ⟨7, by omega⟩))
  pointwise [k0_pay76, k0_pay71, k0_pay72, k0_pay73, k0_pay74]

end

end Cert.KernelIdeal.Gen
-- ==== Proof.InOut.lean ====
module

public import proofs.«01_k».proof.Proof.InRegion
public import proofs.«01_k».proof.Proof.InPay
public import Idealize.ShloMosaic.Lib.Pointwise
public import Idealize.ShloMosaic.Lib.WholeRead
public import Idealize.ShloMosaic.Lib.Pipeline.ValueKit

@[expose] public section

set_option maxRecDepth 16384

noncomputable section

namespace Cert.KernelIdeal.Gen

open Idealize.ShloMosaic Idealize.ShloMosaic.TcCoe Idealize.SL.Sem
open Facts₀ Cert.Softmax Cert.LayerNorm

/-! # What the projection body leaves in its outputs at a point -/

/-- A load of all of a whole buffer holding `x` reads `x`. -/
theorem rd_whole {κ sp} {s : Shape} {e} {m : Memref Cert.KernelIdeal.sig κ sp s e} (h : m.IsWhole) (x : Vec Ideal s e) {off : Fin s.rank → ℕ} (inb : ∀ a, off a + s.size a ≤ s.size a) :
    View.readAt (Elt Ideal) m.view (Rect.unit off s.size inb).toLoadRect (h.unread x) = x := by
  funext y
  exact (Memref.IsWhole.readAt_unread h x _ y).trans (congrArg x (funext fun a => Fin.ext (by
    show off a + 1 * (y a).val = (y a).val
    have := inb a; omega)))

/-- Eight slabs of 128 columns, stored in order, read back at a column. -/
theorem read8 (v : View Cert.KernelIdeal.sig .tc .vmem S512x1024 .bf16) (f : Fin 8 → FVec Ideal S512x128 .bf16) (r : Fin 512) (hh : Fin 8) (n : Fin 128) (h : 128 * hh.val + n.val < 1024) :
    v.read (Elt Ideal) (v.writes (Elt Ideal) v.junk
        [⟨Rect.unit ![0, 896] S512x128.size inb_S512x1024_S512x128_0_896, f 7⟩, ⟨Rect.unit ![0, 768] S512x128.size inb_S512x1024_S512x128_0_768, f 6⟩,
         ⟨Rect.unit ![0, 640] S512x128.size inb_S512x1024_S512x128_0_640, f 5⟩, ⟨Rect.unit ![0, 512] S512x128.size inb_S512x1024_S512x128_0_512, f 4⟩,
         ⟨Rect.unit ![0, 384] S512x128.size inb_S512x1024_S512x128_0_384, f 3⟩, ⟨Rect.unit ![0, 256] S512x128.size inb_S512x1024_S512x128_0_256, f 2⟩,
         ⟨Rect.unit ![0, 128] S512x128.size inb_S512x1024_S512x128_0_128, f 1⟩, ⟨Rect.unit ![0, 0] S512x128.size inb_S512x1024_S512x128_0_0, f 0⟩])
      (ix2 r (⟨128 * hh.val + n.val, h⟩ : Fin 1024)) = f hh (ix2 r n) := by
  have hit : ∀ (o : ℕ) (inb : ∀ a, (![0, o] : Fin 2 → ℕ) a + S512x128.size a ≤ S512x1024.size a) (w : FVec Ideal S512x128 .bf16) (L) (j : Fin 1024), j.val = o + n.val →
      v.read (Elt Ideal) (v.writes (Elt Ideal) v.junk (⟨Rect.unit (s := S512x1024) ![0, o] S512x128.size inb, w⟩ :: L)) (ix2 r j) = w (ix2 r n) := fun o inb w L j hj =>
    View.read_writes_cons_hit_of_coords (Val := Elt Ideal) v v.junk (Rect.unit (s := S512x1024) ![0, o] S512x128.size inb) w L (ix2 r n) (ix2 r j) (by
      intro a
      match a with
      | 0 => show r.val = 0 + 1 * r.val; omega
      | 1 => show j.val = o + 1 * n.val; omega)
  have miss : ∀ (o : ℕ) (inb : ∀ a, (![0, o] : Fin 2 → ℕ) a + S512x128.size a ≤ S512x1024.size a) (w : FVec Ideal S512x128 .bf16) (L) (j : Fin 1024), j.val < o →
      v.read (Elt Ideal) (v.writes (Elt Ideal) v.junk (⟨Rect.unit (s := S512x1024) ![0, o] S512x128.size inb, w⟩ :: L)) (ix2 r j) = v.read (Elt Ideal) (v.writes (Elt Ideal) v.junk L) (ix2 r j) := fun o inb w L j hj =>
    View.read_writes_cons_miss_of_axis (Val := Elt Ideal) v v.junk ⟨Rect.unit (s := S512x1024) ![0, o] S512x128.size inb, w⟩ L (ix2 r j) 1 o 128 rfl rfl rfl (Or.inl hj)
  have hn := n.isLt
  match hh with
  | 7 => exact hit 896 _ (f 7) _ _ rfl
  | 6 => exact (miss 896 _ (f 7) _ _ (by show 128 * 6 + n.val < _; omega)).trans (hit 768 _ (f 6) _ _ rfl)
  | 5 => exact (miss 896 _ (f 7) _ _ (by show 128 * 5 + n.val < _; omega)).trans ((miss 768 _ (f 6) _ _ (by show 128 * 5 + n.val < _; omega)).trans (hit 640 _ (f 5) _ _ rfl))
  | 4 => exact (miss 896 _ (f 7) _ _ (by show 128 * 4 + n.val < _; omega)).trans ((miss 768 _ (f 6) _ _ (by show 128 * 4 + n.val < _; omega)).trans ((miss 640 _ (f 5) _ _ (by show 128 * 4 + n.val < _; omega)).trans (hit 512 _ (f 4) _ _ rfl)))
  | 3 => exact (miss 896 _ (f 7) _ _ (by show 128 * 3 + n.val < _; omega)).trans ((miss 768 _ (f 6) _ _ (by show 128 * 3 + n.val < _; omega)).trans ((miss 640 _ (f 5) _ _ (by show 128 * 3 + n.val < _; omega)).trans ((miss 512 _ (f 4) _ _ (by show 128 * 3 + n.val < _; omega)).trans (hit 384 _ (f 3) _ _ rfl))))
  | 2 => exact (miss 896 _ (f 7) _ _ (by show 128 * 2 + n.val < _; omega)).trans ((miss 768 _ (f 6) _ _ (by show 128 * 2 + n.val < _; omega)).trans ((miss 640 _ (f 5) _ _ (by show 128 * 2 + n.val < _; omega)).trans ((miss 512 _ (f 4) _ _ (by show 128 * 2 + n.val < _; omega)).trans ((miss 384 _ (f 3) _ _ (by show 128 * 2 + n.val < _; omega)).trans (hit 256 _ (f 2) _ _ rfl)))))
  | 1 => exact (miss 896 _ (f 7) _ _ (by show 128 * 1 + n.val < _; omega)).trans ((miss 768 _ (f 6) _ _ (by show 128 * 1 + n.val < _; omega)).trans ((miss 640 _ (f 5) _ _ (by show 128 * 1 + n.val < _; omega)).trans ((miss 512 _ (f 4) _ _ (by show 128 * 1 + n.val < _; omega)).trans ((miss 384 _ (f 3) _ _ (by show 128 * 1 + n.val < _; omega)).trans ((miss 256 _ (f 2) _ _ (by show 128 * 1 + n.val < _; omega)).trans (hit 128 _ (f 1) _ _ rfl))))))
  | 0 => exact (miss 896 _ (f 7) _ _ (by show 128 * 0 + n.val < _; omega)).trans ((miss 768 _ (f 6) _ _ (by show 128 * 0 + n.val < _; omega)).trans ((miss 640 _ (f 5) _ _ (by show 128 * 0 + n.val < _; omega)).trans ((miss 512 _ (f 4) _ _ (by show 128 * 0 + n.val < _; omega)).trans ((miss 384 _ (f 3) _ _ (by show 128 * 0 + n.val < _; omega)).trans ((miss 256 _ (f 2) _ _ (by show 128 * 0 + n.val < _; omega)).trans ((miss 128 _ (f 1) _ _ (by show 128 * 0 + n.val < _; omega)).trans (hit 0 _ (f 0) _ _ rfl)))))))

/-- A buffer holding one block over all of it reads the block. -/
theorem read1 {a b : ℕ} {e : EltTy} (v : View Cert.KernelIdeal.sig .tc .vmem ⟨2, ![a, b]⟩ e) (w : Vec Ideal ⟨2, ![a, b]⟩ e) (L)
    (inb : ∀ x, (![0, 0] : Fin 2 → ℕ) x + (![a, b] : Fin 2 → ℕ) x ≤ (![a, b] : Fin 2 → ℕ) x) (r : Fin a) (n : Fin b) :
    v.read (Elt Ideal) (v.writes (Elt Ideal) v.junk (⟨Rect.unit (s := ⟨2, ![a, b]⟩) ![0, 0] ![a, b] inb, w⟩ :: L)) (ix2 r n) = w (ix2 r n) :=
  View.read_writes_cons_hit_of_coords (Val := Elt Ideal) v v.junk (Rect.unit (s := ⟨2, ![a, b]⟩) ![0, 0] ![a, b] inb) w L (ix2 r n) (ix2 r n) (by
    intro x
    match x with
    | 0 => show r.val = 0 + 1 * r.val; omega
    | 1 => show n.val = 0 + 1 * n.val; omega)

/-- The query heads' bias slabs, -/
def qslab (f : FVec Ideal S512x128 .f32) (b : FVec Ideal S1x128 .f32) : Fin 8 → FVec Ideal S512x128 .bf16
  | 0 => k0_pay22 (k0_pay15 f b) lanes (k0_pay17 f b) (k0_pay19 f b) k0_pay20
  | 1 => k0_pay29 (k0_pay15 f b) lanes (k0_pay25 (k0_pay12 f b) lanes) (k0_pay27 (k0_pay14 f b))
  | 2 => k0_pay36 (k0_pay14 f b) (k0_pay15 f b) lanes (k0_pay32 (k0_pay12 f b) lanes)
  | 3 => k0_pay43 (k0_pay14 f b) (k0_pay15 f b) lanes (k0_pay40 (k0_pay12 f b) lanes)
  | 4 => k0_pay51 (k0_pay14 f b) (k0_pay15 f b) lanes (k0_pay45 lanes) (k0_pay47 (k0_pay12 f b)) k0_pay48
  | 5 => k0_pay59 (k0_pay14 f b) (k0_pay15 f b) lanes (k0_pay53 lanes) (k0_pay55 (k0_pay12 f b))
  | 6 => k0_pay68 (k0_pay12 f b) (k0_pay14 f b) (k0_pay15 f b) lanes (k0_pay61 lanes)
  | 7 => k0_pay75 (k0_pay12 f b) (k0_pay14 f b) (k0_pay15 f b) lanes (k0_pay70 lanes)

/-- and the key heads'. -/
def kslab (f : FVec Ideal S512x128 .f32) (b : FVec Ideal S1x128 .f32) : Fin 8 → FVec Ideal S512x128 .bf16
  | 0 => k0_pay23 (k0_pay15 f b) lanes (k0_pay18 f b) (k0_pay19 f b)
  | 1 => k0_pay30 (k0_pay15 f b) lanes (k0_pay26 (k0_pay12 f b) lanes) (k0_pay27 (k0_pay14 f b))
  | 2 => k0_pay37 (k0_pay14 f b) (k0_pay15 f b) lanes (k0_pay33 (k0_pay12 f b) lanes)
  | 3 => k0_pay44 (k0_pay14 f b) (k0_pay15 f b) lanes (k0_pay38 lanes) (k0_pay39 (k0_pay12 f b)) 3#32
  | 4 => k0_pay52 (k0_pay14 f b) (k0_pay15 f b) lanes (k0_pay46 lanes) (k0_pay47 (k0_pay12 f b))
  | 5 => k0_pay60 (k0_pay14 f b) (k0_pay15 f b) lanes (k0_pay54 lanes) (k0_pay55 (k0_pay12 f b))
  | 6 => k0_pay69 (k0_pay12 f b) (k0_pay14 f b) (k0_pay15 f b) lanes (k0_pay62 lanes) k0_pay63 k0_pay64
  | 7 => k0_pay76 (k0_pay12 f b) (k0_pay14 f b) (k0_pay15 f b) lanes (k0_pay71 lanes) (Scalar.ofBits .f32 0x3F800000#32)

variable (V : Dev nD → Valuation τ sig (Elt Ideal)) (c : Dev nD) (t : Fin cfg0.N)

/-- The normalised block at a point, -/
def inu : FVec Ideal S512x1024 .bf16 := k0_pay2 (F := Ideal) (inblk V c 0 t) (inblk V c 2 t) (inblk V c 1 t)
/-- and its running sums. -/
def inf : FVec Ideal S512x128 .f32 := k0_pay8 (F := Ideal) (inu V c t) (inblk V c 4 t) (inblk V c 7 t)

theorem v75A : kernelRun0_A.sl.v75 (F := Ideal) c scM0_0 = k0_pay7 (F := Ideal) := by
  unfold kernelRun0_A.sl.v75 kernelRun0_A.sl.HS0_1
  exact View.readCov_cons_toLoadRect _ _ _ _

theorem rrA : kernelRun0_A.sl.r (F := Ideal) c (ms0_0 t) (hs0_0 t) (ms0_1 t) (hs0_1 t) (ms0_2 t) (hs0_2 t) (inblk V c 0 t) (inblk V c 1 t) (inblk V c 2 t) = inu V c t := by
  unfold kernelRun0_A.sl.r
  rw [rd_whole, rd_whole, rd_whole]
  rfl

theorem r2A : kernelRun0_A.sl.r_2 (F := Ideal) c (ms0_0 t) (hs0_0 t) (ms0_1 t) (hs0_1 t) (ms0_2 t) (hs0_2 t) (ms0_4 t) (hs0_4 t) (ms0_7 t) (hs0_7 t) (inblk V c 0 t) (inblk V c 1 t) (inblk V c 2 t) (inblk V c 4 t) (inblk V c 7 t) = inf V c t := by
  unfold kernelRun0_A.sl.r_2
  rw [rrA, rd_whole, rd_whole]
  rfl

theorem outA_9 (h0 : t.val % 8 = 0) (r : Fin 512) (hh : Fin 8) (n : Fin 128) (h : 128 * hh.val + n.val < 1024) :
    inout_A_9 V c t h0 (ix2 r (⟨128 * hh.val + n.val, h⟩ : Fin 1024)) = qslab (inf V c t) (k0_pay7 (F := Ideal)) hh (ix2 r n) := by
  unfold inout_A_9 runA kernelRun0_A
  dsimp only
  simp only [kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v92, r2A, v75A]
  exact read8 VO0_9 (qslab (inf V c t) (k0_pay7 (F := Ideal))) r hh n h

theorem outA_10 (h0 : t.val % 8 = 0) (r : Fin 512) (hh : Fin 8) (n : Fin 128) (h : 128 * hh.val + n.val < 1024) :
    inout_A_10 V c t h0 (ix2 r (⟨128 * hh.val + n.val, h⟩ : Fin 1024)) = kslab (inf V c t) (k0_pay7 (F := Ideal)) hh (ix2 r n) := by
  unfold inout_A_10 runA kernelRun0_A
  dsimp only
  simp only [kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v92, r2A, v75A]
  exact read8 VO0_10 (kslab (inf V c t) (k0_pay7 (F := Ideal))) r hh n h

theorem outA_11 (h0 : t.val % 8 = 0) (r : Fin 512) (n : Fin 512) :
    inout_A_11 V c t h0 (ix2 r n) = k0_pay77 (inu V c t) (inblk V c 5 t) (ix2 r n) := by
  unfold inout_A_11 runA kernelRun0_A
  dsimp only
  simp only [kernelRun0_A.sl.r_18, rrA]
  rw [rd_whole]
  exact read1 VO0_11 _ [] _ r n

theorem outA_12 (h0 : t.val % 8 = 0) (r : Fin 512) (n : Fin 2048) :
    inout_A_12 V c t h0 (ix2 r n) = k0_pay1 (inu V c t) (inblk V c 6 t) (ix2 r n) := by
  unfold inout_A_12 runA kernelRun0_A
  dsimp only
  simp only [rrA]
  rw [rd_whole]
  exact read1 VO0_12 _ [] _ r n

theorem outA_s (h0 : t.val % 8 = 0) (n : Fin 128) :
    inout_A_s V c t h0 (ix2 0 n) = k0_pay10 (inf V c t) (k0_pay7 (F := Ideal)) (ix2 0 n) := by
  unfold inout_A_s runA kernelRun0_A
  dsimp only
  simp only [r2A, v75A]
  exact read1 VS0_0 _ _ _ 0 n

theorem outA_8q (h0 : t.val % 8 = 0) (r : Fin 512) (j : Fin 1536) (n : Fin 512) (h : j.val = n.val) :
    inout_A_8 V c t h0 (ix2 r j) = k0_pay4 (F := Ideal) (inblk V c 0 t) (inblk V c 2 t) (inblk V c 1 t) (inblk V c 3 t) (ix2 r n) := by
  unfold inout_A_8 runA kernelRun0_A
  dsimp only
  rw [rd_whole, rd_whole, rd_whole, rd_whole]
  exact (View.read_writes_cons_miss_of_axis (Val := Elt Ideal) VO0_8 VO0_8.junk _ _ (ix2 r j) 1 512 1024 rfl rfl rfl (Or.inl (by show j.val < 512; omega))).trans
    (View.read_writes_cons_hit_of_coords (Val := Elt Ideal) VO0_8 VO0_8.junk (Rect.unit (s := S512x1536) ![0, 0] S512x512.size inb_S512x1536_S512x512_0_0) _ [] (ix2 r n) (ix2 r j) (by
      intro a
      match a with
      | 0 => show r.val = 0 + 1 * r.val; omega
      | 1 => show j.val = 0 + 1 * n.val; omega))

theorem outA_8kv (h0 : t.val % 8 = 0) (r : Fin 512) (j : Fin 1536) (n : Fin 1024) (h : j.val = 512 + n.val) :
    inout_A_8 V c t h0 (ix2 r j) = k0_pay6 (k0_pay5 (F := Ideal) (inblk V c 0 t) (inblk V c 2 t) (inblk V c 1 t) (inblk V c 3 t)) (ix2 r n) := by
  unfold inout_A_8 runA kernelRun0_A
  dsimp only
  simp only [kernelRun0_A.sl.r_1]
  rw [rd_whole, rd_whole, rd_whole, rd_whole]
  exact View.read_writes_cons_hit_of_coords (Val := Elt Ideal) VO0_8 VO0_8.junk (Rect.unit (s := S512x1536) ![0, 512] S512x1024.size inb_S512x1536_S512x1024_0_512) _ _ (ix2 r n) (ix2 r j) (by
      intro a
      match a with
      | 0 => show r.val = 0 + 1 * r.val; omega
      | 1 => show j.val = 512 + 1 * n.val; omega)

theorem v75B (xs : Vec Ideal S1x128 .f32) (h : Memref.IsWhole scM0_0) : View.readAt (Elt Ideal) (View.whole cc0_scratch0) (Rect.unit ![0, 0] S1x128.size inb_S1x128_S1x128_0_0).toLoadRect (h.unread xs) = xs :=
  rd_whole (m := scM0_0) h xs _

theorem v75B' (xs : Vec Ideal S1x128 .f32) (h : Memref.IsWhole scM0_0) : View.readAt (Elt Ideal) scM0_0.view (Rect.unit (s := S1x128) ![0, 0] S1x128.size inb_S1x128_S1x128_0_0).toLoadRect (h.unread xs) = xs :=
  rd_whole (m := scM0_0) h xs _

theorem v75B'' (xs : Vec Ideal S1x128 .f32) (h : Memref.IsWhole scM0_0) : View.readAt (Elt Ideal) (View.whole cc0_scratch0) (Rect.unit (s := S1x128) ![0, 0] ![1, 128] inb_S1x128_S1x128_0_0).toLoadRect (h.unread xs) = xs :=
  rd_whole (m := scM0_0) h xs _

theorem rrB : kernelRun0_B.sl.r (F := Ideal) c (ms0_0 t) (hs0_0 t) (ms0_1 t) (hs0_1 t) (ms0_2 t) (hs0_2 t) (inblk V c 0 t) (inblk V c 1 t) (inblk V c 2 t) = inu V c t := by
  unfold kernelRun0_B.sl.r
  rw [rd_whole, rd_whole, rd_whole]
  rfl

theorem r2B : kernelRun0_B.sl.r_2 (F := Ideal) c (ms0_0 t) (hs0_0 t) (ms0_1 t) (hs0_1 t) (ms0_2 t) (hs0_2 t) (ms0_4 t) (hs0_4 t) (ms0_7 t) (hs0_7 t) (inblk V c 0 t) (inblk V c 1 t) (inblk V c 2 t) (inblk V c 4 t) (inblk V c 7 t) = inf V c t := by
  unfold kernelRun0_B.sl.r_2
  rw [rrB, rd_whole, rd_whole]
  rfl

theorem outB_9 (h0 : ¬t.val % 8 = 0) (xs : Vec Ideal S1x128 .f32) (r : Fin 512) (hh : Fin 8) (n : Fin 128) (h : 128 * hh.val + n.val < 1024) :
    inout_B_9 V c t h0 xs (ix2 r (⟨128 * hh.val + n.val, h⟩ : Fin 1024)) = qslab (inf V c t) xs hh (ix2 r n) := by
  unfold inout_B_9 runB kernelRun0_B
  dsimp only
  simp only [kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.v92, r2B, v75B, v75B', v75B'']
  exact read8 VO0_9 (qslab (inf V c t) xs) r hh n h

theorem outB_10 (h0 : ¬t.val % 8 = 0) (xs : Vec Ideal S1x128 .f32) (r : Fin 512) (hh : Fin 8) (n : Fin 128) (h : 128 * hh.val + n.val < 1024) :
    inout_B_10 V c t h0 xs (ix2 r (⟨128 * hh.val + n.val, h⟩ : Fin 1024)) = kslab (inf V c t) xs hh (ix2 r n) := by
  unfold inout_B_10 runB kernelRun0_B
  dsimp only
  simp only [kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.v92, r2B, v75B, v75B', v75B'']
  exact read8 VO0_10 (kslab (inf V c t) xs) r hh n h

theorem outB_11 (h0 : ¬t.val % 8 = 0) (xs : Vec Ideal S1x128 .f32) (r : Fin 512) (n : Fin 512) :
    inout_B_11 V c t h0 xs (ix2 r n) = k0_pay77 (inu V c t) (inblk V c 5 t) (ix2 r n) := by
  unfold inout_B_11 runB kernelRun0_B
  dsimp only
  simp only [kernelRun0_B.sl.r_18, rrB]
  rw [rd_whole]
  exact read1 VO0_11 _ [] _ r n

theorem outB_12 (h0 : ¬t.val % 8 = 0) (xs : Vec Ideal S1x128 .f32) (r : Fin 512) (n : Fin 2048) :
    inout_B_12 V c t h0 xs (ix2 r n) = k0_pay1 (inu V c t) (inblk V c 6 t) (ix2 r n) := by
  unfold inout_B_12 runB kernelRun0_B
  dsimp only
  simp only [rrB]
  rw [rd_whole]
  exact read1 VO0_12 _ [] _ r n

theorem outB_s (h0 : ¬t.val % 8 = 0) (xs : Vec Ideal S1x128 .f32) (n : Fin 128) :
    inout_B_s V c t h0 xs (ix2 0 n) = k0_pay10 (inf V c t) xs (ix2 0 n) := by
  unfold inout_B_s runB kernelRun0_B
  dsimp only
  simp only [r2B, v75B, v75B', v75B'']
  exact read1 VS0_0 _ _ _ 0 n

theorem outB_8q (h0 : ¬t.val % 8 = 0) (xs : Vec Ideal S1x128 .f32) (r : Fin 512) (j : Fin 1536) (n : Fin 512) (h : j.val = n.val) :
    inout_B_8 V c t h0 xs (ix2 r j) = k0_pay4 (F := Ideal) (inblk V c 0 t) (inblk V c 2 t) (inblk V c 1 t) (inblk V c 3 t) (ix2 r n) := by
  unfold inout_B_8 runB kernelRun0_B
  dsimp only
  rw [rd_whole, rd_whole, rd_whole, rd_whole]
  exact (View.read_writes_cons_miss_of_axis (Val := Elt Ideal) VO0_8 VO0_8.junk _ _ (ix2 r j) 1 512 1024 rfl rfl rfl (Or.inl (by show j.val < 512; omega))).trans
    (View.read_writes_cons_hit_of_coords (Val := Elt Ideal) VO0_8 VO0_8.junk (Rect.unit (s := S512x1536) ![0, 0] S512x512.size inb_S512x1536_S512x512_0_0) _ [] (ix2 r n) (ix2 r j) (by
      intro a
      match a with
      | 0 => show r.val = 0 + 1 * r.val; omega
      | 1 => show j.val = 0 + 1 * n.val; omega))

theorem outB_8kv (h0 : ¬t.val % 8 = 0) (xs : Vec Ideal S1x128 .f32) (r : Fin 512) (j : Fin 1536) (n : Fin 1024) (h : j.val = 512 + n.val) :
    inout_B_8 V c t h0 xs (ix2 r j) = k0_pay6 (k0_pay5 (F := Ideal) (inblk V c 0 t) (inblk V c 2 t) (inblk V c 1 t) (inblk V c 3 t)) (ix2 r n) := by
  unfold inout_B_8 runB kernelRun0_B
  dsimp only
  simp only [kernelRun0_B.sl.r_1]
  rw [rd_whole, rd_whole, rd_whole, rd_whole]
  exact View.read_writes_cons_hit_of_coords (Val := Elt Ideal) VO0_8 VO0_8.junk (Rect.unit (s := S512x1536) ![0, 512] S512x1024.size inb_S512x1536_S512x1024_0_512) _ _ (ix2 r n) (ix2 r j) (by
      intro a
      match a with
      | 0 => show r.val = 0 + 1 * r.val; omega
      | 1 => show j.val = 512 + 1 * n.val; omega)

end Cert.KernelIdeal.Gen
-- ==== Proof.InArr.lean ====
module

public import proofs.«01_k».proof.Proof.InOut
public import Idealize.ShloMosaic.Lib.Pointwise
public import Idealize.ShloMosaic.Lib.Pipeline.ValueKit

@[expose] public section

set_option maxRecDepth 16384

noncomputable section

namespace Cert.KernelIdeal.Gen

open Idealize.ShloMosaic Idealize.ShloMosaic.TcCoe Idealize.SL.Sem
open Facts₀ Cert.Softmax Cert.LayerNorm
open Idealize.ShloMosaic.Pipeline (Dat Cfg Window)

/-! # The projection call's output arrays -/

/-- A row, normalised, scaled and shifted by its batch entry's vectors; rows are counted over the whole batch. -/
def UU (X : ℕ → Fin 1024 → EReal) (sc sh : ℕ → Fin 1024 → ℝ) (i : ℕ) (d : Fin 1024) : ℝ := ublk (X i) (sc (i / 4096)) (sh (i / 4096)) d
/-- A row times a column of weights. -/
def ZZ (U : ℕ → Fin 1024 → ℝ) (W : Fin 1024 → ℕ → ℝ) (i n : ℕ) : ℝ := ∑ d, U i d * W d n
/-- The logarithm of a row's forget gate, -/
def LL (U : ℕ → Fin 1024 → ℝ) (W : Fin 1024 → ℕ → ℝ) (B : ℕ → ℝ) (i n : ℕ) : ℝ := lsg (ZZ U W i n + B n)
/-- and its running sum within a batch entry. -/
def FF (U : ℕ → Fin 1024 → ℝ) (W : Fin 1024 → ℕ → ℝ) (B : ℕ → ℝ) (b s n : ℕ) : ℝ := ∑ k ∈ Finset.range (s + 1), LL U W B (4096 * b + k) n

theorem FF_congr (U : ℕ → Fin 1024 → ℝ) (W : Fin 1024 → ℕ → ℝ) (B : ℕ → ℝ) {b s n b' s' n' : ℕ} (h1 : b = b') (h2 : s = s') (h3 : n = n') : FF U W B b s n = FF U W B b' s' n' := by
  rw [h1, h2, h3]

theorem qslab_val {f : FVec Ideal S512x128 .f32} {b : FVec Ideal S1x128 .f32} {f' : Fin 512 → Fin 128 → ℝ} {b' : Fin 128 → ℝ}
    (hf : ∀ r n, f (ix2 r n) = ((f' r n : ℝ) : EReal)) (hb : ∀ n, b (ix2 0 n) = ((b' n : ℝ) : EReal)) (hh : Fin 8) (r : Fin 512) (n : Fin 128) :
    qslab f b hh (ix2 r n) = ((qbv ((f' r ⟨hh.val, by omega⟩ + b' ⟨hh.val, by omega⟩) * (Real.log 2)⁻¹) n.val : ℝ) : EReal) := by
  have h85 : ∀ r n, k0_pay12 (F := Ideal) f b (ix2 r n) = (((fun r n => (f' r n + b' n) * (Real.log 2)⁻¹) r n : ℝ) : EReal) := fun r n => pay12_val (fun r => hf r n) (hb n) r
  have h88 : ∀ r n, k0_pay14 (F := Ideal) f b (ix2 r n) = ((0 : ℝ) : EReal) := fun r n => pay14_val (fun r => hf r n) (hb n) r
  have h91 : ∀ r n, k0_pay15 (F := Ideal) f b (ix2 r n) = ((0 : ℝ) : EReal) := fun r n => pay15_val (fun r => hf r n) (hb n) r
  match hh with
  | 0 => exact qb0 h85 h88 h91 r n
  | 1 => exact qb1 h85 h88 h91 r n
  | 2 => exact qb2 h85 h88 h91 r n
  | 3 => exact qb3 h85 h88 h91 r n
  | 4 => exact qb4 h85 h88 h91 r n
  | 5 => exact qb5 h85 h88 h91 r n
  | 6 => exact qb6 h85 h88 h91 r n
  | 7 => exact qb7 h85 h88 h91 r n

theorem kslab_val {f : FVec Ideal S512x128 .f32} {b : FVec Ideal S1x128 .f32} {f' : Fin 512 → Fin 128 → ℝ} {b' : Fin 128 → ℝ}
    (hf : ∀ r n, f (ix2 r n) = ((f' r n : ℝ) : EReal)) (hb : ∀ n, b (ix2 0 n) = ((b' n : ℝ) : EReal)) (hh : Fin 8) (r : Fin 512) (n : Fin 128) :
    kslab f b hh (ix2 r n) = ((kbv ((f' r ⟨hh.val, by omega⟩ + b' ⟨hh.val, by omega⟩) * (Real.log 2)⁻¹) n.val : ℝ) : EReal) := by
  have h85 : ∀ r n, k0_pay12 (F := Ideal) f b (ix2 r n) = (((fun r n => (f' r n + b' n) * (Real.log 2)⁻¹) r n : ℝ) : EReal) := fun r n => pay12_val (fun r => hf r n) (hb n) r
  have h88 : ∀ r n, k0_pay14 (F := Ideal) f b (ix2 r n) = ((0 : ℝ) : EReal) := fun r n => pay14_val (fun r => hf r n) (hb n) r
  have h91 : ∀ r n, k0_pay15 (F := Ideal) f b (ix2 r n) = ((0 : ℝ) : EReal) := fun r n => pay15_val (fun r => hf r n) (hb n) r
  match hh with
  | 0 => exact kb0 h85 h88 h91 r n
  | 1 => exact kb1 h85 h88 h91 r n
  | 2 => exact kb2 h85 h88 h91 r n
  | 3 => exact kb3 h85 h88 h91 r n
  | 4 => exact kb4 h85 h88 h91 r n
  | 5 => exact kb5 h85 h88 h91 r n
  | 6 => exact kb6 h85 h88 h91 r n
  | 7 => exact kb7 h85 h88 h91 r n

theorem idx0_0 : ∀ t : Fin cfg0.N, (cfg0.win 0).index t = ![t.val, 0] := by decide +kernel
theorem idx0_1 : ∀ t : Fin cfg0.N, (cfg0.win 1).index t = ![t.val / 8, 0, 0] := by decide +kernel
theorem idx0_2 : ∀ t : Fin cfg0.N, (cfg0.win 2).index t = ![t.val / 8, 0, 0] := by decide +kernel
theorem idx0_3 : ∀ t : Fin cfg0.N, (cfg0.win 3).index t = ![0, 0] := by decide +kernel
theorem idx0_4 : ∀ t : Fin cfg0.N, (cfg0.win 4).index t = ![0, 0] := by decide +kernel
theorem idx0_5 : ∀ t : Fin cfg0.N, (cfg0.win 5).index t = ![0, 0] := by decide +kernel
theorem idx0_6 : ∀ t : Fin cfg0.N, (cfg0.win 6).index t = ![0, 0] := by decide +kernel
theorem idx0_7 : ∀ t : Fin cfg0.N, (cfg0.win 7).index t = ![0, 0] := by decide +kernel
theorem idx0_8 : ∀ t : Fin cfg0.N, (cfg0.win 8).index t = ![t.val, 0] := by decide +kernel
theorem idx0_9 : ∀ t : Fin cfg0.N, (cfg0.win 9).index t = ![t.val, 0] := by decide +kernel
theorem idx0_10 : ∀ t : Fin cfg0.N, (cfg0.win 10).index t = ![t.val, 0] := by decide +kernel
theorem idx0_11 : ∀ t : Fin cfg0.N, (cfg0.win 11).index t = ![t.val, 0] := by decide +kernel
theorem idx0_12 : ∀ t : Fin cfg0.N, (cfg0.win 12).index t = ![t.val, 0] := by decide +kernel

variable (V : Dev nD → Valuation τ sig (Elt Ideal)) (c : Dev nD) (t : Fin cfg0.N)

theorem inblk_0 (r : Fin 512) (d : Fin 1024) {R : ℕ} (hR : R = 512 * t.val + r.val) (h1 : R < 16384) : inblk V c 0 t (ix2 r d) = V c main_v0 (ix2 (⟨R, h1⟩ : Fin 16384) d) := by
  subst hR
  blk_point [inblk, idx0_0 t]
theorem inblk_1 (d : Fin 1024) {b : ℕ} (hb : b = t.val / 8) (h1 : b < 4) : inblk V c 1 t (ix3 0 0 d) = V c main_arg1 (ix3 (⟨b, h1⟩ : Fin 4) 0 d) := by
  subst hb
  blk_point [inblk, idx0_1 t]
theorem inblk_2 (d : Fin 1024) {b : ℕ} (hb : b = t.val / 8) (h1 : b < 4) : inblk V c 2 t (ix3 0 0 d) = V c main_arg2 (ix3 (⟨b, h1⟩ : Fin 4) 0 d) := by
  subst hb
  blk_point [inblk, idx0_2 t]
theorem inblk_3 (d : Fin 1024) (n : Fin 1536) : inblk V c 3 t (ix2 d n) = V c main_v2 (ix2 d n) := by blk_point [inblk, idx0_3 t]
theorem inblk_4 (d : Fin 1024) (n : Fin 128) : inblk V c 4 t (ix2 d n) = V c main_v5 (ix2 d n) := by blk_point [inblk, idx0_4 t]
theorem inblk_5 (d : Fin 1024) (n : Fin 1024) : inblk V c 5 t (ix2 d n) = V c main_v7 (ix2 d n) := by blk_point [inblk, idx0_5 t]
theorem inblk_6 (d : Fin 1024) (n : Fin 2048) : inblk V c 6 t (ix2 d n) = V c main_v9 (ix2 d n) := by blk_point [inblk, idx0_6 t]
theorem inblk_7 (n : Fin 128) : inblk V c 7 t (ix2 0 n) = V c main_v11 (ix2 0 n) := by blk_point [inblk, idx0_7 t]

/-- What the arrays the call reads hold. -/
structure Reads (X : ℕ → Fin 1024 → EReal) (sc sh : ℕ → Fin 1024 → ℝ) (Wq Wf Wc Wg : Fin 1024 → ℕ → ℝ) (B : ℕ → ℝ) : Prop where
  x : ∀ (i : Fin 16384) d, V c main_v0 (ix2 i d) = X i.val d
  sh : ∀ (b : Fin 4) d, V c main_arg1 (ix3 b 0 d) = ((sh b.val d : ℝ) : EReal)
  sc : ∀ (b : Fin 4) d, V c main_arg2 (ix3 b 0 d) = ((sc b.val d : ℝ) : EReal)
  q : ∀ d (n : Fin 1536), V c main_v2 (ix2 d n) = ((Wq d n.val : ℝ) : EReal)
  f : ∀ d (n : Fin 128), V c main_v5 (ix2 d n) = ((Wf d n.val : ℝ) : EReal)
  k : ∀ d (n : Fin 1024), V c main_v7 (ix2 d n) = ((Wc d n.val : ℝ) : EReal)
  g : ∀ d (n : Fin 2048), V c main_v9 (ix2 d n) = ((Wg d n.val : ℝ) : EReal)
  b : ∀ n : Fin 128, V c main_v11 (ix2 0 n) = ((B n.val : ℝ) : EReal)

variable {V c} {X : ℕ → Fin 1024 → EReal} {sc sh : ℕ → Fin 1024 → ℝ} {Wq Wf Wc Wg : Fin 1024 → ℕ → ℝ} {B : ℕ → ℝ} (H : Reads V c X sc sh Wq Wf Wc Wg B)
include H

theorem inu_val (r : Fin 512) (d : Fin 1024) : k0_pay2 (F := Ideal) (inblk V c 0 t) (inblk V c 2 t) (inblk V c 1 t) (ix2 r d) = ((UU X sc sh (512 * t.val + r.val) d : ℝ) : EReal) := by
  have hN : t.val < 32 := t.isLt
  have hr := r.isLt
  refine (pay2_val (sc := sc (t.val / 8)) (sh := sh (t.val / 8)) (fun d => (inblk_2 V c t d rfl (by omega)).trans (H.sc _ d)) (fun d => (inblk_1 V c t d rfl (by omega)).trans (H.sh _ d)) r d).trans ?_
  have e : (fun d => (inblk V c 0 t (ix2 r d) : EReal)) = X (512 * t.val + r.val) := funext fun d => (inblk_0 V c t r d rfl (by omega)).trans (H.x _ d)
  unfold UU
  rw [show (512 * t.val + r.val) / 4096 = t.val / 8 by omega]
  exact congrArg (fun x => ((ublk x _ _ d : ℝ) : EReal)) e

theorem inf_val (r : Fin 512) (n : Fin 128) : inf V c t (ix2 r n) = ((∑ k ∈ Finset.range (r.val + 1), LL (UU X sc sh) Wf B (512 * t.val + k) n.val : ℝ) : EReal) := by
  have hb : ∀ n : Fin 128, (inblk V c 7 t : FVec Ideal S1x128 .f32) (ix2 0 n) = ((B n.val : ℝ) : EReal) := fun n => (inblk_7 V c t n).trans (H.b n)
  have hw : ∀ d (n : Fin 128), (inblk V c 4 t : FVec Ideal S1024x128 .bf16) (ix2 d n) = ((Wf d n.val : ℝ) : EReal) := fun d n => (inblk_4 V c t d n).trans (H.f d n)
  exact pay8_val (u := inu V c t) (U := fun r d => UU X sc sh (512 * t.val + r.val) d) (inu_val t H) hw hb (fun k => LL (UU X sc sh) Wf B (512 * t.val + k) n.val) n (fun _ => rfl) r

omit H in
theorem run_add (L : ℕ → ℕ → ℝ) (t r n : ℕ) : (∑ k ∈ Finset.range (r + 1), L (512 * t + k) n) + ∑ k ∈ Finset.range (512 * (t % 8)), L (4096 * (t / 8) + k) n
    = ∑ k ∈ Finset.range (512 * (t % 8) + r + 1), L (4096 * (t / 8) + k) n := by
  rw [show 512 * (t % 8) + r + 1 = 512 * (t % 8) + (r + 1) by omega, Finset.sum_range_add (fun k => L (4096 * (t / 8) + k) n), add_comm]
  congr 1
  refine Finset.sum_congr rfl fun k _ => ?_
  rw [show 512 * t + k = 4096 * (t / 8) + (512 * (t % 8) + k) by omega]

/-- The sum carried out of a batch entry's first point, -/
theorem carry_A (h0 : t.val % 8 = 0) (n : Fin 128) : (outsAt0 V c t.val t.isLt).2.2.2.2.2 (ix2 0 n) = ((∑ i ∈ Finset.range (512 * (t.val % 8) + 512), LL (UU X sc sh) Wf B (4096 * (t.val / 8) + i) n.val : ℝ) : EReal) := by
  have e := run_add (LL (UU X sc sh) Wf B) t.val 511 n.val
  rw [outsAt0_A V c t h0]
  dsimp only
  rw [outA_s, pay10_val (fun r => inf_val t H r n) (pay7_val n)]
  rw [h0] at e ⊢
  exact congrArg _ e

/-- and out of any other. -/
theorem carry_B (h0 : ¬t.val % 8 = 0) (n : Fin 128)
    (ih : ∀ h, (outsAt0 V c (t.val - 1) h).2.2.2.2.2 (ix2 0 n) = ((∑ i ∈ Finset.range (512 * (t.val % 8)), LL (UU X sc sh) Wf B (4096 * (t.val / 8) + i) n.val : ℝ) : EReal)) :
    (outsAt0 V c t.val t.isLt).2.2.2.2.2 (ix2 0 n) = ((∑ i ∈ Finset.range (512 * (t.val % 8) + 512), LL (UU X sc sh) Wf B (4096 * (t.val / 8) + i) n.val : ℝ) : EReal) := by
  have e := run_add (LL (UU X sc sh) Wf B) t.val 511 n.val
  rw [outsAt0_B V c t h0]
  dsimp only
  rw [outB_s, pay10_val (fun r => inf_val t H r n) (ih _)]
  exact congrArg _ e

/-- The sum carried out of a point. -/
theorem carry_val : ∀ (k : ℕ) (hk : k < cfg0.N) (n : Fin 128), (outsAt0 V c k hk).2.2.2.2.2 (ix2 0 n) = ((∑ i ∈ Finset.range (512 * (k % 8) + 512), LL (UU X sc sh) Wf B (4096 * (k / 8) + i) n.val : ℝ) : EReal) := by
  intro k
  induction k with
  | zero => exact fun hk n => carry_A ⟨0, hk⟩ H rfl n
  | succ k ih =>
    intro hk n
    by_cases h0 : (k + 1) % 8 = 0
    · exact carry_A ⟨k + 1, hk⟩ H h0 n
    · refine carry_B ⟨k + 1, hk⟩ H h0 n fun h => ?_
      have e := ih h n
      rw [show 512 * (k % 8) + 512 = 512 * ((k + 1) % 8) by omega, show k / 8 = (k + 1) / 8 by omega] at e
      exact e

theorem bias9 (r : Fin 512) (hh : Fin 8) (n : Fin 128) (h : 128 * hh.val + n.val < 1024) : (outsAt0 V c t.val t.isLt).2.1 (ix2 r (⟨128 * hh.val + n.val, h⟩ : Fin 1024))
    = ((qbv (FF (UU X sc sh) Wf B (t.val / 8) (512 * (t.val % 8) + r.val) hh.val * (Real.log 2)⁻¹) n.val : ℝ) : EReal) := by
  have e := run_add (LL (UU X sc sh) Wf B) t.val r.val hh.val
  unfold FF
  rw [← e]
  by_cases h0 : t.val % 8 = 0
  · rw [outsAt0_A V c t h0]
    dsimp only
    rw [outA_9, qslab_val (inf_val t H) pay7_val, h0]
    rfl
  · rw [outsAt0_B V c t h0]
    dsimp only
    rw [outB_9, qslab_val (inf_val t H) (carry_val H _ _)]
    rw [show 512 * ((t.val - 1) % 8) + 512 = 512 * (t.val % 8) by omega, show (t.val - 1) / 8 = t.val / 8 by omega]

theorem bias10 (r : Fin 512) (hh : Fin 8) (n : Fin 128) (h : 128 * hh.val + n.val < 1024) : (outsAt0 V c t.val t.isLt).2.2.1 (ix2 r (⟨128 * hh.val + n.val, h⟩ : Fin 1024))
    = ((kbv (FF (UU X sc sh) Wf B (t.val / 8) (512 * (t.val % 8) + r.val) hh.val * (Real.log 2)⁻¹) n.val : ℝ) : EReal) := by
  have e := run_add (LL (UU X sc sh) Wf B) t.val r.val hh.val
  unfold FF
  rw [← e]
  by_cases h0 : t.val % 8 = 0
  · rw [outsAt0_A V c t h0]
    dsimp only
    rw [outA_10, kslab_val (inf_val t H) pay7_val, h0]
    rfl
  · rw [outsAt0_B V c t h0]
    dsimp only
    rw [outB_10, kslab_val (inf_val t H) (carry_val H _ _)]
    rw [show 512 * ((t.val - 1) % 8) + 512 = 512 * (t.val % 8) by omega, show (t.val - 1) / 8 = t.val / 8 by omega]

theorem gated (r : Fin 512) (n : Fin 512) : (outsAt0 V c t.val t.isLt).2.2.2.1 (ix2 r n)
    = ((ZZ (UU X sc sh) Wc (512 * t.val + r.val) n.val * sg (ZZ (UU X sc sh) Wc (512 * t.val + r.val) (512 + n.val)) : ℝ) : EReal) := by
  have e := pay77_val (u := inu V c t) (U := fun r d => UU X sc sh (512 * t.val + r.val) d) (inu_val t H) (W := Wc) (fun d n => (inblk_5 V c t d n).trans (H.k d n)) r n
  by_cases h0 : t.val % 8 = 0
  · rw [outsAt0_A V c t h0]
    dsimp only
    exact (outA_11 V c t h0 r n).trans e
  · rw [outsAt0_B V c t h0]
    dsimp only
    exact (outB_11 V c t h0 _ r n).trans e

theorem gates (r : Fin 512) (n : Fin 2048) : (outsAt0 V c t.val t.isLt).2.2.2.2.1 (ix2 r n) = ((sg (ZZ (UU X sc sh) Wg (512 * t.val + r.val) n.val) : ℝ) : EReal) := by
  have e := pay1_val (u := inu V c t) (U := fun r d => UU X sc sh (512 * t.val + r.val) d) (inu_val t H) (W := Wg) (fun d n => (inblk_6 V c t d n).trans (H.g d n)) r n
  by_cases h0 : t.val % 8 = 0
  · rw [outsAt0_A V c t h0]
    dsimp only
    exact (outA_12 V c t h0 r n).trans e
  · rw [outsAt0_B V c t h0]
    dsimp only
    exact (outB_12 V c t h0 _ r n).trans e

/-- The query, key and value columns: the query's carry the attention's scale and the base's change. -/
def qkv (U : ℕ → Fin 1024 → ℝ) (W : Fin 1024 → ℕ → ℝ) (i n : ℕ) : ℝ := if n < 512 then ZZ U W i n * ((Real.log 2)⁻¹ * (1 / 8)) else ZZ U W i n

theorem qkvs (r : Fin 512) (j : Fin 1536) : (outsAt0 V c t.val t.isLt).1 (ix2 r j) = ((qkv (UU X sc sh) Wq (512 * t.val + r.val) j.val : ℝ) : EReal) := by
  have hw : ∀ d (n : Fin 1536), inblk V c 3 t (ix2 d n) = ((Wq d n.val : ℝ) : EReal) := fun d n => (inblk_3 V c t d n).trans (H.q d n)
  unfold qkv
  by_cases hj : j.val < 512
  · have e := pay4_val (U := fun r d => UU X sc sh (512 * t.val + r.val) d) (inu_val t H) hw r ⟨j.val, hj⟩
    rw [if_pos hj]
    by_cases h0 : t.val % 8 = 0
    · rw [outsAt0_A V c t h0]
      dsimp only
      exact (outA_8q V c t h0 r j ⟨j.val, hj⟩ rfl).trans e
    · rw [outsAt0_B V c t h0]
      dsimp only
      exact (outB_8q V c t h0 _ r j ⟨j.val, hj⟩ rfl).trans e
  · have hlt := j.isLt
    have hj' : j.val = 512 + (⟨j.val - 512, by omega⟩ : Fin 1024).val := by show _ = 512 + (j.val - 512); omega
    have e := pay6_val (U := fun r d => UU X sc sh (512 * t.val + r.val) d) (inu_val t H) hw r ⟨j.val - 512, by omega⟩
    rw [← hj'] at e
    rw [if_neg hj]
    by_cases h0 : t.val % 8 = 0
    · rw [outsAt0_A V c t h0]
      dsimp only
      exact (outA_8kv V c t h0 r j _ hj').trans e
    · rw [outsAt0_B V c t h0]
      dsimp only
      exact (outB_8kv V c t h0 _ r j _ hj').trans e

/-- The query, key and value array, -/
theorem arr8 (i : Fin 16384) (j : Fin 1536) : (show FVec Ideal S16384x1536 .bf16 from (dat0 V c).arrAt (8 : Fin 13) cfg0.N) (ix2 i j) = ((qkv (UU X sc sh) Wq i.val j.val : ℝ) : EReal) := by
  have main : (show FVec Ideal S16384x1536 .bf16 from (dat0 V c).arrAt (8 : Fin 13) cfg0.N) = fun i : S16384x1536.Idx => ((qkv (UU X sc sh) Wq (i 0).val (i 1).val : ℝ) : EReal) := by
    refine (dat0 V c).arrAt_eq_of_covers (8 : Fin 13) _ (by decide +kernel) fun t hf y => ?_
    blk_simp
    rw [after0_8]
    obtain ⟨R, n, rfl⟩ : ∃ (R : Fin 512) (n : Fin 1536), y = ix2 R n := ⟨y 0, y 1, eq_ix2 _⟩
    have e0 : win0_8.index t 0 = t.val := congrFun (idx0_8 t) 0
    have e1 : win0_8.index t 1 = 0 := congrFun (idx0_8 t) 1
    have hR : (ix2 R n 0).val = R.val := rfl
    have hn : (ix2 R n 1).val = n.val := rfl
    exact (qkvs t H R n).trans (congrArg _ (congrArg₂ (qkv (UU X sc sh) Wq) (by omega) (by omega)))
  rw [main]
  rfl

/-- the gated products' array, -/
theorem arr11 (i : Fin 16384) (j : Fin 512) : (show FVec Ideal S16384x512 .f32 from (dat0 V c).arrAt (11 : Fin 13) cfg0.N) (ix2 i j) = ((ZZ (UU X sc sh) Wc i.val j.val * sg (ZZ (UU X sc sh) Wc i.val (512 + j.val)) : ℝ) : EReal) := by
  have main : (show FVec Ideal S16384x512 .f32 from (dat0 V c).arrAt (11 : Fin 13) cfg0.N) = fun i : S16384x512.Idx => ((ZZ (UU X sc sh) Wc (i 0).val (i 1).val * sg (ZZ (UU X sc sh) Wc (i 0).val (512 + (i 1).val)) : ℝ) : EReal) := by
    refine (dat0 V c).arrAt_eq_of_covers (11 : Fin 13) _ (by decide +kernel) fun t hf y => ?_
    blk_simp
    rw [after0_11]
    obtain ⟨R, n, rfl⟩ : ∃ (R : Fin 512) (n : Fin 512), y = ix2 R n := ⟨y 0, y 1, eq_ix2 _⟩
    have e0 : win0_11.index t 0 = t.val := congrFun (idx0_11 t) 0
    have e1 : win0_11.index t 1 = 0 := congrFun (idx0_11 t) 1
    have hR : (ix2 R n 0).val = R.val := rfl
    have hn : (ix2 R n 1).val = n.val := rfl
    exact (gated t H R n).trans (congrArg _ (congrArg₂ (fun a b => ZZ (UU X sc sh) Wc a b * sg (ZZ (UU X sc sh) Wc a (512 + b))) (by omega) (by omega)))
  rw [main]
  rfl

/-- the gates' array, -/
theorem arr12 (i : Fin 16384) (j : Fin 2048) : (show FVec Ideal S16384x2048 .f32 from (dat0 V c).arrAt (12 : Fin 13) cfg0.N) (ix2 i j) = ((sg (ZZ (UU X sc sh) Wg i.val j.val) : ℝ) : EReal) := by
  have main : (show FVec Ideal S16384x2048 .f32 from (dat0 V c).arrAt (12 : Fin 13) cfg0.N) = fun i : S16384x2048.Idx => ((sg (ZZ (UU X sc sh) Wg (i 0).val (i 1).val) : ℝ) : EReal) := by
    refine (dat0 V c).arrAt_eq_of_covers (12 : Fin 13) _ (by decide +kernel) fun t hf y => ?_
    blk_simp
    rw [after0_12]
    obtain ⟨R, n, rfl⟩ : ∃ (R : Fin 512) (n : Fin 2048), y = ix2 R n := ⟨y 0, y 1, eq_ix2 _⟩
    have e0 : win0_12.index t 0 = t.val := congrFun (idx0_12 t) 0
    have e1 : win0_12.index t 1 = 0 := congrFun (idx0_12 t) 1
    have hR : (ix2 R n 0).val = R.val := rfl
    have hn : (ix2 R n 1).val = n.val := rfl
    exact (gates t H R n).trans (congrArg _ (congrArg₂ (fun a b => sg (ZZ (UU X sc sh) Wg a b)) (by omega) (by omega)))
  rw [main]
  rfl

omit H in
/-- The bias lanes of a row: head `j / 128`, lane `j % 128`. -/
def laneOf (g : ℝ → ℕ → ℝ) (F : ℕ → ℕ → ℕ → ℝ) (i j : ℕ) : ℝ := g (F (i / 4096) (i % 4096) (j / 128) * (Real.log 2)⁻¹) (j % 128)

/-- the query's bias lanes -/
theorem arr9 (i : Fin 16384) (j : Fin 1024) : (show FVec Ideal S16384x1024 .bf16 from (dat0 V c).arrAt (9 : Fin 13) cfg0.N) (ix2 i j) = ((laneOf qbv (FF (UU X sc sh) Wf B) i.val j.val : ℝ) : EReal) := by
  have main : (show FVec Ideal S16384x1024 .bf16 from (dat0 V c).arrAt (9 : Fin 13) cfg0.N) = fun i : S16384x1024.Idx => ((laneOf qbv (FF (UU X sc sh) Wf B) (i 0).val (i 1).val : ℝ) : EReal) := by
    refine (dat0 V c).arrAt_eq_of_covers (9 : Fin 13) _ (by decide +kernel) fun t hf y => ?_
    blk_simp
    rw [after0_9]
    obtain ⟨R, n, rfl⟩ : ∃ (R : Fin 512) (n : Fin 1024), y = ix2 R n := ⟨y 0, y 1, eq_ix2 _⟩
    have e0 : win0_9.index t 0 = t.val := congrFun (idx0_9 t) 0
    have e1 : win0_9.index t 1 = 0 := congrFun (idx0_9 t) 1
    have hR : (ix2 R n 0).val = R.val := rfl
    have hn : (ix2 R n 1).val = n.val := rfl
    have hlt := n.isLt
    have hN : t.val < 32 := t.isLt
    have hRl := R.isLt
    have hj : n = (⟨128 * (⟨n.val / 128, by omega⟩ : Fin 8).val + (⟨n.val % 128, by omega⟩ : Fin 128).val, by show 128 * (n.val / 128) + n.val % 128 < 1024; omega⟩ : Fin 1024) := Fin.ext (by show n.val = 128 * (n.val / 128) + n.val % 128; omega)
    have e := bias9 t H R ⟨n.val / 128, by omega⟩ ⟨n.val % 128, by omega⟩ (by show 128 * (n.val / 128) + n.val % 128 < 1024; omega)
    rw [← hj] at e
    refine e.trans (congrArg _ (congrArg₂ qbv (congrArg (· * (Real.log 2)⁻¹) (FF_congr _ _ _ ?_ ?_ ?_)) ?_))
    · omega
    · omega
    · show n.val / 128 = _; omega
    · show n.val % 128 = _; omega
  rw [main]
  rfl

/-- and the key's. -/
theorem arr10 (i : Fin 16384) (j : Fin 1024) : (show FVec Ideal S16384x1024 .bf16 from (dat0 V c).arrAt (10 : Fin 13) cfg0.N) (ix2 i j) = ((laneOf kbv (FF (UU X sc sh) Wf B) i.val j.val : ℝ) : EReal) := by
  have main : (show FVec Ideal S16384x1024 .bf16 from (dat0 V c).arrAt (10 : Fin 13) cfg0.N) = fun i : S16384x1024.Idx => ((laneOf kbv (FF (UU X sc sh) Wf B) (i 0).val (i 1).val : ℝ) : EReal) := by
    refine (dat0 V c).arrAt_eq_of_covers (10 : Fin 13) _ (by decide +kernel) fun t hf y => ?_
    blk_simp
    rw [after0_10]
    obtain ⟨R, n, rfl⟩ : ∃ (R : Fin 512) (n : Fin 1024), y = ix2 R n := ⟨y 0, y 1, eq_ix2 _⟩
    have e0 : win0_10.index t 0 = t.val := congrFun (idx0_10 t) 0
    have e1 : win0_10.index t 1 = 0 := congrFun (idx0_10 t) 1
    have hR : (ix2 R n 0).val = R.val := rfl
    have hn : (ix2 R n 1).val = n.val := rfl
    have hlt := n.isLt
    have hN : t.val < 32 := t.isLt
    have hRl := R.isLt
    have hj : n = (⟨128 * (⟨n.val / 128, by omega⟩ : Fin 8).val + (⟨n.val % 128, by omega⟩ : Fin 128).val, by show 128 * (n.val / 128) + n.val % 128 < 1024; omega⟩ : Fin 1024) := Fin.ext (by show n.val = 128 * (n.val / 128) + n.val % 128; omega)
    have e := bias10 t H R ⟨n.val / 128, by omega⟩ ⟨n.val % 128, by omega⟩ (by show 128 * (n.val / 128) + n.val % 128 < 1024; omega)
    rw [← hj] at e
    refine e.trans (congrArg _ (congrArg₂ kbv (congrArg (· * (Real.log 2)⁻¹) (FF_congr _ _ _ ?_ ?_ ?_)) ?_))
    · omega
    · omega
    · show n.val / 128 = _; omega
    · show n.val % 128 = _; omega
  rw [main]
  rfl

end Cert.KernelIdeal.Gen
-- ==== Proof.HostPrep.lean ====
module

public import proofs.«01_k».proof.Proof.InArr
public import proofs.«01_k».proof.Proof.Run
public import Idealize.ShloMosaic.Lib.Pointwise
public import Idealize.ShloMosaic.Lib.StableHlo.RunRead

@[expose] public section

set_option maxRecDepth 16384

noncomputable section

namespace Cert.KernelIdeal.Gen

open Idealize.ShloMosaic Idealize.ShloMosaic.TcCoe Idealize.ShloMosaic.Tactic Idealize.SL.Sem
open Facts₀ Cert.Softmax Cert.LayerNorm

/-! # What the host hands the projection call -/

variable (m : (ℓ : Loc nD τ sig) → Buf (Elt Ideal) ℓ) (c : Dev nD)

/-- The rows, counted over the whole batch. -/
def rowsOf (x : FVec Ideal S4x4096x1024 .f32) (i : ℕ) (d : Fin 1024) : EReal := if h : i < 16384 then x (ix3 (⟨i / 4096, by omega⟩ : Fin 4) (⟨i % 4096, by omega⟩ : Fin 4096) d) else 0

set_option maxHeartbeats 2000000 in
theorem after_v0 (W : Valuation τ sig (Elt Ideal)) : StableHlo.after hostOps0 W main_v0 = shapeCast S16384x1024 (W main_arg0 : FVec Ideal S4x4096x1024 .f32) shapeCasts_S4x4096x1024_S16384x1024 := by
  after_reads_simp
  rfl

theorem rows_cast (x : FVec Ideal S4x4096x1024 .f32) (i : Fin 16384) (d : Fin 1024) :
    shapeCast S16384x1024 x shapeCasts_S4x4096x1024_S16384x1024 (ix2 i d) = rowsOf x i.val d := by
  unfold rowsOf
  rw [dif_pos i.isLt]
  pointwise

theorem row_cast (x : FVec Ideal S128 .f32) (n : Fin 128) :
    shapeCast S1x128 x shapeCasts_S128_S1x128 (ix2 0 n) = x (Idealize.ShloMosaic.ix1 n) := by
  pointwise

theorem sitofp_zero : FloatOps.sitofp (F := Ideal) FTy.f32 0#32 = (0 : EReal) := by
  show (((0#32 : BitVec 32).toInt : ℝ) : EReal) = 0
  simp

theorem pad_cols (x : FVec Ideal S1024x8 .f32) (d : Fin 1024) (n : Fin 128) :
    pad S1024x128 ![0, 0] ![0, 120] ![0, 0] x (sitofp (F := Ideal) .f32 (constantI S_ 32 0#32) : FVec Ideal S_ .f32) pads_S1024x8_S1024x128_000_01200 h_S_ (ix2 d n)
      = if h : n.val < 8 then x (ix2 d ⟨n.val, h⟩) else (0 : EReal) := by
  pointwise
  rw [sitofp_zero]

theorem pad_row (x : FVec Ideal S8 .f32) (n : Fin 128) :
    pad S128 ![0] ![120] ![0] x (sitofp (F := Ideal) .f32 (constantI S_ 32 0#32) : FVec Ideal S_ .f32) pads_S8_S128_01200 h_S_ (Idealize.ShloMosaic.ix1 n)
      = if h : n.val < 8 then x (Idealize.ShloMosaic.ix1 (⟨n.val, h⟩ : Fin 8)) else (0 : EReal) := by
  pointwise
  rw [sitofp_zero]

theorem v0_val (i : Fin 16384) (d : Fin 1024) : V5 m c main_v0 (ix2 i d) = rowsOf (m ((c : Thread nD τ).loc main_arg0)) i.val d := by
  have e : V5 m c main_v0 = V1 m c main_v0 := (V5_of m c main_v0 (by decide)).trans <| (V4_of m c main_v0 (by decide)).trans <| (V3_of m c main_v0 (by decide)).trans <| (V2_of m c main_v0 (by decide))
  have e1 : V1 m c main_v0 = shapeCast S16384x1024 (m ((c : Thread nD τ).loc main_arg0)) shapeCasts_S4x4096x1024_S16384x1024 := after_v0 (V0 m c)
  rw [e, e1]
  exact rows_cast _ i d

theorem v2_val (d : Fin 1024) (n : Fin 1536) : V5 m c main_v2 (ix2 d n) = (m ((c : Thread nD τ).loc main_arg3) : FVec Ideal S1024x4616 .f32) (ix2 d (⟨n.val, by omega⟩ : Fin 4616)) := by
  have e : V5 m c main_v2 = V1 m c main_v2 := (V5_of m c main_v2 (by decide)).trans <| (V4_of m c main_v2 (by decide)).trans <| (V3_of m c main_v2 (by decide)).trans <| (V2_of m c main_v2 (by decide))
  have e1 : V1 m c main_v2 = (truncf (F := Ideal) .bf16 (extractStridedSlice S1024x1536 ![0, 0] (m ((c : Thread nD τ).loc main_arg3) : FVec Ideal S1024x4616 .f32) slices_S1024x4616_S1024x1536_0_0) bitsLt_bf16_f32) := by
    after_reads_simp
  rw [e, e1]
  pointwise

theorem v5_val (d : Fin 1024) (n : Fin 128) : V5 m c main_v5 (ix2 d n) = if h : n.val < 8 then (show EReal from (m ((c : Thread nD τ).loc main_arg3) : FVec Ideal S1024x4616 .f32) (ix2 d (⟨1536 + n.val, by omega⟩ : Fin 4616))) else (0 : EReal) := by
  have e : V5 m c main_v5 = V3 m c main_v5 := (V5_of m c main_v5 (by decide)).trans <| (V4_of m c main_v5 (by decide))
  have e1 : V3 m c main_v5 = (truncf (F := Ideal) .bf16 (V2 m c main_v4 : FVec Ideal S1024x128 .f32) bitsLt_bf16_f32) := by
    after_reads_simp
  have e2 : V2 m c main_v4 = pad S1024x128 ![0, 0] ![0, 120] ![0, 0] (V1 m c main_v3 : FVec Ideal S1024x8 .f32) (sitofp (F := Ideal) .f32 (V1 m c main_c_2 : IVec S_ 32) : FVec Ideal S_ .f32) pads_S1024x8_S1024x128_000_01200 h_S_ := by
    after_reads_simp
    rfl
  have e3 : V1 m c main_v3 = extractStridedSlice S1024x8 ![0, 1536] (m ((c : Thread nD τ).loc main_arg3) : FVec Ideal S1024x4616 .f32) slices_S1024x4616_S1024x8_0_1536 := by
    after_reads_simp
  have e4 : V1 m c main_c_2 = constantI S_ 32 0#32 := by after_reads_simp
  rw [e, e1, e2, e3, e4]
  refine (pad_cols _ d n).trans ?_
  by_cases h : n.val < 8
  · rw [dif_pos h, dif_pos h]; pointwise
  · rw [dif_neg h, dif_neg h]

theorem v7_val (d : Fin 1024) (n : Fin 1024) : V5 m c main_v7 (ix2 d n) = (m ((c : Thread nD τ).loc main_arg3) : FVec Ideal S1024x4616 .f32) (ix2 d (⟨1544 + n.val, by omega⟩ : Fin 4616)) := by
  have e : V5 m c main_v7 = V3 m c main_v7 := (V5_of m c main_v7 (by decide)).trans <| (V4_of m c main_v7 (by decide))
  have e2 : V2 m c main_arg3 = m ((c : Thread nD τ).loc main_arg3) := (V2_of m c main_arg3 (by decide)).trans <| (V1_of m c main_arg3 (by decide)).trans rfl
  have e1 : V3 m c main_v7 = (truncf (F := Ideal) .bf16 (extractStridedSlice S1024x1024 ![0, 1544] (V2 m c main_arg3 : FVec Ideal S1024x4616 .f32) slices_S1024x4616_S1024x1024_0_1544) bitsLt_bf16_f32) := by
    after_reads_simp
  rw [e, e1, e2]
  pointwise

theorem v9_val (d : Fin 1024) (n : Fin 2048) : V5 m c main_v9 (ix2 d n) = (m ((c : Thread nD τ).loc main_arg3) : FVec Ideal S1024x4616 .f32) (ix2 d (⟨2568 + n.val, by omega⟩ : Fin 4616)) := by
  have e : V5 m c main_v9 = V3 m c main_v9 := (V5_of m c main_v9 (by decide)).trans <| (V4_of m c main_v9 (by decide))
  have e2 : V2 m c main_arg3 = m ((c : Thread nD τ).loc main_arg3) := (V2_of m c main_arg3 (by decide)).trans <| (V1_of m c main_arg3 (by decide)).trans rfl
  have e1 : V3 m c main_v9 = (truncf (F := Ideal) .bf16 (extractStridedSlice S1024x2048 ![0, 2568] (V2 m c main_arg3 : FVec Ideal S1024x4616 .f32) slices_S1024x4616_S1024x2048_0_2568) bitsLt_bf16_f32) := by
    after_reads_simp
  rw [e, e1, e2]
  pointwise

theorem v11_val (n : Fin 128) : V5 m c main_v11 (ix2 0 n) = if h : n.val < 8 then (show EReal from (m ((c : Thread nD τ).loc main_arg4) : FVec Ideal S8 .f32) (Idealize.ShloMosaic.ix1 (⟨n.val, by omega⟩ : Fin 8))) else (0 : EReal) := by
  have e1 : V5 m c main_v11 = shapeCast S1x128 (V4 m c main_v10) shapeCasts_S128_S1x128 := by
    after_reads_simp
    rfl
  have e2 : V4 m c main_v10 = pad S128 ![0] ![120] ![0] (V3 m c main_arg4 : FVec Ideal S8 .f32) (sitofp (F := Ideal) .f32 (V3 m c main_c_3 : IVec S_ 32) : FVec Ideal S_ .f32) pads_S8_S128_01200 h_S_ := by
    after_reads_simp
    rfl
  have e3 : V3 m c main_arg4 = m ((c : Thread nD τ).loc main_arg4) := (V3_of m c main_arg4 (by decide)).trans <| (V2_of m c main_arg4 (by decide)).trans <| (V1_of m c main_arg4 (by decide)).trans rfl
  have e4 : V3 m c main_c_3 = constantI S_ 32 0#32 := by after_reads_simp
  rw [e1, e2, e3, e4]
  exact (row_cast _ n).trans (pad_row _ n)

/-- The forget gate's weights stand at the columns after the first 1536, padded with zeros; -/
def Wf (w : Fin 1024 → ℕ → ℝ) (d : Fin 1024) (n : ℕ) : ℝ := if n < 8 then w d (1536 + n) else 0
/-- the other two blocks of weights follow; -/
def Wc (w : Fin 1024 → ℕ → ℝ) (d : Fin 1024) (n : ℕ) : ℝ := w d (1544 + n)
def Wg (w : Fin 1024 → ℕ → ℝ) (d : Fin 1024) (n : ℕ) : ℝ := w d (2568 + n)
/-- and the bias is padded likewise. -/
def Bp (bf : ℕ → ℝ) (n : ℕ) : ℝ := if n < 8 then bf n else 0

variable {m c}

theorem reads (sh sc : ℕ → Fin 1024 → ℝ) (w : Fin 1024 → ℕ → ℝ) (bf : ℕ → ℝ)
    (h1 : ∀ (b : Fin 4) (d : Fin 1024), (m ((c : Thread nD τ).loc main_arg1) : FVec Ideal S4x1x1024 .f32) (ix3 b 0 d) = ((sh b.val d : ℝ) : EReal))
    (h2 : ∀ (b : Fin 4) (d : Fin 1024), (m ((c : Thread nD τ).loc main_arg2) : FVec Ideal S4x1x1024 .f32) (ix3 b 0 d) = ((sc b.val d : ℝ) : EReal))
    (h3 : ∀ (d : Fin 1024) (n : Fin 4616), (m ((c : Thread nD τ).loc main_arg3) : FVec Ideal S1024x4616 .f32) (ix2 d n) = ((w d n.val : ℝ) : EReal))
    (h4 : ∀ n : Fin 8, (m ((c : Thread nD τ).loc main_arg4) : FVec Ideal S8 .f32) (Idealize.ShloMosaic.ix1 n) = ((bf n.val : ℝ) : EReal)) :
    Reads (V5 m) c (rowsOf (m ((c : Thread nD τ).loc main_arg0))) sc sh w (Wf w) (Wc w) (Wg w) (Bp bf) where
  x := v0_val m c
  sh b d := (congrFun ((V5_of m c main_arg1 (by decide)).trans <| (V4_of m c main_arg1 (by decide)).trans <| (V3_of m c main_arg1 (by decide)).trans <| (V2_of m c main_arg1 (by decide)).trans <| (V1_of m c main_arg1 (by decide)).trans rfl) _).trans (h1 b d)
  sc b d := (congrFun ((V5_of m c main_arg2 (by decide)).trans <| (V4_of m c main_arg2 (by decide)).trans <| (V3_of m c main_arg2 (by decide)).trans <| (V2_of m c main_arg2 (by decide)).trans <| (V1_of m c main_arg2 (by decide)).trans rfl) _).trans (h2 b d)
  q d n := (v2_val m c d n).trans (h3 _ _)
  f d n := by
    refine (v5_val m c d n).trans ?_
    unfold Wf
    by_cases h : n.val < 8
    · rw [dif_pos h, if_pos h]; exact h3 _ _
    · rw [dif_neg h, if_neg h]; rfl
  k d n := (v7_val m c d n).trans (h3 _ _)
  g d n := (v9_val m c d n).trans (h3 _ _)
  b n := by
    refine (v11_val m c n).trans ?_
    unfold Bp
    by_cases h : n.val < 8
    · rw [dif_pos h, if_pos h]; exact h4 _
    · rw [dif_neg h, if_neg h]; rfl

end Cert.KernelIdeal.Gen
-- ==== Proof.AttnBlock.lean ====
module

public import proofs.«01_k».proof.Proof.Gen.KernelIdeal
public import Idealize.ShloMosaic.Lib.Pointwise
public import proofs.«01_k».proof.Proof.Softmax

@[expose] public section

set_option maxRecDepth 16384

noncomputable section

namespace Cert.KernelIdeal.Gen

open Idealize.ShloMosaic Idealize.ShloMosaic.TcCoe Idealize.SL.Sem
open Facts₀ Cert.Softmax

/-! # One block of 512 query rows against a run of keys: the attention kernel's words, read at an index -/

theorem negInf : Ideal.ofBits .f32 4286578688#32 = ⊥ := by simp [Ideal.ofBits, Ideal.ieee]

/-- The causal mask of a block: a key is kept when it does not come after the row. -/
theorem mask (r0 r k : ℕ) (h0 : r0 < 4096) (hr : r < 4096) (hk : k < 4096) (x y : EReal) :
    Scalar.select (α := EReal) (IntOp.cmpi CmpIPredicate.sle (BitVec.ofNat 32 k) (IntOp.addi (BitVec.ofNat 32 r0) (BitVec.ofNat 32 r))) x y
      = if k < r0 + r + 1 then x else y := by
  have e : IntOp.addi (BitVec.ofNat 32 r0) (BitVec.ofNat 32 r) = BitVec.ofNat 32 (r0 + r) := by
    simp [IntOp.addi, BitVec.ofNat_add]
  rw [e]
  have hi : ∀ a : ℕ, a < 8192 → (BitVec.ofNat 32 a).toInt = a := by
    intro a ha
    rw [BitVec.toInt_eq_toNat_bmod, BitVec.toNat_ofNat, Nat.mod_eq_of_lt (by omega)]
    simp only [Int.bmod]
    omega
  by_cases h : k < r0 + r + 1
  · rw [if_pos h]
    have : IntOp.cmpi CmpIPredicate.sle (BitVec.ofNat 32 k) (BitVec.ofNat 32 (r0 + r)) = 1#1 := by
      simp only [IntOp.cmpi, BitVec.sle, hi k (by omega), hi (r0 + r) (by omega)]
      rw [decide_eq_true (by push_cast; omega)]; rfl
    rw [this]; rfl
  · rw [if_neg h]
    have : IntOp.cmpi CmpIPredicate.sle (BitVec.ofNat 32 k) (BitVec.ofNat 32 (r0 + r)) = 0#1 := by
      simp only [IntOp.cmpi, BitVec.sle, hi k (by omega), hi (r0 + r) (by omega)]
      rw [decide_eq_false (by push_cast; omega)]; rfl
    rw [this]; rfl

/-- The head a lane of the value tile belongs to. -/
def hl (n : Fin 128) : Fin 2 := if n.val < 64 then 0 else 1

/-- Taking the second head's array on the second head's lanes. -/
theorem lane (a b : FVec Ideal S512x128 .f32) (r : Fin 512) (n : Fin 128) :
    (have v0 : IVec S512x128 32 := iota .tc S512x128 32 [1] iota_S512x128_d1_w32
     have v1 : IVec S512x128 32 := broadcast S512x128 64#32
     have v2 : IVec S512x128 32 := divsi v0 v1
     have v3 : IVec S512x128 32 := broadcast S512x128 0#32
     have v4 : IVec S512x128 32 := subi (extui 32 (cmpi .sgt v0 v3) natLt_1_32) (extui 32 (cmpi .slt v0 v3) natLt_1_32)
     have v5 : IVec S512x128 32 := broadcast S512x128 1#32
     have v6 : IVec S512x128 1 := andi (cmpi .ne v4 v5) (cmpi .ne (remsi v0 v1) v3)
     select (cmpi .eq (select v6 (subi v2 v5) v2) v5) a b) (ix2 r n) = if n.val < 64 then b (ix2 r n) else a (ix2 r n) := by
  pointwise
  have : ∀ n : Fin 128, (IntOp.cmpi CmpIPredicate.eq
        (Scalar.select
          (IntOp.andi
            (IntOp.cmpi CmpIPredicate.ne
              (IntOp.subi (BitVec.setWidth 32 (IntOp.cmpi CmpIPredicate.sgt (BitVec.ofNat 32 ↑n) 0#32))
                (BitVec.setWidth 32 (IntOp.cmpi CmpIPredicate.slt (BitVec.ofNat 32 ↑n) 0#32)))
              1#32)
            (IntOp.cmpi CmpIPredicate.ne (IntOp.remsi ArithUnit.vector (BitVec.ofNat 32 ↑n) 64#32) 0#32))
          (IntOp.subi (IntOp.divsi ArithUnit.vector (BitVec.ofNat 32 ↑n) 64#32) 1#32)
          (IntOp.divsi ArithUnit.vector (BitVec.ofNat 32 ↑n) 64#32))
        1#32) = if n.val < 64 then 0#1 else 1#1 := by decide +kernel
  rw [this]
  split <;> rfl

/-- What a block of rows has taken in: for each row and lane, the lane's head's statistics stand for the sums `L`, `A`;
    the maxima are the same in all lanes. -/
def BlkSt (m0 m1 l0 l1 acc : FVec Ideal S512x128 .f32) (L A : Fin 512 → Fin 128 → ℝ) : Prop :=
  ∃ M : Fin 2 → Fin 512 → EReal, (∀ r n, m0 (ix2 r n) = M 0 r) ∧ (∀ r n, m1 (ix2 r n) = M 1 r) ∧
    ∀ r n, Rep (M (hl n) r) (if n.val < 64 then l0 (ix2 r n) else l1 (ix2 r n)) (acc (ix2 r n)) (L r n) (A r n)

/-- The running maximum, the factor, the running sum and the weighted values of one head over a block of keys. -/
def Head {nk : ℕ} (s : Fin 512 → Fin nk → EReal) (v : Fin nk → Fin 128 → EReal) (m l M al l' pv : FVec Ideal S512x128 .f32) : Prop :=
  ∀ mm : Fin 512 → EReal, (∀ r n, m (ix2 r n) = mm r) → ∀ r n,
    (M (ix2 r n) = max (mm r) (Finset.univ.fold max ⊥ (s r))) ∧
    (al (ix2 r n) = Ideal.exp2 (mm r - max (mm r) (Finset.univ.fold max ⊥ (s r)))) ∧
    (l' (ix2 r n) = al (ix2 r n) * l (ix2 r n) + ∑ k, Ideal.exp2 (s r k - max (mm r) (Finset.univ.fold max ⊥ (s r)))) ∧
    pv (ix2 r n) = ∑ k, Ideal.exp2 (s r k - max (mm r) (Finset.univ.fold max ⊥ (s r))) * v k n

/-- A block of keys taken in by both heads. -/
theorem BlkSt.step {nk : ℕ} {m0 m1 l0 l1 acc M0 M1 l0' l1' acc' al0 al1 pv0 pv1 : FVec Ideal S512x128 .f32} {L A : Fin 512 → Fin 128 → ℝ}
    (h : BlkSt m0 m1 l0 l1 acc L A) {s : Fin 2 → Fin 512 → Fin nk → EReal} {v : Fin nk → Fin 128 → EReal}
    (H0 : Head (s 0) v m0 l0 M0 al0 l0' pv0) (H1 : Head (s 1) v m1 l1 M1 al1 l1' pv1)
    (hacc : ∀ r n, acc' (ix2 r n) = (if n.val < 64 then al0 (ix2 r n) else al1 (ix2 r n)) * acc (ix2 r n)
      + (if n.val < 64 then pv0 (ix2 r n) else pv1 (ix2 r n)))
    (σ : Fin 2 → Fin 512 → ℕ → ℝ) (V : ℕ → Fin 128 → ℝ) (cnt : Fin 512 → ℕ) (hc : ∀ r, 0 < cnt r) (hn : ∀ r, cnt r ≤ nk)
    (hs : ∀ h r k, s h r k = if k.val < cnt r then (σ h r k.val : EReal) else ⊥) (hv : ∀ k n, v k n = (V k.val n : EReal)) :
    BlkSt M0 M1 l0' l1' acc' (fun r n => L r n + ∑ k ∈ Finset.range (cnt r), (2 : ℝ) ^ σ (hl n) r k)
      (fun r n => A r n + ∑ k ∈ Finset.range (cnt r), (2 : ℝ) ^ σ (hl n) r k * V k n) := by
  obtain ⟨M, h0, h1, hR⟩ := h
  have G0 := H0 (M 0) h0
  have G1 := H1 (M 1) h1
  refine ⟨fun h r => max (M h r) (Finset.univ.fold max ⊥ (s h r)), fun r n => (G0 r n).1, fun r n => (G1 r n).1, fun r n => ?_⟩
  have hr := hR r n
  obtain ⟨-, a0, b0, c0⟩ := G0 r n
  obtain ⟨-, a1, b1, c1⟩ := G1 r n
  have st := Rep.step (s (hl n) r) (σ (hl n) r) (fun k => V k n) (cnt r) (hc r) (hn r) (hs (hl n) r) hr _ rfl
  rw [hacc r n]
  unfold hl at st ⊢
  by_cases hlt : n.val < 64
  · simp only [hlt, if_true] at st ⊢
    rw [b0, c0, a0]
    simpa only [hv] using st
  · simp only [hlt, if_false] at st ⊢
    rw [b1, c1, a1]
    simpa only [hv] using st

/-- Nothing taken in yet. -/
theorem BlkSt.init {m0 m1 l0 l1 acc : FVec Ideal S512x128 .f32} (hm0 : ∀ r n, m0 (ix2 r n) = ⊥) (hm1 : ∀ r n, m1 (ix2 r n) = ⊥)
    (hl0 : ∀ r n, l0 (ix2 r n) = 0) (hl1 : ∀ r n, l1 (ix2 r n) = 0) (ha : ∀ r n, acc (ix2 r n) = 0) :
    BlkSt m0 m1 l0 l1 acc (fun _ _ => 0) (fun _ _ => 0) := by
  refine ⟨fun _ _ => ⊥, hm0, hm1, fun r n => ?_⟩
  rw [hl0, hl1, ha, ite_self]
  exact Rep.init

/-- The masked scores of a block of rows against 512 keys. -/
theorem score512 (r0 : ℕ) (h0 : r0 < 4096) (q : FVec Ideal S512x256 .bf16) (k1 k2 : FVec Ideal S512x128 .bf16) (r : Fin 512) (k : Fin 512) :
    select (cmpi .sle (iota .tc S512x512 32 [1] iota_S512x512_d1_w32)
        (addi (broadcast S512x512 (BitVec.ofNat 32 r0)) (iota .tc S512x512 32 [0] iota_S512x512_d0_w32)))
      (matmul dot_S512x256_S512x256_S512x512_1_1_0_0_n_n none q
        (concatenate S512x256 1 [⟨S512x128, k1⟩, ⟨S512x128, k2⟩] concatenates_S512x128_S512x128_S512x256_d1)
        (constant S512x512 .f32 0x00000000#32))
      (broadcast S512x512 (Scalar.ofBits .f32 0xFF800000#32)) (ix2 r k)
    = if k.val < r0 + r.val + 1 then (∑ j : Fin 128, q (ix2 r ⟨j.val, by omega⟩) * k1 (ix2 k j))
        + ∑ j : Fin 128, q (ix2 r ⟨128 + j.val, by omega⟩) * k2 (ix2 k j) else ⊥ := by
  pointwise [negInf]
  exact mask r0 r k h0 (by omega) (by omega) _ _

/-- One head of a block of rows over 512 keys. -/
theorem head512 (s : FVec Ideal S512x512 .f32) (v : FVec Ideal S512x128 .bf16) (m l M al l' pv : FVec Ideal S512x128 .f32) (p : FVec Ideal S512x512 .f32)
    (hM : M = maximumf m (broadcastTo S512x128 (shapeCast S512x1 (multiReduction .maximumf [1] S512 s 0xFF800000#32 reduces_S512x512_S512 (.inl rfl) rfl) shapeCasts_S512_S512x1) broadcasts_S512x1_S512x128))
    (hal : al = exp2 (subf m M))
    (hp : p = exp2 (subf s (concatenate S512x512 1 [⟨S512x128, M⟩, ⟨S512x128, M⟩, ⟨S512x128, M⟩, ⟨S512x128, M⟩] concatenates_S512x128_S512x128_S512x128_S512x128_S512x512_d1)))
    (hl' : l' = addf (mulf al l) (broadcastTo S512x128 (shapeCast S512x1 (multiReduction .add [1] S512 p 0x00000000#32 reduces_S512x512_S512 (.inl rfl) rfl) shapeCasts_S512_S512x1) broadcasts_S512x1_S512x128))
    (hpv : pv = matmul dot_S512x512_S512x128_S512x128_1_0_0_1_n_n none (truncf .bf16 p bitsLt_bf16_f32) v (constant S512x128 .f32 0x00000000#32)) :
    Head (fun r k => s (ix2 r k)) (fun k n => v (ix2 k n)) m l M al l' pv := by
  intro mm hm r n
  have eM : ∀ r n, M (ix2 r n) = max (mm r) (Finset.univ.fold max ⊥ fun k => s (ix2 r k)) := by
    intro r n; rw [hM]; pointwise [hm, negInf]
  have ep : ∀ r k, p (ix2 r k) = Ideal.exp2 (s (ix2 r k) - max (mm r) (Finset.univ.fold max ⊥ fun k => s (ix2 r k))) := by
    intro r k; rw [hp]; pointwise [eM]; simp only [dite_eq_ite, ite_self]; rfl
  refine ⟨eM r n, ?_, ?_, ?_⟩
  · rw [hal]; pointwise [eM, hm]; rfl
  · rw [hl']; pointwise [ep]
  · rw [hpv]; pointwise [ep]

/-- The masked scores of a block of rows against 1024 keys. -/
theorem score1024 (r0 : ℕ) (h0 : r0 < 4096) (q : FVec Ideal S512x256 .bf16) (k1 k2 : FVec Ideal S1024x128 .bf16) (r : Fin 512) (k : Fin 1024) :
    select (cmpi .sle (iota .tc S512x1024 32 [1] iota_S512x1024_d1_w32)
        (addi (broadcast S512x1024 (BitVec.ofNat 32 r0)) (iota .tc S512x1024 32 [0] iota_S512x1024_d0_w32)))
      (matmul dot_S512x256_S1024x256_S512x1024_1_1_0_0_n_n none q
        (concatenate S1024x256 1 [⟨S1024x128, k1⟩, ⟨S1024x128, k2⟩] concatenates_S1024x128_S1024x128_S1024x256_d1)
        (constant S512x1024 .f32 0x00000000#32))
      (broadcast S512x1024 (Scalar.ofBits .f32 0xFF800000#32)) (ix2 r k)
    = if k.val < r0 + r.val + 1 then (∑ j : Fin 128, q (ix2 r ⟨j.val, by omega⟩) * k1 (ix2 k j))
        + ∑ j : Fin 128, q (ix2 r ⟨128 + j.val, by omega⟩) * k2 (ix2 k j) else ⊥ := by
  pointwise [negInf]
  exact mask r0 r k h0 (by omega) (by omega) _ _

/-- One head of a block of rows over 1024 keys. -/
theorem head1024 (s : FVec Ideal S512x1024 .f32) (v : FVec Ideal S1024x128 .bf16) (m l M al l' pv : FVec Ideal S512x128 .f32) (p : FVec Ideal S512x1024 .f32)
    (hM : M = maximumf m (broadcastTo S512x128 (shapeCast S512x1 (multiReduction .maximumf [1] S512 s 0xFF800000#32 reduces_S512x1024_S512 (.inl rfl) rfl) shapeCasts_S512_S512x1) broadcasts_S512x1_S512x128))
    (hal : al = exp2 (subf m M))
    (hp : p = exp2 (subf s (concatenate S512x1024 1 [⟨S512x128, M⟩, ⟨S512x128, M⟩, ⟨S512x128, M⟩, ⟨S512x128, M⟩, ⟨S512x128, M⟩, ⟨S512x128, M⟩, ⟨S512x128, M⟩, ⟨S512x128, M⟩] concatenates_S512x128_S512x128_S512x128_S512x128_S512x128_S512x128_S512x128_S512x128_S512x1024_d1)))
    (hl' : l' = addf (mulf al l) (broadcastTo S512x128 (shapeCast S512x1 (multiReduction .add [1] S512 p 0x00000000#32 reduces_S512x1024_S512 (.inl rfl) rfl) shapeCasts_S512_S512x1) broadcasts_S512x1_S512x128))
    (hpv : pv = matmul dot_S512x1024_S1024x128_S512x128_1_0_0_1_n_n none (truncf .bf16 p bitsLt_bf16_f32) v (constant S512x128 .f32 0x00000000#32)) :
    Head (fun r k => s (ix2 r k)) (fun k n => v (ix2 k n)) m l M al l' pv := by
  intro mm hm r n
  have eM : ∀ r n, M (ix2 r n) = max (mm r) (Finset.univ.fold max ⊥ fun k => s (ix2 r k)) := by
    intro r n; rw [hM]; pointwise [hm, negInf]
  have ep : ∀ r k, p (ix2 r k) = Ideal.exp2 (s (ix2 r k) - max (mm r) (Finset.univ.fold max ⊥ fun k => s (ix2 r k))) := by
    intro r k; rw [hp]; pointwise [eM]; simp only [dite_eq_ite, ite_self]; rfl
  refine ⟨eM r n, ?_, ?_, ?_⟩
  · rw [hal]; pointwise [eM, hm]; rfl
  · rw [hl']; pointwise [ep]
  · rw [hpv]; pointwise [ep]

/-- The masked scores of a block of rows against 1536 keys. -/
theorem score1536 (r0 : ℕ) (h0 : r0 < 4096) (q : FVec Ideal S512x256 .bf16) (k1 k2 : FVec Ideal S1536x128 .bf16) (r : Fin 512) (k : Fin 1536) :
    select (cmpi .sle (iota .tc S512x1536 32 [1] iota_S512x1536_d1_w32)
        (addi (broadcast S512x1536 (BitVec.ofNat 32 r0)) (iota .tc S512x1536 32 [0] iota_S512x1536_d0_w32)))
      (matmul dot_S512x256_S1536x256_S512x1536_1_1_0_0_n_n none q
        (concatenate S1536x256 1 [⟨S1536x128, k1⟩, ⟨S1536x128, k2⟩] concatenates_S1536x128_S1536x128_S1536x256_d1)
        (constant S512x1536 .f32 0x00000000#32))
      (broadcast S512x1536 (Scalar.ofBits .f32 0xFF800000#32)) (ix2 r k)
    = if k.val < r0 + r.val + 1 then (∑ j : Fin 128, q (ix2 r ⟨j.val, by omega⟩) * k1 (ix2 k j))
        + ∑ j : Fin 128, q (ix2 r ⟨128 + j.val, by omega⟩) * k2 (ix2 k j) else ⊥ := by
  pointwise [negInf]
  exact mask r0 r k h0 (by omega) (by omega) _ _

/-- One head of a block of rows over 1536 keys. -/
theorem head1536 (s : FVec Ideal S512x1536 .f32) (v : FVec Ideal S1536x128 .bf16) (m l M al l' pv : FVec Ideal S512x128 .f32) (p : FVec Ideal S512x1536 .f32)
    (hM : M = maximumf m (broadcastTo S512x128 (shapeCast S512x1 (multiReduction .maximumf [1] S512 s 0xFF800000#32 reduces_S512x1536_S512 (.inl rfl) rfl) shapeCasts_S512_S512x1) broadcasts_S512x1_S512x128))
    (hal : al = exp2 (subf m M))
    (hp : p = exp2 (subf s (concatenate S512x1536 1 [⟨S512x128, M⟩, ⟨S512x128, M⟩, ⟨S512x128, M⟩, ⟨S512x128, M⟩, ⟨S512x128, M⟩, ⟨S512x128, M⟩, ⟨S512x128, M⟩, ⟨S512x128, M⟩, ⟨S512x128, M⟩, ⟨S512x128, M⟩, ⟨S512x128, M⟩, ⟨S512x128, M⟩] concatenates_S512x128_S512x128_S512x128_S512x128_S512x128_S512x128_S512x128_S512x128_S512x128_S512x128_S512x128_S512x128_S512x1536_d1)))
    (hl' : l' = addf (mulf al l) (broadcastTo S512x128 (shapeCast S512x1 (multiReduction .add [1] S512 p 0x00000000#32 reduces_S512x1536_S512 (.inl rfl) rfl) shapeCasts_S512_S512x1) broadcasts_S512x1_S512x128))
    (hpv : pv = matmul dot_S512x1536_S1536x128_S512x128_1_0_0_1_n_n none (truncf .bf16 p bitsLt_bf16_f32) v (constant S512x128 .f32 0x00000000#32)) :
    Head (fun r k => s (ix2 r k)) (fun k n => v (ix2 k n)) m l M al l' pv := by
  intro mm hm r n
  have eM : ∀ r n, M (ix2 r n) = max (mm r) (Finset.univ.fold max ⊥ fun k => s (ix2 r k)) := by
    intro r n; rw [hM]; pointwise [hm, negInf]
  have ep : ∀ r k, p (ix2 r k) = Ideal.exp2 (s (ix2 r k) - max (mm r) (Finset.univ.fold max ⊥ fun k => s (ix2 r k))) := by
    intro r k; rw [hp]; pointwise [eM]; simp only [dite_eq_ite, ite_self]; rfl
  refine ⟨eM r n, ?_, ?_, ?_⟩
  · rw [hal]; pointwise [eM, hm]; rfl
  · rw [hl']; pointwise [ep]
  · rw [hpv]; pointwise [ep]

/-- The masked scores of a block of rows against 2048 keys. -/
theorem score2048 (r0 : ℕ) (h0 : r0 < 4096) (q : FVec Ideal S512x256 .bf16) (k1 k2 : FVec Ideal S2048x128 .bf16) (r : Fin 512) (k : Fin 2048) :
    select (cmpi .sle (iota .tc S512x2048 32 [1] iota_S512x2048_d1_w32)
        (addi (broadcast S512x2048 (BitVec.ofNat 32 r0)) (iota .tc S512x2048 32 [0] iota_S512x2048_d0_w32)))
      (matmul dot_S512x256_S2048x256_S512x2048_1_1_0_0_n_n none q
        (concatenate S2048x256 1 [⟨S2048x128, k1⟩, ⟨S2048x128, k2⟩] concatenates_S2048x128_S2048x128_S2048x256_d1)
        (constant S512x2048 .f32 0x00000000#32))
      (broadcast S512x2048 (Scalar.ofBits .f32 0xFF800000#32)) (ix2 r k)
    = if k.val < r0 + r.val + 1 then (∑ j : Fin 128, q (ix2 r ⟨j.val, by omega⟩) * k1 (ix2 k j))
        + ∑ j : Fin 128, q (ix2 r ⟨128 + j.val, by omega⟩) * k2 (ix2 k j) else ⊥ := by
  pointwise [negInf]
  exact mask r0 r k h0 (by omega) (by omega) _ _

/-- One head of a block of rows over 2048 keys. -/
theorem head2048 (s : FVec Ideal S512x2048 .f32) (v : FVec Ideal S2048x128 .bf16) (m l M al l' pv : FVec Ideal S512x128 .f32) (p : FVec Ideal S512x2048 .f32)
    (hM : M = maximumf m (broadcastTo S512x128 (shapeCast S512x1 (multiReduction .maximumf [1] S512 s 0xFF800000#32 reduces_S512x2048_S512 (.inl rfl) rfl) shapeCasts_S512_S512x1) broadcasts_S512x1_S512x128))
    (hal : al = exp2 (subf m M))
    (hp : p = exp2 (subf s (concatenate S512x2048 1 [⟨S512x128, M⟩, ⟨S512x128, M⟩, ⟨S512x128, M⟩, ⟨S512x128, M⟩, ⟨S512x128, M⟩, ⟨S512x128, M⟩, ⟨S512x128, M⟩, ⟨S512x128, M⟩, ⟨S512x128, M⟩, ⟨S512x128, M⟩, ⟨S512x128, M⟩, ⟨S512x128, M⟩, ⟨S512x128, M⟩, ⟨S512x128, M⟩, ⟨S512x128, M⟩, ⟨S512x128, M⟩] concatenates_S512x128_S512x128_S512x128_S512x128_S512x128_S512x128_S512x128_S512x128_S512x128_S512x128_S512x128_S512x128_S512x128_S512x128_S512x128_S512x128_S512x2048_d1)))
    (hl' : l' = addf (mulf al l) (broadcastTo S512x128 (shapeCast S512x1 (multiReduction .add [1] S512 p 0x00000000#32 reduces_S512x2048_S512 (.inl rfl) rfl) shapeCasts_S512_S512x1) broadcasts_S512x1_S512x128))
    (hpv : pv = matmul dot_S512x2048_S2048x128_S512x128_1_0_0_1_n_n none (truncf .bf16 p bitsLt_bf16_f32) v (constant S512x128 .f32 0x00000000#32)) :
    Head (fun r k => s (ix2 r k)) (fun k n => v (ix2 k n)) m l M al l' pv := by
  intro mm hm r n
  have eM : ∀ r n, M (ix2 r n) = max (mm r) (Finset.univ.fold max ⊥ fun k => s (ix2 r k)) := by
    intro r n; rw [hM]; pointwise [hm, negInf]
  have ep : ∀ r k, p (ix2 r k) = Ideal.exp2 (s (ix2 r k) - max (mm r) (Finset.univ.fold max ⊥ fun k => s (ix2 r k))) := by
    intro r k; rw [hp]; pointwise [eM]; simp only [dite_eq_ite, ite_self]; rfl
  refine ⟨eM r n, ?_, ?_, ?_⟩
  · rw [hal]; pointwise [eM, hm]; rfl
  · rw [hl']; pointwise [ep]
  · rw [hpv]; pointwise [ep]

/-- The scores of a block of rows against 2048 keys, none masked. -/
theorem scoreFull (q : FVec Ideal S512x256 .bf16) (k1 k2 : FVec Ideal S2048x128 .bf16) (r : Fin 512) (k : Fin 2048) :
    matmul dot_S512x256_S2048x256_S512x2048_1_1_0_0_n_n none q
        (concatenate S2048x256 1 [⟨S2048x128, k1⟩, ⟨S2048x128, k2⟩] concatenates_S2048x128_S2048x128_S2048x256_d1)
        (constant S512x2048 .f32 0x00000000#32) (ix2 r k)
    = (∑ j : Fin 128, q (ix2 r ⟨j.val, by omega⟩) * k1 (ix2 k j)) + ∑ j : Fin 128, q (ix2 r ⟨128 + j.val, by omega⟩) * k2 (ix2 k j) := by
  pointwise

end Cert.KernelIdeal.Gen

end
-- ==== Proof.AttnStep.lean ====
module

public import proofs.«01_k».proof.Proof.AttnBlock

@[expose] public section

set_option maxRecDepth 16384

noncomputable section

namespace Cert.KernelIdeal.Gen

open Idealize.ShloMosaic Idealize.ShloMosaic.TcCoe Idealize.SL.Sem
open Facts₀ Cert.Softmax

/-! # One block of 512 query rows, both heads, over blocks of real numbers -/

/-- The mask of the second head's lanes. -/
def hdw : IVec S512x128 1 :=
  have v0 : IVec S512x128 32 := iota .tc S512x128 32 [1] iota_S512x128_d1_w32
  have v1 : IVec S512x128 32 := broadcast S512x128 64#32
  have v2 : IVec S512x128 32 := divsi v0 v1
  have v3 : IVec S512x128 32 := broadcast S512x128 0#32
  have v4 : IVec S512x128 32 := subi (extui 32 (cmpi .sgt v0 v3) natLt_1_32) (extui 32 (cmpi .slt v0 v3) natLt_1_32)
  have v5 : IVec S512x128 32 := broadcast S512x128 1#32
  have v6 : IVec S512x128 1 := andi (cmpi .ne v4 v5) (cmpi .ne (remsi v0 v1) v3)
  cmpi .eq (select v6 (subi v2 v5) v2) v5

theorem select_hdw (a b : FVec Ideal S512x128 .f32) (r : Fin 512) (n : Fin 128) :
    select hdw a b (ix2 r n) = if n.val < 64 then b (ix2 r n) else a (ix2 r n) := lane a b r n

/-- What the value tile takes in. -/
theorem acc_eq {acc' al0 al1 acc pv0 pv1 : FVec Ideal S512x128 .f32}
    (h : acc' = addf (mulf (select hdw al1 al0) acc) (select hdw pv1 pv0)) (r : Fin 512) (n : Fin 128) :
    acc' (ix2 r n) = (if n.val < 64 then al0 (ix2 r n) else al1 (ix2 r n)) * acc (ix2 r n)
      + (if n.val < 64 then pv0 (ix2 r n) else pv1 (ix2 r n)) := by
  rw [h, ← select_hdw, ← select_hdw]
  rfl

variable (Q K V QB KB : ℕ → ℕ → ℝ)

/-- The score (to the base 2) of row `r` against key `k` in head `h` of the tile: the head's lanes of the products of the two, and the
    bias lanes. -/
def scr (h : Fin 2) (r k : ℕ) : ℝ :=
  (∑ j : Fin 128, (if hl j = h then Q r j.val else 0) * K k j.val) + ∑ j : Fin 128, QB r (128 * h.val + j.val) * KB k (128 * h.val + j.val)

/-- A block of operand rows, from row `r0`: the query on the head's lanes, then the head's bias lanes. -/
def QRow (r0 : ℕ) (h : Fin 2) (q : FVec Ideal S512x256 .bf16) : Prop :=
  (∀ (r : Fin 512) (j : Fin 128), q (ix2 r ⟨j.val, by omega⟩) = ((if hl j = h then Q (r0 + r.val) j.val else 0 : ℝ) : EReal)) ∧
    ∀ (r : Fin 512) (j : Fin 128), q (ix2 r ⟨128 + j.val, by omega⟩) = ((QB (r0 + r.val) (128 * h.val + j.val) : ℝ) : EReal)

variable {Q K V QB KB}

/-- The products are the score. -/
theorem QRow.score {r0 : ℕ} {h : Fin 2} {q : FVec Ideal S512x256 .bf16} (hq : QRow Q QB r0 h q) (r : Fin 512) (k : ℕ) (k1 k2 : Fin 128 → EReal)
    (h1 : ∀ j, k1 j = ((K k j.val : ℝ) : EReal)) (h2 : ∀ j, k2 j = ((KB k (128 * h.val + j.val) : ℝ) : EReal)) :
    (∑ j : Fin 128, q (ix2 r ⟨j.val, by omega⟩) * k1 j) + (∑ j : Fin 128, q (ix2 r ⟨128 + j.val, by omega⟩) * k2 j)
      = ((scr Q K QB KB h (r0 + r.val) k : ℝ) : EReal) := by
  unfold scr
  rw [EReal.coe_add, ← coe_sum, ← coe_sum]
  refine congrArg₂ (· + ·) (Finset.sum_congr rfl fun j _ => ?_) (Finset.sum_congr rfl fun j _ => ?_)
  · rw [hq.1, h1, EReal.coe_mul]
  · rw [hq.2, h2, EReal.coe_mul]

/-- Both heads of the rows from `r0` over the first 512 keys, masked. -/
theorem blk512 (r0 : ℕ) (hr0 : r0 + 512 ≤ 512) {m0 m1 l0 l1 acc : FVec Ideal S512x128 .f32} {L A : Fin 512 → Fin 128 → ℝ} (H : BlkSt m0 m1 l0 l1 acc L A)
    {q0 q1 : FVec Ideal S512x256 .bf16} (hq0 : QRow Q QB r0 0 q0) (hq1 : QRow Q QB r0 1 q1) {k0 k1 kb0 kb1 v0 v1 : FVec Ideal S512x128 .bf16}
    (hk0 : ∀ (k : Fin 512) (j : Fin 128), k0 (ix2 k j) = ((K k.val j.val : ℝ) : EReal)) (hk1 : ∀ (k : Fin 512) (j : Fin 128), k1 (ix2 k j) = ((K k.val j.val : ℝ) : EReal))
    (hkb0 : ∀ (k : Fin 512) (j : Fin 128), kb0 (ix2 k j) = ((KB k.val (128 * 0 + j.val) : ℝ) : EReal))
    (hkb1 : ∀ (k : Fin 512) (j : Fin 128), kb1 (ix2 k j) = ((KB k.val (128 * 1 + j.val) : ℝ) : EReal))
    (hv0 : ∀ (k : Fin 512) (n : Fin 128), v0 (ix2 k n) = ((V k.val n.val : ℝ) : EReal)) (hv1 : v1 = v0)
    {M0 M1 al0 al1 l0' l1' pv0 pv1 acc' : FVec Ideal S512x128 .f32} {s0 s1 p0 p1 : FVec Ideal S512x512 .f32}
    (es0 : s0 = select (cmpi .sle (iota .tc S512x512 32 [1] iota_S512x512_d1_w32) (addi (broadcast S512x512 (BitVec.ofNat 32 r0)) (iota .tc S512x512 32 [0] iota_S512x512_d0_w32))) (matmul dot_S512x256_S512x256_S512x512_1_1_0_0_n_n none q0 (concatenate S512x256 1 [⟨S512x128, k0⟩, ⟨S512x128, kb0⟩] concatenates_S512x128_S512x128_S512x256_d1) (constant S512x512 .f32 0x00000000#32)) (broadcast S512x512 (Scalar.ofBits .f32 0xFF800000#32)))
    (es1 : s1 = select (cmpi .sle (iota .tc S512x512 32 [1] iota_S512x512_d1_w32) (addi (broadcast S512x512 (BitVec.ofNat 32 r0)) (iota .tc S512x512 32 [0] iota_S512x512_d0_w32))) (matmul dot_S512x256_S512x256_S512x512_1_1_0_0_n_n none q1 (concatenate S512x256 1 [⟨S512x128, k1⟩, ⟨S512x128, kb1⟩] concatenates_S512x128_S512x128_S512x256_d1) (constant S512x512 .f32 0x00000000#32)) (broadcast S512x512 (Scalar.ofBits .f32 0xFF800000#32)))
    (eM0 : M0 = maximumf m0 (broadcastTo S512x128 (shapeCast S512x1 (multiReduction .maximumf [1] S512 s0 0xFF800000#32 reduces_S512x512_S512 (.inl rfl) rfl) shapeCasts_S512_S512x1) broadcasts_S512x1_S512x128)) (eM1 : M1 = maximumf m1 (broadcastTo S512x128 (shapeCast S512x1 (multiReduction .maximumf [1] S512 s1 0xFF800000#32 reduces_S512x512_S512 (.inl rfl) rfl) shapeCasts_S512_S512x1) broadcasts_S512x1_S512x128))
    (ea0 : al0 = exp2 (subf m0 M0)) (ea1 : al1 = exp2 (subf m1 M1))
    (ep0 : p0 = exp2 (subf s0 (concatenate S512x512 1 [⟨S512x128, M0⟩, ⟨S512x128, M0⟩, ⟨S512x128, M0⟩, ⟨S512x128, M0⟩] concatenates_S512x128_S512x128_S512x128_S512x128_S512x512_d1)))
    (ep1 : p1 = exp2 (subf s1 (concatenate S512x512 1 [⟨S512x128, M1⟩, ⟨S512x128, M1⟩, ⟨S512x128, M1⟩, ⟨S512x128, M1⟩] concatenates_S512x128_S512x128_S512x128_S512x128_S512x512_d1)))
    (el0 : l0' = addf (mulf al0 l0) (broadcastTo S512x128 (shapeCast S512x1 (multiReduction .add [1] S512 p0 0x00000000#32 reduces_S512x512_S512 (.inl rfl) rfl) shapeCasts_S512_S512x1) broadcasts_S512x1_S512x128)) (el1 : l1' = addf (mulf al1 l1) (broadcastTo S512x128 (shapeCast S512x1 (multiReduction .add [1] S512 p1 0x00000000#32 reduces_S512x512_S512 (.inl rfl) rfl) shapeCasts_S512_S512x1) broadcasts_S512x1_S512x128))
    (epv0 : pv0 = matmul dot_S512x512_S512x128_S512x128_1_0_0_1_n_n none (truncf .bf16 p0 bitsLt_bf16_f32) v0 (constant S512x128 .f32 0x00000000#32)) (epv1 : pv1 = matmul dot_S512x512_S512x128_S512x128_1_0_0_1_n_n none (truncf .bf16 p1 bitsLt_bf16_f32) v1 (constant S512x128 .f32 0x00000000#32))
    (eacc : acc' = addf (mulf (select hdw al1 al0) acc) (select hdw pv1 pv0)) :
    BlkSt M0 M1 l0' l1' acc' (fun r n => L r n + ∑ k ∈ Finset.range (r0 + r.val + 1), (2 : ℝ) ^ scr Q K QB KB (hl n) (r0 + r.val) k)
      (fun r n => A r n + ∑ k ∈ Finset.range (r0 + r.val + 1), (2 : ℝ) ^ scr Q K QB KB (hl n) (r0 + r.val) k * V k n.val) := by
  subst hv1
  refine BlkSt.step H (s := fun h r k => (match h with | 0 => s0 | 1 => s1) (ix2 r k)) (head512 s0 v1 m0 l0 M0 al0 l0' pv0 p0 eM0 ea0 ep0 el0 epv0)
    (head512 s1 v1 m1 l1 M1 al1 l1' pv1 p1 eM1 ea1 ep1 el1 epv1) (acc_eq eacc) (fun h r k => scr Q K QB KB h (r0 + r.val) k) (fun k n => V k n.val)
    (fun r => r0 + r.val + 1) (fun r => by omega) (fun r => by omega) ?_ hv0
  intro h r k
  match h with
  | 0 => show s0 (ix2 r k) = _; rw [es0, score512 r0 (by omega), hq0.score r k.val _ _ (hk0 k) (hkb0 k)]
  | 1 => show s1 (ix2 r k) = _; rw [es1, score512 r0 (by omega), hq1.score r k.val _ _ (hk1 k) (hkb1 k)]

/-- Both heads of the rows from `r0` over the first 1024 keys, masked. -/
theorem blk1024 (r0 : ℕ) (hr0 : r0 + 512 ≤ 1024) {m0 m1 l0 l1 acc : FVec Ideal S512x128 .f32} {L A : Fin 512 → Fin 128 → ℝ} (H : BlkSt m0 m1 l0 l1 acc L A)
    {q0 q1 : FVec Ideal S512x256 .bf16} (hq0 : QRow Q QB r0 0 q0) (hq1 : QRow Q QB r0 1 q1) {k0 k1 kb0 kb1 v0 v1 : FVec Ideal S1024x128 .bf16}
    (hk0 : ∀ (k : Fin 1024) (j : Fin 128), k0 (ix2 k j) = ((K k.val j.val : ℝ) : EReal)) (hk1 : ∀ (k : Fin 1024) (j : Fin 128), k1 (ix2 k j) = ((K k.val j.val : ℝ) : EReal))
    (hkb0 : ∀ (k : Fin 1024) (j : Fin 128), kb0 (ix2 k j) = ((KB k.val (128 * 0 + j.val) : ℝ) : EReal))
    (hkb1 : ∀ (k : Fin 1024) (j : Fin 128), kb1 (ix2 k j) = ((KB k.val (128 * 1 + j.val) : ℝ) : EReal))
    (hv0 : ∀ (k : Fin 1024) (n : Fin 128), v0 (ix2 k n) = ((V k.val n.val : ℝ) : EReal)) (hv1 : v1 = v0)
    {M0 M1 al0 al1 l0' l1' pv0 pv1 acc' : FVec Ideal S512x128 .f32} {s0 s1 p0 p1 : FVec Ideal S512x1024 .f32}
    (es0 : s0 = select (cmpi .sle (iota .tc S512x1024 32 [1] iota_S512x1024_d1_w32) (addi (broadcast S512x1024 (BitVec.ofNat 32 r0)) (iota .tc S512x1024 32 [0] iota_S512x1024_d0_w32))) (matmul dot_S512x256_S1024x256_S512x1024_1_1_0_0_n_n none q0 (concatenate S1024x256 1 [⟨S1024x128, k0⟩, ⟨S1024x128, kb0⟩] concatenates_S1024x128_S1024x128_S1024x256_d1) (constant S512x1024 .f32 0x00000000#32)) (broadcast S512x1024 (Scalar.ofBits .f32 0xFF800000#32)))
    (es1 : s1 = select (cmpi .sle (iota .tc S512x1024 32 [1] iota_S512x1024_d1_w32) (addi (broadcast S512x1024 (BitVec.ofNat 32 r0)) (iota .tc S512x1024 32 [0] iota_S512x1024_d0_w32))) (matmul dot_S512x256_S1024x256_S512x1024_1_1_0_0_n_n none q1 (concatenate S1024x256 1 [⟨S1024x128, k1⟩, ⟨S1024x128, kb1⟩] concatenates_S1024x128_S1024x128_S1024x256_d1) (constant S512x1024 .f32 0x00000000#32)) (broadcast S512x1024 (Scalar.ofBits .f32 0xFF800000#32)))
    (eM0 : M0 = maximumf m0 (broadcastTo S512x128 (shapeCast S512x1 (multiReduction .maximumf [1] S512 s0 0xFF800000#32 reduces_S512x1024_S512 (.inl rfl) rfl) shapeCasts_S512_S512x1) broadcasts_S512x1_S512x128)) (eM1 : M1 = maximumf m1 (broadcastTo S512x128 (shapeCast S512x1 (multiReduction .maximumf [1] S512 s1 0xFF800000#32 reduces_S512x1024_S512 (.inl rfl) rfl) shapeCasts_S512_S512x1) broadcasts_S512x1_S512x128))
    (ea0 : al0 = exp2 (subf m0 M0)) (ea1 : al1 = exp2 (subf m1 M1))
    (ep0 : p0 = exp2 (subf s0 (concatenate S512x1024 1 [⟨S512x128, M0⟩, ⟨S512x128, M0⟩, ⟨S512x128, M0⟩, ⟨S512x128, M0⟩, ⟨S512x128, M0⟩, ⟨S512x128, M0⟩, ⟨S512x128, M0⟩, ⟨S512x128, M0⟩] concatenates_S512x128_S512x128_S512x128_S512x128_S512x128_S512x128_S512x128_S512x128_S512x1024_d1)))
    (ep1 : p1 = exp2 (subf s1 (concatenate S512x1024 1 [⟨S512x128, M1⟩, ⟨S512x128, M1⟩, ⟨S512x128, M1⟩, ⟨S512x128, M1⟩, ⟨S512x128, M1⟩, ⟨S512x128, M1⟩, ⟨S512x128, M1⟩, ⟨S512x128, M1⟩] concatenates_S512x128_S512x128_S512x128_S512x128_S512x128_S512x128_S512x128_S512x128_S512x1024_d1)))
    (el0 : l0' = addf (mulf al0 l0) (broadcastTo S512x128 (shapeCast S512x1 (multiReduction .add [1] S512 p0 0x00000000#32 reduces_S512x1024_S512 (.inl rfl) rfl) shapeCasts_S512_S512x1) broadcasts_S512x1_S512x128)) (el1 : l1' = addf (mulf al1 l1) (broadcastTo S512x128 (shapeCast S512x1 (multiReduction .add [1] S512 p1 0x00000000#32 reduces_S512x1024_S512 (.inl rfl) rfl) shapeCasts_S512_S512x1) broadcasts_S512x1_S512x128))
    (epv0 : pv0 = matmul dot_S512x1024_S1024x128_S512x128_1_0_0_1_n_n none (truncf .bf16 p0 bitsLt_bf16_f32) v0 (constant S512x128 .f32 0x00000000#32)) (epv1 : pv1 = matmul dot_S512x1024_S1024x128_S512x128_1_0_0_1_n_n none (truncf .bf16 p1 bitsLt_bf16_f32) v1 (constant S512x128 .f32 0x00000000#32))
    (eacc : acc' = addf (mulf (select hdw al1 al0) acc) (select hdw pv1 pv0)) :
    BlkSt M0 M1 l0' l1' acc' (fun r n => L r n + ∑ k ∈ Finset.range (r0 + r.val + 1), (2 : ℝ) ^ scr Q K QB KB (hl n) (r0 + r.val) k)
      (fun r n => A r n + ∑ k ∈ Finset.range (r0 + r.val + 1), (2 : ℝ) ^ scr Q K QB KB (hl n) (r0 + r.val) k * V k n.val) := by
  subst hv1
  refine BlkSt.step H (s := fun h r k => (match h with | 0 => s0 | 1 => s1) (ix2 r k)) (head1024 s0 v1 m0 l0 M0 al0 l0' pv0 p0 eM0 ea0 ep0 el0 epv0)
    (head1024 s1 v1 m1 l1 M1 al1 l1' pv1 p1 eM1 ea1 ep1 el1 epv1) (acc_eq eacc) (fun h r k => scr Q K QB KB h (r0 + r.val) k) (fun k n => V k n.val)
    (fun r => r0 + r.val + 1) (fun r => by omega) (fun r => by omega) ?_ hv0
  intro h r k
  match h with
  | 0 => show s0 (ix2 r k) = _; rw [es0, score1024 r0 (by omega), hq0.score r k.val _ _ (hk0 k) (hkb0 k)]
  | 1 => show s1 (ix2 r k) = _; rw [es1, score1024 r0 (by omega), hq1.score r k.val _ _ (hk1 k) (hkb1 k)]

/-- Both heads of the rows from `r0` over the first 1536 keys, masked. -/
theorem blk1536 (r0 : ℕ) (hr0 : r0 + 512 ≤ 1536) {m0 m1 l0 l1 acc : FVec Ideal S512x128 .f32} {L A : Fin 512 → Fin 128 → ℝ} (H : BlkSt m0 m1 l0 l1 acc L A)
    {q0 q1 : FVec Ideal S512x256 .bf16} (hq0 : QRow Q QB r0 0 q0) (hq1 : QRow Q QB r0 1 q1) {k0 k1 kb0 kb1 v0 v1 : FVec Ideal S1536x128 .bf16}
    (hk0 : ∀ (k : Fin 1536) (j : Fin 128), k0 (ix2 k j) = ((K k.val j.val : ℝ) : EReal)) (hk1 : ∀ (k : Fin 1536) (j : Fin 128), k1 (ix2 k j) = ((K k.val j.val : ℝ) : EReal))
    (hkb0 : ∀ (k : Fin 1536) (j : Fin 128), kb0 (ix2 k j) = ((KB k.val (128 * 0 + j.val) : ℝ) : EReal))
    (hkb1 : ∀ (k : Fin 1536) (j : Fin 128), kb1 (ix2 k j) = ((KB k.val (128 * 1 + j.val) : ℝ) : EReal))
    (hv0 : ∀ (k : Fin 1536) (n : Fin 128), v0 (ix2 k n) = ((V k.val n.val : ℝ) : EReal)) (hv1 : v1 = v0)
    {M0 M1 al0 al1 l0' l1' pv0 pv1 acc' : FVec Ideal S512x128 .f32} {s0 s1 p0 p1 : FVec Ideal S512x1536 .f32}
    (es0 : s0 = select (cmpi .sle (iota .tc S512x1536 32 [1] iota_S512x1536_d1_w32) (addi (broadcast S512x1536 (BitVec.ofNat 32 r0)) (iota .tc S512x1536 32 [0] iota_S512x1536_d0_w32))) (matmul dot_S512x256_S1536x256_S512x1536_1_1_0_0_n_n none q0 (concatenate S1536x256 1 [⟨S1536x128, k0⟩, ⟨S1536x128, kb0⟩] concatenates_S1536x128_S1536x128_S1536x256_d1) (constant S512x1536 .f32 0x00000000#32)) (broadcast S512x1536 (Scalar.ofBits .f32 0xFF800000#32)))
    (es1 : s1 = select (cmpi .sle (iota .tc S512x1536 32 [1] iota_S512x1536_d1_w32) (addi (broadcast S512x1536 (BitVec.ofNat 32 r0)) (iota .tc S512x1536 32 [0] iota_S512x1536_d0_w32))) (matmul dot_S512x256_S1536x256_S512x1536_1_1_0_0_n_n none q1 (concatenate S1536x256 1 [⟨S1536x128, k1⟩, ⟨S1536x128, kb1⟩] concatenates_S1536x128_S1536x128_S1536x256_d1) (constant S512x1536 .f32 0x00000000#32)) (broadcast S512x1536 (Scalar.ofBits .f32 0xFF800000#32)))
    (eM0 : M0 = maximumf m0 (broadcastTo S512x128 (shapeCast S512x1 (multiReduction .maximumf [1] S512 s0 0xFF800000#32 reduces_S512x1536_S512 (.inl rfl) rfl) shapeCasts_S512_S512x1) broadcasts_S512x1_S512x128)) (eM1 : M1 = maximumf m1 (broadcastTo S512x128 (shapeCast S512x1 (multiReduction .maximumf [1] S512 s1 0xFF800000#32 reduces_S512x1536_S512 (.inl rfl) rfl) shapeCasts_S512_S512x1) broadcasts_S512x1_S512x128))
    (ea0 : al0 = exp2 (subf m0 M0)) (ea1 : al1 = exp2 (subf m1 M1))
    (ep0 : p0 = exp2 (subf s0 (concatenate S512x1536 1 [⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩] concatenates_S512x128_S512x128_S512x128_S512x128_S512x128_S512x128_S512x128_S512x128_S512x128_S512x128_S512x128_S512x128_S512x1536_d1)))
    (ep1 : p1 = exp2 (subf s1 (concatenate S512x1536 1 [⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩] concatenates_S512x128_S512x128_S512x128_S512x128_S512x128_S512x128_S512x128_S512x128_S512x128_S512x128_S512x128_S512x128_S512x1536_d1)))
    (el0 : l0' = addf (mulf al0 l0) (broadcastTo S512x128 (shapeCast S512x1 (multiReduction .add [1] S512 p0 0x00000000#32 reduces_S512x1536_S512 (.inl rfl) rfl) shapeCasts_S512_S512x1) broadcasts_S512x1_S512x128)) (el1 : l1' = addf (mulf al1 l1) (broadcastTo S512x128 (shapeCast S512x1 (multiReduction .add [1] S512 p1 0x00000000#32 reduces_S512x1536_S512 (.inl rfl) rfl) shapeCasts_S512_S512x1) broadcasts_S512x1_S512x128))
    (epv0 : pv0 = matmul dot_S512x1536_S1536x128_S512x128_1_0_0_1_n_n none (truncf .bf16 p0 bitsLt_bf16_f32) v0 (constant S512x128 .f32 0x00000000#32)) (epv1 : pv1 = matmul dot_S512x1536_S1536x128_S512x128_1_0_0_1_n_n none (truncf .bf16 p1 bitsLt_bf16_f32) v1 (constant S512x128 .f32 0x00000000#32))
    (eacc : acc' = addf (mulf (select hdw al1 al0) acc) (select hdw pv1 pv0)) :
    BlkSt M0 M1 l0' l1' acc' (fun r n => L r n + ∑ k ∈ Finset.range (r0 + r.val + 1), (2 : ℝ) ^ scr Q K QB KB (hl n) (r0 + r.val) k)
      (fun r n => A r n + ∑ k ∈ Finset.range (r0 + r.val + 1), (2 : ℝ) ^ scr Q K QB KB (hl n) (r0 + r.val) k * V k n.val) := by
  subst hv1
  refine BlkSt.step H (s := fun h r k => (match h with | 0 => s0 | 1 => s1) (ix2 r k)) (head1536 s0 v1 m0 l0 M0 al0 l0' pv0 p0 eM0 ea0 ep0 el0 epv0)
    (head1536 s1 v1 m1 l1 M1 al1 l1' pv1 p1 eM1 ea1 ep1 el1 epv1) (acc_eq eacc) (fun h r k => scr Q K QB KB h (r0 + r.val) k) (fun k n => V k n.val)
    (fun r => r0 + r.val + 1) (fun r => by omega) (fun r => by omega) ?_ hv0
  intro h r k
  match h with
  | 0 => show s0 (ix2 r k) = _; rw [es0, score1536 r0 (by omega), hq0.score r k.val _ _ (hk0 k) (hkb0 k)]
  | 1 => show s1 (ix2 r k) = _; rw [es1, score1536 r0 (by omega), hq1.score r k.val _ _ (hk1 k) (hkb1 k)]

/-- Both heads of the rows from `r0` over the first 2048 keys, masked. -/
theorem blk2048 (r0 : ℕ) (hr0 : r0 + 512 ≤ 2048) {m0 m1 l0 l1 acc : FVec Ideal S512x128 .f32} {L A : Fin 512 → Fin 128 → ℝ} (H : BlkSt m0 m1 l0 l1 acc L A)
    {q0 q1 : FVec Ideal S512x256 .bf16} (hq0 : QRow Q QB r0 0 q0) (hq1 : QRow Q QB r0 1 q1) {k0 k1 kb0 kb1 v0 v1 : FVec Ideal S2048x128 .bf16}
    (hk0 : ∀ (k : Fin 2048) (j : Fin 128), k0 (ix2 k j) = ((K k.val j.val : ℝ) : EReal)) (hk1 : ∀ (k : Fin 2048) (j : Fin 128), k1 (ix2 k j) = ((K k.val j.val : ℝ) : EReal))
    (hkb0 : ∀ (k : Fin 2048) (j : Fin 128), kb0 (ix2 k j) = ((KB k.val (128 * 0 + j.val) : ℝ) : EReal))
    (hkb1 : ∀ (k : Fin 2048) (j : Fin 128), kb1 (ix2 k j) = ((KB k.val (128 * 1 + j.val) : ℝ) : EReal))
    (hv0 : ∀ (k : Fin 2048) (n : Fin 128), v0 (ix2 k n) = ((V k.val n.val : ℝ) : EReal)) (hv1 : v1 = v0)
    {M0 M1 al0 al1 l0' l1' pv0 pv1 acc' : FVec Ideal S512x128 .f32} {s0 s1 p0 p1 : FVec Ideal S512x2048 .f32}
    (es0 : s0 = select (cmpi .sle (iota .tc S512x2048 32 [1] iota_S512x2048_d1_w32) (addi (broadcast S512x2048 (BitVec.ofNat 32 r0)) (iota .tc S512x2048 32 [0] iota_S512x2048_d0_w32))) (matmul dot_S512x256_S2048x256_S512x2048_1_1_0_0_n_n none q0 (concatenate S2048x256 1 [⟨S2048x128, k0⟩, ⟨S2048x128, kb0⟩] concatenates_S2048x128_S2048x128_S2048x256_d1) (constant S512x2048 .f32 0x00000000#32)) (broadcast S512x2048 (Scalar.ofBits .f32 0xFF800000#32)))
    (es1 : s1 = select (cmpi .sle (iota .tc S512x2048 32 [1] iota_S512x2048_d1_w32) (addi (broadcast S512x2048 (BitVec.ofNat 32 r0)) (iota .tc S512x2048 32 [0] iota_S512x2048_d0_w32))) (matmul dot_S512x256_S2048x256_S512x2048_1_1_0_0_n_n none q1 (concatenate S2048x256 1 [⟨S2048x128, k1⟩, ⟨S2048x128, kb1⟩] concatenates_S2048x128_S2048x128_S2048x256_d1) (constant S512x2048 .f32 0x00000000#32)) (broadcast S512x2048 (Scalar.ofBits .f32 0xFF800000#32)))
    (eM0 : M0 = maximumf m0 (broadcastTo S512x128 (shapeCast S512x1 (multiReduction .maximumf [1] S512 s0 0xFF800000#32 reduces_S512x2048_S512 (.inl rfl) rfl) shapeCasts_S512_S512x1) broadcasts_S512x1_S512x128)) (eM1 : M1 = maximumf m1 (broadcastTo S512x128 (shapeCast S512x1 (multiReduction .maximumf [1] S512 s1 0xFF800000#32 reduces_S512x2048_S512 (.inl rfl) rfl) shapeCasts_S512_S512x1) broadcasts_S512x1_S512x128))
    (ea0 : al0 = exp2 (subf m0 M0)) (ea1 : al1 = exp2 (subf m1 M1))
    (ep0 : p0 = exp2 (subf s0 (concatenate S512x2048 1 [⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩] concatenates_S512x128_S512x128_S512x128_S512x128_S512x128_S512x128_S512x128_S512x128_S512x128_S512x128_S512x128_S512x128_S512x128_S512x128_S512x128_S512x128_S512x2048_d1)))
    (ep1 : p1 = exp2 (subf s1 (concatenate S512x2048 1 [⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩] concatenates_S512x128_S512x128_S512x128_S512x128_S512x128_S512x128_S512x128_S512x128_S512x128_S512x128_S512x128_S512x128_S512x128_S512x128_S512x128_S512x128_S512x2048_d1)))
    (el0 : l0' = addf (mulf al0 l0) (broadcastTo S512x128 (shapeCast S512x1 (multiReduction .add [1] S512 p0 0x00000000#32 reduces_S512x2048_S512 (.inl rfl) rfl) shapeCasts_S512_S512x1) broadcasts_S512x1_S512x128)) (el1 : l1' = addf (mulf al1 l1) (broadcastTo S512x128 (shapeCast S512x1 (multiReduction .add [1] S512 p1 0x00000000#32 reduces_S512x2048_S512 (.inl rfl) rfl) shapeCasts_S512_S512x1) broadcasts_S512x1_S512x128))
    (epv0 : pv0 = matmul dot_S512x2048_S2048x128_S512x128_1_0_0_1_n_n none (truncf .bf16 p0 bitsLt_bf16_f32) v0 (constant S512x128 .f32 0x00000000#32)) (epv1 : pv1 = matmul dot_S512x2048_S2048x128_S512x128_1_0_0_1_n_n none (truncf .bf16 p1 bitsLt_bf16_f32) v1 (constant S512x128 .f32 0x00000000#32))
    (eacc : acc' = addf (mulf (select hdw al1 al0) acc) (select hdw pv1 pv0)) :
    BlkSt M0 M1 l0' l1' acc' (fun r n => L r n + ∑ k ∈ Finset.range (r0 + r.val + 1), (2 : ℝ) ^ scr Q K QB KB (hl n) (r0 + r.val) k)
      (fun r n => A r n + ∑ k ∈ Finset.range (r0 + r.val + 1), (2 : ℝ) ^ scr Q K QB KB (hl n) (r0 + r.val) k * V k n.val) := by
  subst hv1
  refine BlkSt.step H (s := fun h r k => (match h with | 0 => s0 | 1 => s1) (ix2 r k)) (head2048 s0 v1 m0 l0 M0 al0 l0' pv0 p0 eM0 ea0 ep0 el0 epv0)
    (head2048 s1 v1 m1 l1 M1 al1 l1' pv1 p1 eM1 ea1 ep1 el1 epv1) (acc_eq eacc) (fun h r k => scr Q K QB KB h (r0 + r.val) k) (fun k n => V k n.val)
    (fun r => r0 + r.val + 1) (fun r => by omega) (fun r => by omega) ?_ hv0
  intro h r k
  match h with
  | 0 => show s0 (ix2 r k) = _; rw [es0, score2048 r0 (by omega), hq0.score r k.val _ _ (hk0 k) (hkb0 k)]
  | 1 => show s1 (ix2 r k) = _; rw [es1, score2048 r0 (by omega), hq1.score r k.val _ _ (hk1 k) (hkb1 k)]

/-- Both heads over 2048 keys, none masked. -/
theorem blkFull (r0 : ℕ) {m0 m1 l0 l1 acc : FVec Ideal S512x128 .f32} {L A : Fin 512 → Fin 128 → ℝ} (H : BlkSt m0 m1 l0 l1 acc L A)
    {q0 q1 : FVec Ideal S512x256 .bf16} (hq0 : QRow Q QB r0 0 q0) (hq1 : QRow Q QB r0 1 q1) {k0 k1 kb0 kb1 v0 v1 : FVec Ideal S2048x128 .bf16}
    (hk0 : ∀ (k : Fin 2048) (j : Fin 128), k0 (ix2 k j) = ((K k.val j.val : ℝ) : EReal)) (hk1 : ∀ (k : Fin 2048) (j : Fin 128), k1 (ix2 k j) = ((K k.val j.val : ℝ) : EReal))
    (hkb0 : ∀ (k : Fin 2048) (j : Fin 128), kb0 (ix2 k j) = ((KB k.val (128 * 0 + j.val) : ℝ) : EReal))
    (hkb1 : ∀ (k : Fin 2048) (j : Fin 128), kb1 (ix2 k j) = ((KB k.val (128 * 1 + j.val) : ℝ) : EReal))
    (hv0 : ∀ (k : Fin 2048) (n : Fin 128), v0 (ix2 k n) = ((V k.val n.val : ℝ) : EReal)) (hv1 : v1 = v0)
    {M0 M1 al0 al1 l0' l1' pv0 pv1 acc' : FVec Ideal S512x128 .f32} {s0 s1 p0 p1 : FVec Ideal S512x2048 .f32}
    (es0 : s0 = matmul dot_S512x256_S2048x256_S512x2048_1_1_0_0_n_n none q0 (concatenate S2048x256 1 [⟨S2048x128, k0⟩, ⟨S2048x128, kb0⟩] concatenates_S2048x128_S2048x128_S2048x256_d1) (constant S512x2048 .f32 0x00000000#32))
    (es1 : s1 = matmul dot_S512x256_S2048x256_S512x2048_1_1_0_0_n_n none q1 (concatenate S2048x256 1 [⟨S2048x128, k1⟩, ⟨S2048x128, kb1⟩] concatenates_S2048x128_S2048x128_S2048x256_d1) (constant S512x2048 .f32 0x00000000#32))
    (eM0 : M0 = maximumf m0 (broadcastTo S512x128 (shapeCast S512x1 (multiReduction .maximumf [1] S512 s0 0xFF800000#32 reduces_S512x2048_S512 (.inl rfl) rfl) shapeCasts_S512_S512x1) broadcasts_S512x1_S512x128)) (eM1 : M1 = maximumf m1 (broadcastTo S512x128 (shapeCast S512x1 (multiReduction .maximumf [1] S512 s1 0xFF800000#32 reduces_S512x2048_S512 (.inl rfl) rfl) shapeCasts_S512_S512x1) broadcasts_S512x1_S512x128))
    (ea0 : al0 = exp2 (subf m0 M0)) (ea1 : al1 = exp2 (subf m1 M1))
    (ep0 : p0 = exp2 (subf s0 (concatenate S512x2048 1 [⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩, ⟨S512x128, M0⟩] concatenates_S512x128_S512x128_S512x128_S512x128_S512x128_S512x128_S512x128_S512x128_S512x128_S512x128_S512x128_S512x128_S512x128_S512x128_S512x128_S512x128_S512x2048_d1)))
    (ep1 : p1 = exp2 (subf s1 (concatenate S512x2048 1 [⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩, ⟨S512x128, M1⟩] concatenates_S512x128_S512x128_S512x128_S512x128_S512x128_S512x128_S512x128_S512x128_S512x128_S512x128_S512x128_S512x128_S512x128_S512x128_S512x128_S512x128_S512x2048_d1)))
    (el0 : l0' = addf (mulf al0 l0) (broadcastTo S512x128 (shapeCast S512x1 (multiReduction .add [1] S512 p0 0x00000000#32 reduces_S512x2048_S512 (.inl rfl) rfl) shapeCasts_S512_S512x1) broadcasts_S512x1_S512x128)) (el1 : l1' = addf (mulf al1 l1) (broadcastTo S512x128 (shapeCast S512x1 (multiReduction .add [1] S512 p1 0x00000000#32 reduces_S512x2048_S512 (.inl rfl) rfl) shapeCasts_S512_S512x1) broadcasts_S512x1_S512x128))
    (epv0 : pv0 = matmul dot_S512x2048_S2048x128_S512x128_1_0_0_1_n_n none (truncf .bf16 p0 bitsLt_bf16_f32) v0 (constant S512x128 .f32 0x00000000#32)) (epv1 : pv1 = matmul dot_S512x2048_S2048x128_S512x128_1_0_0_1_n_n none (truncf .bf16 p1 bitsLt_bf16_f32) v1 (constant S512x128 .f32 0x00000000#32))
    (eacc : acc' = addf (mulf (select hdw al1 al0) acc) (select hdw pv1 pv0)) :
    BlkSt M0 M1 l0' l1' acc' (fun r n => L r n + ∑ k ∈ Finset.range (2048), (2 : ℝ) ^ scr Q K QB KB (hl n) (r0 + r.val) k)
      (fun r n => A r n + ∑ k ∈ Finset.range (2048), (2 : ℝ) ^ scr Q K QB KB (hl n) (r0 + r.val) k * V k n.val) := by
  subst hv1
  refine BlkSt.step H (s := fun h r k => (match h with | 0 => s0 | 1 => s1) (ix2 r k)) (head2048 s0 v1 m0 l0 M0 al0 l0' pv0 p0 eM0 ea0 ep0 el0 epv0)
    (head2048 s1 v1 m1 l1 M1 al1 l1' pv1 p1 eM1 ea1 ep1 el1 epv1) (acc_eq eacc) (fun h r k => scr Q K QB KB h (r0 + r.val) k) (fun k n => V k n.val)
    (fun r => 2048) (fun r => by omega) (fun r => by omega) ?_ hv0
  intro h r k
  match h with
  | 0 => show s0 (ix2 r k) = _; rw [es0, scoreFull, hq0.score r k.val _ _ (hk0 k) (hkb0 k)]; exact (if_pos k.isLt).symm
  | 1 => show s1 (ix2 r k) = _; rw [es1, scoreFull, hq1.score r k.val _ _ (hk1 k) (hkb1 k)]; exact (if_pos k.isLt).symm

end Cert.KernelIdeal.Gen

end
-- ==== Proof.AttnReads.lean ====
module

public import proofs.«01_k».proof.Proof.AttnStep
public import proofs.«01_k».proof.Proof.AttnRegion
public import Idealize.ShloMosaic.Lib.Pipeline.ReadBack
public import Idealize.ShloMosaic.Lib.ValueLayout

@[expose] public section

set_option maxRecDepth 16384

noncomputable section

namespace Cert.KernelIdeal.Gen

open Idealize.ShloMosaic Idealize.ShloMosaic.TcCoe Idealize.SL.Sem
open Facts₀ Cert.Softmax

/-! # What the attention body's loads read, over any memory handed to it -/

variable {sg : RefSig} {κ : Kind} {sp : Space}

/-- The first `N` rows of 128 lanes, from lane `o`, of an operand block. -/
theorem rd_rows {R C N o : ℕ} (v : View sg κ sp ⟨2, ![R, C]⟩ .bf16) (x : FVec Ideal ⟨2, ![R, C]⟩ .bf16) (hN : N ≤ R) (ho : o + 128 ≤ C)
    (inb : ∀ a, (![0, o] : Fin 2 → ℕ) a + (![N, 128] : Fin 2 → ℕ) a ≤ (![R, C] : Fin 2 → ℕ) a)
    (hc : Shape.ShapeCasts ⟨2, ![N, 128]⟩ ⟨2, ![N, 128]⟩) (k : Fin N) (j : Fin 128) :
    shapeCast (⟨2, ![N, 128]⟩ : Shape) (v.readAt (Elt Ideal) (Rect.unit (s := ⟨2, ![R, C]⟩) ![0, o] ![N, 128] inb).toLoadRect (v.rep x)) hc (ix2 k j)
      = x (ix2 (⟨k.val, by omega⟩ : Fin R) (⟨o + j.val, by omega⟩ : Fin C)) := by
  erw [shapeCast_self]
  rw [View.readAt_rep]
  refine congrArg x (funext fun a => Fin.ext ?_)
  match a with
  | 0 => show 0 + 1 * k.val = k.val; omega
  | 1 => show o + 1 * j.val = o + j.val; omega

/-- The mask of the lanes of one head, over all the rows of a block. -/
def hdq (hh : BitVec 32) : IVec S2048x128 1 :=
  have v0 : IVec S2048x128 32 := iota .tc S2048x128 32 [1] iota_S2048x128_d1_w32
  have v1 : IVec S2048x128 32 := broadcast S2048x128 64#32
  have v2 : IVec S2048x128 32 := divsi v0 v1
  have v3 : IVec S2048x128 32 := broadcast S2048x128 0#32
  have v4 : IVec S2048x128 32 := subi (extui 32 (cmpi .sgt v0 v3) natLt_1_32) (extui 32 (cmpi .slt v0 v3) natLt_1_32)
  have v5 : IVec S2048x128 32 := broadcast S2048x128 1#32
  have v6 : IVec S2048x128 1 := andi (cmpi .ne v4 v5) (cmpi .ne (remsi v0 v1) v3)
  cmpi .eq (select v6 (subi v2 v5) v2) (broadcast S2048x128 hh)

theorem select_hdq1 {φ : FTy} (a b : FVec Ideal S2048x128 φ) (r : Fin 2048) (n : Fin 128) :
    select (hdq 1#32) a b (ix2 r n) = if hl n = 1 then a (ix2 r n) else b (ix2 r n) := by
  unfold hdq
  pointwise
  have : ∀ n : Fin 128, (IntOp.cmpi CmpIPredicate.eq
        (Scalar.select
          (IntOp.andi
            (IntOp.cmpi CmpIPredicate.ne
              (IntOp.subi (BitVec.setWidth 32 (IntOp.cmpi CmpIPredicate.sgt (BitVec.ofNat 32 ↑n) 0#32))
                (BitVec.setWidth 32 (IntOp.cmpi CmpIPredicate.slt (BitVec.ofNat 32 ↑n) 0#32)))
              1#32)
            (IntOp.cmpi CmpIPredicate.ne (IntOp.remsi ArithUnit.vector (BitVec.ofNat 32 ↑n) 64#32) 0#32))
          (IntOp.subi (IntOp.divsi ArithUnit.vector (BitVec.ofNat 32 ↑n) 64#32) 1#32)
          (IntOp.divsi ArithUnit.vector (BitVec.ofNat 32 ↑n) 64#32))
        1#32) = if hl n = 1 then 1#1 else 0#1 := by decide +kernel
  rw [this]
  by_cases h : hl n = 1 <;> simp only [h, if_true, if_false] <;> rfl

theorem select_hdq0 {φ : FTy} (a b : FVec Ideal S2048x128 φ) (r : Fin 2048) (n : Fin 128) :
    select (hdq 0#32) a b (ix2 r n) = if hl n = 0 then a (ix2 r n) else b (ix2 r n) := by
  unfold hdq
  pointwise
  have : ∀ n : Fin 128, (IntOp.cmpi CmpIPredicate.eq
        (Scalar.select
          (IntOp.andi
            (IntOp.cmpi CmpIPredicate.ne
              (IntOp.subi (BitVec.setWidth 32 (IntOp.cmpi CmpIPredicate.sgt (BitVec.ofNat 32 ↑n) 0#32))
                (BitVec.setWidth 32 (IntOp.cmpi CmpIPredicate.slt (BitVec.ofNat 32 ↑n) 0#32)))
              1#32)
            (IntOp.cmpi CmpIPredicate.ne (IntOp.remsi ArithUnit.vector (BitVec.ofNat 32 ↑n) 64#32) 0#32))
          (IntOp.subi (IntOp.divsi ArithUnit.vector (BitVec.ofNat 32 ↑n) 64#32) 1#32)
          (IntOp.divsi ArithUnit.vector (BitVec.ofNat 32 ↑n) 64#32))
        0#32) = if hl n = 0 then 1#1 else 0#1 := by decide +kernel
  rw [this]
  by_cases h : hl n = 0 <;> simp only [h, if_true, if_false] <;> rfl

theorem zeroBf : Ideal.ofBits .bf16 0x0000#16 = ((0 : ℝ) : EReal) := by simp [Ideal.ofBits, Ideal.ieee]

variable {Q QB : ℕ → ℕ → ℝ}

/-- The four pieces the operand scratch holds, of the query block and its bias lanes. -/
def QPieces (v6 : View sg κ sp S2048x128 .bf16) (v7 : View sg κ sp S2048x256 .bf16) (x0 : FVec Ideal S2048x128 .bf16) (x1 : FVec Ideal S2048x256 .bf16) :
    List (View.Piece (Elt Ideal) S2x2048x256 .bf16) :=
  have q : FVec Ideal S2048x128 .bf16 := shapeCast S2048x128 (v6.readAt (Elt Ideal) (Rect.unit ![0, 0] S2048x128.size inb_S2048x128_S2048x128_0_0).toLoadRect (v6.rep x0)) shapeCasts_S2048x128_S2048x128
  have b0 : FVec Ideal S2048x128 .bf16 := shapeCast S2048x128 (v7.readAt (Elt Ideal) (Rect.unit (s := S2048x256) ![0, 0] S2048x128.size inb_S2048x256_S2048x128_0_0).toLoadRect (v7.rep x1)) shapeCasts_S2048x128_S2048x128
  have b1 : FVec Ideal S2048x128 .bf16 := shapeCast S2048x128 (v7.readAt (Elt Ideal) (Rect.unit (s := S2048x256) ![0, 128] S2048x128.size inb_S2048x256_S2048x128_0_128).toLoadRect (v7.rep x1)) shapeCasts_S2048x128_S2048x128
  have z : FVec Ideal S2048x128 .bf16 := broadcast S2048x128 (Scalar.ofBits .bf16 0x0000#16)
  [⟨Rect.unit ![1, 0, 128] S1x2048x128.size inb_S2x2048x256_S1x2048x128_1_0_128, shapeCast S1x2048x128 b1 shapeCasts_S2048x128_S1x2048x128⟩,
   ⟨Rect.unit ![1, 0, 0] S1x2048x128.size inb_S2x2048x256_S1x2048x128_1_0_0, shapeCast S1x2048x128 (select (hdq 1#32) q z) shapeCasts_S2048x128_S1x2048x128⟩,
   ⟨Rect.unit ![0, 0, 128] S1x2048x128.size inb_S2x2048x256_S1x2048x128_0_0_128, shapeCast S1x2048x128 b0 shapeCasts_S2048x128_S1x2048x128⟩,
   ⟨Rect.unit ![0, 0, 0] S1x2048x128.size inb_S2x2048x256_S1x2048x128_0_0_0, shapeCast S1x2048x128 (select (hdq 0#32) q z) shapeCasts_S2048x128_S1x2048x128⟩]

/-- The operand rows of one head of a block, from row `r0`, read off the scratch. -/
theorem qrow (v : View sg κ sp S2x2048x256 .bf16) (v6 : View sg κ sp S2048x128 .bf16) (v7 : View sg κ sp S2048x256 .bf16) {x0 : FVec Ideal S2048x128 .bf16} {x1 : FVec Ideal S2048x256 .bf16}
    (h0 : ∀ (r : Fin 2048) (j : Fin 128), x0 (ix2 r j) = ((Q r.val j.val : ℝ) : EReal)) (h1 : ∀ (r : Fin 2048) (j : Fin 256), x1 (ix2 r j) = ((QB r.val j.val : ℝ) : EReal))
    (h : Fin 2) (r0 : ℕ) (inb : ∀ a, (![h.val, r0, 0] : Fin 3 → ℕ) a + S1x512x256.size a ≤ S2x2048x256.size a) :
    QRow Q QB r0 h (shapeCast S512x256 (v.readCov (QPieces v6 v7 x0 x1) (Rect.unit (s := S2x2048x256) ![h.val, r0, 0] S1x512x256.size inb).toLoadRect) shapeCasts_S1x512x256_S512x256) := by
  have hr : r0 + 512 ≤ 2048 := inb 1
  have key : ∀ (r : Fin 512) (j : Fin 256), (shapeCast S512x256 (v.readCov (QPieces v6 v7 x0 x1) (Rect.unit (s := S2x2048x256) ![h.val, r0, 0] S1x512x256.size inb).toLoadRect) shapeCasts_S1x512x256_S512x256) (ix2 r j)
      = v.read (Elt Ideal) (v.writes (Elt Ideal) v.junk (QPieces v6 v7 x0 x1)) (ix3 h (⟨r0 + r.val, by omega⟩ : Fin 2048) j) := by
    intro r j
    refine (ValueIdx.shapeCast_1ab_ab_apply _ _ r j).trans ?_
    refine congrArg (v.read (Elt Ideal) (v.writes (Elt Ideal) v.junk (QPieces v6 v7 x0 x1))) (funext fun a => Fin.ext ?_)
    match a with
    | 0 => show h.val + 1 * 0 = h.val; omega
    | 1 => show r0 + 1 * r.val = r0 + r.val; omega
    | 2 => show 0 + 1 * j.val = j.val; omega
  have hq : ∀ (h : Fin 2) (R : Fin 2048) (j : Fin 128), (if hl j = h then (shapeCast S2048x128 (v6.readAt (Elt Ideal) (Rect.unit ![0, 0] S2048x128.size inb_S2048x128_S2048x128_0_0).toLoadRect (v6.rep x0)) shapeCasts_S2048x128_S2048x128) (ix2 R j) else (broadcast S2048x128 (Scalar.ofBits (F := Ideal) .bf16 0x0000#16)) (ix2 R j))
      = ((if hl j = h then Q R.val j.val else 0 : ℝ) : EReal) := by
    intro h R j
    by_cases e : hl j = h
    · simp only [e, if_true]
      refine (rd_rows v6 x0 (by omega) (by omega) _ _ R j).trans ((congrArg x0 ?_).trans (h0 R j))
      exact congrArg₂ ix2 rfl (Fin.ext (by show 0 + j.val = j.val; omega))
    · simp only [e, if_false]
      exact zeroBf
  obtain rfl | rfl : h = 0 ∨ h = 1 := by omega
  · refine ⟨fun r j => (key r _).trans ?_, fun r j => (key r _).trans ?_⟩
    · unfold QPieces
      rw [View.read_writes_cons_miss_of_axis _ _ _ _ _ (0 : Fin 3) 1 1 rfl rfl rfl (.inl Nat.zero_lt_one),
        View.read_writes_cons_miss_of_axis _ _ _ _ _ (0 : Fin 3) 1 1 rfl rfl rfl (.inl Nat.zero_lt_one),
        View.read_writes_cons_miss_of_axis _ _ _ _ _ (2 : Fin 3) 128 128 rfl rfl rfl (.inl j.isLt),
        View.read_writes_cons_hit_of_coords _ _ _ _ _ (ix3 (0 : Fin 1) (⟨r0 + r.val, by omega⟩ : Fin 2048) j) _ (by
          intro a
          match a with
          | 0 => rfl
          | 1 => show r0 + r.val = 0 + 1 * (r0 + r.val); omega
          | 2 => show j.val = 0 + 1 * j.val; omega)]
      refine (ValueIdx.shapeCast_ab_1ab_apply _ _ 0 _ j).trans ?_
      exact (select_hdq0 _ _ _ _).trans (hq 0 _ j)
    · unfold QPieces
      rw [View.read_writes_cons_miss_of_axis _ _ _ _ _ (0 : Fin 3) 1 1 rfl rfl rfl (.inl Nat.zero_lt_one),
        View.read_writes_cons_miss_of_axis _ _ _ _ _ (0 : Fin 3) 1 1 rfl rfl rfl (.inl Nat.zero_lt_one),
        View.read_writes_cons_hit_of_coords _ _ _ _ _ (ix3 (0 : Fin 1) (⟨r0 + r.val, by omega⟩ : Fin 2048) j) _ (by
          intro a
          match a with
          | 0 => rfl
          | 1 => show r0 + r.val = 0 + 1 * (r0 + r.val); omega
          | 2 => show 128 + j.val = 128 + 1 * j.val; omega)]
      refine (ValueIdx.shapeCast_ab_1ab_apply _ _ 0 _ j).trans ?_
      exact (rd_rows v7 x1 (by omega) (by omega) _ _ _ j).trans (h1 _ _)
  · refine ⟨fun r j => (key r _).trans ?_, fun r j => (key r _).trans ?_⟩
    · unfold QPieces
      rw [View.read_writes_cons_miss_of_axis _ _ _ _ _ (2 : Fin 3) 128 128 rfl rfl rfl (.inl j.isLt),
        View.read_writes_cons_hit_of_coords _ _ _ _ _ (ix3 (0 : Fin 1) (⟨r0 + r.val, by omega⟩ : Fin 2048) j) _ (by
          intro a
          match a with
          | 0 => rfl
          | 1 => show r0 + r.val = 0 + 1 * (r0 + r.val); omega
          | 2 => show j.val = 0 + 1 * j.val; omega)]
      refine (ValueIdx.shapeCast_ab_1ab_apply _ _ 0 _ j).trans ?_
      exact (select_hdq1 _ _ _ _).trans (hq 1 _ j)
    · unfold QPieces
      rw [View.read_writes_cons_hit_of_coords _ _ _ _ _ (ix3 (0 : Fin 1) (⟨r0 + r.val, by omega⟩ : Fin 2048) j) _ (by
          intro a
          match a with
          | 0 => rfl
          | 1 => show r0 + r.val = 0 + 1 * (r0 + r.val); omega
          | 2 => show 128 + j.val = 128 + 1 * j.val; omega)]
      refine (ValueIdx.shapeCast_ab_1ab_apply _ _ 0 _ j).trans ?_
      exact (rd_rows v7 x1 (by omega) (by omega) _ _ _ j).trans (h1 _ _)

/-! ## The statistics' scratches: what the block of rows from `r0` of one head holds -/

/-- The block of rows from `r0` of head `h` reads `W`. -/
def Holds (v : View sg κ sp S2x2048x128 .f32) (L : List (View.Piece (Elt Ideal) S2x2048x128 .f32)) (h r0 : ℕ) (W : FVec Ideal S512x128 .f32) : Prop :=
  ∀ inb : ∀ a, (![h, r0, 0] : Fin 3 → ℕ) a + S1x512x128.size a ≤ S2x2048x128.size a,
    shapeCast S512x128 (v.readCov L (Rect.unit (s := S2x2048x128) ![h, r0, 0] S1x512x128.size inb).toLoadRect) shapeCasts_S1x512x128_S512x128 = W

theorem Holds.skip {v : View sg κ sp S2x2048x128 .f32} {L : List (View.Piece (Elt Ideal) S2x2048x128 .f32)} {h r0 : ℕ} {W : FVec Ideal S512x128 .f32}
    (H : Holds v L h r0 W) {off : Fin 3 → ℕ} {inb : ∀ a, off a + S1x512x128.size a ≤ S2x2048x128.size a} {w : FVec Ideal S1x512x128 .f32}
    (hd : off 0 ≠ h ∨ off 1 + 512 ≤ r0 ∨ r0 + 512 ≤ off 1) : Holds v (⟨Rect.unit (s := S2x2048x128) off S1x512x128.size inb, w⟩ :: L) h r0 W := by
  intro inb'
  have := H inb'
  rw [View.readCov_skip]
  · exact this
  · refine decide_eq_true ?_
    rcases hd with hd | hd
    · exact ⟨0, by show _ ∨ _ ∨ off 0 + 1 * 0 < h ∨ h + 1 * 0 < off 0; omega⟩
    · exact ⟨1, by show _ ∨ _ ∨ off 1 + 1 * 511 < r0 ∨ r0 + 1 * 511 < off 1; omega⟩

theorem Holds.hit {v : View sg κ sp S2x2048x128 .f32} {L : List (View.Piece (Elt Ideal) S2x2048x128 .f32)} {h r0 : ℕ} {W : FVec Ideal S512x128 .f32}
    {inb : ∀ a, (![h, r0, 0] : Fin 3 → ℕ) a + S1x512x128.size a ≤ S2x2048x128.size a} :
    Holds v (⟨Rect.unit (s := S2x2048x128) ![h, r0, 0] S1x512x128.size inb, shapeCast S1x512x128 W shapeCasts_S512x128_S1x512x128⟩ :: L) h r0 W := by
  intro inb'
  rw [View.readCov_cons_toLoadRect]
  exact shapeCast_shapeCast _ _ _

theorem Holds.fill {v : View sg κ sp S2x2048x128 .f32} {h r0 : ℕ} {c : Ideal .f32} {inb : ∀ a, (![0, 0, 0] : Fin 3 → ℕ) a + S2x2048x128.size a ≤ S2x2048x128.size a} :
    Holds v [⟨Rect.unit (s := S2x2048x128) ![0, 0, 0] S2x2048x128.size inb, shapeCast S2x2048x128 (broadcast S2x2048x128 c) shapeCasts_S2x2048x128_S2x2048x128⟩] h r0
      (fun _ => c) := by
  intro inb'
  rw [View.readCov_fill _ _ _ _ _ (by decide)]
  rfl

/-- The block of rows from `r0` of the values' scratch reads `W`. -/
def Holds2 (v : View sg κ sp S2048x128 .f32) (L : List (View.Piece (Elt Ideal) S2048x128 .f32)) (r0 : ℕ) (W : FVec Ideal S512x128 .f32) : Prop :=
  ∀ inb : ∀ a, (![r0, 0] : Fin 2 → ℕ) a + S512x128.size a ≤ S2048x128.size a,
    v.readCov L (Rect.unit (s := S2048x128) ![r0, 0] S512x128.size inb).toLoadRect = W

theorem Holds2.skip {v : View sg κ sp S2048x128 .f32} {L : List (View.Piece (Elt Ideal) S2048x128 .f32)} {r0 : ℕ} {W : FVec Ideal S512x128 .f32}
    (H : Holds2 v L r0 W) {off : Fin 2 → ℕ} {inb : ∀ a, off a + S512x128.size a ≤ S2048x128.size a} {w : FVec Ideal S512x128 .f32}
    (hd : off 0 + 512 ≤ r0 ∨ r0 + 512 ≤ off 0) : Holds2 v (⟨Rect.unit (s := S2048x128) off S512x128.size inb, w⟩ :: L) r0 W := by
  intro inb'
  have := H inb'
  rw [View.readCov_skip]
  · exact this
  · exact decide_eq_true ⟨0, by show _ ∨ _ ∨ off 0 + 1 * 511 < r0 ∨ r0 + 1 * 511 < off 0; omega⟩

theorem Holds2.hit {v : View sg κ sp S2048x128 .f32} {L : List (View.Piece (Elt Ideal) S2048x128 .f32)} {r0 : ℕ} {W : FVec Ideal S512x128 .f32}
    {inb : ∀ a, (![r0, 0] : Fin 2 → ℕ) a + S512x128.size a ≤ S2048x128.size a} :
    Holds2 v (⟨Rect.unit (s := S2048x128) ![r0, 0] S512x128.size inb, shapeCast S512x128 W shapeCasts_S512x128_S512x128⟩ :: L) r0 W := by
  intro inb'
  rw [View.readCov_cons_toLoadRect]
  exact shapeCast_self _ _

theorem Holds2.fill {v : View sg κ sp S2048x128 .f32} {r0 : ℕ} {c : Ideal .f32} {inb : ∀ a, (![0, 0] : Fin 2 → ℕ) a + S2048x128.size a ≤ S2048x128.size a} :
    Holds2 v [⟨Rect.unit (s := S2048x128) ![0, 0] S2048x128.size inb, shapeCast S2048x128 (broadcast S2048x128 c) shapeCasts_S2048x128_S2048x128⟩] r0
      (fun _ => c) := by
  intro inb'
  rw [View.readCov_fill _ _ _ _ _ (by decide)]
  rfl

theorem Holds.at {v : View sg κ sp S2x2048x128 .f32} {L : List (View.Piece (Elt Ideal) S2x2048x128 .f32)} {h r0 : ℕ} {W : FVec Ideal S512x128 .f32}
    (H : Holds v L h r0 W) (inb : ∀ a, (![h, r0, 0] : Fin 3 → ℕ) a + S1x512x128.size a ≤ S2x2048x128.size a) (r : Fin 512) (n : Fin 128) :
    shapeCast S512x128 (v.readCov L (Rect.unit (s := S2x2048x128) ![h, r0, 0] S1x512x128.size inb).toLoadRect) shapeCasts_S1x512x128_S512x128 (ix2 r n) = W (ix2 r n) :=
  congrFun (H inb) _

theorem Holds.eq {v : View sg κ sp S2x2048x128 .f32} {L : List (View.Piece (Elt Ideal) S2x2048x128 .f32)} {h r0 : ℕ} {W : FVec Ideal S512x128 .f32}
    (H : Holds v L h r0 W) (inb : ∀ a, (![h, r0, 0] : Fin 3 → ℕ) a + S1x512x128.size a ≤ S2x2048x128.size a) :
    shapeCast S512x128 (v.readAt (Elt Ideal) (Rect.unit (s := S2x2048x128) ![h, r0, 0] S1x512x128.size inb).toLoadRect (v.writes (Elt Ideal) v.junk L)) shapeCasts_S1x512x128_S512x128 = W :=
  H inb

theorem Holds2.eq {v : View sg κ sp S2048x128 .f32} {L : List (View.Piece (Elt Ideal) S2048x128 .f32)} {r0 : ℕ} {W : FVec Ideal S512x128 .f32}
    (H : Holds2 v L r0 W) (inb : ∀ a, (![r0, 0] : Fin 2 → ℕ) a + S512x128.size a ≤ S2048x128.size a) :
    v.readAt (Elt Ideal) (Rect.unit (s := S2048x128) ![r0, 0] S512x128.size inb).toLoadRect (v.writes (Elt Ideal) v.junk L) = W :=
  H inb

theorem BlkSt.congr {m0 m1 l0 l1 acc m0' m1' l0' l1' acc' : FVec Ideal S512x128 .f32} {L A : Fin 512 → Fin 128 → ℝ} (H : BlkSt m0' m1' l0' l1' acc' L A)
    (e1 : m0 = m0') (e2 : m1 = m1') (e3 : l0 = l0') (e4 : l1 = l1') (e5 : acc = acc') : BlkSt m0 m1 l0 l1 acc L A := by
  subst e1 e2 e3 e4 e5; exact H

theorem Holds2.at {v : View sg κ sp S2048x128 .f32} {L : List (View.Piece (Elt Ideal) S2048x128 .f32)} {r0 : ℕ} {W : FVec Ideal S512x128 .f32}
    (H : Holds2 v L r0 W) (inb : ∀ a, (![r0, 0] : Fin 2 → ℕ) a + S512x128.size a ≤ S2048x128.size a) (r : Fin 512) (n : Fin 128) :
    v.readCov L (Rect.unit (s := S2048x128) ![r0, 0] S512x128.size inb).toLoadRect (ix2 r n) = W (ix2 r n) :=
  congrFun (H inb) _

/-! ## Reads over blocks of real numbers -/

theorem rd_real {R C N o : ℕ} {v : View sg κ sp ⟨2, ![R, C]⟩ .bf16} {x : FVec Ideal ⟨2, ![R, C]⟩ .bf16} {G : ℕ → ℕ → ℝ}
    (hx : ∀ (r : Fin R) (j : Fin C), x (ix2 r j) = ((G r.val j.val : ℝ) : EReal)) (hN : N ≤ R) (ho : o + 128 ≤ C)
    {inb : ∀ a, (![0, o] : Fin 2 → ℕ) a + (![N, 128] : Fin 2 → ℕ) a ≤ (![R, C] : Fin 2 → ℕ) a}
    {hc : Shape.ShapeCasts ⟨2, ![N, 128]⟩ ⟨2, ![N, 128]⟩} (k : Fin N) (j : Fin 128) :
    shapeCast (⟨2, ![N, 128]⟩ : Shape) (v.readAt (Elt Ideal) (Rect.unit (s := ⟨2, ![R, C]⟩) ![0, o] ![N, 128] inb).toLoadRect (v.rep x)) hc (ix2 k j)
      = ((G k.val (o + j.val) : ℝ) : EReal) :=
  (rd_rows v x hN ho inb hc k j).trans (hx _ _)

theorem rd_real0 {R C N : ℕ} {v : View sg κ sp ⟨2, ![R, C]⟩ .bf16} {x : FVec Ideal ⟨2, ![R, C]⟩ .bf16} {G : ℕ → ℕ → ℝ}
    (hx : ∀ (r : Fin R) (j : Fin C), x (ix2 r j) = ((G r.val j.val : ℝ) : EReal)) (hN : N ≤ R) (ho : 128 ≤ C)
    {inb : ∀ a, (![0, 0] : Fin 2 → ℕ) a + (![N, 128] : Fin 2 → ℕ) a ≤ (![R, C] : Fin 2 → ℕ) a}
    {hc : Shape.ShapeCasts ⟨2, ![N, 128]⟩ ⟨2, ![N, 128]⟩} (k : Fin N) (j : Fin 128) :
    shapeCast (⟨2, ![N, 128]⟩ : Shape) (v.readAt (Elt Ideal) (Rect.unit (s := ⟨2, ![R, C]⟩) ![0, 0] ![N, 128] inb).toLoadRect (v.rep x)) hc (ix2 k j)
      = ((G k.val j.val : ℝ) : EReal) := by
  rw [rd_real hx hN (by omega) k j, Nat.zero_add]

theorem zeroF : Ideal.ofBits .f32 0x00000000#32 = 0 := by simp [Ideal.ofBits, Ideal.ieee]

end Cert.KernelIdeal.Gen
-- ==== Proof.AttnA.lean ====
module

public import proofs.«01_k».proof.Proof.AttnReads

@[expose] public section

set_option maxRecDepth 16384

noncomputable section

namespace Cert.KernelIdeal.Gen

open Idealize.ShloMosaic Idealize.ShloMosaic.TcCoe Idealize.SL.Sem
open Facts₀ Cert.Softmax

/-! # The attention body on the first block of rows: the diagonal from nothing -/

variable {arg6 : Memref Cert.KernelIdeal.sig .tc .vmem S2048x128 .bf16} {arg7 : Memref Cert.KernelIdeal.sig .tc .vmem S2048x256 .bf16}
  {arg8 : Memref Cert.KernelIdeal.sig .tc .vmem S2048x128 .bf16} {arg9 : Memref Cert.KernelIdeal.sig .tc .vmem S2048x256 .bf16}
  {arg10 : Memref Cert.KernelIdeal.sig .tc .vmem S2048x128 .bf16}
  {x0 : FVec Ideal S2048x128 .bf16} {x1 : FVec Ideal S2048x256 .bf16} {x2 : FVec Ideal S2048x128 .bf16} {x3 : FVec Ideal S2048x256 .bf16} {x4 : FVec Ideal S2048x128 .bf16}
  {Q QB K KB V : ℕ → ℕ → ℝ}
  (h0 : ∀ (r : Fin 2048) (j : Fin 128), x0 (ix2 r j) = ((Q r.val j.val : ℝ) : EReal)) (h1 : ∀ (r : Fin 2048) (j : Fin 256), x1 (ix2 r j) = ((QB r.val j.val : ℝ) : EReal))
  (h2 : ∀ (r : Fin 2048) (j : Fin 128), x2 (ix2 r j) = ((K r.val j.val : ℝ) : EReal)) (h3 : ∀ (r : Fin 2048) (j : Fin 256), x3 (ix2 r j) = ((KB r.val j.val : ℝ) : EReal))
  (h4 : ∀ (r : Fin 2048) (j : Fin 128), x4 (ix2 r j) = ((V r.val j.val : ℝ) : EReal))

include h0 h1 h2 h3 h4

theorem runA_blk0 : BlkSt (kernelRun1_A.sl.v64_1 arg6 arg7 arg8 arg9 x0 x1 x2 x3) (kernelRun1_A.sl.v102 arg6 arg7 arg8 arg9 x0 x1 x2 x3) (kernelRun1_A.sl.v76_1 arg6 arg7 arg8 arg9 x0 x1 x2 x3) (kernelRun1_A.sl.v114 arg6 arg7 arg8 arg9 x0 x1 x2 x3) (kernelRun1_A.sl.v183 arg6 arg7 arg8 arg9 arg10 x0 x1 x2 x3 x4)
    (fun r n => 0 + ∑ k ∈ Finset.range (0 + r.val + 1), (2 : ℝ) ^ scr Q K QB KB (hl n) (0 + r.val) k)
    (fun r n => 0 + ∑ k ∈ Finset.range (0 + r.val + 1), (2 : ℝ) ^ scr Q K QB KB (hl n) (0 + r.val) k * V k n.val) :=
  blk512 0 (by decide) (BlkSt.init (by
        intro r n; refine (Holds.at (W := fun _ => Ideal.ofBits .f32 0xFF800000#32) ?_ _ r n).trans negInf; exact Holds.fill) (by
        intro r n; refine (Holds.at (W := fun _ => Ideal.ofBits .f32 0xFF800000#32) ?_ _ r n).trans negInf; refine Holds.skip ?_ (by decide); exact Holds.fill) (by
        intro r n; refine (Holds.at (W := fun _ => Ideal.ofBits .f32 0x00000000#32) ?_ _ r n).trans zeroF; exact Holds.fill) (by
        intro r n; refine (Holds.at (W := fun _ => Ideal.ofBits .f32 0x00000000#32) ?_ _ r n).trans zeroF; refine Holds.skip ?_ (by decide); exact Holds.fill) (by
        intro r n; refine (Holds2.at (W := fun _ => Ideal.ofBits .f32 0x00000000#32) ?_ _ r n).trans zeroF; exact Holds2.fill))
    (by exact qrow _ _ _ h0 h1 0 0 _) (by exact qrow _ _ _ h0 h1 1 0 _) (by exact rd_real0 (N := 512) h2 (by decide) (by decide)) (by exact rd_real0 (N := 512) h2 (by decide) (by decide))
    (by exact rd_real (N := 512) (o := 0) h3 (by decide) (by decide)) (by exact rd_real (N := 512) (o := 128) h3 (by decide) (by decide)) (by exact rd_real0 (N := 512) h4 (by decide) (by decide)) rfl rfl rfl rfl rfl rfl rfl rfl rfl rfl rfl rfl rfl rfl

theorem runA_blk1 : BlkSt (kernelRun1_A.sl.v207 arg6 arg7 arg8 arg9 x0 x1 x2 x3) (kernelRun1_A.sl.v245 arg6 arg7 arg8 arg9 x0 x1 x2 x3) (kernelRun1_A.sl.v219 arg6 arg7 arg8 arg9 x0 x1 x2 x3) (kernelRun1_A.sl.v257 arg6 arg7 arg8 arg9 x0 x1 x2 x3) (kernelRun1_A.sl.v326 arg6 arg7 arg8 arg9 arg10 x0 x1 x2 x3 x4)
    (fun r n => 0 + ∑ k ∈ Finset.range (512 + r.val + 1), (2 : ℝ) ^ scr Q K QB KB (hl n) (512 + r.val) k)
    (fun r n => 0 + ∑ k ∈ Finset.range (512 + r.val + 1), (2 : ℝ) ^ scr Q K QB KB (hl n) (512 + r.val) k * V k n.val) :=
  blk1024 512 (by decide) (BlkSt.init (by
        intro r n; refine (Holds.at (W := fun _ => Ideal.ofBits .f32 0xFF800000#32) ?_ _ r n).trans negInf; iterate 2 refine Holds.skip ?_ (by decide)
        exact Holds.fill) (by
        intro r n; refine (Holds.at (W := fun _ => Ideal.ofBits .f32 0xFF800000#32) ?_ _ r n).trans negInf; iterate 3 refine Holds.skip ?_ (by decide)
        exact Holds.fill) (by
        intro r n; refine (Holds.at (W := fun _ => Ideal.ofBits .f32 0x00000000#32) ?_ _ r n).trans zeroF; iterate 2 refine Holds.skip ?_ (by decide)
        exact Holds.fill) (by
        intro r n; refine (Holds.at (W := fun _ => Ideal.ofBits .f32 0x00000000#32) ?_ _ r n).trans zeroF; iterate 3 refine Holds.skip ?_ (by decide)
        exact Holds.fill) (by
        intro r n; refine (Holds2.at (W := fun _ => Ideal.ofBits .f32 0x00000000#32) ?_ _ r n).trans zeroF; refine Holds2.skip ?_ (by decide); exact Holds2.fill))
    (by exact qrow _ _ _ h0 h1 0 512 _) (by exact qrow _ _ _ h0 h1 1 512 _) (by exact rd_real0 (N := 1024) h2 (by decide) (by decide)) (by exact rd_real0 (N := 1024) h2 (by decide) (by decide))
    (by exact rd_real (N := 1024) (o := 0) h3 (by decide) (by decide)) (by exact rd_real (N := 1024) (o := 128) h3 (by decide) (by decide)) (by exact rd_real0 (N := 1024) h4 (by decide) (by decide)) rfl rfl rfl rfl rfl rfl rfl rfl rfl rfl rfl rfl rfl rfl

theorem runA_blk2 : BlkSt (kernelRun1_A.sl.v350 arg6 arg7 arg8 arg9 x0 x1 x2 x3) (kernelRun1_A.sl.v388 arg6 arg7 arg8 arg9 x0 x1 x2 x3) (kernelRun1_A.sl.v362 arg6 arg7 arg8 arg9 x0 x1 x2 x3) (kernelRun1_A.sl.v400 arg6 arg7 arg8 arg9 x0 x1 x2 x3) (kernelRun1_A.sl.v469 arg6 arg7 arg8 arg9 arg10 x0 x1 x2 x3 x4)
    (fun r n => 0 + ∑ k ∈ Finset.range (1024 + r.val + 1), (2 : ℝ) ^ scr Q K QB KB (hl n) (1024 + r.val) k)
    (fun r n => 0 + ∑ k ∈ Finset.range (1024 + r.val + 1), (2 : ℝ) ^ scr Q K QB KB (hl n) (1024 + r.val) k * V k n.val) :=
  blk1536 1024 (by decide) (BlkSt.init (by
        intro r n; refine (Holds.at (W := fun _ => Ideal.ofBits .f32 0xFF800000#32) ?_ _ r n).trans negInf; iterate 4 refine Holds.skip ?_ (by decide)
        exact Holds.fill) (by
        intro r n; refine (Holds.at (W := fun _ => Ideal.ofBits .f32 0xFF800000#32) ?_ _ r n).trans negInf; iterate 5 refine Holds.skip ?_ (by decide)
        exact Holds.fill) (by
        intro r n; refine (Holds.at (W := fun _ => Ideal.ofBits .f32 0x00000000#32) ?_ _ r n).trans zeroF; iterate 4 refine Holds.skip ?_ (by decide)
        exact Holds.fill) (by
        intro r n; refine (Holds.at (W := fun _ => Ideal.ofBits .f32 0x00000000#32) ?_ _ r n).trans zeroF; iterate 5 refine Holds.skip ?_ (by decide)
        exact Holds.fill) (by
        intro r n; refine (Holds2.at (W := fun _ => Ideal.ofBits .f32 0x00000000#32) ?_ _ r n).trans zeroF; iterate 2 refine Holds2.skip ?_ (by decide)
        exact Holds2.fill))
    (by exact qrow _ _ _ h0 h1 0 1024 _) (by exact qrow _ _ _ h0 h1 1 1024 _) (by exact rd_real0 (N := 1536) h2 (by decide) (by decide)) (by exact rd_real0 (N := 1536) h2 (by decide) (by decide))
    (by exact rd_real (N := 1536) (o := 0) h3 (by decide) (by decide)) (by exact rd_real (N := 1536) (o := 128) h3 (by decide) (by decide)) (by exact rd_real0 (N := 1536) h4 (by decide) (by decide)) rfl rfl rfl rfl rfl rfl rfl rfl rfl rfl rfl rfl rfl rfl

theorem runA_blk3 : BlkSt (kernelRun1_A.sl.v493 arg6 arg7 arg8 arg9 x0 x1 x2 x3) (kernelRun1_A.sl.v531 arg6 arg7 arg8 arg9 x0 x1 x2 x3) (kernelRun1_A.sl.v505 arg6 arg7 arg8 arg9 x0 x1 x2 x3) (kernelRun1_A.sl.v543 arg6 arg7 arg8 arg9 x0 x1 x2 x3) (kernelRun1_A.sl.v612 arg6 arg7 arg8 arg9 arg10 x0 x1 x2 x3 x4)
    (fun r n => 0 + ∑ k ∈ Finset.range (1536 + r.val + 1), (2 : ℝ) ^ scr Q K QB KB (hl n) (1536 + r.val) k)
    (fun r n => 0 + ∑ k ∈ Finset.range (1536 + r.val + 1), (2 : ℝ) ^ scr Q K QB KB (hl n) (1536 + r.val) k * V k n.val) :=
  blk2048 1536 (by decide) (BlkSt.init (by
        intro r n; refine (Holds.at (W := fun _ => Ideal.ofBits .f32 0xFF800000#32) ?_ _ r n).trans negInf; iterate 6 refine Holds.skip ?_ (by decide)
        exact Holds.fill) (by
        intro r n; refine (Holds.at (W := fun _ => Ideal.ofBits .f32 0xFF800000#32) ?_ _ r n).trans negInf; iterate 7 refine Holds.skip ?_ (by decide)
        exact Holds.fill) (by
        intro r n; refine (Holds.at (W := fun _ => Ideal.ofBits .f32 0x00000000#32) ?_ _ r n).trans zeroF; iterate 6 refine Holds.skip ?_ (by decide)
        exact Holds.fill) (by
        intro r n; refine (Holds.at (W := fun _ => Ideal.ofBits .f32 0x00000000#32) ?_ _ r n).trans zeroF; iterate 7 refine Holds.skip ?_ (by decide)
        exact Holds.fill) (by
        intro r n; refine (Holds2.at (W := fun _ => Ideal.ofBits .f32 0x00000000#32) ?_ _ r n).trans zeroF; iterate 3 refine Holds2.skip ?_ (by decide)
        exact Holds2.fill))
    (by exact qrow _ _ _ h0 h1 0 1536 _) (by exact qrow _ _ _ h0 h1 1 1536 _) (by exact rd_real0 (N := 2048) h2 (by decide) (by decide)) (by exact rd_real0 (N := 2048) h2 (by decide) (by decide))
    (by exact rd_real (N := 2048) (o := 0) h3 (by decide) (by decide)) (by exact rd_real (N := 2048) (o := 128) h3 (by decide) (by decide)) (by exact rd_real0 (N := 2048) h4 (by decide) (by decide)) rfl rfl rfl rfl rfl rfl rfl rfl rfl rfl rfl rfl rfl rfl

end Cert.KernelIdeal.Gen
-- ==== Proof.AttnB.lean ====
module

public import proofs.«01_k».proof.Proof.AttnReads

@[expose] public section

set_option maxRecDepth 16384

noncomputable section

namespace Cert.KernelIdeal.Gen

open Idealize.ShloMosaic Idealize.ShloMosaic.TcCoe Idealize.SL.Sem
open Facts₀ Cert.Softmax

/-! # The attention body on the second block of rows: the first block of keys, whole -/

variable {arg6 : Memref Cert.KernelIdeal.sig .tc .vmem S2048x128 .bf16} {arg7 : Memref Cert.KernelIdeal.sig .tc .vmem S2048x256 .bf16}
  {arg8 : Memref Cert.KernelIdeal.sig .tc .vmem S2048x128 .bf16} {arg9 : Memref Cert.KernelIdeal.sig .tc .vmem S2048x256 .bf16}
  {arg10 : Memref Cert.KernelIdeal.sig .tc .vmem S2048x128 .bf16}
  {x0 : FVec Ideal S2048x128 .bf16} {x1 : FVec Ideal S2048x256 .bf16} {x2 : FVec Ideal S2048x128 .bf16} {x3 : FVec Ideal S2048x256 .bf16} {x4 : FVec Ideal S2048x128 .bf16}
  {Q QB K KB V : ℕ → ℕ → ℝ}
  (h0 : ∀ (r : Fin 2048) (j : Fin 128), x0 (ix2 r j) = ((Q r.val j.val : ℝ) : EReal)) (h1 : ∀ (r : Fin 2048) (j : Fin 256), x1 (ix2 r j) = ((QB r.val j.val : ℝ) : EReal))
  (h2 : ∀ (r : Fin 2048) (j : Fin 128), x2 (ix2 r j) = ((K r.val j.val : ℝ) : EReal)) (h3 : ∀ (r : Fin 2048) (j : Fin 256), x3 (ix2 r j) = ((KB r.val j.val : ℝ) : EReal))
  (h4 : ∀ (r : Fin 2048) (j : Fin 128), x4 (ix2 r j) = ((V r.val j.val : ℝ) : EReal))

include h0 h1 h2 h3 h4

theorem runB_blk0 : BlkSt (kernelRun1_B.sl.v57_1 arg6 arg7 arg8 arg9 x0 x1 x2 x3) (kernelRun1_B.sl.v93 arg6 arg7 arg8 arg9 x0 x1 x2 x3) (kernelRun1_B.sl.v69_1 arg6 arg7 arg8 arg9 x0 x1 x2 x3) (kernelRun1_B.sl.v105 arg6 arg7 arg8 arg9 x0 x1 x2 x3) (kernelRun1_B.sl.v174 arg6 arg7 arg8 arg9 arg10 x0 x1 x2 x3 x4)
    (fun r n => 0 + ∑ k ∈ Finset.range 2048, (2 : ℝ) ^ scr Q K QB KB (hl n) (0 + r.val) k)
    (fun r n => 0 + ∑ k ∈ Finset.range 2048, (2 : ℝ) ^ scr Q K QB KB (hl n) (0 + r.val) k * V k n.val) :=
  blkFull 0  (BlkSt.init (by
        intro r n; refine (Holds.at (W := fun _ => Ideal.ofBits .f32 0xFF800000#32) ?_ _ r n).trans negInf; exact Holds.fill) (by
        intro r n; refine (Holds.at (W := fun _ => Ideal.ofBits .f32 0xFF800000#32) ?_ _ r n).trans negInf; refine Holds.skip ?_ (by decide); exact Holds.fill) (by
        intro r n; refine (Holds.at (W := fun _ => Ideal.ofBits .f32 0x00000000#32) ?_ _ r n).trans zeroF; exact Holds.fill) (by
        intro r n; refine (Holds.at (W := fun _ => Ideal.ofBits .f32 0x00000000#32) ?_ _ r n).trans zeroF; refine Holds.skip ?_ (by decide); exact Holds.fill) (by
        intro r n; refine (Holds2.at (W := fun _ => Ideal.ofBits .f32 0x00000000#32) ?_ _ r n).trans zeroF; exact Holds2.fill))
    (by exact qrow _ _ _ h0 h1 0 0 _) (by exact qrow _ _ _ h0 h1 1 0 _) (by exact rd_real0 (N := 2048) h2 (by decide) (by decide)) (by exact rd_real0 (N := 2048) h2 (by decide) (by decide))
    (by exact rd_real (N := 2048) (o := 0) h3 (by decide) (by decide)) (by exact rd_real (N := 2048) (o := 128) h3 (by decide) (by decide)) (by exact rd_real0 (N := 2048) h4 (by decide) (by decide)) rfl rfl rfl rfl rfl rfl rfl rfl rfl rfl rfl rfl rfl rfl

theorem runB_blk1 : BlkSt (kernelRun1_B.sl.v191 arg6 arg7 arg8 arg9 x0 x1 x2 x3) (kernelRun1_B.sl.v227 arg6 arg7 arg8 arg9 x0 x1 x2 x3) (kernelRun1_B.sl.v203 arg6 arg7 arg8 arg9 x0 x1 x2 x3) (kernelRun1_B.sl.v239 arg6 arg7 arg8 arg9 x0 x1 x2 x3) (kernelRun1_B.sl.v308 arg6 arg7 arg8 arg9 arg10 x0 x1 x2 x3 x4)
    (fun r n => 0 + ∑ k ∈ Finset.range 2048, (2 : ℝ) ^ scr Q K QB KB (hl n) (512 + r.val) k)
    (fun r n => 0 + ∑ k ∈ Finset.range 2048, (2 : ℝ) ^ scr Q K QB KB (hl n) (512 + r.val) k * V k n.val) :=
  blkFull 512  (BlkSt.init (by
        intro r n; refine (Holds.at (W := fun _ => Ideal.ofBits .f32 0xFF800000#32) ?_ _ r n).trans negInf; iterate 2 refine Holds.skip ?_ (by decide)
        exact Holds.fill) (by
        intro r n; refine (Holds.at (W := fun _ => Ideal.ofBits .f32 0xFF800000#32) ?_ _ r n).trans negInf; iterate 3 refine Holds.skip ?_ (by decide)
        exact Holds.fill) (by
        intro r n; refine (Holds.at (W := fun _ => Ideal.ofBits .f32 0x00000000#32) ?_ _ r n).trans zeroF; iterate 2 refine Holds.skip ?_ (by decide)
        exact Holds.fill) (by
        intro r n; refine (Holds.at (W := fun _ => Ideal.ofBits .f32 0x00000000#32) ?_ _ r n).trans zeroF; iterate 3 refine Holds.skip ?_ (by decide)
        exact Holds.fill) (by
        intro r n; refine (Holds2.at (W := fun _ => Ideal.ofBits .f32 0x00000000#32) ?_ _ r n).trans zeroF; refine Holds2.skip ?_ (by decide); exact Holds2.fill))
    (by exact qrow _ _ _ h0 h1 0 512 _) (by exact qrow _ _ _ h0 h1 1 512 _) (by exact rd_real0 (N := 2048) h2 (by decide) (by decide)) (by exact rd_real0 (N := 2048) h2 (by decide) (by decide))
    (by exact rd_real (N := 2048) (o := 0) h3 (by decide) (by decide)) (by exact rd_real (N := 2048) (o := 128) h3 (by decide) (by decide)) (by exact rd_real0 (N := 2048) h4 (by decide) (by decide)) rfl rfl rfl rfl rfl rfl rfl rfl rfl rfl rfl rfl rfl rfl

theorem runB_blk2 : BlkSt (kernelRun1_B.sl.v325 arg6 arg7 arg8 arg9 x0 x1 x2 x3) (kernelRun1_B.sl.v361 arg6 arg7 arg8 arg9 x0 x1 x2 x3) (kernelRun1_B.sl.v337 arg6 arg7 arg8 arg9 x0 x1 x2 x3) (kernelRun1_B.sl.v373 arg6 arg7 arg8 arg9 x0 x1 x2 x3) (kernelRun1_B.sl.v442 arg6 arg7 arg8 arg9 arg10 x0 x1 x2 x3 x4)
    (fun r n => 0 + ∑ k ∈ Finset.range 2048, (2 : ℝ) ^ scr Q K QB KB (hl n) (1024 + r.val) k)
    (fun r n => 0 + ∑ k ∈ Finset.range 2048, (2 : ℝ) ^ scr Q K QB KB (hl n) (1024 + r.val) k * V k n.val) :=
  blkFull 1024  (BlkSt.init (by
        intro r n; refine (Holds.at (W := fun _ => Ideal.ofBits .f32 0xFF800000#32) ?_ _ r n).trans negInf; iterate 4 refine Holds.skip ?_ (by decide)
        exact Holds.fill) (by
        intro r n; refine (Holds.at (W := fun _ => Ideal.ofBits .f32 0xFF800000#32) ?_ _ r n).trans negInf; iterate 5 refine Holds.skip ?_ (by decide)
        exact Holds.fill) (by
        intro r n; refine (Holds.at (W := fun _ => Ideal.ofBits .f32 0x00000000#32) ?_ _ r n).trans zeroF; iterate 4 refine Holds.skip ?_ (by decide)
        exact Holds.fill) (by
        intro r n; refine (Holds.at (W := fun _ => Ideal.ofBits .f32 0x00000000#32) ?_ _ r n).trans zeroF; iterate 5 refine Holds.skip ?_ (by decide)
        exact Holds.fill) (by
        intro r n; refine (Holds2.at (W := fun _ => Ideal.ofBits .f32 0x00000000#32) ?_ _ r n).trans zeroF; iterate 2 refine Holds2.skip ?_ (by decide)
        exact Holds2.fill))
    (by exact qrow _ _ _ h0 h1 0 1024 _) (by exact qrow _ _ _ h0 h1 1 1024 _) (by exact rd_real0 (N := 2048) h2 (by decide) (by decide)) (by exact rd_real0 (N := 2048) h2 (by decide) (by decide))
    (by exact rd_real (N := 2048) (o := 0) h3 (by decide) (by decide)) (by exact rd_real (N := 2048) (o := 128) h3 (by decide) (by decide)) (by exact rd_real0 (N := 2048) h4 (by decide) (by decide)) rfl rfl rfl rfl rfl rfl rfl rfl rfl rfl rfl rfl rfl rfl

theorem runB_blk3 : BlkSt (kernelRun1_B.sl.v459 arg6 arg7 arg8 arg9 x0 x1 x2 x3) (kernelRun1_B.sl.v495 arg6 arg7 arg8 arg9 x0 x1 x2 x3) (kernelRun1_B.sl.v471 arg6 arg7 arg8 arg9 x0 x1 x2 x3) (kernelRun1_B.sl.v507 arg6 arg7 arg8 arg9 x0 x1 x2 x3) (addf (kernelRun1_B.sl.v547 arg6 arg7 arg8 arg9 arg10 x0 x1 x2 x3 x4) (select hdw (kernelRun1_B.sl.v517 arg6 arg7 arg8 arg9 arg10 x0 x1 x2 x3 x4) (kernelRun1_B.sl.v481 arg6 arg7 arg8 arg9 arg10 x0 x1 x2 x3 x4)))
    (fun r n => 0 + ∑ k ∈ Finset.range 2048, (2 : ℝ) ^ scr Q K QB KB (hl n) (1536 + r.val) k)
    (fun r n => 0 + ∑ k ∈ Finset.range 2048, (2 : ℝ) ^ scr Q K QB KB (hl n) (1536 + r.val) k * V k n.val) :=
  blkFull 1536  (BlkSt.init (by
        intro r n; refine (Holds.at (W := fun _ => Ideal.ofBits .f32 0xFF800000#32) ?_ _ r n).trans negInf; iterate 6 refine Holds.skip ?_ (by decide)
        exact Holds.fill) (by
        intro r n; refine (Holds.at (W := fun _ => Ideal.ofBits .f32 0xFF800000#32) ?_ _ r n).trans negInf; iterate 7 refine Holds.skip ?_ (by decide)
        exact Holds.fill) (by
        intro r n; refine (Holds.at (W := fun _ => Ideal.ofBits .f32 0x00000000#32) ?_ _ r n).trans zeroF; iterate 6 refine Holds.skip ?_ (by decide)
        exact Holds.fill) (by
        intro r n; refine (Holds.at (W := fun _ => Ideal.ofBits .f32 0x00000000#32) ?_ _ r n).trans zeroF; iterate 7 refine Holds.skip ?_ (by decide)
        exact Holds.fill) (by
        intro r n; refine (Holds2.at (W := fun _ => Ideal.ofBits .f32 0x00000000#32) ?_ _ r n).trans zeroF; iterate 3 refine Holds2.skip ?_ (by decide)
        exact Holds2.fill))
    (by exact qrow _ _ _ h0 h1 0 1536 _) (by exact qrow _ _ _ h0 h1 1 1536 _) (by exact rd_real0 (N := 2048) h2 (by decide) (by decide)) (by exact rd_real0 (N := 2048) h2 (by decide) (by decide))
    (by exact rd_real (N := 2048) (o := 0) h3 (by decide) (by decide)) (by exact rd_real (N := 2048) (o := 128) h3 (by decide) (by decide)) (by exact rd_real0 (N := 2048) h4 (by decide) (by decide)) rfl rfl rfl rfl rfl rfl rfl rfl rfl rfl rfl rfl rfl rfl

end Cert.KernelIdeal.Gen
-- ==== Proof.AttnC.lean ====
module

public import proofs.«01_k».proof.Proof.AttnB

@[expose] public section

set_option maxRecDepth 16384

noncomputable section

namespace Cert.KernelIdeal.Gen

open Idealize.ShloMosaic Idealize.ShloMosaic.TcCoe Idealize.SL.Sem
open Facts₀ Cert.Softmax

/-! # The attention body on the second block of rows: the diagonal, from what the first block of keys left -/

variable {c : Dev nD} {b6 : Memref Cert.KernelIdeal.sig .tc .vmem S2048x128 .bf16} {b7 : Memref Cert.KernelIdeal.sig .tc .vmem S2048x256 .bf16}
  {b8 : Memref Cert.KernelIdeal.sig .tc .vmem S2048x128 .bf16} {b9 : Memref Cert.KernelIdeal.sig .tc .vmem S2048x256 .bf16} {b10 : Memref Cert.KernelIdeal.sig .tc .vmem S2048x128 .bf16}
  {arg8 : Memref Cert.KernelIdeal.sig .tc .vmem S2048x128 .bf16} {arg9 : Memref Cert.KernelIdeal.sig .tc .vmem S2048x256 .bf16} {arg10 : Memref Cert.KernelIdeal.sig .tc .vmem S2048x128 .bf16}
  {x0 : FVec Ideal S2048x128 .bf16} {x1 : FVec Ideal S2048x256 .bf16} {y2 : FVec Ideal S2048x128 .bf16} {y3 : FVec Ideal S2048x256 .bf16} {y4 : FVec Ideal S2048x128 .bf16}
  {x2 : FVec Ideal S2048x128 .bf16} {x3 : FVec Ideal S2048x256 .bf16} {x4 : FVec Ideal S2048x128 .bf16}
  {xa0 : Buf (Elt Ideal) ((c : Thread nD τ).loc cc1_scratch0)} {xa1 : Buf (Elt Ideal) ((c : Thread nD τ).loc cc1_scratch1)}
  {xa2 : Buf (Elt Ideal) ((c : Thread nD τ).loc cc1_scratch2)} {xa3 : Buf (Elt Ideal) ((c : Thread nD τ).loc cc1_scratch3)}
  {Q QB K KB V K' KB' V' : ℕ → ℕ → ℝ}
  (ha0 : xa0 = scM1_0.view.writes (Elt Ideal) scM1_0.view.junk (kernelRun1_B.sl.HS0_4 b6 b7 x0 x1))
  (ha1 : xa1 = scM1_1.view.writes (Elt Ideal) scM1_1.view.junk (kernelRun1_B.sl.HS1_9 b6 b7 b8 b9 x0 x1 y2 y3))
  (ha2 : xa2 = scM1_2.view.writes (Elt Ideal) scM1_2.view.junk (kernelRun1_B.sl.HS2_9 b6 b7 b8 b9 x0 x1 y2 y3))
  (ha3 : xa3 = scM1_3.view.writes (Elt Ideal) scM1_3.view.junk (kernelRun1_B.sl.HS3_5 b6 b7 b8 b9 b10 x0 x1 y2 y3 y4))
  (h0 : ∀ (r : Fin 2048) (j : Fin 128), x0 (ix2 r j) = ((Q r.val j.val : ℝ) : EReal)) (h1 : ∀ (r : Fin 2048) (j : Fin 256), x1 (ix2 r j) = ((QB r.val j.val : ℝ) : EReal))
  (g2 : ∀ (r : Fin 2048) (j : Fin 128), y2 (ix2 r j) = ((K' r.val j.val : ℝ) : EReal)) (g3 : ∀ (r : Fin 2048) (j : Fin 256), y3 (ix2 r j) = ((KB' r.val j.val : ℝ) : EReal))
  (g4 : ∀ (r : Fin 2048) (j : Fin 128), y4 (ix2 r j) = ((V' r.val j.val : ℝ) : EReal))
  (h2 : ∀ (r : Fin 2048) (j : Fin 128), x2 (ix2 r j) = ((K r.val j.val : ℝ) : EReal)) (h3 : ∀ (r : Fin 2048) (j : Fin 256), x3 (ix2 r j) = ((KB r.val j.val : ℝ) : EReal))
  (h4 : ∀ (r : Fin 2048) (j : Fin 128), x4 (ix2 r j) = ((V r.val j.val : ℝ) : EReal))

include ha0 ha1 ha2 ha3 h0 h1 g2 g3 g4 h2 h3 h4

theorem runC_blk0 : BlkSt (kernelRun1_C.sl.v64 c arg8 arg9 x2 x3 xa0 xa1) (kernelRun1_C.sl.v102 c arg8 arg9 x2 x3 xa0 xa1) (kernelRun1_C.sl.v76 c arg8 arg9 x2 x3 xa0 xa1 xa2) (kernelRun1_C.sl.v114 c arg8 arg9 x2 x3 xa0 xa1 xa2) (kernelRun1_C.sl.v183 c arg8 arg9 arg10 x2 x3 x4 xa0 xa1 xa3)
    (fun r n => (0 + ∑ k ∈ Finset.range 2048, (2 : ℝ) ^ scr Q K' QB KB' (hl n) (0 + r.val) k) + ∑ k ∈ Finset.range (0 + r.val + 1), (2 : ℝ) ^ scr Q K QB KB (hl n) (0 + r.val) k)
    (fun r n => (0 + ∑ k ∈ Finset.range 2048, (2 : ℝ) ^ scr Q K' QB KB' (hl n) (0 + r.val) k * V' k n.val) + ∑ k ∈ Finset.range (0 + r.val + 1), (2 : ℝ) ^ scr Q K QB KB (hl n) (0 + r.val) k * V k n.val) := by
  subst ha0 ha1 ha2 ha3
  exact blk512 0 (by decide) (BlkSt.congr (runB_blk0 h0 h1 g2 g3 g4) (by
        refine Holds.eq ?_ _; iterate 7 refine Holds.skip ?_ (by decide)
        exact Holds.hit) (by
        refine Holds.eq ?_ _; iterate 6 refine Holds.skip ?_ (by decide)
        exact Holds.hit) (by
        refine Holds.eq ?_ _; iterate 7 refine Holds.skip ?_ (by decide)
        exact Holds.hit) (by
        refine Holds.eq ?_ _; iterate 6 refine Holds.skip ?_ (by decide)
        exact Holds.hit) (by
        refine Holds2.eq ?_ _; iterate 3 refine Holds2.skip ?_ (by decide)
        exact Holds2.hit))
    (by exact qrow _ _ _ h0 h1 0 0 _) (by exact qrow _ _ _ h0 h1 1 0 _) (by exact rd_real0 (N := 512) h2 (by decide) (by decide)) (by exact rd_real0 (N := 512) h2 (by decide) (by decide))
    (by exact rd_real (N := 512) (o := 0) h3 (by decide) (by decide)) (by exact rd_real (N := 512) (o := 128) h3 (by decide) (by decide)) (by exact rd_real0 (N := 512) h4 (by decide) (by decide)) rfl rfl rfl rfl rfl rfl rfl rfl rfl rfl rfl rfl rfl rfl

theorem runC_blk1 : BlkSt (kernelRun1_C.sl.v207 c arg8 arg9 x2 x3 xa0 xa1) (kernelRun1_C.sl.v245 c arg8 arg9 x2 x3 xa0 xa1) (kernelRun1_C.sl.v219 c arg8 arg9 x2 x3 xa0 xa1 xa2) (kernelRun1_C.sl.v257 c arg8 arg9 x2 x3 xa0 xa1 xa2) (kernelRun1_C.sl.v326 c arg8 arg9 arg10 x2 x3 x4 xa0 xa1 xa3)
    (fun r n => (0 + ∑ k ∈ Finset.range 2048, (2 : ℝ) ^ scr Q K' QB KB' (hl n) (512 + r.val) k) + ∑ k ∈ Finset.range (512 + r.val + 1), (2 : ℝ) ^ scr Q K QB KB (hl n) (512 + r.val) k)
    (fun r n => (0 + ∑ k ∈ Finset.range 2048, (2 : ℝ) ^ scr Q K' QB KB' (hl n) (512 + r.val) k * V' k n.val) + ∑ k ∈ Finset.range (512 + r.val + 1), (2 : ℝ) ^ scr Q K QB KB (hl n) (512 + r.val) k * V k n.val) := by
  subst ha0 ha1 ha2 ha3
  exact blk1024 512 (by decide) (BlkSt.congr (runB_blk1 h0 h1 g2 g3 g4) (by
        refine Holds.eq ?_ _; iterate 5 refine Holds.skip ?_ (by decide)
        exact Holds.hit) (by
        refine Holds.eq ?_ _; iterate 4 refine Holds.skip ?_ (by decide)
        exact Holds.hit) (by
        refine Holds.eq ?_ _; iterate 5 refine Holds.skip ?_ (by decide)
        exact Holds.hit) (by
        refine Holds.eq ?_ _; iterate 4 refine Holds.skip ?_ (by decide)
        exact Holds.hit) (by
        refine Holds2.eq ?_ _; iterate 2 refine Holds2.skip ?_ (by decide)
        exact Holds2.hit))
    (by exact qrow _ _ _ h0 h1 0 512 _) (by exact qrow _ _ _ h0 h1 1 512 _) (by exact rd_real0 (N := 1024) h2 (by decide) (by decide)) (by exact rd_real0 (N := 1024) h2 (by decide) (by decide))
    (by exact rd_real (N := 1024) (o := 0) h3 (by decide) (by decide)) (by exact rd_real (N := 1024) (o := 128) h3 (by decide) (by decide)) (by exact rd_real0 (N := 1024) h4 (by decide) (by decide)) rfl rfl rfl rfl rfl rfl rfl rfl rfl rfl rfl rfl rfl rfl

theorem runC_blk2 : BlkSt (kernelRun1_C.sl.v350 c arg8 arg9 x2 x3 xa0 xa1) (kernelRun1_C.sl.v388 c arg8 arg9 x2 x3 xa0 xa1) (kernelRun1_C.sl.v362 c arg8 arg9 x2 x3 xa0 xa1 xa2) (kernelRun1_C.sl.v400 c arg8 arg9 x2 x3 xa0 xa1 xa2) (kernelRun1_C.sl.v469 c arg8 arg9 arg10 x2 x3 x4 xa0 xa1 xa3)
    (fun r n => (0 + ∑ k ∈ Finset.range 2048, (2 : ℝ) ^ scr Q K' QB KB' (hl n) (1024 + r.val) k) + ∑ k ∈ Finset.range (1024 + r.val + 1), (2 : ℝ) ^ scr Q K QB KB (hl n) (1024 + r.val) k)
    (fun r n => (0 + ∑ k ∈ Finset.range 2048, (2 : ℝ) ^ scr Q K' QB KB' (hl n) (1024 + r.val) k * V' k n.val) + ∑ k ∈ Finset.range (1024 + r.val + 1), (2 : ℝ) ^ scr Q K QB KB (hl n) (1024 + r.val) k * V k n.val) := by
  subst ha0 ha1 ha2 ha3
  exact blk1536 1024 (by decide) (BlkSt.congr (runB_blk2 h0 h1 g2 g3 g4) (by
        refine Holds.eq ?_ _; iterate 3 refine Holds.skip ?_ (by decide)
        exact Holds.hit) (by
        refine Holds.eq ?_ _; iterate 2 refine Holds.skip ?_ (by decide)
        exact Holds.hit) (by
        refine Holds.eq ?_ _; iterate 3 refine Holds.skip ?_ (by decide)
        exact Holds.hit) (by
        refine Holds.eq ?_ _; iterate 2 refine Holds.skip ?_ (by decide)
        exact Holds.hit) (by
        refine Holds2.eq ?_ _; refine Holds2.skip ?_ (by decide); exact Holds2.hit))
    (by exact qrow _ _ _ h0 h1 0 1024 _) (by exact qrow _ _ _ h0 h1 1 1024 _) (by exact rd_real0 (N := 1536) h2 (by decide) (by decide)) (by exact rd_real0 (N := 1536) h2 (by decide) (by decide))
    (by exact rd_real (N := 1536) (o := 0) h3 (by decide) (by decide)) (by exact rd_real (N := 1536) (o := 128) h3 (by decide) (by decide)) (by exact rd_real0 (N := 1536) h4 (by decide) (by decide)) rfl rfl rfl rfl rfl rfl rfl rfl rfl rfl rfl rfl rfl rfl

theorem runC_blk3 : BlkSt (kernelRun1_C.sl.v493 c arg8 arg9 x2 x3 xa0 xa1) (kernelRun1_C.sl.v531 c arg8 arg9 x2 x3 xa0 xa1) (kernelRun1_C.sl.v505 c arg8 arg9 x2 x3 xa0 xa1 xa2) (kernelRun1_C.sl.v543 c arg8 arg9 x2 x3 xa0 xa1 xa2) (kernelRun1_C.sl.v612 c arg8 arg9 arg10 x2 x3 x4 xa0 xa1 xa3)
    (fun r n => (0 + ∑ k ∈ Finset.range 2048, (2 : ℝ) ^ scr Q K' QB KB' (hl n) (1536 + r.val) k) + ∑ k ∈ Finset.range (1536 + r.val + 1), (2 : ℝ) ^ scr Q K QB KB (hl n) (1536 + r.val) k)
    (fun r n => (0 + ∑ k ∈ Finset.range 2048, (2 : ℝ) ^ scr Q K' QB KB' (hl n) (1536 + r.val) k * V' k n.val) + ∑ k ∈ Finset.range (1536 + r.val + 1), (2 : ℝ) ^ scr Q K QB KB (hl n) (1536 + r.val) k * V k n.val) := by
  subst ha0 ha1 ha2 ha3
  exact blk2048 1536 (by decide) (BlkSt.congr (runB_blk3 h0 h1 g2 g3 g4) (by
        refine Holds.eq ?_ _; refine Holds.skip ?_ (by decide); exact Holds.hit) (by
        refine Holds.eq ?_ _; exact Holds.hit) (by
        refine Holds.eq ?_ _; refine Holds.skip ?_ (by decide); exact Holds.hit) (by
        refine Holds.eq ?_ _; exact Holds.hit) (by
        refine Holds2.eq ?_ _; exact Holds2.hit))
    (by exact qrow _ _ _ h0 h1 0 1536 _) (by exact qrow _ _ _ h0 h1 1 1536 _) (by exact rd_real0 (N := 2048) h2 (by decide) (by decide)) (by exact rd_real0 (N := 2048) h2 (by decide) (by decide))
    (by exact rd_real (N := 2048) (o := 0) h3 (by decide) (by decide)) (by exact rd_real (N := 2048) (o := 128) h3 (by decide) (by decide)) (by exact rd_real0 (N := 2048) h4 (by decide) (by decide)) rfl rfl rfl rfl rfl rfl rfl rfl rfl rfl rfl rfl rfl rfl

end Cert.KernelIdeal.Gen
-- ==== Proof.AttnOut.lean ====
module

public import proofs.«01_k».proof.Proof.AttnA
public import proofs.«01_k».proof.Proof.AttnC

@[expose] public section

set_option maxRecDepth 16384

noncomputable section

namespace Cert.KernelIdeal.Gen

open Idealize.ShloMosaic Idealize.ShloMosaic.TcCoe Idealize.SL.Sem
open Facts₀ Cert.Softmax

/-! # What the attention body writes -/

theorem pos2 (f : ℕ → ℝ) (m : ℕ) : 0 < ∑ k ∈ Finset.range (m + 1), (2 : ℝ) ^ f k :=
  Finset.sum_pos (fun k _ => Real.rpow_pos_of_pos two_pos _) ⟨0, Finset.mem_range.2 (by omega)⟩

theorem pos1 (f : ℕ → ℝ) : 0 < ∑ k ∈ Finset.range 2048, (2 : ℝ) ^ f k := pos2 f 2047

/-- One row of a finished block: the weighted values over the sum of the weights. -/
theorem out_row {v2 : View Cert.KernelIdeal.sig .tc .vmem S2x2048x128 .f32} {v3 : View Cert.KernelIdeal.sig .tc .vmem S2048x128 .f32}
    {L2 : List (View.Piece (Elt Ideal) S2x2048x128 .f32)} {L3 : List (View.Piece (Elt Ideal) S2048x128 .f32)} {r0 : ℕ}
    {m0 m1 l0 l1 acc : FVec Ideal S512x128 .f32} {L A : Fin 512 → Fin 128 → ℝ} (B : BlkSt m0 m1 l0 l1 acc L A) (hL : ∀ r n, 0 < L r n)
    (H0 : Holds v2 L2 0 r0 l0) (H1 : Holds v2 L2 1 r0 l1) (Ha : Holds2 v3 L3 r0 acc) (hr : r0 + 512 ≤ 2048) (R : Fin 2048) (r : Fin 512) (n : Fin 128) (hR : R.val = r0 + r.val) :
    k1_pay2 (v3.readCov L3 (Rect.unit (s := S2048x128) ![0, 0] S2048x128.size inb_S2048x128_S2048x128_0_0).toLoadRect)
      (v2.readCov L2 (Rect.unit (s := S2x2048x128) ![0, 0, 0] S1x2048x128.size inb_S2x2048x128_S1x2048x128_0_0_0).toLoadRect)
      (v2.readCov L2 (Rect.unit (s := S2x2048x128) ![1, 0, 0] S1x2048x128.size inb_S2x2048x128_S1x2048x128_1_0_0).toLoadRect) (ix2 R n)
      = ((A r n / L r n : ℝ) : EReal) := by
  obtain ⟨M, -, -, hM⟩ := B
  have e3 : v3.readCov L3 (Rect.unit (s := S2048x128) ![0, 0] S2048x128.size inb_S2048x128_S2048x128_0_0).toLoadRect (ix2 R n) = acc (ix2 r n) := by
    refine Eq.trans ?_ (Ha.at (by intro a; match a with | 0 => exact hr | 1 => exact Nat.le_refl 128) r n)
    refine congrArg (v3.read (Elt Ideal) (v3.writes (Elt Ideal) v3.junk L3)) (funext fun a => Fin.ext ?_)
    match a with
    | 0 => show 0 + 1 * R.val = r0 + 1 * r.val; omega
    | 1 => rfl
  have inb : ∀ h : ℕ, h < 2 → ∀ a, (![h, r0, 0] : Fin 3 → ℕ) a + S1x512x128.size a ≤ S2x2048x128.size a := by
    intro h hh a
    match a with
    | 0 => show h + 1 ≤ 2; omega
    | 1 => exact hr
    | 2 => exact Nat.le_refl 128
  have e0 : shapeCast S2048x128 (v2.readCov L2 (Rect.unit (s := S2x2048x128) ![0, 0, 0] S1x2048x128.size inb_S2x2048x128_S1x2048x128_0_0_0).toLoadRect) shapeCasts_S1x2048x128_S2048x128 (ix2 R n) = l0 (ix2 r n) := by
    refine Eq.trans ?_ (H0.at (inb 0 (by omega)) r n)
    refine (ValueIdx.shapeCast_1ab_ab_apply _ _ R n).trans (Eq.trans ?_ (ValueIdx.shapeCast_1ab_ab_apply _ _ r n).symm)
    refine congrArg (v2.read (Elt Ideal) (v2.writes (Elt Ideal) v2.junk L2)) (funext fun a => Fin.ext ?_)
    match a with
    | 0 => rfl
    | 1 => show 0 + 1 * R.val = r0 + 1 * r.val; omega
    | 2 => rfl
  have e1 : shapeCast S2048x128 (v2.readCov L2 (Rect.unit (s := S2x2048x128) ![1, 0, 0] S1x2048x128.size inb_S2x2048x128_S1x2048x128_1_0_0).toLoadRect) shapeCasts_S1x2048x128_S2048x128 (ix2 R n) = l1 (ix2 r n) := by
    refine Eq.trans ?_ (H1.at (inb 1 (by omega)) r n)
    refine (ValueIdx.shapeCast_1ab_ab_apply _ _ R n).trans (Eq.trans ?_ (ValueIdx.shapeCast_1ab_ab_apply _ _ r n).symm)
    refine congrArg (v2.read (Elt Ideal) (v2.writes (Elt Ideal) v2.junk L2)) (funext fun a => Fin.ext ?_)
    match a with
    | 0 => rfl
    | 1 => show 0 + 1 * R.val = r0 + 1 * r.val; omega
    | 2 => rfl
  refine Eq.trans (congrArg₂ Ideal.div e3 ((select_hdq1 (φ := .f32) _ _ R n).trans ?_)) ((hM r n).quot (hL r n))
  rw [e0, e1]
  unfold hl
  by_cases h : n.val < 64 <;> simp [h]

section

variable {arg6 : Memref Cert.KernelIdeal.sig .tc .vmem S2048x128 .bf16} {arg7 : Memref Cert.KernelIdeal.sig .tc .vmem S2048x256 .bf16}
  {arg8 : Memref Cert.KernelIdeal.sig .tc .vmem S2048x128 .bf16} {arg9 : Memref Cert.KernelIdeal.sig .tc .vmem S2048x256 .bf16}
  {arg10 : Memref Cert.KernelIdeal.sig .tc .vmem S2048x128 .bf16}
  {x0 : FVec Ideal S2048x128 .bf16} {x1 : FVec Ideal S2048x256 .bf16} {x2 : FVec Ideal S2048x128 .bf16} {x3 : FVec Ideal S2048x256 .bf16} {x4 : FVec Ideal S2048x128 .bf16}
  {Q QB K KB V : ℕ → ℕ → ℝ}
  (h0 : ∀ (r : Fin 2048) (j : Fin 128), x0 (ix2 r j) = ((Q r.val j.val : ℝ) : EReal)) (h1 : ∀ (r : Fin 2048) (j : Fin 256), x1 (ix2 r j) = ((QB r.val j.val : ℝ) : EReal))
  (h2 : ∀ (r : Fin 2048) (j : Fin 128), x2 (ix2 r j) = ((K r.val j.val : ℝ) : EReal)) (h3 : ∀ (r : Fin 2048) (j : Fin 256), x3 (ix2 r j) = ((KB r.val j.val : ℝ) : EReal))
  (h4 : ∀ (r : Fin 2048) (j : Fin 128), x4 (ix2 r j) = ((V r.val j.val : ℝ) : EReal))

include h0 h1 h2 h3 h4

theorem runA_out (R : Fin 2048) (n : Fin 128) : k1_pay2 (kernelRun1_A.sl.v44_1 arg6 arg7 arg8 arg9 arg10 x0 x1 x2 x3 x4) (kernelRun1_A.sl.v45_1 arg6 arg7 arg8 arg9 x0 x1 x2 x3) (kernelRun1_A.sl.v47 arg6 arg7 arg8 arg9 x0 x1 x2 x3) (ix2 R n)
    = ((∑ k ∈ Finset.range (R.val + 1), (2 : ℝ) ^ scr Q K QB KB (hl n) R.val k * V k n.val) / (∑ k ∈ Finset.range (R.val + 1), (2 : ℝ) ^ scr Q K QB KB (hl n) R.val k) : ℝ) := by
  have hR := R.isLt
  by_cases c0 : R.val < 512
  · refine Eq.trans (out_row (r0 := 0) (runA_blk0 (arg6 := arg6) (arg7 := arg7) (arg8 := arg8) (arg9 := arg9) (arg10 := arg10) h0 h1 h2 h3 h4) (fun r n => add_pos_of_nonneg_of_pos le_rfl (pos2 _ _)) (by
        iterate 7 refine Holds.skip ?_ (by decide)
        exact Holds.hit) (by
        iterate 6 refine Holds.skip ?_ (by decide)
        exact Holds.hit) (by
        iterate 3 refine Holds2.skip ?_ (by decide)
        exact Holds2.hit)
      (by decide) R ⟨R.val - 0, by omega⟩ n (by show R.val = 0 + (R.val - 0); omega)) ?_
    simp only [zero_add, show 0 + (R.val - 0) = R.val by omega]
  by_cases c1 : R.val < 1024
  · refine Eq.trans (out_row (r0 := 512) (runA_blk1 (arg6 := arg6) (arg7 := arg7) (arg8 := arg8) (arg9 := arg9) (arg10 := arg10) h0 h1 h2 h3 h4) (fun r n => add_pos_of_nonneg_of_pos le_rfl (pos2 _ _)) (by
        iterate 5 refine Holds.skip ?_ (by decide)
        exact Holds.hit) (by
        iterate 4 refine Holds.skip ?_ (by decide)
        exact Holds.hit) (by
        iterate 2 refine Holds2.skip ?_ (by decide)
        exact Holds2.hit)
      (by decide) R ⟨R.val - 512, by omega⟩ n (by show R.val = 512 + (R.val - 512); omega)) ?_
    simp only [zero_add, show 512 + (R.val - 512) = R.val by omega]
  by_cases c2 : R.val < 1536
  · refine Eq.trans (out_row (r0 := 1024) (runA_blk2 (arg6 := arg6) (arg7 := arg7) (arg8 := arg8) (arg9 := arg9) (arg10 := arg10) h0 h1 h2 h3 h4) (fun r n => add_pos_of_nonneg_of_pos le_rfl (pos2 _ _)) (by
        iterate 3 refine Holds.skip ?_ (by decide)
        exact Holds.hit) (by
        iterate 2 refine Holds.skip ?_ (by decide)
        exact Holds.hit) (by
        refine Holds2.skip ?_ (by decide); exact Holds2.hit)
      (by decide) R ⟨R.val - 1024, by omega⟩ n (by show R.val = 1024 + (R.val - 1024); omega)) ?_
    simp only [zero_add, show 1024 + (R.val - 1024) = R.val by omega]
  refine Eq.trans (out_row (r0 := 1536) (runA_blk3 (arg6 := arg6) (arg7 := arg7) (arg8 := arg8) (arg9 := arg9) (arg10 := arg10) h0 h1 h2 h3 h4) (fun r n => add_pos_of_nonneg_of_pos le_rfl (pos2 _ _)) (by
      refine Holds.skip ?_ (by decide); exact Holds.hit) (by
      exact Holds.hit) (by
      exact Holds2.hit)
    (by decide) R ⟨R.val - 1536, by omega⟩ n (by show R.val = 1536 + (R.val - 1536); omega)) ?_
  simp only [zero_add, show 1536 + (R.val - 1536) = R.val by omega]

end

section

variable {c : Dev nD} {b6 : Memref Cert.KernelIdeal.sig .tc .vmem S2048x128 .bf16} {b7 : Memref Cert.KernelIdeal.sig .tc .vmem S2048x256 .bf16}
  {b8 : Memref Cert.KernelIdeal.sig .tc .vmem S2048x128 .bf16} {b9 : Memref Cert.KernelIdeal.sig .tc .vmem S2048x256 .bf16} {b10 : Memref Cert.KernelIdeal.sig .tc .vmem S2048x128 .bf16}
  {arg8 : Memref Cert.KernelIdeal.sig .tc .vmem S2048x128 .bf16} {arg9 : Memref Cert.KernelIdeal.sig .tc .vmem S2048x256 .bf16} {arg10 : Memref Cert.KernelIdeal.sig .tc .vmem S2048x128 .bf16}
  {x0 : FVec Ideal S2048x128 .bf16} {x1 : FVec Ideal S2048x256 .bf16} {y2 : FVec Ideal S2048x128 .bf16} {y3 : FVec Ideal S2048x256 .bf16} {y4 : FVec Ideal S2048x128 .bf16}
  {x2 : FVec Ideal S2048x128 .bf16} {x3 : FVec Ideal S2048x256 .bf16} {x4 : FVec Ideal S2048x128 .bf16}
  {xa0 : Buf (Elt Ideal) ((c : Thread nD τ).loc cc1_scratch0)} {xa1 : Buf (Elt Ideal) ((c : Thread nD τ).loc cc1_scratch1)}
  {xa2 : Buf (Elt Ideal) ((c : Thread nD τ).loc cc1_scratch2)} {xa3 : Buf (Elt Ideal) ((c : Thread nD τ).loc cc1_scratch3)}
  {Q QB K KB V K' KB' V' : ℕ → ℕ → ℝ}
  (ha0 : xa0 = scM1_0.view.writes (Elt Ideal) scM1_0.view.junk (kernelRun1_B.sl.HS0_4 b6 b7 x0 x1))
  (ha1 : xa1 = scM1_1.view.writes (Elt Ideal) scM1_1.view.junk (kernelRun1_B.sl.HS1_9 b6 b7 b8 b9 x0 x1 y2 y3))
  (ha2 : xa2 = scM1_2.view.writes (Elt Ideal) scM1_2.view.junk (kernelRun1_B.sl.HS2_9 b6 b7 b8 b9 x0 x1 y2 y3))
  (ha3 : xa3 = scM1_3.view.writes (Elt Ideal) scM1_3.view.junk (kernelRun1_B.sl.HS3_5 b6 b7 b8 b9 b10 x0 x1 y2 y3 y4))
  (h0 : ∀ (r : Fin 2048) (j : Fin 128), x0 (ix2 r j) = ((Q r.val j.val : ℝ) : EReal)) (h1 : ∀ (r : Fin 2048) (j : Fin 256), x1 (ix2 r j) = ((QB r.val j.val : ℝ) : EReal))
  (g2 : ∀ (r : Fin 2048) (j : Fin 128), y2 (ix2 r j) = ((K' r.val j.val : ℝ) : EReal)) (g3 : ∀ (r : Fin 2048) (j : Fin 256), y3 (ix2 r j) = ((KB' r.val j.val : ℝ) : EReal))
  (g4 : ∀ (r : Fin 2048) (j : Fin 128), y4 (ix2 r j) = ((V' r.val j.val : ℝ) : EReal))
  (h2 : ∀ (r : Fin 2048) (j : Fin 128), x2 (ix2 r j) = ((K r.val j.val : ℝ) : EReal)) (h3 : ∀ (r : Fin 2048) (j : Fin 256), x3 (ix2 r j) = ((KB r.val j.val : ℝ) : EReal))
  (h4 : ∀ (r : Fin 2048) (j : Fin 128), x4 (ix2 r j) = ((V r.val j.val : ℝ) : EReal))

include ha0 ha1 ha2 ha3 h0 h1 g2 g3 g4 h2 h3 h4

theorem runC_out (R : Fin 2048) (n : Fin 128) : k1_pay2 (kernelRun1_C.sl.v44_1 c arg8 arg9 arg10 x2 x3 x4 xa0 xa1 xa3) (kernelRun1_C.sl.v45_1 c arg8 arg9 x2 x3 xa0 xa1 xa2) (kernelRun1_C.sl.v47 c arg8 arg9 x2 x3 xa0 xa1 xa2) (ix2 R n)
    = ((∑ k ∈ Finset.range 2048, (2 : ℝ) ^ scr Q K' QB KB' (hl n) R.val k * V' k n.val + ∑ k ∈ Finset.range (R.val + 1), (2 : ℝ) ^ scr Q K QB KB (hl n) R.val k * V k n.val) / (∑ k ∈ Finset.range 2048, (2 : ℝ) ^ scr Q K' QB KB' (hl n) R.val k + ∑ k ∈ Finset.range (R.val + 1), (2 : ℝ) ^ scr Q K QB KB (hl n) R.val k) : ℝ) := by
  have hR := R.isLt
  by_cases c0 : R.val < 512
  · refine Eq.trans (out_row (r0 := 0) (runC_blk0 (arg8 := arg8) (arg9 := arg9) (arg10 := arg10) ha0 ha1 ha2 ha3 h0 h1 g2 g3 g4 h2 h3 h4) (fun r n => add_pos (add_pos_of_nonneg_of_pos le_rfl (pos1 _)) (pos2 _ _)) (by
        iterate 7 refine Holds.skip ?_ (by decide)
        exact Holds.hit) (by
        iterate 6 refine Holds.skip ?_ (by decide)
        exact Holds.hit) (by
        iterate 3 refine Holds2.skip ?_ (by decide)
        exact Holds2.hit)
      (by decide) R ⟨R.val - 0, by omega⟩ n (by show R.val = 0 + (R.val - 0); omega)) ?_
    simp only [zero_add, show 0 + (R.val - 0) = R.val by omega]
  by_cases c1 : R.val < 1024
  · refine Eq.trans (out_row (r0 := 512) (runC_blk1 (arg8 := arg8) (arg9 := arg9) (arg10 := arg10) ha0 ha1 ha2 ha3 h0 h1 g2 g3 g4 h2 h3 h4) (fun r n => add_pos (add_pos_of_nonneg_of_pos le_rfl (pos1 _)) (pos2 _ _)) (by
        iterate 5 refine Holds.skip ?_ (by decide)
        exact Holds.hit) (by
        iterate 4 refine Holds.skip ?_ (by decide)
        exact Holds.hit) (by
        iterate 2 refine Holds2.skip ?_ (by decide)
        exact Holds2.hit)
      (by decide) R ⟨R.val - 512, by omega⟩ n (by show R.val = 512 + (R.val - 512); omega)) ?_
    simp only [zero_add, show 512 + (R.val - 512) = R.val by omega]
  by_cases c2 : R.val < 1536
  · refine Eq.trans (out_row (r0 := 1024) (runC_blk2 (arg8 := arg8) (arg9 := arg9) (arg10 := arg10) ha0 ha1 ha2 ha3 h0 h1 g2 g3 g4 h2 h3 h4) (fun r n => add_pos (add_pos_of_nonneg_of_pos le_rfl (pos1 _)) (pos2 _ _)) (by
        iterate 3 refine Holds.skip ?_ (by decide)
        exact Holds.hit) (by
        iterate 2 refine Holds.skip ?_ (by decide)
        exact Holds.hit) (by
        refine Holds2.skip ?_ (by decide); exact Holds2.hit)
      (by decide) R ⟨R.val - 1024, by omega⟩ n (by show R.val = 1024 + (R.val - 1024); omega)) ?_
    simp only [zero_add, show 1024 + (R.val - 1024) = R.val by omega]
  refine Eq.trans (out_row (r0 := 1536) (runC_blk3 (arg8 := arg8) (arg9 := arg9) (arg10 := arg10) ha0 ha1 ha2 ha3 h0 h1 g2 g3 g4 h2 h3 h4) (fun r n => add_pos (add_pos_of_nonneg_of_pos le_rfl (pos1 _)) (pos2 _ _)) (by
      refine Holds.skip ?_ (by decide); exact Holds.hit) (by
      exact Holds.hit) (by
      exact Holds2.hit)
    (by decide) R ⟨R.val - 1536, by omega⟩ n (by show R.val = 1536 + (R.val - 1536); omega)) ?_
  simp only [zero_add, show 1536 + (R.val - 1536) = R.val by omega]

end

end Cert.KernelIdeal.Gen
-- ==== Proof.AttnArr.lean ====
module

public import proofs.«01_k».proof.Proof.AttnOut
public import Idealize.ShloMosaic.Lib.Pointwise
public import Idealize.ShloMosaic.Lib.Pipeline.ValueKit

@[expose] public section

set_option maxRecDepth 16384

noncomputable section

namespace Cert.KernelIdeal.Gen

open Idealize.ShloMosaic Idealize.ShloMosaic.TcCoe Idealize.SL.Sem
open Facts₀ Cert.Softmax
open Idealize.ShloMosaic.Pipeline (Dat Cfg Window)

/-! # The attention call's output array -/

theorem idx1_0 : ∀ t : Fin cfgA.N, (cfgA.win (0 : Fin 6)).index t = ![2 * (t.val / 12) + (t.val % 3 + 1) / 2, t.val / 3 % 4] := by decide +kernel
theorem idx1_1 : ∀ t : Fin cfgA.N, (cfgA.win (1 : Fin 6)).index t = ![2 * (t.val / 12) + (t.val % 3 + 1) / 2, t.val / 3 % 4] := by decide +kernel
theorem idx1_2 : ∀ t : Fin cfgA.N, (cfgA.win (2 : Fin 6)).index t = ![2 * (t.val / 12) + t.val % 3 / 2, 4 + t.val / 3 % 4] := by decide +kernel
theorem idx1_3 : ∀ t : Fin cfgA.N, (cfgA.win (3 : Fin 6)).index t = ![2 * (t.val / 12) + t.val % 3 / 2, t.val / 3 % 4] := by decide +kernel
theorem idx1_4 : ∀ t : Fin cfgA.N, (cfgA.win (4 : Fin 6)).index t = ![2 * (t.val / 12) + t.val % 3 / 2, 8 + t.val / 3 % 4] := by decide +kernel
theorem idx1_5 : ∀ t : Fin cfgA.N, (cfgA.win (5 : Fin 6)).index t = ![2 * (t.val / 12) + (t.val % 3 + 1) / 2, t.val / 3 % 4] := by decide +kernel

variable (V : Dev nD → Valuation τ sig (Elt Ideal)) (c : Dev nD)

theorem atblk_0 (t : Fin cfgA.N) (r : Fin 2048) (j : Fin 128) {R C : ℕ} (hR : R = 2048 * (2 * (t.val / 12) + (t.val % 3 + 1) / 2) + r.val) (hC : C = 128 * (t.val / 3 % 4) + j.val) (h1 : R < 16384) (h2 : C < 1536) :
    atblk V c (0 : Fin 6) t (ix2 r j) = V c main_v12_0 (ix2 (⟨R, h1⟩ : Fin 16384) (⟨C, h2⟩ : Fin 1536)) := by
  subst hR hC
  blk_point [atblk, idx1_0 t]

theorem atblk_1 (t : Fin cfgA.N) (r : Fin 2048) (j : Fin 256) {R C : ℕ} (hR : R = 2048 * (2 * (t.val / 12) + (t.val % 3 + 1) / 2) + r.val) (hC : C = 256 * (t.val / 3 % 4) + j.val) (h1 : R < 16384) (h2 : C < 1024) :
    atblk V c (1 : Fin 6) t (ix2 r j) = V c main_v12_1 (ix2 (⟨R, h1⟩ : Fin 16384) (⟨C, h2⟩ : Fin 1024)) := by
  subst hR hC
  blk_point [atblk, idx1_1 t]

theorem atblk_2 (t : Fin cfgA.N) (r : Fin 2048) (j : Fin 128) {R C : ℕ} (hR : R = 2048 * (2 * (t.val / 12) + t.val % 3 / 2) + r.val) (hC : C = 512 + 128 * (t.val / 3 % 4) + j.val) (h1 : R < 16384) (h2 : C < 1536) :
    atblk V c (2 : Fin 6) t (ix2 r j) = V c main_v12_0 (ix2 (⟨R, h1⟩ : Fin 16384) (⟨C, h2⟩ : Fin 1536)) := by
  subst hR hC
  blk_point [atblk, idx1_2 t]

theorem atblk_3 (t : Fin cfgA.N) (r : Fin 2048) (j : Fin 256) {R C : ℕ} (hR : R = 2048 * (2 * (t.val / 12) + t.val % 3 / 2) + r.val) (hC : C = 256 * (t.val / 3 % 4) + j.val) (h1 : R < 16384) (h2 : C < 1024) :
    atblk V c (3 : Fin 6) t (ix2 r j) = V c main_v12_2 (ix2 (⟨R, h1⟩ : Fin 16384) (⟨C, h2⟩ : Fin 1024)) := by
  subst hR hC
  blk_point [atblk, idx1_3 t]

theorem atblk_4 (t : Fin cfgA.N) (r : Fin 2048) (j : Fin 128) {R C : ℕ} (hR : R = 2048 * (2 * (t.val / 12) + t.val % 3 / 2) + r.val) (hC : C = 1024 + 128 * (t.val / 3 % 4) + j.val) (h1 : R < 16384) (h2 : C < 1536) :
    atblk V c (4 : Fin 6) t (ix2 r j) = V c main_v12_0 (ix2 (⟨R, h1⟩ : Fin 16384) (⟨C, h2⟩ : Fin 1536)) := by
  subst hR hC
  blk_point [atblk, idx1_4 t]

/-- What the three runs leave, by name. -/
theorem rA_out (t : Fin cfgA.N) (h : t.val % 3 = 0) : (rA V c t h).1 = kernelRun1_A.sl.HO5_1 (ms1_0 t) (ms1_1 t) (ms1_2 t) (ms1_3 t) (ms1_4 t) (atblk V c (0 : Fin 6) t) (atblk V c (1 : Fin 6) t) (atblk V c (2 : Fin 6) t) (atblk V c (3 : Fin 6) t) (atblk V c (4 : Fin 6) t) := by
  unfold rA kernelRun1_A
  dsimp only

theorem rC_out (t : Fin cfgA.N) (xa0 xa1 xa2 xa3) (h : t.val % 3 = 2) : (rC V c t xa0 xa1 xa2 xa3 h).1 = kernelRun1_C.sl.HO5_1 c (ms1_2 t) (ms1_3 t) (ms1_4 t) (atblk V c (2 : Fin 6) t) (atblk V c (3 : Fin 6) t) (atblk V c (4 : Fin 6) t) xa0 xa1 xa2 xa3 := by
  unfold rC kernelRun1_C
  dsimp only

theorem rB_0 (t : Fin cfgA.N) (h : t.val % 3 = 1) : (rB V c t h).1 = scM1_0.view.writes (Elt Ideal) scM1_0.view.junk (kernelRun1_B.sl.HS0_4 (ms1_0 t) (ms1_1 t) (atblk V c (0 : Fin 6) t) (atblk V c (1 : Fin 6) t)) := by
  unfold rB kernelRun1_B
  dsimp only
theorem rB_1 (t : Fin cfgA.N) (h : t.val % 3 = 1) : (rB V c t h).2.1 = scM1_1.view.writes (Elt Ideal) scM1_1.view.junk (kernelRun1_B.sl.HS1_9 (ms1_0 t) (ms1_1 t) (ms1_2 t) (ms1_3 t) (atblk V c (0 : Fin 6) t) (atblk V c (1 : Fin 6) t) (atblk V c (2 : Fin 6) t) (atblk V c (3 : Fin 6) t)) := by
  unfold rB kernelRun1_B
  dsimp only
theorem rB_2 (t : Fin cfgA.N) (h : t.val % 3 = 1) : (rB V c t h).2.2.1 = scM1_2.view.writes (Elt Ideal) scM1_2.view.junk (kernelRun1_B.sl.HS2_9 (ms1_0 t) (ms1_1 t) (ms1_2 t) (ms1_3 t) (atblk V c (0 : Fin 6) t) (atblk V c (1 : Fin 6) t) (atblk V c (2 : Fin 6) t) (atblk V c (3 : Fin 6) t)) := by
  unfold rB kernelRun1_B
  dsimp only
theorem rB_3 (t : Fin cfgA.N) (h : t.val % 3 = 1) : (rB V c t h).2.2.2.1 = scM1_3.view.writes (Elt Ideal) scM1_3.view.junk (kernelRun1_B.sl.HS3_5 (ms1_0 t) (ms1_1 t) (ms1_2 t) (ms1_3 t) (ms1_4 t) (atblk V c (0 : Fin 6) t) (atblk V c (1 : Fin 6) t) (atblk V c (2 : Fin 6) t) (atblk V c (3 : Fin 6) t) (atblk V c (4 : Fin 6) t)) := by
  unfold rB kernelRun1_B
  dsimp only

/-- The output's buffer holds the one block stored. -/
theorem out_read (w : FVec Ideal S2048x128 .bf16) (inb : ∀ a, (![0, 0] : Fin 2 → ℕ) a + S2048x128.size a ≤ S2048x128.size a) (R : Fin 2048) (n : Fin 128) :
    VO1_5.read (Elt Ideal) (VO1_5.writes (Elt Ideal) VO1_5.junk [⟨Rect.unit (s := S2048x128) ![0, 0] S2048x128.size inb, w⟩]) (ix2 R n) = w (ix2 R n) :=
  View.read_writes_cons_hit_of_coords (Val := Elt Ideal) VO1_5 VO1_5.junk (Rect.unit (s := S2048x128) ![0, 0] S2048x128.size inb) w [] (ix2 R n) (ix2 R n) (by
    intro a
    match a with
    | 0 => show R.val = 0 + 1 * R.val; omega
    | 1 => show n.val = 0 + 1 * n.val; omega)

variable {V c} {G GB GK : ℕ → ℕ → ℝ}
  (hv : ∀ (i : Fin 16384) (j : Fin 1536), V c main_v12_0 (ix2 i j) = ((G i.val j.val : ℝ) : EReal))
  (hb : ∀ (i : Fin 16384) (j : Fin 1024), V c main_v12_1 (ix2 i j) = ((GB i.val j.val : ℝ) : EReal))
  (hk : ∀ (i : Fin 16384) (j : Fin 1024), V c main_v12_2 (ix2 i j) = ((GK i.val j.val : ℝ) : EReal))

/-- The operands of one batch entry and one pair of heads. -/
def Qf (G : ℕ → ℕ → ℝ) (b cc r j : ℕ) : ℝ := G (4096 * b + r) (128 * cc + j)
def Kf (G : ℕ → ℕ → ℝ) (b cc r j : ℕ) : ℝ := G (4096 * b + r) (512 + 128 * cc + j)
def Vf (G : ℕ → ℕ → ℝ) (b cc r j : ℕ) : ℝ := G (4096 * b + r) (1024 + 128 * cc + j)
def Bf (G : ℕ → ℕ → ℝ) (b cc r j : ℕ) : ℝ := G (4096 * b + r) (256 * cc + j)

/-- The score of row `s` against key `k`. -/
def sco (G GB GK : ℕ → ℕ → ℝ) (b cc : ℕ) (h : Fin 2) (s k : ℕ) : ℝ :=
  scr (Qf G b cc) (Kf G b cc) (Bf GB b cc) (Bf GK b cc) h s k

/-- One entry of the attention. -/
def att (G GB GK : ℕ → ℕ → ℝ) (b cc s : ℕ) (n : Fin 128) : ℝ :=
  (∑ k ∈ Finset.range (s + 1), (2 : ℝ) ^ sco G GB GK b cc (hl n) s k * Vf G b cc k n.val) /
    ∑ k ∈ Finset.range (s + 1), (2 : ℝ) ^ sco G GB GK b cc (hl n) s k

theorem att_congr {b b' cc cc' s s' : ℕ} {n n' : Fin 128} (e1 : b = b') (e2 : cc = cc') (e3 : s = s') (e4 : n.val = n'.val) :
    att G GB GK b cc s n = att G GB GK b' cc' s' n' := by
  rw [e1, e2, e3, Fin.ext e4]

include hv hb hk

theorem atout_A_val (t : Fin cfgA.N) (h : t.val % 3 = 0) (R : Fin 2048) (n : Fin 128) :
    atout_A V c t h (ix2 R n) = ((att G GB GK (t.val / 12) (t.val / 3 % 4) R.val n : ℝ) : EReal) := by
  have hN : t.val < 48 := t.isLt
  have h0 : ∀ (r : Fin 2048) (j : Fin 128), atblk V c (0 : Fin 6) t (ix2 r j) = ((Qf G (t.val / 12) (t.val / 3 % 4) r.val j.val : ℝ) : EReal) := fun r j =>
    (atblk_0 V c t r j (R := 4096 * (t.val / 12) + r.val) (C := 128 * (t.val / 3 % 4) + j.val) (by omega) (by omega) (by omega) (by omega)).trans (hv _ _)
  have h1 : ∀ (r : Fin 2048) (j : Fin 256), atblk V c (1 : Fin 6) t (ix2 r j) = ((Bf GB (t.val / 12) (t.val / 3 % 4) r.val j.val : ℝ) : EReal) := fun r j =>
    (atblk_1 V c t r j (R := 4096 * (t.val / 12) + r.val) (C := 256 * (t.val / 3 % 4) + j.val) (by omega) (by omega) (by omega) (by omega)).trans (hb _ _)
  have h2 : ∀ (r : Fin 2048) (j : Fin 128), atblk V c (2 : Fin 6) t (ix2 r j) = ((Kf G (t.val / 12) (t.val / 3 % 4) r.val j.val : ℝ) : EReal) := fun r j =>
    (atblk_2 V c t r j (R := 4096 * (t.val / 12) + r.val) (C := 512 + 128 * (t.val / 3 % 4) + j.val) (by omega) (by omega) (by omega) (by omega)).trans (hv _ _)
  have h3 : ∀ (r : Fin 2048) (j : Fin 256), atblk V c (3 : Fin 6) t (ix2 r j) = ((Bf GK (t.val / 12) (t.val / 3 % 4) r.val j.val : ℝ) : EReal) := fun r j =>
    (atblk_3 V c t r j (R := 4096 * (t.val / 12) + r.val) (C := 256 * (t.val / 3 % 4) + j.val) (by omega) (by omega) (by omega) (by omega)).trans (hk _ _)
  have h4 : ∀ (r : Fin 2048) (j : Fin 128), atblk V c (4 : Fin 6) t (ix2 r j) = ((Vf G (t.val / 12) (t.val / 3 % 4) r.val j.val : ℝ) : EReal) := fun r j =>
    (atblk_4 V c t r j (R := 4096 * (t.val / 12) + r.val) (C := 1024 + 128 * (t.val / 3 % 4) + j.val) (by omega) (by omega) (by omega) (by omega)).trans (hv _ _)
  unfold atout_A
  rw [rA_out]
  exact (out_read _ _ R n).trans (runA_out (arg6 := ms1_0 t) (arg7 := ms1_1 t) (arg8 := ms1_2 t) (arg9 := ms1_3 t) (arg10 := ms1_4 t) h0 h1 h2 h3 h4 R n)

theorem atout_C_val (t : Fin cfgA.N) (h : t.val % 3 = 2) (R : Fin 2048) (n : Fin 128) :
    atout_C V c t h (ix2 R n) = ((att G GB GK (t.val / 12) (t.val / 3 % 4) (2048 + R.val) n : ℝ) : EReal) := by
  have hN : t.val < 48 := t.isLt
  have hp : (prv t).val = t.val - 1 := rfl
  have h0 : ∀ (r : Fin 2048) (j : Fin 128), atblk V c (0 : Fin 6) (prv t) (ix2 r j) = ((Qf G (t.val / 12) (t.val / 3 % 4) (2048 + r.val) j.val : ℝ) : EReal) := fun r j =>
    (atblk_0 V c (prv t) r j (R := 4096 * (t.val / 12) + (2048 + r.val)) (C := 128 * (t.val / 3 % 4) + j.val) (by omega) (by omega) (by omega) (by omega)).trans (hv _ _)
  have h1 : ∀ (r : Fin 2048) (j : Fin 256), atblk V c (1 : Fin 6) (prv t) (ix2 r j) = ((Bf GB (t.val / 12) (t.val / 3 % 4) (2048 + r.val) j.val : ℝ) : EReal) := fun r j =>
    (atblk_1 V c (prv t) r j (R := 4096 * (t.val / 12) + (2048 + r.val)) (C := 256 * (t.val / 3 % 4) + j.val) (by omega) (by omega) (by omega) (by omega)).trans (hb _ _)
  have g2 : ∀ (r : Fin 2048) (j : Fin 128), atblk V c (2 : Fin 6) (prv t) (ix2 r j) = ((Kf G (t.val / 12) (t.val / 3 % 4) r.val j.val : ℝ) : EReal) := fun r j =>
    (atblk_2 V c (prv t) r j (R := 4096 * (t.val / 12) + r.val) (C := 512 + 128 * (t.val / 3 % 4) + j.val) (by omega) (by omega) (by omega) (by omega)).trans (hv _ _)
  have g3 : ∀ (r : Fin 2048) (j : Fin 256), atblk V c (3 : Fin 6) (prv t) (ix2 r j) = ((Bf GK (t.val / 12) (t.val / 3 % 4) r.val j.val : ℝ) : EReal) := fun r j =>
    (atblk_3 V c (prv t) r j (R := 4096 * (t.val / 12) + r.val) (C := 256 * (t.val / 3 % 4) + j.val) (by omega) (by omega) (by omega) (by omega)).trans (hk _ _)
  have g4 : ∀ (r : Fin 2048) (j : Fin 128), atblk V c (4 : Fin 6) (prv t) (ix2 r j) = ((Vf G (t.val / 12) (t.val / 3 % 4) r.val j.val : ℝ) : EReal) := fun r j =>
    (atblk_4 V c (prv t) r j (R := 4096 * (t.val / 12) + r.val) (C := 1024 + 128 * (t.val / 3 % 4) + j.val) (by omega) (by omega) (by omega) (by omega)).trans (hv _ _)
  have h2 : ∀ (r : Fin 2048) (j : Fin 128), atblk V c (2 : Fin 6) t (ix2 r j) = ((Kf G (t.val / 12) (t.val / 3 % 4) (2048 + r.val) j.val : ℝ) : EReal) := fun r j =>
    (atblk_2 V c t r j (R := 4096 * (t.val / 12) + (2048 + r.val)) (C := 512 + 128 * (t.val / 3 % 4) + j.val) (by omega) (by omega) (by omega) (by omega)).trans (hv _ _)
  have h3 : ∀ (r : Fin 2048) (j : Fin 256), atblk V c (3 : Fin 6) t (ix2 r j) = ((Bf GK (t.val / 12) (t.val / 3 % 4) (2048 + r.val) j.val : ℝ) : EReal) := fun r j =>
    (atblk_3 V c t r j (R := 4096 * (t.val / 12) + (2048 + r.val)) (C := 256 * (t.val / 3 % 4) + j.val) (by omega) (by omega) (by omega) (by omega)).trans (hk _ _)
  have h4 : ∀ (r : Fin 2048) (j : Fin 128), atblk V c (4 : Fin 6) t (ix2 r j) = ((Vf G (t.val / 12) (t.val / 3 % 4) (2048 + r.val) j.val : ℝ) : EReal) := fun r j =>
    (atblk_4 V c t r j (R := 4096 * (t.val / 12) + (2048 + r.val)) (C := 1024 + 128 * (t.val / 3 % 4) + j.val) (by omega) (by omega) (by omega) (by omega)).trans (hv _ _)
  have e := runC_out (c := c) (b6 := ms1_0 (prv t)) (b7 := ms1_1 (prv t)) (b8 := ms1_2 (prv t)) (b9 := ms1_3 (prv t)) (b10 := ms1_4 (prv t)) (arg8 := ms1_2 t) (arg9 := ms1_3 t) (arg10 := ms1_4 t)
    (xa0 := (rB V c (prv t) (prv_mod t h)).1) (xa1 := (rB V c (prv t) (prv_mod t h)).2.1) (xa2 := (rB V c (prv t) (prv_mod t h)).2.2.1) (xa3 := (rB V c (prv t) (prv_mod t h)).2.2.2.1)
    (Q := fun r j => Qf G (t.val / 12) (t.val / 3 % 4) (2048 + r) j) (QB := fun r j => Bf GB (t.val / 12) (t.val / 3 % 4) (2048 + r) j)
    (K := fun r j => Kf G (t.val / 12) (t.val / 3 % 4) (2048 + r) j) (KB := fun r j => Bf GK (t.val / 12) (t.val / 3 % 4) (2048 + r) j) (V := fun r j => Vf G (t.val / 12) (t.val / 3 % 4) (2048 + r) j)
    (rB_0 V c _ _) (rB_1 V c _ _) (rB_2 V c _ _) (rB_3 V c _ _) h0 h1 g2 g3 g4 h2 h3 h4 R n
  refine Eq.trans ?_ (e.trans (congrArg _ (congrArg₂ (· / ·) ?_ ?_)))
  · unfold atout_C
    rw [rC_out]
    exact out_read _ _ R n
  · exact (Finset.sum_range_add (fun k => (2 : ℝ) ^ sco G GB GK (t.val / 12) (t.val / 3 % 4) (hl n) (2048 + R.val) k * Vf G (t.val / 12) (t.val / 3 % 4) k n.val) 2048 (R.val + 1)).symm
  · exact (Finset.sum_range_add (fun k => (2 : ℝ) ^ sco G GB GK (t.val / 12) (t.val / 3 % 4) (hl n) (2048 + R.val) k) 2048 (R.val + 1)).symm

/-- The attention's output array: every entry. -/
theorem attn_arr (b : Fin 4) (s : Fin 4096) (cc : Fin 4) (n : Fin 128) :
    (show FVec Ideal S16384x512 .bf16 from (dat1 V c).arrAt (5 : Fin 6) cfgA.N) (ix2 (⟨4096 * b.val + s.val, by omega⟩ : Fin 16384) (⟨128 * cc.val + n.val, by omega⟩ : Fin 512))
      = ((att G GB GK b.val cc.val s.val n : ℝ) : EReal) := by
  have main : (show FVec Ideal S16384x512 .bf16 from (dat1 V c).arrAt (5 : Fin 6) cfgA.N) = fun i : S16384x512.Idx =>
      ((att G GB GK ((i 0).val / 4096) ((i 1).val / 128) ((i 0).val % 4096) ⟨(i 1).val % 128, Nat.mod_lt _ (by omega)⟩ : ℝ) : EReal) := by
    refine (dat1 V c).arrAt_eq_of_covers (5 : Fin 6) _ (by decide +kernel) fun t hf y => ?_
    blk_simp
    rw [after1_5]
    have hN : t.val < 48 := t.isLt
    obtain ⟨R, n, rfl⟩ : ∃ (R : Fin 2048) (n : Fin 128), y = ix2 R n := ⟨y 0, y 1, eq_ix2 _⟩
    have e0 : (cfgA.win (5 : Fin 6)).index t 0 = 2 * (t.val / 12) + (t.val % 3 + 1) / 2 := congrFun (idx1_5 t) 0
    have e1 : (cfgA.win (5 : Fin 6)).index t 1 = t.val / 3 % 4 := congrFun (idx1_5 t) 1
    have hR : (ix2 R n 0).val = R.val := rfl
    have hn : (ix2 R n 1).val = n.val := rfl
    rcases (by omega : t.val % 3 = 0 ∨ t.val % 3 = 1 ∨ t.val % 3 = 2) with h | h | h
    · rw [atout_eA V c t h]
      exact (atout_A_val hv hb hk t h R n).trans (congrArg _ (att_congr (by omega) (by omega) (by omega) (by show n.val = _ % 128; omega)))
    · exact absurd (hf.symm.trans ((factsAt t).2.1 h).2.2.2.2.2) (by decide)
    · rw [atout_eC V c t h]
      exact (atout_C_val hv hb hk t h R n).trans (congrArg _ (att_congr (by omega) (by omega) (by omega) (by show n.val = _ % 128; omega)))
  rw [main]
  exact congrArg _ (att_congr (by show (4096 * b.val + s.val) / 4096 = _; omega) (by show (128 * cc.val + n.val) / 128 = _; omega) (by show (4096 * b.val + s.val) % 4096 = _; omega)
    (by show (128 * cc.val + n.val) % 128 = _; omega))

end Cert.KernelIdeal.Gen
-- ==== Proof.Bridge.lean ====
module

public import proofs.«01_k».proof.Proof.InArr
public import proofs.«01_k».proof.Proof.AttnArr

@[expose] public section

set_option maxRecDepth 16384

noncomputable section

namespace Cert.KernelIdeal.Gen

open Idealize.ShloMosaic

/-! # The attention call's numbers are the reference's -/

/-- The reference's score of a key for a query, -/
def rsc (Z : ℕ → ℕ → ℝ) (F : ℕ → ℕ → ℕ → ℝ) (b h q k : ℕ) : ℝ :=
  (∑ d ∈ Finset.range 64, Z (4096 * b + q) (64 * h + d) * Z (4096 * b + k) (512 + (64 * h + d))) * (1 / 8) + F b q h - F b k h
/-- and its weighted sum of the values. -/
def rat (Z : ℕ → ℕ → ℝ) (F : ℕ → ℕ → ℕ → ℝ) (b h q j : ℕ) : ℝ :=
  ∑ k ∈ Finset.range (q + 1), Real.exp (rsc Z F b h q k) / (∑ l ∈ Finset.range (q + 1), Real.exp (rsc Z F b h q l)) * Z (4096 * b + k) (1024 + j)

/-- The lanes that carry the gates' sums contribute a difference. -/
theorem sum_lanes (x y : ℝ) : ∑ j ∈ Finset.range 128, qbv x j * kbv y j = x - y := by
  rw [show (128 : ℕ) = 6 + 122 from rfl, Finset.sum_range_add (fun j => qbv x j * kbv y j),
    Finset.sum_eq_zero (s := Finset.range 122) (fun j _ => by unfold qbv; rw [if_neg (by omega), if_neg (by omega), zero_mul])]
  simp [Finset.sum_range_succ, qbv, kbv]
  ring

theorem lane_at (g : ℝ → ℕ → ℝ) (F : ℕ → ℕ → ℕ → ℝ) (b r h j : ℕ) (hr : r < 4096) (hj : j < 128) (n : ℕ) (hn : n = 128 * h + j) :
    laneOf g F (4096 * b + r) n = g (F b r h * (Real.log 2)⁻¹) j := by
  unfold laneOf
  rw [show (4096 * b + r) / 4096 = b by omega, show (4096 * b + r) % 4096 = r by omega, show n / 128 = h by omega, show n % 128 = j by omega]

theorem sco_rsc (U : ℕ → Fin 1024 → ℝ) (W : Fin 1024 → ℕ → ℝ) (F : ℕ → ℕ → ℕ → ℝ) (b cc s k : ℕ) (h : Fin 2) (hc : cc < 4) (hs : s < 4096) (hk : k < 4096) :
    sco (qkv U W) (laneOf qbv F) (laneOf kbv F) b cc h s k = (Real.log 2)⁻¹ * rsc (ZZ U W) F b (2 * cc + h.val) s k := by
  unfold sco scr
  have e1 : ∑ j : Fin 128, Bf (laneOf qbv F) b cc s (128 * h.val + j.val) * Bf (laneOf kbv F) b cc k (128 * h.val + j.val)
      = F b s (2 * cc + h.val) * (Real.log 2)⁻¹ - F b k (2 * cc + h.val) * (Real.log 2)⁻¹ := by
    rw [← sum_lanes, ← Fin.sum_univ_eq_sum_range (fun j => qbv (F b s (2 * cc + h.val) * (Real.log 2)⁻¹) j * kbv (F b k (2 * cc + h.val) * (Real.log 2)⁻¹) j)]
    refine Finset.sum_congr rfl fun j _ => ?_
    unfold Bf
    rw [lane_at qbv F b s (2 * cc + h.val) j.val hs j.isLt _ (by omega), lane_at kbv F b k (2 * cc + h.val) j.val hk j.isLt _ (by omega)]
  have e2 : ∑ j : Fin 128, (if hl j = h then Qf (qkv U W) b cc s j.val else 0) * Kf (qkv U W) b cc k j.val
      = (∑ d ∈ Finset.range 64, ZZ U W (4096 * b + s) (64 * (2 * cc + h.val) + d) * ZZ U W (4096 * b + k) (512 + (64 * (2 * cc + h.val) + d))) * ((Real.log 2)⁻¹ * (1 / 8)) := by
    have e3 : ∀ j : Fin 128, (if hl j = h then Qf (qkv U W) b cc s j.val else 0) * Kf (qkv U W) b cc k j.val
        = (fun j : ℕ => if j / 64 = h.val then ZZ U W (4096 * b + s) (128 * cc + j) * ((Real.log 2)⁻¹ * (1 / 8)) * ZZ U W (4096 * b + k) (512 + (128 * cc + j)) else 0) j.val := by
      intro j
      have hj : (hl j = h) ↔ j.val / 64 = h.val := by
        unfold hl
        rcases lt_or_ge j.val 64 with g | g
        · rw [if_pos g, Fin.ext_iff]; simp only [Fin.val_zero]; omega
        · rw [if_neg (not_lt.2 g), Fin.ext_iff]; simp only [Fin.val_one]; omega
      dsimp only
      by_cases g : j.val / 64 = h.val
      · rw [if_pos (hj.2 g), if_pos g]
        unfold Qf Kf qkv
        rw [if_pos (by omega), if_neg (by omega), Nat.add_assoc]
      · rw [if_neg (fun q => g (hj.1 q)), if_neg g, zero_mul]
    rw [Finset.sum_congr rfl fun j _ => e3 j, Fin.sum_univ_eq_sum_range (fun j : ℕ => if j / 64 = h.val then ZZ U W (4096 * b + s) (128 * cc + j) * ((Real.log 2)⁻¹ * (1 / 8)) * ZZ U W (4096 * b + k) (512 + (128 * cc + j)) else 0) 128,
      ← Finset.sum_filter]
    rw [Finset.sum_mul]
    refine (Finset.sum_nbij (fun d => 64 * h.val + d) ?_ ?_ ?_ ?_).symm
    · intro d hd
      simp only [Finset.mem_range, Finset.mem_filter] at hd ⊢
      have := h.isLt; omega
    · intro d _ d' _ hdd; simpa using hdd
    · intro j hj
      simp only [Finset.coe_filter, Finset.mem_range, Set.mem_setOf_eq, Set.mem_image, Finset.coe_range, Set.mem_Iio] at hj ⊢
      exact ⟨j % 64, by omega, by omega⟩
    · intro d _
      rw [show 64 * (2 * cc + h.val) + d = 128 * cc + (64 * h.val + d) by omega]
      ring
  rw [e1, e2]
  unfold rsc
  ring

theorem att_rat (U : ℕ → Fin 1024 → ℝ) (W : Fin 1024 → ℕ → ℝ) (F : ℕ → ℕ → ℕ → ℝ) (b cc s : ℕ) (n : Fin 128) (hc : cc < 4) (hs : s < 4096) :
    att (qkv U W) (laneOf qbv F) (laneOf kbv F) b cc s n = rat (ZZ U W) F b ((128 * cc + n.val) / 64) s (128 * cc + n.val) := by
  have hh : (128 * cc + n.val) / 64 = 2 * cc + (hl n).val := by
    unfold hl
    rcases lt_or_ge n.val 64 with g | g
    · rw [if_pos g]; simp only [Fin.val_zero]; omega
    · rw [if_neg (not_lt.2 g)]; simp only [Fin.val_one]; omega
  have he : ∀ k ∈ Finset.range (s + 1), (2 : ℝ) ^ sco (qkv U W) (laneOf qbv F) (laneOf kbv F) b cc (hl n) s k = Real.exp (rsc (ZZ U W) F b (2 * cc + (hl n).val) s k) := by
    intro k hk
    rw [Finset.mem_range] at hk
    rw [sco_rsc U W F b cc s k (hl n) hc hs (by omega), Real.rpow_def_of_pos (by norm_num), mul_inv_cancel_left₀ (Real.log_pos (by norm_num)).ne']
  unfold att rat
  rw [hh, Finset.sum_congr rfl he, Finset.sum_div]
  refine Finset.sum_congr rfl fun k hk => ?_
  rw [he k hk, div_mul_eq_mul_div]
  unfold Vf qkv
  rw [if_neg (by omega), Nat.add_assoc]

end Cert.KernelIdeal.Gen
-- ==== Proof.KerOut.lean ====
module

public import proofs.«01_k».proof.Proof.HostPrep
public import proofs.«01_k».proof.Proof.Bridge
public import proofs.«01_k».proof.Proof.Run

@[expose] public section

set_option maxRecDepth 16384

noncomputable section

namespace Cert.KernelIdeal.Gen

open Idealize.ShloMosaic Idealize.ShloMosaic.TcCoe Idealize.SL.Sem

/-! # The kernel's three results, as real numbers -/

variable {m : (ℓ : Loc nD τ sig) → Buf (Elt Ideal) ℓ} {c : Dev nD}
  {X : ℕ → Fin 1024 → EReal} {sc sh : ℕ → Fin 1024 → ℝ} {w wf wc wg : Fin 1024 → ℕ → ℝ} {B : ℕ → ℝ}

/-- The first result: the attention's rows, -/
theorem out_attn (H : Reads (V5 m) c X sc sh w wf wc wg B) (i : Fin 16384) (j : Fin 512) :
    (show FVec Ideal S16384x512 .bf16 from W7 m c main_v13) (ix2 i j)
      = ((rat (ZZ (UU X sc sh) w) (FF (UU X sc sh) wf B) (i.val / 4096) (j.val / 64) (i.val % 4096) j.val : ℝ) : EReal) := by
  have hi := i.isLt
  have hj := j.isLt
  have h := attn_arr (V := W6 m) (c := c) (G := qkv (UU X sc sh) w) (GB := laneOf qbv (FF (UU X sc sh) wf B)) (GK := laneOf kbv (FF (UU X sc sh) wf B))
    (fun i j => (congrFun (W6_out m c (8 : Fin 13)) (ix2 i j)).trans (arr8 H i j))
    (fun i j => (congrFun (W6_out m c (9 : Fin 13)) (ix2 i j)).trans (arr9 H i j))
    (fun i j => (congrFun (W6_out m c (10 : Fin 13)) (ix2 i j)).trans (arr10 H i j))
    ⟨i.val / 4096, by omega⟩ ⟨i.val % 4096, by omega⟩ ⟨j.val / 128, by omega⟩ ⟨j.val % 128, by omega⟩
  rw [att_rat _ _ _ _ _ _ _ (by show j.val / 128 < 4; omega) (by show i.val % 4096 < 4096; omega)] at h
  have e1 : (⟨4096 * (i.val / 4096) + i.val % 4096, by omega⟩ : Fin 16384) = i := Fin.ext (by show 4096 * (i.val / 4096) + i.val % 4096 = i.val; omega)
  have e2 : (⟨128 * (j.val / 128) + j.val % 128, by omega⟩ : Fin 512) = j := Fin.ext (by show 128 * (j.val / 128) + j.val % 128 = j.val; omega)
  have e3 : 128 * (j.val / 128) + j.val % 128 = j.val := by omega
  dsimp only at h
  rw [e1, e2, e3] at h
  exact (congrFun (W7_v13 m c) (ix2 i j)).trans h

/-- the second: the gated products, -/
theorem out_gated (H : Reads (V5 m) c X sc sh w wf wc wg B) (i : Fin 16384) (j : Fin 512) :
    (show FVec Ideal S16384x512 .f32 from W7 m c main_v12_3) (ix2 i j) = ((ZZ (UU X sc sh) wc i.val j.val * sg (ZZ (UU X sc sh) wc i.val (512 + j.val)) : ℝ) : EReal) :=
  (congrFun ((W7_of m c main_v12_3 (by decide)).trans (W6_out m c (11 : Fin 13))) (ix2 i j)).trans (arr11 H i j)

/-- and the third: the further gates. -/
theorem out_gates (H : Reads (V5 m) c X sc sh w wf wc wg B) (i : Fin 16384) (j : Fin 2048) :
    (show FVec Ideal S16384x2048 .f32 from W7 m c main_v12_4) (ix2 i j) = ((sg (ZZ (UU X sc sh) wg i.val j.val) : ℝ) : EReal) :=
  (congrFun ((W7_of m c main_v12_4 (by decide)).trans (W6_out m c (12 : Fin 13))) (ix2 i j)).trans (arr12 H i j)

end Cert.KernelIdeal.Gen
-- ==== Proof.RefNorm.lean ====
module

public import proofs.«01_k».proof.Proof.Gen.ReferenceIdeal.Run
public import proofs.«01_k».proof.Proof.LayerNorm
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.LayerNorm

/-! # The reference's projection, read at an index -/

theorem mean_at (x : FVec Ideal S4x4096x1024 .f32) (b : Fin 4) (s : Fin 4096) :
    (Host.divf (broadcastInDim S4x4096x1 ![0, 1] bcast_S4x4096_S4x4096x1_0_1 (Host.reduceAdd x (constant S_ .f32 0x00000000#32) reducesTo_S4x4096x1024_S4x4096_d2 h_S_)) (broadcastInDim S4x4096x1 ![] bcast_S_S4x4096x1 (constant S_ .f32 0x44800000#32)) : FVec Ideal S4x4096x1 .f32) (ix3 b s 0)
      = mean fun d => x (ix3 b s d) := by
  unfold mean
  pointwise

theorem sub_at (x : FVec Ideal S4x4096x1024 .f32) (μ : FVec Ideal S4x4096x1 .f32) (b : Fin 4) (s : Fin 4096) (d : Fin 1024) :
    (subf x (broadcastInDim S4x4096x1024 ![0, 1, 2] bcast_S4x4096x1_S4x4096x1024_0_1_2 μ) : FVec Ideal S4x4096x1024 .f32) (ix3 b s d) = x (ix3 b s d) - μ (ix3 b s 0) := by
  pointwise

theorem mod_at (x y : FVec Ideal S4x4096x1024 .f32) (μ : FVec Ideal S4x4096x1 .f32) (sc sh : FVec Ideal S4x1x1024 .f32) (b : Fin 4) (s : Fin 4096) (d : Fin 1024) :
    (addf (mulf (mulf (subf x (broadcastInDim S4x4096x1024 ![0, 1, 2] bcast_S4x4096x1_S4x4096x1024_0_1_2 μ)) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf y y) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S4x1x1024_S4x4096x1024_0_1_2 (addf (broadcastInDim S4x1x1024 ![] bcast_S_S4x1x1024 (constant S_ .f32 0x3F800000#32)) sc))) (broadcastInDim S4x4096x1024 ![0, 1, 2] bcast_S4x1x1024_S4x4096x1024_0_1_2 sh) : FVec Ideal S4x4096x1024 .f32) (ix3 b s d)
      = (x (ix3 b s d) - μ (ix3 b s 0)) * Ideal.rsqrt (Ideal.div (∑ e, y (ix3 b s e) * y (ix3 b s e)) (Ideal.ofBits .f32 0x44800000#32) + Ideal.ofBits .f32 0x3727C5AC#32) * (1 + sc (ix3 b 0 d)) + sh (ix3 b 0 d) := by
  pointwise

theorem dot_at (u : FVec Ideal S4x4096x1024 .f32) (w : FVec Ideal S1024x4616 .f32) (b : Fin 4) (s : Fin 4096) (n : Fin 4616) :
    (Host.dotGeneral dot_S4x4096x1024_S1024x4616_S4x4096x4616_2_0_01_1_n_n none u w : FVec Ideal S4x4096x4616 .f32) (ix3 b s n) = ∑ d : Fin 1024, u (ix3 b s d) * w (ix2 d n) := by
  pointwise

/-- The projection, at an index: the modulated row against a column of the weights. -/
theorem v24_at (V0 : Valuation τ sig (Elt Ideal)) (b : Fin 4) (s : Fin 4096) (n : Fin 4616) :
    (show FVec Ideal S4x4096x4616 .f32 from res_main_v24 V0) (ix3 b s n)
      = ∑ d : Fin 1024, (norm (fun e => (V0 (Proc.devRef .tc main_arg0) : FVec Ideal S4x4096x1024 .f32) (ix3 b s e)) d * (1 + (V0 (Proc.devRef .tc main_arg2) : FVec Ideal S4x1x1024 .f32) (ix3 b 0 d)) + (V0 (Proc.devRef .tc main_arg1) : FVec Ideal S4x1x1024 .f32) (ix3 b 0 d)) * (V0 (Proc.devRef .tc main_arg3) : FVec Ideal S1024x4616 .f32) (ix2 d n) := by
  unfold res_main_v24
  refine (dot_at _ _ b s n).trans (Finset.sum_congr rfl fun d _ => congrArg (· * _) ?_)
  refine (mod_at _ _ _ _ _ b s d).trans ?_
  have e3 : (show FVec Ideal S4x4096x1 .f32 from res_main_v3 V0) (ix3 b s 0) = mean fun e => (V0 (Proc.devRef .tc main_arg0) : FVec Ideal S4x4096x1024 .f32) (ix3 b s e) := by
    unfold res_main_v3
    exact mean_at _ b s
  have e5 : ∀ e : Fin 1024, (show FVec Ideal S4x4096x1024 .f32 from res_main_v5 V0) (ix3 b s e) = (show EReal from (V0 (Proc.devRef .tc main_arg0) : FVec Ideal S4x4096x1024 .f32) (ix3 b s e)) - mean fun e => (V0 (Proc.devRef .tc main_arg0) : FVec Ideal S4x4096x1024 .f32) (ix3 b s e) := by
    intro e
    unfold res_main_v5
    exact (sub_at _ _ b s e).trans (congrArg _ e3)
  unfold Cert.LayerNorm.norm var
  refine congrArg (· + _) (congrArg (· * _) ?_)
  refine congrArg₂ (· * ·) (congrArg _ e3) (congrArg Ideal.rsqrt (congrArg (· + _) (congrArg (Ideal.div · _) (Finset.sum_congr rfl fun e _ => ?_))))
  exact congrArg₂ (· * ·) (e5 e) (e5 e)

end Cert.ReferenceIdeal.Value
-- ==== Proof.RefGate.lean ====
module

public import proofs.«01_k».proof.Proof.Gen.ReferenceIdeal.Run
public import proofs.«01_k».proof.Proof.LayerNorm
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.LayerNorm Cert.Softmax

/-! # The reference's forget gate, and its sums along the sequence -/

theorem foldl_sum {ι : Type} (g : ι → EReal) : ∀ (l : List ι) (v : EReal), l.foldl (fun r n => r + g n) v = v + (l.map g).sum
  | [], v => by simp
  | a :: l, v => by rw [List.foldl_cons, foldl_sum g l, List.map_cons, List.sum_cons, add_assoc]

theorem window_sum (l : ℕ → ℝ) (s : ℕ) (hs : s < 4096) :
    ∑ w ∈ Finset.range 4096, (if s + w < 4095 then 0 else l (s + w - 4095)) = ∑ k ∈ Finset.range (s + 1), l k := by
  rw [show 4096 = (4095 - s) + (s + 1) by omega, Finset.sum_range_add (fun w : ℕ => if s + w < 4095 then 0 else l (s + w - 4095)),
    Finset.sum_eq_zero (s := Finset.range (4095 - s)) (fun w hw => if_pos (by rw [Finset.mem_range] at hw; omega)), zero_add]
  refine Finset.sum_congr rfl fun w _ => ?_
  rw [if_neg (by omega), show s + (4095 - s + w) - 4095 = w by omega]

/-- The window of 4096 that ends at an entry: the sum of all entries up to it. -/
theorem window_at (z : FVec Ideal S4x4096x8 .f32) (v : FVec Ideal S_ .f32) (hv : ∀ i, v i = 0) (L : ℕ → ℕ → ℕ → ℝ)
    (hz : ∀ (b : Fin 4) (s : Fin 4096) (n : Fin 8), z (ix3 b s n) = ((L b.val s.val n.val : ℝ) : EReal)) (b : Fin 4) (s : Fin 4096) (n : Fin 8) :
    (Host.reduceWindowAdd ![1, 4096, 1] ![1, 1, 1] ![0, 4095, 0] ![0, 0, 0] z v reduceWindows_S4x4096x8_S4x4096x8_w1s1p0_0_w4096s1p4095_0_w1s1p0_0 h_S_ : FVec Ideal S4x4096x8 .f32) (ix3 b s n)
      = ((∑ k ∈ Finset.range (s.val + 1), L b.val k n.val : ℝ) : EReal) := by
  unfold Host.reduceWindowAdd
  rw [Ideal.hostReduceWindowAdd_def]
  unfold Ideal.hostReduceWindowAdd Host.reduceWindow
  dsimp only
  rw [hv]
  rw [foldl_sum, zero_add, ← Fin.sum_univ_def]
  rw [Fintype.sum_equiv (Shape.rowMajor (⟨3, ![1, 4096, 1]⟩ : Shape)).symm _ (fun w : (⟨3, ![1, 4096, 1]⟩ : Shape).Idx => (if s.val + (w 1).val < 4095 then 0 else ((L b.val (s.val + (w 1).val - 4095) n.val : ℝ) : EReal))) ?_]
  · rw [sum_idx3]
    simp only [Finset.univ_unique, Finset.sum_singleton]
    have e : ∀ w : Fin 4096, (if s.val + w.val < 4095 then 0 else ((L b.val (s.val + w.val - 4095) n.val : ℝ) : EReal))
        = (((fun w : ℕ => if s.val + w < 4095 then 0 else L b.val (s.val + w - 4095) n.val) w.val : ℝ) : EReal) := by
      intro w
      dsimp only
      by_cases h : s.val + w.val < 4095
      · rw [if_pos h, if_pos h]; rfl
      · rw [if_neg h, if_neg h]
    refine (Finset.sum_congr rfl fun w _ => e w).trans ?_
    rw [coe_sum, Fin.sum_univ_eq_sum_range (fun w : ℕ => if s.val + w < 4095 then 0 else L b.val (s.val + w - 4095) n.val) 4096]
    exact congrArg _ (window_sum (fun k => L b.val k n.val) s.val s.isLt)
  · intro k
    let w := (Shape.rowMajor (⟨3, ![1, 4096, 1]⟩ : Shape)).symm k
    have w0 : (w 0).val < 1 := (w 0).isLt
    have w1 : (w 1).val < 4096 := (w 1).isLt
    have w2 : (w 2).val < 1 := (w 2).isLt
    have hs := s.isLt
    have hb := b.isLt
    have hn := n.isLt
    by_cases h : s.val + (w 1).val < 4095
    · refine Eq.trans (dif_neg ?_) (if_pos h).symm
      intro hin
      have h1 : 4095 ≤ s.val * 1 + (w 1).val := (hin 1).1
      omega
    · refine Eq.trans (dif_pos ?_) (Eq.trans ?_ (if_neg h).symm)
      rotate_left
      · refine Eq.trans (congrArg z ?_) (hz b ⟨s.val + (w 1).val - 4095, by omega⟩ n)
        funext a
        fin_cases a
        · refine Fin.ext ?_
          show b.val * 1 + (w 0).val - 0 = b.val
          omega
        · refine Fin.ext ?_
          show s.val * 1 + (w 1).val - 4095 = s.val + (w 1).val - 4095
          omega
        · refine Fin.ext ?_
          show n.val * 1 + (w 2).val - 0 = n.val
          omega
      · intro a
        fin_cases a
        · show 0 ≤ b.val * 1 + (w 0).val ∧ b.val * 1 + (w 0).val - 0 < 4
          omega
        · show 4095 ≤ s.val * 1 + (w 1).val ∧ s.val * 1 + (w 1).val - 4095 < 4096
          omega
        · show 0 ≤ n.val * 1 + (w 2).val ∧ n.val * 1 + (w 2).val - 0 < 8
          omega

theorem gate_at (z : FVec Ideal S4x4096x4616 .f32) (bf : FVec Ideal S8 .f32) (b : Fin 4) (s : Fin 4096) (n : Fin 8) :
    (Host.negf (addf (extractStridedSlice S4x4096x8 ![0, 0, 1536] z slices_S4x4096x4616_S4x4096x8_0_0_1536) (broadcastInDim S4x4096x8 ![0, 1, 2] bcast_S1x1x8_S4x4096x8_0_1_2 (broadcastInDim S1x1x8 ![2] bcast_S8_S1x1x8_2 bf))) : FVec Ideal S4x4096x8 .f32) (ix3 b s n)
      = -(z (ix3 b s ⟨1536 + n.val, by omega⟩) + bf (ix1 n)) := by
  pointwise

theorem softplus_at (g : FVec Ideal S4x4096x8 .f32) (i : S4x4096x8.Idx) (r : ℝ) (hg : g i = -((r : ℝ) : EReal)) :
    (let d := subf g (broadcastInDim S4x4096x8 ![] bcast_S_S4x4096x8 (constant (F := Ideal) S_ .f32 0x00000000#32))
     (Host.negf (select (cmpf .une d d) (addf g (broadcastInDim S4x4096x8 ![] bcast_S_S4x4096x8 (constant (F := Ideal) S_ .f32 0x00000000#32))) (addf (maximumf g (broadcastInDim S4x4096x8 ![] bcast_S_S4x4096x8 (constant (F := Ideal) S_ .f32 0x00000000#32))) (Host.log1p (Host.exp (Host.negf (Host.absf d)))))) : FVec Ideal S4x4096x8 .f32)) i
      = ((lsg r : ℝ) : EReal) := by
  dsimp only
  rw [← lsg_reference r, ← hg]
  pointwise
  rw [if_neg (by simp)]
  rfl

theorem v38_transpose (y : FVec Ideal S4x4096x8 .f32) (b : Fin 4) (h : Fin 8) (s : Fin 4096) :
    (transpose S4x8x4096 [0, 2, 1] y transposes_S4x4096x8_S4x8x4096_0_2_1) (ix3 b h s) = y (ix3 b s h) := by
  pointwise

end Cert.ReferenceIdeal.Value
-- ==== Proof.RefRow.lean ====
module

public import proofs.«01_k».proof.Proof.Gen.ReferenceIdeal.Run
public import proofs.«01_k».proof.Proof.LayerNorm
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.LayerNorm Cert.Softmax

/-! # The reference's softmax, read at an index -/

/-- One row: the quotient of the exponentials, whatever is taken off first, weighs the values. -/
theorem row_soft (σ v : ℕ → ℝ) (q : ℕ) (hq : q + 1 ≤ 4096) (s : Fin 4096 → EReal) (hs : ∀ k, s k = if k.val < q + 1 then ((σ k.val : ℝ) : EReal) else ⊥) :
    ∑ k : Fin 4096, Ideal.div (Ideal.exp (s k - max ⊥ (Finset.univ.fold max ⊥ s))) (∑ j : Fin 4096, Ideal.exp (s j - max ⊥ (Finset.univ.fold max ⊥ s))) * ((v k.val : ℝ) : EReal)
      = ((∑ k ∈ Finset.range (q + 1), Real.exp (σ k) / (∑ j ∈ Finset.range (q + 1), Real.exp (σ j)) * v k : ℝ) : EReal) := by
  obtain ⟨μ, hμ⟩ := max_real s σ (q + 1) (Nat.succ_pos q) hq hs ⊥ (by simp)
  rw [hμ]
  have he : ∀ k : Fin 4096, Ideal.exp (s k - (μ : EReal)) = ((if k.val < q + 1 then Real.exp (σ k.val - μ) else 0 : ℝ) : EReal) := by
    intro k
    rw [hs k]
    by_cases h : k.val < q + 1
    · rw [if_pos h, if_pos h, ← EReal.coe_sub, Ideal.exp_coe]
    · rw [if_neg h, if_neg h, EReal.bot_sub]; simp
  simp only [he]
  rw [coe_sum, sum_cnt (fun k => Real.exp (σ k - μ)) (q + 1) hq]
  have hpos : 0 < ∑ k ∈ Finset.range (q + 1), Real.exp (σ k - μ) := Finset.sum_pos (fun _ _ => Real.exp_pos _) ⟨0, by simp⟩
  simp only [Ideal.div_coe hpos.ne', ← EReal.coe_mul]
  rw [coe_sum]
  congr 1
  have h2 : ∀ k : Fin 4096, (if k.val < q + 1 then Real.exp (σ k.val - μ) else 0) * (1 / ∑ k ∈ Finset.range (q + 1), Real.exp (σ k - μ)) * v k.val
      = if k.val < q + 1 then (fun k => Real.exp (σ k) / (∑ j ∈ Finset.range (q + 1), Real.exp (σ j)) * v k) k.val else 0 := by
    intro k
    by_cases h : k.val < q + 1
    · rw [if_pos h, if_pos h]
      dsimp only
      simp only [Real.exp_sub, ← Finset.sum_div]
      have h3 : 0 < ∑ k ∈ Finset.range (q + 1), Real.exp (σ k) := Finset.sum_pos (fun _ _ => Real.exp_pos _) ⟨0, by simp⟩
      have h4 := Real.exp_pos μ
      field_simp
    · rw [if_neg h, if_neg h]; ring
  simp only [h2]
  exact sum_cnt (fun k => Real.exp (σ k) / (∑ j ∈ Finset.range (q + 1), Real.exp (σ j)) * v k) (q + 1) hq

end Cert.ReferenceIdeal.Value
-- ==== Proof.RefSoft.lean ====
module

public import proofs.«01_k».proof.Proof.Gen.ReferenceIdeal.Run
public import proofs.«01_k».proof.Proof.LayerNorm
public import Idealize.ShloMosaic.Lib.Pointwise
public import Idealize.ShloMosaic.Lib.WordCmp

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.LayerNorm Cert.Softmax

/-! # The reference's softmax, read at an index -/

/-- The largest entry along the last axis. -/
theorem max_gen {n0 n1 n2 n3 : ℕ} (s : FVec Ideal (⟨4, ![n0, n1, n2, n3]⟩ : Shape) .f32) (v : EReal) (hr : (⟨4, ![n0, n1, n2, n3]⟩ : Shape).ReducesTo [3] (⟨3, ![n0, n1, n2]⟩ : Shape)) (hu : 0 < S_.numel) (b : Fin n0) (h : Fin n1) (q : Fin n2) :
    Host.reduce (FloatOps.maximumf (F := Ideal) (φ := .f32)) s (fun _ : S_.Idx => v) hr hu (ix3 b h q) = Finset.univ.fold max v fun k : Fin n3 => s (ix4 b h q k) := by
  rw [Host.reduce_eq_fold, Shape.ReducesTo.fold_fiber_r4_a3]
  rfl

theorem neg_inf : Ideal.ofBits .f32 0xFF800000#32 = ⊥ := by simp [Ideal.ofBits, Ideal.ieee]

theorem exp_gen (s : FVec Ideal S4x8x4096x4096 .f32) (M : FVec Ideal S4x8x4096 .f32) (b : Fin 4) (h : Fin 8) (q k : Fin 4096) :
    (Host.exp (subf s (broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) M)))) : FVec Ideal S4x8x4096x4096 .f32) (ix4 b h q k)
      = Ideal.exp (s (ix4 b h q k) - max (Ideal.ofBits .f32 0xFF800000#32) (M (ix3 b h q))) := by
  pointwise

theorem exp_at (s : FVec Ideal S4x8x4096x4096 .f32) (b : Fin 4) (h : Fin 8) (q k : Fin 4096) :
    (Host.exp (subf s (broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) (Host.reduce FloatOps.maximumf s (constant S_ .f32 0xFF800000#32) reducesTo_S4x8x4096x4096_S4x8x4096_d3 h_S_))))) : FVec Ideal S4x8x4096x4096 .f32) (ix4 b h q k)
      = Ideal.exp (s (ix4 b h q k) - max ⊥ (Finset.univ.fold max ⊥ fun j => s (ix4 b h q j))) := by
  refine (exp_gen s _ b h q k).trans ?_
  have e := max_gen s (Ideal.ofBits .f32 0xFF800000#32) reducesTo_S4x8x4096x4096_S4x8x4096_d3 h_S_ b h q
  rw [← neg_inf]
  exact congrArg (fun z => Ideal.exp (s (ix4 b h q k) - max (Ideal.ofBits .f32 0xFF800000#32) z)) e

theorem out_at (e : FVec Ideal S4x8x4096x4096 .f32) (z : FVec Ideal S4x4096x4616 .f32) (i : Fin 16384) (j : Fin 512) :
    (truncf .bf16 (shapeCast _ (transpose S4x4096x8x64 [0, 2, 1, 3] (Host.dotGeneral dot_S4x8x4096x4096_S4x8x4096x64_S4x8x4096x64_3_2_2_3_01_01 none (Host.divf e (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd e (constant S_ .f32 0x00000000#32) reducesTo_S4x8x4096x4096_S4x8x4096_d3 h_S_)))) (transpose S4x8x4096x64 [0, 2, 1, 3] (shapeCast _ (extractStridedSlice S4x4096x512 ![0, 0, 1024] z slices_S4x4096x4616_S4x4096x512_0_0_1024) shapeCasts_S4x4096x512_S4x4096x8x64) transposes_S4x4096x8x64_S4x8x4096x64_0_2_1_3)) transposes_S4x8x4096x64_S4x4096x8x64_0_2_1_3) shapeCasts_S4x4096x8x64_S16384x512) bitsLt_bf16_f32 : FVec Ideal S16384x512 .bf16) (ix2 i j)
      = ∑ k : Fin 4096, Ideal.div (e (ix4 ⟨i.val / 4096, by omega⟩ ⟨j.val / 64, by omega⟩ ⟨i.val % 4096, by omega⟩ k)) (∑ l : Fin 4096, e (ix4 ⟨i.val / 4096, by omega⟩ ⟨j.val / 64, by omega⟩ ⟨i.val % 4096, by omega⟩ l)) * z (ix3 ⟨i.val / 4096, by omega⟩ k ⟨1024 + j.val, by omega⟩) := by
  pointwise

theorem word_le (k q : Fin 4096) : IntOp.cmpi CmpIPredicate.sle (BitVec.ofNat 32 k.val) (BitVec.ofNat 32 q.val) = 1#1 ↔ k.val ≤ q.val := by
  word_cmp
theorem word_gt (k q : Fin 4096) (h : ¬ k.val ≤ q.val) : IntOp.cmpi CmpIPredicate.sle (BitVec.ofNat 32 k.val) (BitVec.ofNat 32 q.val) = 0#1 := by
  have := mt (word_le k q).1 h
  generalize IntOp.cmpi CmpIPredicate.sle (BitVec.ofNat 32 k.val) (BitVec.ofNat 32 q.val) = x at *
  revert x; decide

theorem score_at (z : FVec Ideal S4x4096x4616 .f32) (f : FVec Ideal S4x8x4096 .f32) (b : Fin 4) (h : Fin 8) (q k : Fin 4096) :
    (let t := iotaInDim S4096 32 0
    (select (broadcastInDim S4x8x4096x4096 ![2, 3] bcast_S4096x4096_S4x8x4096x4096_2_3 (cmpi .sle (broadcastInDim S4096x4096 ![0, 1] bcast_S1x4096_S4096x4096_0_1 (broadcastInDim S1x4096 ![1] bcast_S4096_S1x4096_1 t)) (broadcastInDim S4096x4096 ![0, 1] bcast_S4096x1_S4096x4096_0_1 (broadcastInDim S4096x1 ![0] bcast_S4096_S4096x1_0 t)))) (subf (addf (mulf (Host.dotGeneral dot_S4x8x4096x64_S4x8x4096x64_S4x8x4096x4096_3_3_2_2_01_01 none (transpose S4x8x4096x64 [0, 2, 1, 3] (shapeCast _ (extractStridedSlice S4x4096x512 ![0, 0, 0] z slices_S4x4096x4616_S4x4096x512_0_0_0) shapeCasts_S4x4096x512_S4x4096x8x64) transposes_S4x4096x8x64_S4x8x4096x64_0_2_1_3) (transpose S4x8x4096x64 [0, 2, 1, 3] (shapeCast _ (extractStridedSlice S4x4096x512 ![0, 0, 512] z slices_S4x4096x4616_S4x4096x512_0_0_512) shapeCasts_S4x4096x512_S4x4096x8x64) transposes_S4x4096x8x64_S4x8x4096x64_0_2_1_3)) (broadcastInDim S4x8x4096x4096 ![] bcast_S_S4x8x4096x4096 (constant S_ .f32 0x3E000000#32))) (broadcastInDim S4x8x4096x4096 ![0, 1, 2, 3] bcast_S4x8x4096x1_S4x8x4096x4096_0_1_2_3 (broadcastInDim S4x8x4096x1 ![0, 1, 2] bcast_S4x8x4096_S4x8x4096x1_0_1_2 f))) (broadcastInDim S4x8x4096x4096 ![0, 1, 2, 3] bcast_S4x8x1x4096_S4x8x4096x4096_0_1_2_3 (broadcastInDim S4x8x1x4096 ![0, 1, 3] bcast_S4x8x4096_S4x8x1x4096_0_1_3 f))) (broadcastInDim S4x8x4096x4096 ![] bcast_S_S4x8x4096x4096 (id (constant S_ .f32 0xFF800000#32))) : FVec Ideal S4x8x4096x4096 .f32)) (ix4 b h q k)
      = if k.val ≤ q.val then (∑ d : Fin 64, z (ix3 b q ⟨h.val * 64 + d.val, by omega⟩) * z (ix3 b k ⟨512 + (h.val * 64 + d.val), by omega⟩)) * Ideal.ofBits .f32 0x3E000000#32 + f (ix3 b h q) - f (ix3 b h k) else (⊥ : EReal) := by
  dsimp only
  pointwise
  rw [show id (constant (F := Ideal) S_ FTy.f32 0xFF800000#32) ix0 = (⊥ : EReal) from neg_inf]
  by_cases hk : k.val ≤ q.val
  · rw [if_pos hk, (word_le k q).2 hk]; rfl
  · rw [if_neg hk, word_gt k q hk]; rfl

/-- The gated product, -/
theorem gated_at (z : FVec Ideal S4x4096x4616 .f32) (i : Fin 16384) (j : Fin 512) :
    (shapeCast S16384x512 (mulf (extractStridedSlice S4x4096x512 ![0, 0, 1544] z slices_S4x4096x4616_S4x4096x512_0_0_1544) (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (extractStridedSlice S4x4096x512 ![0, 0, 2056] z slices_S4x4096x4616_S4x4096x512_0_0_2056)))))) shapeCasts_S4x4096x512_S16384x512 : FVec Ideal S16384x512 .f32) (ix2 i j)
      = z (ix3 ⟨i.val / 4096, by omega⟩ ⟨i.val % 4096, by omega⟩ ⟨1544 + j.val, by omega⟩) * Ideal.div 1 (1 + Ideal.exp (-z (ix3 ⟨i.val / 4096, by omega⟩ ⟨i.val % 4096, by omega⟩ ⟨2056 + j.val, by omega⟩))) := by
  pointwise

/-- and the two further gates, side by side. -/
theorem gates_at (z : FVec Ideal S4x4096x4616 .f32) (i : Fin 16384) (j : Fin 2048) :
    (shapeCast S16384x2048 (concatenate S4x4096x2048 2 [⟨S4x4096x1024, (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 2568] z slices_S4x4096x4616_S4x4096x1024_0_0_2568)))))⟩, ⟨S4x4096x1024, (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 3592] z slices_S4x4096x4616_S4x4096x1024_0_0_3592)))))⟩] concatenates_S4x4096x1024_S4x4096x1024_S4x4096x2048_d2) shapeCasts_S4x4096x2048_S16384x2048 : FVec Ideal S16384x2048 .f32) (ix2 i j)
      = Ideal.div 1 (1 + Ideal.exp (-z (ix3 ⟨i.val / 4096, by omega⟩ ⟨i.val % 4096, by omega⟩ ⟨2568 + j.val, by omega⟩))) := by
  pointwise
  have hj := j.isLt
  by_cases h : j.val < 1024
  · rw [dif_pos h]
  · rw [dif_neg h]
    have e : (⟨3592 + (j.val - 1024), by omega⟩ : Fin 4616) = ⟨2568 + j.val, by omega⟩ := Fin.ext (by show 3592 + (j.val - 1024) = 2568 + j.val; omega)
    rw [e]

end Cert.ReferenceIdeal.Value
-- ==== Proof.RefOut.lean ====
module

public import proofs.«01_k».proof.Proof.RefNorm
public import proofs.«01_k».proof.Proof.RefGate
public import proofs.«01_k».proof.Proof.RefRow
public import proofs.«01_k».proof.Proof.RefSoft
public import proofs.«01_k».proof.Proof.HostPrep
public import proofs.«01_k».proof.Proof.Bridge

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.LayerNorm Cert.Softmax
open Cert.KernelIdeal.Gen (rowsOf UU ZZ LL FF sg rsc rat ublk Wf Wc Wg Bp dot_real)

/-! # The reference's three results, as real numbers -/

/-- What the arguments hold: four arrays of real numbers; the first may hold anything. -/
structure Args (V0 : Valuation τ sig (Elt Ideal)) (sh sc : ℕ → Fin 1024 → ℝ) (w : Fin 1024 → ℕ → ℝ) (bf : ℕ → ℝ) : Prop where
  sh : ∀ (b : Fin 4) (d : Fin 1024), (V0 (Proc.devRef .tc main_arg1) : FVec Ideal S4x1x1024 .f32) (ix3 b 0 d) = ((sh b.val d : ℝ) : EReal)
  sc : ∀ (b : Fin 4) (d : Fin 1024), (V0 (Proc.devRef .tc main_arg2) : FVec Ideal S4x1x1024 .f32) (ix3 b 0 d) = ((sc b.val d : ℝ) : EReal)
  w : ∀ (d : Fin 1024) (n : Fin 4616), (V0 (Proc.devRef .tc main_arg3) : FVec Ideal S1024x4616 .f32) (ix2 d n) = ((w d n.val : ℝ) : EReal)
  b : ∀ n : Fin 8, (V0 (Proc.devRef .tc main_arg4) : FVec Ideal S8 .f32) (ix1 n) = ((bf n.val : ℝ) : EReal)

/-- The modulated rows of the first argument. -/
def mrow (V0 : Valuation τ sig (Elt Ideal)) (sh sc : ℕ → Fin 1024 → ℝ) : ℕ → Fin 1024 → ℝ :=
  UU (rowsOf (V0 (Proc.devRef .tc main_arg0))) sc sh

variable {V0 : Valuation τ sig (Elt Ideal)} {sh sc : ℕ → Fin 1024 → ℝ} {w : Fin 1024 → ℕ → ℝ} {bf : ℕ → ℝ}

theorem rowsOf_at (x : FVec Ideal S4x4096x1024 .f32) (b : Fin 4) (s : Fin 4096) : rowsOf x (4096 * b.val + s.val) = fun d => x (ix3 b s d) := by
  funext d
  have hb := b.isLt
  have hs := s.isLt
  unfold rowsOf
  rw [dif_pos (by omega)]
  have e1 : (⟨(4096 * b.val + s.val) / 4096, by omega⟩ : Fin 4) = b := Fin.ext (by show (4096 * b.val + s.val) / 4096 = b.val; omega)
  have e2 : (⟨(4096 * b.val + s.val) % 4096, by omega⟩ : Fin 4096) = s := Fin.ext (by show (4096 * b.val + s.val) % 4096 = s.val; omega)
  rw [e1, e2]

theorem v24_real (H : Args V0 sh sc w bf) (b : Fin 4) (s : Fin 4096) (n : Fin 4616) :
    (show FVec Ideal S4x4096x4616 .f32 from res_main_v24 V0) (ix3 b s n) = ((ZZ (mrow V0 sh sc) w (4096 * b.val + s.val) n.val : ℝ) : EReal) := by
  refine (v24_at V0 b s n).trans ?_
  refine dot_real _ _ (mrow V0 sh sc (4096 * b.val + s.val)) (fun d => w d n.val) (fun d => ?_) (fun d => H.w d n)
  have hs := s.isLt
  unfold mrow UU ublk
  rw [rowsOf_at, show (4096 * b.val + s.val) / 4096 = b.val by omega, norm_eq, H.sh, H.sc]
  rw [← EReal.coe_one, ← EReal.coe_add, ← EReal.coe_mul, ← EReal.coe_add]

/-- The forget gate's logarithm, at an index. -/
theorem ls_real (H : Args V0 sh sc w bf) (b : Fin 4) (s : Fin 4096) (n : Fin 8) :
    (show FVec Ideal S4x4096x8 .f32 from res_main_call0_v0 V0) (ix3 b s n) = -((ZZ (mrow V0 sh sc) (Wf w) (4096 * b.val + s.val) n.val + Bp bf n.val : ℝ) : EReal) := by
  unfold res_main_call0_v0
  refine (gate_at _ _ b s n).trans (congrArg (- ·) ?_)
  have hn := n.isLt
  have e : ZZ (mrow V0 sh sc) (Wf w) (4096 * b.val + s.val) n.val = ZZ (mrow V0 sh sc) w (4096 * b.val + s.val) (1536 + n.val) := by
    unfold ZZ Wf
    simp only [if_pos hn]
  have e' : Bp bf n.val = bf n.val := if_pos hn
  rw [e, e', EReal.coe_add]
  exact congrArg₂ (· + ·) (v24_real H b s _) (H.b n)

theorem v38_real (H : Args V0 sh sc w bf) (b : Fin 4) (h : Fin 8) (s : Fin 4096) :
    (show FVec Ideal S4x8x4096 .f32 from res_main_v38 V0) (ix3 b h s) = ((FF (mrow V0 sh sc) (Wf w) (Bp bf) b.val s.val h.val : ℝ) : EReal) := by
  unfold res_main_v38
  refine (v38_transpose _ b h s).trans ?_
  refine window_at _ _ (fun i => ?_) (fun b k n => LL (mrow V0 sh sc) (Wf w) (Bp bf) (4096 * b + k) n) (fun b s n => ?_) b s h
  · show Ideal.ofBits .f32 0x00000000#32 = 0
    simp [Ideal.ofBits, Ideal.ieee]
  · unfold res_main_call0_call0_v3 res_main_call0_call0_cst LL
    exact softplus_at _ (ix3 b s n) _ (ls_real H b s n)

theorem eighth : Ideal.ofBits .f32 0x3E000000#32 = ((1 / 8 : ℝ) : EReal) := by
  simp [Ideal.ofBits, Ideal.ieee]; rw [← EReal.coe_mul]; norm_num

/-- The masked scores. -/
theorem v60_real (H : Args V0 sh sc w bf) (b : Fin 4) (h : Fin 8) (q k : Fin 4096) :
    (show FVec Ideal S4x8x4096x4096 .f32 from res_main_v60 V0) (ix4 b h q k)
      = if k.val < q.val + 1 then ((rsc (ZZ (mrow V0 sh sc) w) (FF (mrow V0 sh sc) (Wf w) (Bp bf)) b.val h.val q.val k.val : ℝ) : EReal) else ⊥ := by
  unfold res_main_v60 res_main_v54
  refine (score_at _ _ b h q k).trans ?_
  by_cases hk : k.val ≤ q.val
  · rw [if_pos hk, if_pos (Nat.lt_succ_of_le hk)]
    unfold rsc
    rw [EReal.coe_sub, EReal.coe_add, EReal.coe_mul, ← eighth]
    refine congrArg₂ (· - ·) (congrArg₂ (· + ·) (congrArg (· * _) ?_) (v38_real H b h q)) (v38_real H b h k)
    rw [← Fin.sum_univ_eq_sum_range (fun d => ZZ (mrow V0 sh sc) w (4096 * b.val + q.val) (64 * h.val + d) * ZZ (mrow V0 sh sc) w (4096 * b.val + k.val) (512 + (64 * h.val + d))) 64]
    rw [Nat.mul_comm 64 h.val]
    refine dot_real _ _ (fun d : Fin 64 => ZZ (mrow V0 sh sc) w (4096 * b.val + q.val) (h.val * 64 + d.val)) (fun d : Fin 64 => ZZ (mrow V0 sh sc) w (4096 * b.val + k.val) (512 + (h.val * 64 + d.val))) (fun d => ?_) (fun d => ?_)
    · exact v24_real H b q _
    · exact v24_real H b k _
  · rw [if_neg hk, if_neg (by omega)]

/-- The first result: the attention's rows, -/
theorem attn_real (H : Args V0 sh sc w bf) (i : Fin 16384) (j : Fin 512) :
    (truncf .bf16 (shapeCast _ (transpose S4x4096x8x64 [0, 2, 1, 3] (Host.dotGeneral (φ₂ := .f32) dot_S4x8x4096x4096_S4x8x4096x64_S4x8x4096x64_3_2_2_3_01_01 none (Host.divf (res_main_v67 V0) (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd (res_main_v67 V0) (constant S_ .f32 0x00000000#32) reducesTo_S4x8x4096x4096_S4x8x4096_d3 h_S_)))) (transpose S4x8x4096x64 [0, 2, 1, 3] (shapeCast _ (extractStridedSlice S4x4096x512 ![0, 0, 1024] (res_main_v24 V0) slices_S4x4096x4616_S4x4096x512_0_0_1024) shapeCasts_S4x4096x512_S4x4096x8x64) transposes_S4x4096x8x64_S4x8x4096x64_0_2_1_3)) transposes_S4x8x4096x64_S4x4096x8x64_0_2_1_3) shapeCasts_S4x4096x8x64_S16384x512) bitsLt_bf16_f32 : FVec Ideal S16384x512 .bf16) (ix2 i j)
      = ((rat (ZZ (mrow V0 sh sc) w) (FF (mrow V0 sh sc) (Wf w) (Bp bf)) (i.val / 4096) (j.val / 64) (i.val % 4096) j.val : ℝ) : EReal) := by
  refine (out_at _ _ i j).trans ?_
  have hi := i.isLt
  have hj := j.isLt
  have e67 : ∀ k : Fin 4096, (show FVec Ideal S4x8x4096x4096 .f32 from res_main_v67 V0) (ix4 ⟨i.val / 4096, by omega⟩ ⟨j.val / 64, by omega⟩ ⟨i.val % 4096, by omega⟩ k)
      = Ideal.exp ((show FVec Ideal S4x8x4096x4096 .f32 from res_main_v60 V0) (ix4 ⟨i.val / 4096, by omega⟩ ⟨j.val / 64, by omega⟩ ⟨i.val % 4096, by omega⟩ k) - max ⊥ (Finset.univ.fold max ⊥ fun l => (show FVec Ideal S4x8x4096x4096 .f32 from res_main_v60 V0) (ix4 ⟨i.val / 4096, by omega⟩ ⟨j.val / 64, by omega⟩ ⟨i.val % 4096, by omega⟩ l))) := by
    intro k
    unfold res_main_v67
    exact exp_at _ _ _ _ k
  refine Eq.trans (Finset.sum_congr rfl fun k _ => congrArg₂ (· * ·) (congrArg₂ Ideal.div (e67 k) (Finset.sum_congr rfl fun l _ => e67 l)) (v24_real H _ k _)) ?_
  exact row_soft (rsc (ZZ (mrow V0 sh sc) w) (FF (mrow V0 sh sc) (Wf w) (Bp bf)) (i.val / 4096) (j.val / 64) (i.val % 4096))
    (fun k => ZZ (mrow V0 sh sc) w (4096 * (i.val / 4096) + k) (1024 + j.val)) (i.val % 4096) (by omega) _ (fun k => v60_real H _ _ _ k)

theorem sig_real (x : ℝ) : Ideal.div 1 (1 + Ideal.exp (-((x : ℝ) : EReal))) = ((sg x : ℝ) : EReal) := Ideal.logistic_coe x

/-- the second: the gated product, -/
theorem gated_real (H : Args V0 sh sc w bf) (i : Fin 16384) (j : Fin 512) :
    (shapeCast S16384x512 (mulf (extractStridedSlice S4x4096x512 ![0, 0, 1544] (res_main_v24 V0) slices_S4x4096x4616_S4x4096x512_0_0_1544) (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (extractStridedSlice S4x4096x512 ![0, 0, 2056] (res_main_v24 V0) slices_S4x4096x4616_S4x4096x512_0_0_2056)))))) shapeCasts_S4x4096x512_S16384x512 : FVec Ideal S16384x512 .f32) (ix2 i j)
      = ((ZZ (mrow V0 sh sc) (Wc w) i.val j.val * sg (ZZ (mrow V0 sh sc) (Wc w) i.val (512 + j.val)) : ℝ) : EReal) := by
  refine (gated_at _ i j).trans ?_
  have hi := i.isLt
  have e : 4096 * (i.val / 4096) + i.val % 4096 = i.val := by omega
  have e1 := v24_real H ⟨i.val / 4096, by omega⟩ ⟨i.val % 4096, by omega⟩ ⟨1544 + j.val, by omega⟩
  have e2 := v24_real H ⟨i.val / 4096, by omega⟩ ⟨i.val % 4096, by omega⟩ ⟨2056 + j.val, by omega⟩
  dsimp only at e1 e2
  rw [e] at e1 e2
  rw [EReal.coe_mul]
  refine congrArg₂ (· * ·) e1 (Eq.trans (congrArg (fun z => Ideal.div 1 (1 + Ideal.exp (-z))) e2) ((sig_real _).trans ?_))
  unfold ZZ Wc
  simp only [← Nat.add_assoc]

/-- and the third: the two further gates. -/
theorem gates_real (H : Args V0 sh sc w bf) (i : Fin 16384) (j : Fin 2048) :
    (shapeCast S16384x2048 (concatenate S4x4096x2048 2 [⟨S4x4096x1024, (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 2568] (res_main_v24 V0) slices_S4x4096x4616_S4x4096x1024_0_0_2568)))))⟩, ⟨S4x4096x1024, (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 3592] (res_main_v24 V0) slices_S4x4096x4616_S4x4096x1024_0_0_3592)))))⟩] concatenates_S4x4096x1024_S4x4096x1024_S4x4096x2048_d2) shapeCasts_S4x4096x2048_S16384x2048 : FVec Ideal S16384x2048 .f32) (ix2 i j)
      = ((sg (ZZ (mrow V0 sh sc) (Wg w) i.val j.val) : ℝ) : EReal) := by
  refine (gates_at _ i j).trans ?_
  have hi := i.isLt
  have e : 4096 * (i.val / 4096) + i.val % 4096 = i.val := by omega
  have e1 := v24_real H ⟨i.val / 4096, by omega⟩ ⟨i.val % 4096, by omega⟩ ⟨2568 + j.val, by omega⟩
  dsimp only at e1
  rw [e] at e1
  exact (congrArg (fun z => Ideal.div 1 (1 + Ideal.exp (-z))) e1).trans (sig_real _)

end Cert.ReferenceIdeal.Value
-- ==== Proof.Equal.lean ====
module

public import proofs.«01_k».proof.Defs
public import proofs.«01_k».proof.Proof.KerOut
public import proofs.«01_k».proof.Proof.RefOut
public import proofs.«01_k».proof.Proof.Finite

@[expose] public section

set_option maxRecDepth 16384

noncomputable section

namespace Cert.Equal

open Idealize.ShloMosaic Idealize.SL.Sem

/-! # Kernel and reference end with equal results -/

/-- The real numbers the four arrays hold. -/
def shR (a : FVec Ideal Cert.KernelIdeal.S4x1x1024 .f32) (b : ℕ) (d : Fin 1024) : ℝ := if h : b < 4 then (show EReal from a (ix3 (⟨b, h⟩ : Fin 4) (0 : Fin 1) d)).toReal else 0
def wR (a : FVec Ideal Cert.KernelIdeal.S1024x4616 .f32) (d : Fin 1024) (n : ℕ) : ℝ := if h : n < 4616 then (show EReal from a (ix2 d (⟨n, h⟩ : Fin 4616))).toReal else 0
def bR (a : FVec Ideal Cert.KernelIdeal.S8 .f32) (n : ℕ) : ℝ := if h : n < 8 then (show EReal from a (ix1 (⟨n, h⟩ : Fin 8))).toReal else 0

theorem shR_at (a : FVec Ideal Cert.KernelIdeal.S4x1x1024 .f32) (ha : ∀ i, a i = (((show EReal from a i).toReal : ℝ) : EReal)) (b : Fin 4) (d : Fin 1024) :
    a (ix3 b 0 d) = ((shR a b.val d : ℝ) : EReal) := by
  unfold shR
  rw [dif_pos b.isLt]
  exact ha _
theorem wR_at (a : FVec Ideal Cert.KernelIdeal.S1024x4616 .f32) (ha : ∀ i, a i = (((show EReal from a i).toReal : ℝ) : EReal)) (d : Fin 1024) (n : Fin 4616) :
    a (ix2 d n) = ((wR a d n.val : ℝ) : EReal) := by
  unfold wR
  rw [dif_pos n.isLt]
  exact ha _
theorem bR_at (a : FVec Ideal Cert.KernelIdeal.S8 .f32) (ha : ∀ i, a i = (((show EReal from a i).toReal : ℝ) : EReal)) (n : Fin 8) :
    a (ix1 n) = ((bR a n.val : ℝ) : EReal) := by
  unfold bR
  rw [dif_pos n.isLt]
  exact ha _

theorem algebraic : Cert.algebraic_KernelIdeal_ReferenceIdeal_pre_finite := by
  intro m g m' g' hpre hargs
  refine ⟨fun c => Cert.KernelIdeal.Gen.W7 m c (Proc.devRef .tc Cert.KernelIdeal.main_v13), fun c => Cert.KernelIdeal.Gen.W7 m c (Proc.devRef .tc Cert.KernelIdeal.main_v12_3), fun c => Cert.KernelIdeal.Gen.W7 m c (Proc.devRef .tc Cert.KernelIdeal.main_v12_4), ?_, ?_⟩
  · refine (θ_run Cert.KernelIdeal.defs _ _).mono (fun r h c => ?_) (Cert.KernelIdeal.Gen.run_main m g)
    obtain ⟨h0, h1, h2, h3, h4, h5, h6, h7⟩ := h.1 c
    exact ⟨h5, h6, h7, h0, h1, h2, h3, h4⟩
  · refine (θ_run Cert.ReferenceIdeal.defs _ _).mono (fun r h c => ?_) (Cert.ReferenceIdeal.Value.run (F := Ideal) m' g')
    obtain ⟨h0, h1, h2, h3⟩ := h c
    obtain ⟨a0, a1, a2, a3, a4⟩ := hargs c
    obtain ⟨r1, r2, r3, r4⟩ := Cert.Pre_finite.reals _ _ _ _ _ (hpre c)
    have HK := Cert.KernelIdeal.Gen.reads (m := m) (c := c) _ _ _ _ (shR_at _ r1) (shR_at _ r2) (wR_at _ r3) (bR_at _ r4)
    have HR : Cert.ReferenceIdeal.Value.Args (StableHlo.launchContents m' c) _ _ _ _ :=
      { sh := fun b d => (congrFun a1 _).trans (shR_at _ r1 b d)
        sc := fun b d => (congrFun a2 _).trans (shR_at _ r2 b d)
        w := fun d n => (congrFun a3 _).trans (wR_at _ r3 d n)
        b := fun n => (congrFun a4 _).trans (bR_at _ r4 n) }
    have hU : ∀ sh sc, Cert.ReferenceIdeal.Value.mrow (StableHlo.launchContents m' c) sh sc
        = Cert.KernelIdeal.Gen.UU (Cert.KernelIdeal.Gen.rowsOf (m ((c.tc : Thread Cert.KernelIdeal.nD Cert.KernelIdeal.τ).loc Cert.KernelIdeal.main_arg0))) sc sh := fun sh sc =>
      congrArg (fun x => Cert.KernelIdeal.Gen.UU (Cert.KernelIdeal.Gen.rowsOf x) sc sh) a0
    refine ⟨h0.trans ?_, h1.trans ?_, h2.trans ?_, h3⟩
    · funext i
      rw [eq_ix2 i]
      refine (Cert.ReferenceIdeal.Value.attn_real HR _ _).trans ?_
      rw [hU]
      exact (Cert.KernelIdeal.Gen.out_attn HK _ _).symm
    · funext i
      rw [eq_ix2 i]
      refine (Cert.ReferenceIdeal.Value.gated_real HR _ _).trans ?_
      rw [hU]
      exact (Cert.KernelIdeal.Gen.out_gated HK _ _).symm
    · funext i
      rw [eq_ix2 i]
      refine (Cert.ReferenceIdeal.Value.gates_real HR _ _).trans ?_
      rw [hU]
      exact (Cert.KernelIdeal.Gen.out_gates HK _ _).symm

end Cert.Equal
-- ==== Proof.MergeRow.lean ====
module

public import proofs.«01_k».proof.Proof.LayerNorm

@[expose] public section

noncomputable section

namespace Cert.MergeRow

open Idealize.ShloMosaic Cert.LayerNorm

/-! # One row of the merge -/

/-- The two branches' projections, weighed by their gates. -/
def merged (a h : Fin 512 → EReal) (g : Fin 2048 → EReal) (wa wc : Fin 512 → Fin 1024 → EReal) (d : Fin 1024) : EReal :=
  g ⟨d.val, by omega⟩ * (∑ k, a k * wa k d) + g ⟨1024 + d.val, by omega⟩ * (∑ k, h k * wc k d)

/-- The row with the scaled projection of the merged branches added. -/
def skip (x g1 : Fin 1024 → EReal) (u : Fin 1024 → EReal) (wo : Fin 1024 → Fin 1024 → EReal) (n : Fin 1024) : EReal :=
  Ideal.ofBits .f32 0x3F9837F0#32 * x n + (1 + g1 n) * ∑ d, u d * wo d n

/-- The normalised row with gain and offset, -/
def affine (v lg lb : Fin 1024 → EReal) (d : Fin 1024) : EReal := norm v d * lg d + lb d

/-- normalised once more, with the second modulation's scale and shift. -/
def modulated (v sc sh : Fin 1024 → EReal) (d : Fin 1024) : EReal := norm v d * (1 + sc d) + sh d

/-- The arrays the merge is a function of. -/
structure Arrays where
  a : Fin 16384 → Fin 512 → EReal
  h : Fin 16384 → Fin 512 → EReal
  g : Fin 16384 → Fin 2048 → EReal
  x : Fin 4 → Fin 4096 → Fin 1024 → EReal
  g1 : Fin 4 → Fin 1024 → EReal
  sh : Fin 4 → Fin 1024 → EReal
  sc : Fin 4 → Fin 1024 → EReal
  wa : Fin 512 → Fin 1024 → EReal
  wc : Fin 512 → Fin 1024 → EReal
  wo : Fin 1024 → Fin 1024 → EReal
  lg : Fin 1024 → EReal
  lb : Fin 1024 → EReal
  wq : Fin 1024 → Fin 1024 → EReal

/-- A row's batch entry and its place there. -/
def batch (i : Fin 16384) : Fin 4 := ⟨i.val / 4096, by omega⟩
def place (i : Fin 16384) : Fin 4096 := ⟨i.val % 4096, by omega⟩

/-- The layer's row after the first half, -/
def X1 (A : Arrays) (i : Fin 16384) : Fin 1024 → EReal :=
  affine (skip (A.x (batch i) (place i)) (A.g1 (batch i)) (merged (A.a i) (A.h i) (A.g i) A.wa A.wc) A.wo) A.lg A.lb
/-- the second half's input, -/
def U2 (A : Arrays) (i : Fin 16384) : Fin 1024 → EReal := modulated (X1 A i) (A.sc (batch i)) (A.sh (batch i))
/-- and its queries. -/
def QP (A : Arrays) (i : Fin 16384) (n : Fin 1024) : EReal := ∑ d, U2 A i d * A.wq d n

end Cert.MergeRow
-- ==== Proof.MergePay.lean ====
module

public import proofs.«01_k».proof.Proof.Gen.Kernel2Ideal
public import proofs.«01_k».proof.Proof.Gen.Kernel2Ideal.Skeleton
public import proofs.«01_k».proof.Proof.MergeRow
public import Idealize.ShloMosaic.Lib.Pointwise

@[expose] public section

set_option maxRecDepth 16384

noncomputable section

namespace Cert.Kernel2Ideal.Gen

open Idealize.ShloMosaic Idealize.ShloMosaic.TcCoe Idealize.SL.Sem
open Facts₀ Cert.LayerNorm Cert.MergeRow

/-! # The merge body's values over a block of 512 rows, read at an index -/

theorem pay3_at (v0 v4 : FVec Ideal S512x512 .bf16) (v1 v5 : FVec Ideal S512x1024 .bf16) (v8 v10 v17 : FVec Ideal S512x1024 .f32) (v14 : FVec Ideal S1024x1024 .bf16) (v21 : FVec Ideal S1x1x1024 .f32) (r : Fin 512) (n : Fin 1024) :
    k0_pay3 (F := Ideal) v0 v1 v4 v5 v8 v10 v14 v17 v21 (ix2 r n)
      = Ideal.ofBits .f32 0x3F9837F0#32 * v17 (ix2 r n) + (1 + v21 (ix3 0 0 n)) * ∑ d : Fin 1024, (v8 (ix2 r d) * (∑ k : Fin 512, v0 (ix2 r k) * v1 (ix2 k d)) + v10 (ix2 r d) * (∑ k : Fin 512, v4 (ix2 r k) * v5 (ix2 k d))) * v14 (ix2 d n) := by
  pointwise [k0_pay3]

theorem pay4_at (v0 v4 : FVec Ideal S512x512 .bf16) (v1 v5 : FVec Ideal S512x1024 .bf16) (v8 v10 v17 : FVec Ideal S512x1024 .f32) (v14 : FVec Ideal S1024x1024 .bf16) (v21 : FVec Ideal S1x1x1024 .f32) (r : Fin 512) (n : Fin 1024) :
    k0_pay4 (F := Ideal) v0 v1 v4 v5 v8 v10 v14 v17 v21 (ix2 r n) = mean fun d => k0_pay3 (F := Ideal) v0 v1 v4 v5 v8 v10 v14 v17 v21 (ix2 r d) := by
  unfold mean k0_pay4
  generalize k0_pay3 (F := Ideal) v0 v1 v4 v5 v8 v10 v14 v17 v21 = v
  pointwise

theorem pay5_at (v μ : FVec Ideal S512x1024 .f32) (lg lb : FVec Ideal S1x1024 .f32) (r : Fin 512) (hμ : ∀ d, μ (ix2 r d) = mean fun d => v (ix2 r d)) (d : Fin 1024) :
    k0_pay5 (F := Ideal) v μ lg lb (ix2 r d) = affine (fun d => v (ix2 r d)) (fun d => lg (ix2 0 d)) (fun d => lb (ix2 0 d)) d := by
  have e : k0_pay5 (F := Ideal) v μ lg lb (ix2 r d) = (v (ix2 r d) - μ (ix2 r d)) * Ideal.rsqrt (Ideal.div (∑ e : Fin 1024, (v (ix2 r e) - μ (ix2 r e)) * (v (ix2 r e) - μ (ix2 r e))) (Ideal.ofBits .f32 0x44800000#32) + Ideal.ofBits .f32 0x3727C5AC#32) * lg (ix2 0 d) + lb (ix2 0 d) := by
    pointwise [k0_pay5]
  rw [e]
  simp only [hμ]
  rfl

theorem pay6_at (v μ : FVec Ideal S512x1024 .f32) (lg lb : FVec Ideal S1x1024 .f32) (r : Fin 512) (d : Fin 1024) :
    k0_pay6 (F := Ideal) v μ lg lb (ix2 r d) = norm (fun d => k0_pay5 (F := Ideal) v μ lg lb (ix2 r d)) d := by
  unfold Cert.LayerNorm.norm var mean k0_pay6
  generalize k0_pay5 (F := Ideal) v μ lg lb = w
  pointwise

theorem pay7_at (sc : FVec Ideal S1x1x1024 .f32) (r : Fin 512) (d : Fin 1024) : k0_pay7 (F := Ideal) sc (ix2 r d) = 1 + sc (ix3 0 0 d) := by
  pointwise [k0_pay7]

theorem pay1_at (y s : FVec Ideal S512x1024 .f32) (sh : FVec Ideal S1x1x1024 .f32) (r : Fin 512) (d : Fin 1024) :
    k0_pay1 (F := Ideal) y s sh (ix2 r d) = y (ix2 r d) * s (ix2 r d) + sh (ix3 0 0 d) := by
  pointwise [k0_pay1]

theorem pay2_at (y s : FVec Ideal S512x1024 .f32) (sh : FVec Ideal S1x1x1024 .f32) (w : FVec Ideal S1024x1024 .bf16) (r : Fin 512) (n : Fin 1024) :
    k0_pay2 (F := Ideal) y s sh w (ix2 r n) = ∑ d : Fin 1024, k0_pay1 (F := Ideal) y s sh (ix2 r d) * w (ix2 d n) := by
  unfold k0_pay2
  generalize k0_pay1 (F := Ideal) y s sh = u
  pointwise

end Cert.Kernel2Ideal.Gen
-- ==== Proof.MergeArr.lean ====
module

public import proofs.«01_k».proof.Proof.Gen.Kernel2Ideal.Frame
public import proofs.«01_k».proof.Proof.MergePay
public import Idealize.ShloMosaic.Lib.Pointwise
public import Idealize.ShloMosaic.Lib.Pipeline.ValueKit
public import Idealize.ShloMosaic.Lib.StableHlo.RunRead

@[expose] public section

set_option maxRecDepth 16384

noncomputable section

namespace Cert.Kernel2Ideal.Gen

open Idealize.ShloMosaic Idealize.ShloMosaic.TcCoe Idealize.ShloMosaic.Tactic Idealize.SL.Sem
open Facts₀ Cert.LayerNorm Cert.MergeRow
open Idealize.ShloMosaic.Pipeline (Dat Cfg Window)

/-! # The merge call's output arrays -/

section
theorem ld0 {e : EltTy} (X : S512x512.Idx → Elt Ideal e) : View.ld X r0_0 = X := View.ld_unit_lit _ X (by decide)
theorem ld1 {e : EltTy} (X : S512x1024.Idx → Elt Ideal e) : View.ld X r0_1 = X := View.ld_unit_lit _ X (by decide)
theorem ld4 {e : EltTy} (X : S1024x1024.Idx → Elt Ideal e) : View.ld X r0_4 = X := View.ld_unit_lit _ X (by decide)
theorem ld5 {e : EltTy} (X : S1x1x1024.Idx → Elt Ideal e) : View.ld X r0_5 = X := View.ld_unit_lit _ X (by decide)
theorem ld6 {e : EltTy} (X : S1x1024.Idx → Elt Ideal e) : View.ld X r0_6 = X := View.ld_unit_lit _ X (by decide)
theorem ld2 (X : FVec Ideal S512x2048 .f32) (r : Fin 512) (d : Fin 1024) : View.ld (Val := Elt Ideal) (e' := .f32) X r0_2 (ix2 r d) = X (ix2 r (⟨d.val, by omega⟩ : Fin 2048)) :=
  View.ld_unit_apply_of (Val := Elt Ideal) (e := .f32) X ![0, 0] S512x1024.size inb_S512x2048_S512x1024_0_0 (ix2 r d) (ix2 r (⟨d.val, by omega⟩ : Fin 2048)) (by
    intro a
    match a with
    | 0 => exact (Nat.zero_add _).symm
    | 1 => exact (Nat.zero_add _).symm)
theorem ld3 (X : FVec Ideal S512x2048 .f32) (r : Fin 512) (d : Fin 1024) : View.ld (Val := Elt Ideal) (e' := .f32) X r0_3 (ix2 r d) = X (ix2 r (⟨1024 + d.val, by omega⟩ : Fin 2048)) :=
  View.ld_unit_apply_of (Val := Elt Ideal) (e := .f32) X ![0, 1024] S512x1024.size inb_S512x2048_S512x1024_0_1024 (ix2 r d) (ix2 r (⟨1024 + d.val, by omega⟩ : Fin 2048)) (by
    intro a
    match a with
    | 0 => exact (Nat.zero_add _).symm
    | 1 => rfl)
end

section
variable (x0 : FVec Ideal S512x512 .bf16) (x1 : FVec Ideal S512x512 .bf16) (x2 : FVec Ideal S512x2048 .f32) (x3 : FVec Ideal S512x1024 .f32) (x4 : FVec Ideal S1x1x1024 .f32) (x5 : FVec Ideal S1x1x1024 .f32) (x6 : FVec Ideal S1x1x1024 .f32) (x7 : FVec Ideal S512x1024 .bf16) (x8 : FVec Ideal S512x1024 .bf16) (x9 : FVec Ideal S1024x1024 .bf16) (x10 : FVec Ideal S1x1024 .f32) (x11 : FVec Ideal S1x1024 .f32) (x12 : FVec Ideal S1024x1024 .bf16)

theorem pay8_at (r : Fin 512) (n : Fin 1024) : k0_pay8 (F := Ideal) x0 x1 x2 x3 x4 x5 x6 x7 x8 x9 x10 x11 x12 (ix2 r n)
    = skip (fun d => x3 (ix2 r d)) (fun d => x4 (ix3 0 0 d)) (merged (fun k => x0 (ix2 r k)) (fun k => x1 (ix2 r k)) (fun k => x2 (ix2 r k)) (fun k d => x7 (ix2 k d)) (fun k d => x8 (ix2 k d))) (fun d n => x9 (ix2 d n)) n := by
  unfold k0_pay8
  rw [ld0, ld0, ld1, ld1, ld1, ld4, ld5]
  refine (pay3_at _ _ _ _ _ _ _ _ _ r n).trans ?_
  unfold skip merged
  refine congrArg (fun z => Ideal.ofBits .f32 0x3F9837F0#32 * x3 (ix2 r n) + (1 + x4 (ix3 0 0 n)) * z) (Finset.sum_congr rfl fun d _ => ?_)
  exact congrArg₂ (fun a b => (a * (∑ k : Fin 512, x0 (ix2 r k) * x7 (ix2 k d)) + b * (∑ k : Fin 512, x1 (ix2 r k) * x8 (ix2 k d))) * x9 (ix2 d n)) (ld2 x2 r d) (ld3 x2 r d)

theorem pay9_at (r : Fin 512) (n : Fin 1024) : k0_pay9 (F := Ideal) x0 x1 x2 x3 x4 x5 x6 x7 x8 x9 x10 x11 x12 (ix2 r n) = mean fun d => k0_pay8 (F := Ideal) x0 x1 x2 x3 x4 x5 x6 x7 x8 x9 x10 x11 x12 (ix2 r d) := by
  unfold k0_pay9 k0_pay8
  exact pay4_at _ _ _ _ _ _ _ _ _ r n

variable (A : Arrays) (i : Fin 16384) (r : Fin 512)
    (h0 : ∀ k, x0 (ix2 r k) = A.a i k) (h1 : ∀ k, x1 (ix2 r k) = A.h i k) (h2 : ∀ k, x2 (ix2 r k) = A.g i k) (h3 : ∀ d, x3 (ix2 r d) = A.x (batch i) (place i) d)
    (h4 : ∀ d, x4 (ix3 0 0 d) = A.g1 (batch i) d) (h5 : ∀ d, x5 (ix3 0 0 d) = A.sh (batch i) d) (h6 : ∀ d, x6 (ix3 0 0 d) = A.sc (batch i) d)
    (h7 : ∀ k d, x7 (ix2 k d) = A.wa k d) (h8 : ∀ k d, x8 (ix2 k d) = A.wc k d) (h9 : ∀ d n, x9 (ix2 d n) = A.wo d n)
    (h10 : ∀ d, x10 (ix2 0 d) = A.lg d) (h11 : ∀ d, x11 (ix2 0 d) = A.lb d) (h12 : ∀ d n, x12 (ix2 d n) = A.wq d n)
include h0 h1 h2 h3 h4 h5 h6 h7 h8 h9 h10 h11 h12

theorem first_at (d : Fin 1024) : k0_pay5 (F := Ideal) (k0_pay8 (F := Ideal) x0 x1 x2 x3 x4 x5 x6 x7 x8 x9 x10 x11 x12) (k0_pay9 (F := Ideal) x0 x1 x2 x3 x4 x5 x6 x7 x8 x9 x10 x11 x12) x10 x11 (ix2 r d) = X1 A i d := by
  refine (pay5_at _ _ x10 x11 r (fun d => pay9_at x0 x1 x2 x3 x4 x5 x6 x7 x8 x9 x10 x11 x12 r d) d).trans ?_
  unfold X1
  simp only [pay8_at, h0, h1, h2, h3, h4, h7, h8, h9, h10, h11]

theorem second_at (d : Fin 1024) : k0_pay1 (F := Ideal) (k0_pay10 (F := Ideal) x0 x1 x2 x3 x4 x5 x6 x7 x8 x9 x10 x11 x12) (k0_pay11 (F := Ideal) x0 x1 x2 x3 x4 x5 x6 x7 x8 x9 x10 x11 x12) x5 (ix2 r d) = U2 A i d := by
  refine (pay1_at _ _ x5 r d).trans ?_
  unfold k0_pay10 k0_pay11
  rw [ld5, ld6, ld6, pay6_at, pay7_at, h5, h6]
  have e := first_at x0 x1 x2 x3 x4 x5 x6 x7 x8 x9 x10 x11 x12 A i r h0 h1 h2 h3 h4 h5 h6 h7 h8 h9 h10 h11 h12
  simp only [e]
  rfl

theorem out13_at (d : Fin 1024) : out0_13 (F := Ideal) x0 x1 x2 x3 x4 x5 x6 x7 x8 x9 x10 x11 x12 (ix2 r d) = X1 A i d := by
  unfold out0_13
  rw [View.canon_cons_unit_lit (Val := Elt Ideal) (S := S512x1024) (e := .f32) _ _ _ (by decide), ld6, ld6]
  exact first_at x0 x1 x2 x3 x4 x5 x6 x7 x8 x9 x10 x11 x12 A i r h0 h1 h2 h3 h4 h5 h6 h7 h8 h9 h10 h11 h12 d

theorem out14_at (d : Fin 1024) : out0_14 (F := Ideal) x0 x1 x2 x3 x4 x5 x6 x7 x8 x9 x10 x11 x12 (ix2 r d) = U2 A i d := by
  unfold out0_14
  rw [View.canon_cons_unit_lit (Val := Elt Ideal) (S := S512x1024) (e := .bf16) _ _ _ (by decide), ld5]
  exact second_at x0 x1 x2 x3 x4 x5 x6 x7 x8 x9 x10 x11 x12 A i r h0 h1 h2 h3 h4 h5 h6 h7 h8 h9 h10 h11 h12 d

theorem out15_at (n : Fin 1024) : out0_15 (F := Ideal) x0 x1 x2 x3 x4 x5 x6 x7 x8 x9 x10 x11 x12 (ix2 r n) = QP A i n := by
  unfold out0_15
  rw [View.canon_cons_unit_lit (Val := Elt Ideal) (S := S512x1024) (e := .bf16) _ _ _ (by decide), ld5, ld4]
  refine (pay2_at _ _ x5 x12 r n).trans ?_
  have e := second_at x0 x1 x2 x3 x4 x5 x6 x7 x8 x9 x10 x11 x12 A i r h0 h1 h2 h3 h4 h5 h6 h7 h8 h9 h10 h11 h12
  simp only [e, h12]
  rfl
end

theorem idx0_0 : ∀ t : Fin cfg0.N, (cfg0.win 0).index t = ![t.val, 0] := by decide +kernel
theorem idx0_1 : ∀ t : Fin cfg0.N, (cfg0.win 1).index t = ![t.val, 0] := by decide +kernel
theorem idx0_2 : ∀ t : Fin cfg0.N, (cfg0.win 2).index t = ![t.val, 0] := by decide +kernel
theorem idx0_3 : ∀ t : Fin cfg0.N, (cfg0.win 3).index t = ![t.val, 0] := by decide +kernel
theorem idx0_4 : ∀ t : Fin cfg0.N, (cfg0.win 4).index t = ![t.val / 8, 0, 0] := by decide +kernel
theorem idx0_5 : ∀ t : Fin cfg0.N, (cfg0.win 5).index t = ![t.val / 8, 0, 0] := by decide +kernel
theorem idx0_6 : ∀ t : Fin cfg0.N, (cfg0.win 6).index t = ![t.val / 8, 0, 0] := by decide +kernel
theorem idx0_7 : ∀ t : Fin cfg0.N, (cfg0.win 7).index t = ![0, 0] := by decide +kernel
theorem idx0_8 : ∀ t : Fin cfg0.N, (cfg0.win 8).index t = ![0, 0] := by decide +kernel
theorem idx0_9 : ∀ t : Fin cfg0.N, (cfg0.win 9).index t = ![0, 0] := by decide +kernel
theorem idx0_10 : ∀ t : Fin cfg0.N, (cfg0.win 10).index t = ![0, 0] := by decide +kernel
theorem idx0_11 : ∀ t : Fin cfg0.N, (cfg0.win 11).index t = ![0, 0] := by decide +kernel
theorem idx0_12 : ∀ t : Fin cfg0.N, (cfg0.win 12).index t = ![0, 0] := by decide +kernel
theorem idx0_13 : ∀ t : Fin cfg0.N, (cfg0.win 13).index t = ![t.val, 0] := by decide +kernel
theorem idx0_14 : ∀ t : Fin cfg0.N, (cfg0.win 14).index t = ![t.val, 0] := by decide +kernel
theorem idx0_15 : ∀ t : Fin cfg0.N, (cfg0.win 15).index t = ![t.val, 0] := by decide +kernel

theorem rows_cast2 (x : FVec Ideal S4x4096x1024 .f32) (i : Fin 16384) (d : Fin 1024) :
    shapeCast S16384x1024 x shapeCasts_S4x4096x1024_S16384x1024 (ix2 i d) = x (ix3 (batch i) (place i) d) := by
  unfold batch place
  pointwise

theorem row_cast2 (x : FVec Ideal S1024 .f32) (n : Fin 1024) :
    shapeCast S1x1024 x shapeCasts_S1024_S1x1024 (ix2 0 n) = x (Idealize.ShloMosaic.ix1 n) := by
  pointwise

variable (m : (ℓ : Loc nD τ sig) → Buf (Elt Ideal) ℓ) (c : Dev nD) (t : Fin cfg0.N)

theorem iblk_0 (r : Fin 512) (d : Fin 512) (h : 512 * t.val + r.val < 16384) : iblk m c 0 t (ix2 r d) = V m c main_arg0 (ix2 (⟨512 * t.val + r.val, h⟩ : Fin 16384) d) := by
  blk_point [iblk, idx0_0 t]
theorem iblk_1 (r : Fin 512) (d : Fin 512) (h : 512 * t.val + r.val < 16384) : iblk m c 1 t (ix2 r d) = V m c main_arg1 (ix2 (⟨512 * t.val + r.val, h⟩ : Fin 16384) d) := by
  blk_point [iblk, idx0_1 t]
theorem iblk_2 (r : Fin 512) (d : Fin 2048) (h : 512 * t.val + r.val < 16384) : iblk m c 2 t (ix2 r d) = V m c main_arg2 (ix2 (⟨512 * t.val + r.val, h⟩ : Fin 16384) d) := by
  blk_point [iblk, idx0_2 t]
theorem iblk_3 (r : Fin 512) (d : Fin 1024) (h : 512 * t.val + r.val < 16384) : iblk m c 3 t (ix2 r d) = V m c main_v0 (ix2 (⟨512 * t.val + r.val, h⟩ : Fin 16384) d) := by
  blk_point [iblk, idx0_3 t]
theorem iblk_4 (d : Fin 1024) (h : t.val / 8 < 4) : iblk m c 4 t (ix3 0 0 d) = V m c main_arg4 (ix3 (⟨t.val / 8, h⟩ : Fin 4) 0 d) := by
  blk_point [iblk, idx0_4 t]
theorem iblk_5 (d : Fin 1024) (h : t.val / 8 < 4) : iblk m c 5 t (ix3 0 0 d) = V m c main_arg5 (ix3 (⟨t.val / 8, h⟩ : Fin 4) 0 d) := by
  blk_point [iblk, idx0_5 t]
theorem iblk_6 (d : Fin 1024) (h : t.val / 8 < 4) : iblk m c 6 t (ix3 0 0 d) = V m c main_arg6 (ix3 (⟨t.val / 8, h⟩ : Fin 4) 0 d) := by
  blk_point [iblk, idx0_6 t]
theorem iblk_7 (k : Fin 512) (d : Fin 1024) : iblk m c 7 t (ix2 k d) = V m c main_v1 (ix2 k d) := by blk_point [iblk, idx0_7 t]
theorem iblk_8 (k : Fin 512) (d : Fin 1024) : iblk m c 8 t (ix2 k d) = V m c main_v2 (ix2 k d) := by blk_point [iblk, idx0_8 t]
theorem iblk_9 (k : Fin 1024) (d : Fin 1024) : iblk m c 9 t (ix2 k d) = V m c main_v3 (ix2 k d) := by blk_point [iblk, idx0_9 t]
theorem iblk_10 (d : Fin 1024) : iblk m c 10 t (ix2 0 d) = V m c main_v5 (ix2 0 d) := by blk_point [iblk, idx0_10 t]
theorem iblk_11 (d : Fin 1024) : iblk m c 11 t (ix2 0 d) = V m c main_v6 (ix2 0 d) := by blk_point [iblk, idx0_11 t]
theorem iblk_12 (k : Fin 1024) (d : Fin 1024) : iblk m c 12 t (ix2 k d) = V m c main_v4 (ix2 k d) := by blk_point [iblk, idx0_12 t]

theorem V_v0 : V m c main_v0 = shapeCast S16384x1024 (m ((c.tc : Thread nD τ).loc main_arg3) : FVec Ideal S4x4096x1024 .f32) shapeCasts_S4x4096x1024_S16384x1024 := by
  unfold V
  after_reads_simp
  rfl
theorem V_v1 : V m c main_v1 = (truncf (F := Ideal) .bf16 (m ((c.tc : Thread nD τ).loc main_arg7) : FVec Ideal S512x1024 .f32) bitsLt_bf16_f32) := by
  unfold V
  after_reads_simp
theorem V_v2 : V m c main_v2 = (truncf (F := Ideal) .bf16 (m ((c.tc : Thread nD τ).loc main_arg8) : FVec Ideal S512x1024 .f32) bitsLt_bf16_f32) := by
  unfold V
  after_reads_simp
theorem V_v3 : V m c main_v3 = (truncf (F := Ideal) .bf16 (m ((c.tc : Thread nD τ).loc main_arg9) : FVec Ideal S1024x1024 .f32) bitsLt_bf16_f32) := by
  unfold V
  after_reads_simp
theorem V_v4 : V m c main_v4 = (truncf (F := Ideal) .bf16 (m ((c.tc : Thread nD τ).loc main_arg12) : FVec Ideal S1024x1024 .f32) bitsLt_bf16_f32) := by
  unfold V
  after_reads_simp
theorem V_v5 : V m c main_v5 = shapeCast S1x1024 (m ((c.tc : Thread nD τ).loc main_arg10) : FVec Ideal S1024 .f32) shapeCasts_S1024_S1x1024 := by
  unfold V
  after_reads_simp
  rfl
theorem V_v6 : V m c main_v6 = shapeCast S1x1024 (m ((c.tc : Thread nD τ).loc main_arg11) : FVec Ideal S1024 .f32) shapeCasts_S1024_S1x1024 := by
  unfold V
  after_reads_simp
  rfl

/-- The arrays the kernel is launched with. -/
def kerArrays : Arrays where
  a i k := (m ((c.tc : Thread nD τ).loc main_arg0) : FVec Ideal S16384x512 .bf16) (ix2 i k)
  h i k := (m ((c.tc : Thread nD τ).loc main_arg1) : FVec Ideal S16384x512 .bf16) (ix2 i k)
  g i k := (m ((c.tc : Thread nD τ).loc main_arg2) : FVec Ideal S16384x2048 .f32) (ix2 i k)
  x b s d := (m ((c.tc : Thread nD τ).loc main_arg3) : FVec Ideal S4x4096x1024 .f32) (ix3 b s d)
  g1 b d := (m ((c.tc : Thread nD τ).loc main_arg4) : FVec Ideal S4x1x1024 .f32) (ix3 b 0 d)
  sh b d := (m ((c.tc : Thread nD τ).loc main_arg5) : FVec Ideal S4x1x1024 .f32) (ix3 b 0 d)
  sc b d := (m ((c.tc : Thread nD τ).loc main_arg6) : FVec Ideal S4x1x1024 .f32) (ix3 b 0 d)
  wa k d := (m ((c.tc : Thread nD τ).loc main_arg7) : FVec Ideal S512x1024 .f32) (ix2 k d)
  wc k d := (m ((c.tc : Thread nD τ).loc main_arg8) : FVec Ideal S512x1024 .f32) (ix2 k d)
  wo d n := (m ((c.tc : Thread nD τ).loc main_arg9) : FVec Ideal S1024x1024 .f32) (ix2 d n)
  lg d := (m ((c.tc : Thread nD τ).loc main_arg10) : FVec Ideal S1024 .f32) (Idealize.ShloMosaic.ix1 d)
  lb d := (m ((c.tc : Thread nD τ).loc main_arg11) : FVec Ideal S1024 .f32) (Idealize.ShloMosaic.ix1 d)
  wq d n := (m ((c.tc : Thread nD τ).loc main_arg12) : FVec Ideal S1024x1024 .f32) (ix2 d n)

section
variable (r : Fin 512) (h : 512 * t.val + r.val < 16384)
theorem in_0 (k : Fin 512) : iblk m c 0 t (ix2 r k) = (kerArrays m c).a ⟨512 * t.val + r.val, h⟩ k := (iblk_0 m c t r k h).trans (congrFun (V_main_arg0 m c) _)
theorem in_1 (k : Fin 512) : iblk m c 1 t (ix2 r k) = (kerArrays m c).h ⟨512 * t.val + r.val, h⟩ k := (iblk_1 m c t r k h).trans (congrFun (V_main_arg1 m c) _)
theorem in_2 (k : Fin 2048) : iblk m c 2 t (ix2 r k) = (kerArrays m c).g ⟨512 * t.val + r.val, h⟩ k := (iblk_2 m c t r k h).trans (congrFun (V_main_arg2 m c) _)
theorem in_3 (d : Fin 1024) : iblk m c 3 t (ix2 r d) = (kerArrays m c).x (batch ⟨512 * t.val + r.val, h⟩) (place ⟨512 * t.val + r.val, h⟩) d := (iblk_3 m c t r d h).trans ((congrFun (V_v0 m c) _).trans (rows_cast2 _ _ d))
theorem in_4 (d : Fin 1024) : iblk m c 4 t (ix3 0 0 d) = (kerArrays m c).g1 (batch ⟨512 * t.val + r.val, h⟩) d := by
  have hN : t.val < 32 := t.isLt
  have hr := r.isLt
  have e : batch ⟨512 * t.val + r.val, h⟩ = (⟨t.val / 8, by omega⟩ : Fin 4) := Fin.ext (by show (512 * t.val + r.val) / 4096 = t.val / 8; omega)
  rw [e]
  exact (iblk_4 m c t d (by omega)).trans (congrFun (V_main_arg4 m c) _)
theorem in_5 (d : Fin 1024) : iblk m c 5 t (ix3 0 0 d) = (kerArrays m c).sh (batch ⟨512 * t.val + r.val, h⟩) d := by
  have hN : t.val < 32 := t.isLt
  have hr := r.isLt
  have e : batch ⟨512 * t.val + r.val, h⟩ = (⟨t.val / 8, by omega⟩ : Fin 4) := Fin.ext (by show (512 * t.val + r.val) / 4096 = t.val / 8; omega)
  rw [e]
  exact (iblk_5 m c t d (by omega)).trans (congrFun (V_main_arg5 m c) _)
theorem in_6 (d : Fin 1024) : iblk m c 6 t (ix3 0 0 d) = (kerArrays m c).sc (batch ⟨512 * t.val + r.val, h⟩) d := by
  have hN : t.val < 32 := t.isLt
  have hr := r.isLt
  have e : batch ⟨512 * t.val + r.val, h⟩ = (⟨t.val / 8, by omega⟩ : Fin 4) := Fin.ext (by show (512 * t.val + r.val) / 4096 = t.val / 8; omega)
  rw [e]
  exact (iblk_6 m c t d (by omega)).trans (congrFun (V_main_arg6 m c) _)

end
theorem in_7 (k : Fin 512) (d : Fin 1024) : iblk m c 7 t (ix2 k d) = (kerArrays m c).wa k d := (iblk_7 m c t k d).trans (congrFun (V_v1 m c) _)
theorem in_8 (k : Fin 512) (d : Fin 1024) : iblk m c 8 t (ix2 k d) = (kerArrays m c).wc k d := (iblk_8 m c t k d).trans (congrFun (V_v2 m c) _)
theorem in_9 (k : Fin 1024) (d : Fin 1024) : iblk m c 9 t (ix2 k d) = (kerArrays m c).wo k d := (iblk_9 m c t k d).trans (congrFun (V_v3 m c) _)
theorem in_10 (d : Fin 1024) : iblk m c 10 t (ix2 0 d) = (kerArrays m c).lg d := (iblk_10 m c t d).trans ((congrFun (V_v5 m c) _).trans (row_cast2 _ d))
theorem in_11 (d : Fin 1024) : iblk m c 11 t (ix2 0 d) = (kerArrays m c).lb d := (iblk_11 m c t d).trans ((congrFun (V_v6 m c) _).trans (row_cast2 _ d))
theorem in_12 (k : Fin 1024) (d : Fin 1024) : iblk m c 12 t (ix2 k d) = (kerArrays m c).wq k d := (iblk_12 m c t k d).trans (congrFun (V_v4 m c) _)

theorem blk13 (r : Fin 512) (d : Fin 1024) (h : 512 * t.val + r.val < 16384) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r d) = X1 (kerArrays m c) ⟨512 * t.val + r.val, h⟩ d :=
  out13_at _ _ _ _ _ _ _ _ _ _ _ _ _ (kerArrays m c) ⟨512 * t.val + r.val, h⟩ r (in_0 m c t r h) (in_1 m c t r h) (in_2 m c t r h) (in_3 m c t r h) (in_4 m c t r h) (in_5 m c t r h) (in_6 m c t r h) (in_7 m c t) (in_8 m c t) (in_9 m c t) (in_10 m c t) (in_11 m c t) (in_12 m c t) d
theorem blk14 (r : Fin 512) (d : Fin 1024) (h : 512 * t.val + r.val < 16384) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r d) = U2 (kerArrays m c) ⟨512 * t.val + r.val, h⟩ d :=
  out14_at _ _ _ _ _ _ _ _ _ _ _ _ _ (kerArrays m c) ⟨512 * t.val + r.val, h⟩ r (in_0 m c t r h) (in_1 m c t r h) (in_2 m c t r h) (in_3 m c t r h) (in_4 m c t r h) (in_5 m c t r h) (in_6 m c t r h) (in_7 m c t) (in_8 m c t) (in_9 m c t) (in_10 m c t) (in_11 m c t) (in_12 m c t) d
theorem blk15 (r : Fin 512) (d : Fin 1024) (h : 512 * t.val + r.val < 16384) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r d) = QP (kerArrays m c) ⟨512 * t.val + r.val, h⟩ d :=
  out15_at _ _ _ _ _ _ _ _ _ _ _ _ _ (kerArrays m c) ⟨512 * t.val + r.val, h⟩ r (in_0 m c t r h) (in_1 m c t r h) (in_2 m c t r h) (in_3 m c t r h) (in_4 m c t r h) (in_5 m c t r h) (in_6 m c t r h) (in_7 m c t) (in_8 m c t) (in_9 m c t) (in_10 m c t) (in_11 m c t) (in_12 m c t) d

/-- The rows after the first half, -/
theorem arr13 (i : Fin 16384) (j : Fin 1024) : (show FVec Ideal S16384x1024 .f32 from (dats m 0 c).arrAt 13 cfg0.N) (ix2 i j) = X1 (kerArrays m c) i j := by
  have main : (show FVec Ideal S16384x1024 .f32 from (dats m 0 c).arrAt 13 cfg0.N) = fun i : S16384x1024.Idx => X1 (kerArrays m c) (i 0) (i 1) := by
    refine (dats m 0 c).arrAt_eq_of_covers 13 _ (by decide +kernel) fun t hf y => ?_
    blk_simp
    rw [after0_13]
    obtain ⟨R, n, rfl⟩ : ∃ (R : Fin 512) (n : Fin 1024), y = ix2 R n := ⟨y 0, y 1, eq_ix2 _⟩
    have e0 : win0_13.index t 0 = t.val := congrFun (idx0_13 t) 0
    have e1 : win0_13.index t 1 = 0 := congrFun (idx0_13 t) 1
    have hR : (ix2 R n 0).val = R.val := rfl
    have hn : (ix2 R n 1).val = n.val := rfl
    have hN : t.val < 32 := t.isLt
    have hRl := R.isLt
    refine (blk13 m c t R n (by omega)).trans (congrArg₂ (X1 (kerArrays m c)) (Fin.ext ?_) (Fin.ext ?_))
    · dsimp only
      blk_simp
      omega
    · dsimp only
      blk_simp
      omega
  rw [main]
  rfl

/-- the second half's inputs, -/
theorem arr14 (i : Fin 16384) (j : Fin 1024) : (show FVec Ideal S16384x1024 .bf16 from (dats m 0 c).arrAt 14 cfg0.N) (ix2 i j) = U2 (kerArrays m c) i j := by
  have main : (show FVec Ideal S16384x1024 .bf16 from (dats m 0 c).arrAt 14 cfg0.N) = fun i : S16384x1024.Idx => U2 (kerArrays m c) (i 0) (i 1) := by
    refine (dats m 0 c).arrAt_eq_of_covers 14 _ (by decide +kernel) fun t hf y => ?_
    blk_simp
    rw [after0_14]
    obtain ⟨R, n, rfl⟩ : ∃ (R : Fin 512) (n : Fin 1024), y = ix2 R n := ⟨y 0, y 1, eq_ix2 _⟩
    have e0 : win0_14.index t 0 = t.val := congrFun (idx0_14 t) 0
    have e1 : win0_14.index t 1 = 0 := congrFun (idx0_14 t) 1
    have hR : (ix2 R n 0).val = R.val := rfl
    have hn : (ix2 R n 1).val = n.val := rfl
    have hN : t.val < 32 := t.isLt
    have hRl := R.isLt
    refine (blk14 m c t R n (by omega)).trans (congrArg₂ (U2 (kerArrays m c)) (Fin.ext ?_) (Fin.ext ?_))
    · dsimp only
      blk_simp
      omega
    · dsimp only
      blk_simp
      omega
  rw [main]
  rfl

/-- and the queries. -/
theorem arr15 (i : Fin 16384) (j : Fin 1024) : (show FVec Ideal S16384x1024 .bf16 from (dats m 0 c).arrAt 15 cfg0.N) (ix2 i j) = QP (kerArrays m c) i j := by
  have main : (show FVec Ideal S16384x1024 .bf16 from (dats m 0 c).arrAt 15 cfg0.N) = fun i : S16384x1024.Idx => QP (kerArrays m c) (i 0) (i 1) := by
    refine (dats m 0 c).arrAt_eq_of_covers 15 _ (by decide +kernel) fun t hf y => ?_
    blk_simp
    rw [after0_15]
    obtain ⟨R, n, rfl⟩ : ∃ (R : Fin 512) (n : Fin 1024), y = ix2 R n := ⟨y 0, y 1, eq_ix2 _⟩
    have e0 : win0_15.index t 0 = t.val := congrFun (idx0_15 t) 0
    have e1 : win0_15.index t 1 = 0 := congrFun (idx0_15 t) 1
    have hR : (ix2 R n 0).val = R.val := rfl
    have hn : (ix2 R n 1).val = n.val := rfl
    have hN : t.val < 32 := t.isLt
    have hRl := R.isLt
    refine (blk15 m c t R n (by omega)).trans (congrArg₂ (QP (kerArrays m c)) (Fin.ext ?_) (Fin.ext ?_))
    · dsimp only
      blk_simp
      omega
    · dsimp only
      blk_simp
      omega
  rw [main]
  rfl

end Cert.Kernel2Ideal.Gen
-- ==== Proof.MergeRef.lean ====
module

public import proofs.«01_k».proof.Proof.Gen.Reference2Ideal.Run
public import proofs.«01_k».proof.Proof.MergeRow
public import Idealize.ShloMosaic.Lib.Pointwise

@[expose] public section

set_option maxRecDepth 16384

noncomputable section

namespace Cert.Reference2Ideal.Value

open Cert.Reference2Ideal Cert.Reference2Ideal.Gen Idealize.ShloMosaic Idealize.ShloMosaic.TcCoe Idealize.SL.Sem
open Cert.LayerNorm Cert.MergeRow

/-! # The merge's reference, read at an index -/

/-- The mean of every row, -/
def meanT (v : FVec Ideal S4x4096x1024 .f32) : FVec Ideal S4x4096x1 .f32 :=
  Host.divf (broadcastInDim S4x4096x1 ![0, 1] bcast_S4x4096_S4x4096x1_0_1 (Host.reduceAdd v (constant S_ .f32 0x00000000#32) reducesTo_S4x4096x1024_S4x4096_d2 h_S_)) (broadcastInDim S4x4096x1 ![] bcast_S_S4x4096x1 (constant S_ .f32 0x44800000#32))
/-- every row less its mean, -/
def centT (v : FVec Ideal S4x4096x1024 .f32) : FVec Ideal S4x4096x1024 .f32 := subf v (broadcastInDim S4x4096x1024 ![0, 1, 2] bcast_S4x4096x1_S4x4096x1024_0_1_2 (meanT v))
/-- and every row normalised. -/
def normT (v : FVec Ideal S4x4096x1024 .f32) : FVec Ideal S4x4096x1024 .f32 :=
  mulf (centT v) (broadcastInDim S4x4096x1024 ![0, 1, 2] bcast_S4x4096x1_S4x4096x1024_0_1_2 (Host.rsqrt (addf (meanT (mulf (centT v) (centT v))) (broadcastInDim S4x4096x1 ![] bcast_S_S4x4096x1 (constant S_ .f32 0x3727C5AC#32)))))
/-- The merged branches, -/
def mergedT (a h : FVec Ideal S16384x512 .bf16) (g : FVec Ideal S16384x2048 .f32) (wa wc : FVec Ideal S512x1024 .f32) : FVec Ideal S4x4096x1024 .f32 :=
  addf (mulf (extractStridedSlice S4x4096x1024 ![0, 0, 0] (shapeCast _ g shapeCasts_S16384x2048_S4x4096x2048) slices_S4x4096x2048_S4x4096x1024_0_0_0) (Host.dotGeneral dot_S4x4096x512_S512x1024_S4x4096x1024_2_0_01_1_n_n none (shapeCast _ (extf .f32 a bitsLt_bf16_f32) shapeCasts_S16384x512_S4x4096x512) wa))
    (mulf (extractStridedSlice S4x4096x1024 ![0, 0, 1024] (shapeCast _ g shapeCasts_S16384x2048_S4x4096x2048) slices_S4x4096x2048_S4x4096x1024_0_0_1024) (Host.dotGeneral dot_S4x4096x512_S512x1024_S4x4096x1024_2_0_01_1_n_n none (shapeCast _ (extf .f32 h bitsLt_bf16_f32) shapeCasts_S16384x512_S4x4096x512) wc))
/-- the row with their projection added, -/
def skipT (x : FVec Ideal S4x4096x1024 .f32) (g1 : FVec Ideal S4x1x1024 .f32) (u : FVec Ideal S4x4096x1024 .f32) (wo : FVec Ideal S1024x1024 .f32) : FVec Ideal S4x4096x1024 .f32 :=
  addf (mulf (broadcastInDim S4x4096x1024 ![] bcast_S_S4x4096x1024 (constant S_ .f32 0x3F9837F0#32)) x)
    (mulf (broadcastInDim S4x4096x1024 ![0, 1, 2] bcast_S4x1x1024_S4x4096x1024_0_1_2 (addf (broadcastInDim S4x1x1024 ![] bcast_S_S4x1x1024 (constant S_ .f32 0x3F800000#32)) g1)) (Host.dotGeneral dot_S4x4096x1024_S1024x1024_S4x4096x1024_2_0_01_1_n_n none u wo))
/-- its normalised row with gain and offset, -/
def affineT (v : FVec Ideal S4x4096x1024 .f32) (lg lb : FVec Ideal S1024 .f32) : FVec Ideal S4x4096x1024 .f32 :=
  addf (mulf (normT v) (broadcastInDim S4x4096x1024 ![0, 1, 2] bcast_S1x1x1024_S4x4096x1024_0_1_2 (broadcastInDim S1x1x1024 ![2] bcast_S1024_S1x1x1024_2 lg))) (broadcastInDim S4x4096x1024 ![0, 1, 2] bcast_S1x1x1024_S4x4096x1024_0_1_2 (broadcastInDim S1x1x1024 ![2] bcast_S1024_S1x1x1024_2 lb))
/-- and that one modulated. -/
def modT (v : FVec Ideal S4x4096x1024 .f32) (sc sh : FVec Ideal S4x1x1024 .f32) : FVec Ideal S4x4096x1024 .f32 :=
  addf (mulf (normT v) (broadcastInDim S4x4096x1024 ![0, 1, 2] bcast_S4x1x1024_S4x4096x1024_0_1_2 (addf (broadcastInDim S4x1x1024 ![] bcast_S_S4x1x1024 (constant S_ .f32 0x3F800000#32)) sc))) (broadcastInDim S4x4096x1024 ![0, 1, 2] bcast_S4x1x1024_S4x4096x1024_0_1_2 sh)

theorem meanT_at (v : FVec Ideal S4x4096x1024 .f32) (b : Fin 4) (s : Fin 4096) : meanT v (ix3 b s 0) = mean fun d => v (ix3 b s d) := by
  unfold mean
  pointwise [meanT]

theorem centT_at (v : FVec Ideal S4x4096x1024 .f32) (b : Fin 4) (s : Fin 4096) (d : Fin 1024) : centT v (ix3 b s d) = v (ix3 b s d) - mean fun d => v (ix3 b s d) := by
  rw [← meanT_at]
  unfold centT
  generalize meanT v = μ
  pointwise

theorem normT_at (v : FVec Ideal S4x4096x1024 .f32) (b : Fin 4) (s : Fin 4096) (d : Fin 1024) : normT v (ix3 b s d) = norm (fun d => v (ix3 b s d)) d := by
  have e : normT v (ix3 b s d) = centT v (ix3 b s d) * Ideal.rsqrt (meanT (mulf (centT v) (centT v)) (ix3 b s 0) + Ideal.ofBits .f32 0x3727C5AC#32) := by
    unfold normT
    generalize centT v = w
    generalize meanT (mulf w w) = μ
    pointwise
  have e2 : ∀ d, (mulf (centT v) (centT v) : FVec Ideal S4x4096x1024 .f32) (ix3 b s d) = (v (ix3 b s d) - mean fun d => v (ix3 b s d)) * (v (ix3 b s d) - mean fun d => v (ix3 b s d)) := fun d => by
    rw [← centT_at]; rfl
  rw [e, meanT_at, centT_at]
  simp only [e2]
  rfl

theorem mergedT_at (a h : FVec Ideal S16384x512 .bf16) (g : FVec Ideal S16384x2048 .f32) (wa wc : FVec Ideal S512x1024 .f32) (i : Fin 16384) (d : Fin 1024) :
    mergedT a h g wa wc (ix3 (batch i) (place i) d)
      = merged (fun k => a (ix2 i k)) (fun k => h (ix2 i k)) (fun k => g (ix2 i k)) (fun k d => wa (ix2 k d)) (fun k d => wc (ix2 k d)) d := by
  have ei : (⟨4096 * (i.val / 4096) + i.val % 4096, by omega⟩ : Fin 16384) = i := Fin.ext (Nat.div_add_mod _ _)
  unfold merged batch place
  pointwise [mergedT]

theorem skipT_at (x u : FVec Ideal S4x4096x1024 .f32) (g1 : FVec Ideal S4x1x1024 .f32) (wo : FVec Ideal S1024x1024 .f32) (b : Fin 4) (s : Fin 4096) (n : Fin 1024) :
    skipT x g1 u wo (ix3 b s n) = skip (fun d => x (ix3 b s d)) (fun d => g1 (ix3 b 0 d)) (fun d => u (ix3 b s d)) (fun d n => wo (ix2 d n)) n := by
  unfold skip
  pointwise [skipT]

theorem affineT_at (v : FVec Ideal S4x4096x1024 .f32) (lg lb : FVec Ideal S1024 .f32) (b : Fin 4) (s : Fin 4096) (d : Fin 1024) :
    affineT v lg lb (ix3 b s d) = affine (fun d => v (ix3 b s d)) (fun d => lg (Idealize.ShloMosaic.ix1 d)) (fun d => lb (Idealize.ShloMosaic.ix1 d)) d := by
  unfold affine
  rw [← normT_at]
  unfold affineT
  generalize normT v = w
  pointwise

theorem modT_at (v : FVec Ideal S4x4096x1024 .f32) (sc sh : FVec Ideal S4x1x1024 .f32) (b : Fin 4) (s : Fin 4096) (d : Fin 1024) :
    modT v sc sh (ix3 b s d) = modulated (fun d => v (ix3 b s d)) (fun d => sc (ix3 b 0 d)) (fun d => sh (ix3 b 0 d)) d := by
  unfold modulated
  rw [← normT_at]
  unfold modT
  generalize normT v = w
  pointwise

theorem dotT_at (u : FVec Ideal S4x4096x1024 .f32) (w : FVec Ideal S1024x1024 .f32) (b : Fin 4) (s : Fin 4096) (n : Fin 1024) :
    (Host.dotGeneral dot_S4x4096x1024_S1024x1024_S4x4096x1024_2_0_01_1_n_n none u w : FVec Ideal S4x4096x1024 .f32) (ix3 b s n) = ∑ d : Fin 1024, u (ix3 b s d) * w (ix2 d n) := by
  pointwise

theorem flat_at (v : FVec Ideal S4x4096x1024 .f32) (i : Fin 16384) (d : Fin 1024) : shapeCast S16384x1024 v shapeCasts_S4x4096x1024_S16384x1024 (ix2 i d) = v (ix3 (batch i) (place i) d) := by
  unfold batch place
  pointwise

section
variable (m : (ℓ : Loc nD τ sig) → Buf (Elt Ideal) ℓ) (c : Dev nD)

/-- The arrays the reference is launched with. -/
def argArrays : Arrays where
  a i k := (m ((c.tc : Thread nD τ).loc main_arg0) : FVec Ideal S16384x512 .bf16) (ix2 i k)
  h i k := (m ((c.tc : Thread nD τ).loc main_arg1) : FVec Ideal S16384x512 .bf16) (ix2 i k)
  g i k := (m ((c.tc : Thread nD τ).loc main_arg2) : FVec Ideal S16384x2048 .f32) (ix2 i k)
  x b s d := (m ((c.tc : Thread nD τ).loc main_arg3) : FVec Ideal S4x4096x1024 .f32) (ix3 b s d)
  g1 b d := (m ((c.tc : Thread nD τ).loc main_arg4) : FVec Ideal S4x1x1024 .f32) (ix3 b 0 d)
  sh b d := (m ((c.tc : Thread nD τ).loc main_arg5) : FVec Ideal S4x1x1024 .f32) (ix3 b 0 d)
  sc b d := (m ((c.tc : Thread nD τ).loc main_arg6) : FVec Ideal S4x1x1024 .f32) (ix3 b 0 d)
  wa k d := (m ((c.tc : Thread nD τ).loc main_arg7) : FVec Ideal S512x1024 .f32) (ix2 k d)
  wc k d := (m ((c.tc : Thread nD τ).loc main_arg8) : FVec Ideal S512x1024 .f32) (ix2 k d)
  wo d n := (m ((c.tc : Thread nD τ).loc main_arg9) : FVec Ideal S1024x1024 .f32) (ix2 d n)
  lg d := (m ((c.tc : Thread nD τ).loc main_arg10) : FVec Ideal S1024 .f32) (Idealize.ShloMosaic.ix1 d)
  lb d := (m ((c.tc : Thread nD τ).loc main_arg11) : FVec Ideal S1024 .f32) (Idealize.ShloMosaic.ix1 d)
  wq d n := (m ((c.tc : Thread nD τ).loc main_arg12) : FVec Ideal S1024x1024 .f32) (ix2 d n)

/-- The reference's rows before they are laid flat: after the first half, -/
def x1T : FVec Ideal S4x4096x1024 .f32 :=
  affineT (skipT (m ((c.tc : Thread nD τ).loc main_arg3)) (m ((c.tc : Thread nD τ).loc main_arg4))
    (mergedT (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)))
    (m ((c.tc : Thread nD τ).loc main_arg9))) (m ((c.tc : Thread nD τ).loc main_arg10)) (m ((c.tc : Thread nD τ).loc main_arg11))
/-- and modulated. -/
def u2T : FVec Ideal S4x4096x1024 .f32 := modT (x1T m c) (m ((c.tc : Thread nD τ).loc main_arg6)) (m ((c.tc : Thread nD τ).loc main_arg5))

theorem x1T_at (i : Fin 16384) (d : Fin 1024) : x1T m c (ix3 (batch i) (place i) d) = X1 (argArrays m c) i d := by
  unfold x1T
  rw [affineT_at]
  simp only [skipT_at, mergedT_at]
  rfl

theorem u2T_at (i : Fin 16384) (d : Fin 1024) : u2T m c (ix3 (batch i) (place i) d) = U2 (argArrays m c) i d := by
  unfold u2T
  rw [modT_at]
  simp only [x1T_at]
  rfl

theorem out0_at (i : Fin 16384) (d : Fin 1024) : (show FVec Ideal S16384x1024 .f32 from res_out0 m c) (ix2 i d) = X1 (argArrays m c) i d :=
  have e : res_out0 m c = shapeCast S16384x1024 (x1T m c) shapeCasts_S4x4096x1024_S16384x1024 := rfl
  (congrFun e _).trans ((flat_at _ i d).trans (x1T_at m c i d))

theorem out1_at (i : Fin 16384) (d : Fin 1024) : (show FVec Ideal S16384x1024 .bf16 from res_out1 m c) (ix2 i d) = U2 (argArrays m c) i d :=
  have e : res_out1 m c = truncf .bf16 (shapeCast S16384x1024 (u2T m c) shapeCasts_S4x4096x1024_S16384x1024) bitsLt_bf16_f32 := rfl
  (congrFun e _).trans ((flat_at _ i d).trans (u2T_at m c i d))

theorem out2_at (i : Fin 16384) (n : Fin 1024) : (show FVec Ideal S16384x1024 .bf16 from res_out2 m c) (ix2 i n) = QP (argArrays m c) i n := by
  have e : res_out2 m c = truncf .bf16 (shapeCast S16384x1024 (Host.dotGeneral dot_S4x4096x1024_S1024x1024_S4x4096x1024_2_0_01_1_n_n none (u2T m c) (m ((c.tc : Thread nD τ).loc main_arg12))) shapeCasts_S4x4096x1024_S16384x1024) bitsLt_bf16_f32 := rfl
  refine (congrFun e _).trans ((flat_at _ i n).trans ((dotT_at _ _ _ _ n).trans ?_))
  simp only [u2T_at]
  rfl

end

end Cert.Reference2Ideal.Value
-- ==== Proof.MergeEqual.lean ====
module

public import proofs.«01_k».proof.Defs
public import proofs.«01_k».proof.Proof.Gen.Kernel2Ideal.Value
public import proofs.«01_k».proof.Proof.MergeArr
public import proofs.«01_k».proof.Proof.MergeRef

@[expose] public section

set_option maxRecDepth 16384

noncomputable section

namespace Cert.MergeEqual

open Idealize.ShloMosaic Idealize.SL.Sem Cert.MergeRow

/-! # The merge's kernel and reference end with equal results -/

theorem algebraic : Cert.algebraic_Kernel2Ideal_Reference2Ideal := by
  intro m g m' g' hpre hargs
  refine ⟨fun c => (Cert.Kernel2Ideal.Gen.dats m 0 c).arrAt 13 Cert.Kernel2Ideal.cfg0.N, fun c => (Cert.Kernel2Ideal.Gen.dats m 0 c).arrAt 14 Cert.Kernel2Ideal.cfg0.N, fun c => (Cert.Kernel2Ideal.Gen.dats m 0 c).arrAt 15 Cert.Kernel2Ideal.cfg0.N, ?_, ?_⟩
  · exact Cert.Kernel2Ideal.Value.run_blocks m g
  · refine (θ_run Cert.Reference2Ideal.defs _ _).mono (fun r h c => ?_) (Cert.Reference2Ideal.Value.run (F := Ideal) m' g')
    obtain ⟨h0, h1, h2, h3⟩ := h c
    obtain ⟨a0, a1, a2, a3, a4, a5, a6, a7, a8, a9, a10, a11, a12⟩ := hargs c
    have e : Cert.Reference2Ideal.Value.argArrays m' c = Cert.Kernel2Ideal.Gen.kerArrays m c := by
      unfold Cert.Reference2Ideal.Value.argArrays Cert.Kernel2Ideal.Gen.kerArrays
      rw [a0, a1, a2, a3, a4, a5, a6, a7, a8, a9, a10, a11, a12]
    refine ⟨h0.trans ?_, h1.trans ?_, h2.trans ?_, h3⟩
    · funext i
      rw [eq_ix2 i]
      refine (Cert.Reference2Ideal.Value.out0_at m' c _ _).trans ?_
      rw [e]
      exact (Cert.Kernel2Ideal.Gen.arr13 m c _ _).symm
    · funext i
      rw [eq_ix2 i]
      refine (Cert.Reference2Ideal.Value.out1_at m' c _ _).trans ?_
      rw [e]
      exact (Cert.Kernel2Ideal.Gen.arr14 m c _ _).symm
    · funext i
      rw [eq_ix2 i]
      refine (Cert.Reference2Ideal.Value.out2_at m' c _ _).trans ?_
      rw [e]
      exact (Cert.Kernel2Ideal.Gen.arr15 m c _ _).symm

end Cert.MergeEqual
-- ==== Proof.ModArr.lean ====
module

public import proofs.«01_k».proof.Proof.Gen.Kernel3Ideal.Frame
public import Idealize.ShloMosaic.Lib.Pointwise
public import Idealize.ShloMosaic.Lib.Pipeline.ValueKit
public import Idealize.ShloMosaic.Lib.StableHlo.RunRead

@[expose] public section

set_option maxRecDepth 16384

noncomputable section

namespace Cert.Modulation

open Idealize.ShloMosaic

/-- One entry of the modulation: the product of the row, each entry times its logistic, with a column, plus the offset. -/
def entry (x w : Fin 1024 → EReal) (b : EReal) : EReal := (∑ k, x k * Ideal.div 1 (1 + Ideal.exp (-(x k))) * w k) + b

end Cert.Modulation

namespace Cert.Kernel3Ideal.Gen

open Idealize.ShloMosaic Idealize.ShloMosaic.TcCoe Idealize.ShloMosaic.Tactic Idealize.SL.Sem
open Facts₀ Cert.Modulation
open Idealize.ShloMosaic.Pipeline (Dat Cfg Window)

/-! # The modulation's kernel: its result read at an index -/

theorem pay1_at (x : FVec Ideal S8x1024 .f32) (w : FVec Ideal S1024x1536 .f32) (b : FVec Ideal S1x1536 .f32) (r : Fin 8) (n : Fin 1536) :
    k0_pay1 (F := Ideal) x w b (ix2 r n) = entry (fun k => x (ix2 r k)) (fun k => w (ix2 k n)) (b (ix2 0 n)) := by
  have e : k0_pay1 (F := Ideal) x w b (ix2 r n) = (∑ k : Fin 1024, x (ix2 r k) * Ideal.logistic (x (ix2 r k)) * w (ix2 k n)) + b (ix2 0 n) := by
    pointwise [k0_pay1]
  exact e

theorem ld0 {e : EltTy} (X : S8x1024.Idx → Elt Ideal e) : View.ld X r0_0 = X := View.ld_unit_lit _ X (by decide)
theorem ld1 {e : EltTy} (X : S1024x1536.Idx → Elt Ideal e) : View.ld X r0_1 = X := View.ld_unit_lit _ X (by decide)
theorem ld2 {e : EltTy} (X : S1x1536.Idx → Elt Ideal e) : View.ld X r0_2 = X := View.ld_unit_lit _ X (by decide)

theorem out3_at (x : FVec Ideal S8x1024 .f32) (w : FVec Ideal S1024x1536 .f32) (b : FVec Ideal S1x1536 .f32) (r : Fin 8) (n : Fin 1536) :
    out0_3 (F := Ideal) x w b (ix2 r n) = entry (fun k => x (ix2 r k)) (fun k => w (ix2 k n)) (b (ix2 0 n)) := by
  unfold out0_3
  rw [View.canon_cons_unit_lit (Val := Elt Ideal) (S := S8x1536) (e := .f32) _ _ _ (by decide), ld0, ld1, ld2]
  exact pay1_at x w b r n

theorem idx0_0 : ∀ t : Fin cfg0.N, (cfg0.win 0).index t = ![0, 0] := by decide +kernel
theorem idx0_1 : ∀ t : Fin cfg0.N, (cfg0.win 1).index t = ![0, t.val] := by decide +kernel
theorem idx0_2 : ∀ t : Fin cfg0.N, (cfg0.win 2).index t = ![0, t.val] := by decide +kernel
theorem idx0_3 : ∀ t : Fin cfg0.N, (cfg0.win 3).index t = ![0, t.val] := by decide +kernel

theorem row_cast3 (x : FVec Ideal S6144 .f32) (n : Fin 6144) :
    shapeCast S1x6144 x shapeCasts_S6144_S1x6144 (ix2 0 n) = x (Idealize.ShloMosaic.ix1 n) := by
  pointwise

theorem pad_at (x : FVec Ideal S4x1024 .f32) (v : FVec Ideal S_ .f32) (r : Fin 4) (k : Fin 1024) :
    pad S8x1024 ![0, 0] ![4, 0] ![0, 0] x v pads_S4x1024_S8x1024_040_000 h_S_ (ix2 (⟨r.val, by omega⟩ : Fin 8) k) = x (ix2 r k) := by
  pointwise

theorem slice_at (x : FVec Ideal S8x6144 .f32) (r : Fin 4) (n : Fin 6144) :
    extractStridedSlice S4x6144 ![0, 0] x slices_S8x6144_S4x6144_0_0 (ix2 r n) = x (ix2 (⟨r.val, by omega⟩ : Fin 8) n) := by
  pointwise

variable (m : (ℓ : Loc nD τ sig) → Buf (Elt Ideal) ℓ) (c : Dev nD) (t : Fin cfg0.N)

theorem iblk_0 (r : Fin 8) (k : Fin 1024) : iblk m c 0 t (ix2 r k) = V m c main_v0 (ix2 r k) := by
  blk_point [iblk, idx0_0 t]
theorem iblk_1 (k : Fin 1024) (n : Fin 1536) (h : 1536 * t.val + n.val < 6144) : iblk m c 1 t (ix2 k n) = V m c main_arg1 (ix2 k (⟨1536 * t.val + n.val, h⟩ : Fin 6144)) := by
  blk_point [iblk, idx0_1 t]
theorem iblk_2 (n : Fin 1536) (h : 1536 * t.val + n.val < 6144) : iblk m c 2 t (ix2 0 n) = V m c main_v1 (ix2 0 (⟨1536 * t.val + n.val, h⟩ : Fin 6144)) := by
  blk_point [iblk, idx0_2 t]

/-- The rows the region finds, -/
def xs : FVec Ideal S8x1024 .f32 := V m c main_v0
/-- the columns -/
def ws : FVec Ideal S1024x6144 .f32 := V m c main_arg1
/-- and the offsets. -/
def bs : FVec Ideal S1x6144 .f32 := V m c main_v1

theorem V_v0 : xs m c = pad (s := S4x1024) (α := Elt Ideal .f32) S8x1024 ![0, 0] ![4, 0] ![0, 0] (m ((c.tc : Thread nD τ).loc main_arg0)) (sitofp (F := Ideal) .f32 (constantI S_ 32 0#32)) pads_S4x1024_S8x1024_040_000 h_S_ := by
  unfold xs V
  after_reads_simp
  rfl
theorem V_v1 : bs m c = shapeCast S1x6144 (m ((c.tc : Thread nD τ).loc main_arg2) : FVec Ideal S6144 .f32) shapeCasts_S6144_S1x6144 := by
  unfold bs V
  after_reads_simp
  rfl

theorem blk3 (r : Fin 8) (n : Fin 1536) (h : 1536 * t.val + n.val < 6144) :
    out0_3 (iblk m c 0 t) (iblk m c 1 t) (iblk m c 2 t) (ix2 r n) = entry (fun k => xs m c (ix2 r k)) (fun k => ws m c (ix2 k ⟨1536 * t.val + n.val, h⟩)) (bs m c (ix2 0 ⟨1536 * t.val + n.val, h⟩)) := by
  refine (out3_at _ _ _ r n).trans ?_
  have e0 : (fun k => iblk m c 0 t (ix2 r k)) = fun k => xs m c (ix2 r k) := funext fun k => iblk_0 m c t r k
  have e1 : (fun k => iblk m c 1 t (ix2 k n)) = fun k => ws m c (ix2 k ⟨1536 * t.val + n.val, h⟩) := funext fun k => iblk_1 m c t k n h
  have e2 : iblk m c 2 t (ix2 0 n) = bs m c (ix2 0 ⟨1536 * t.val + n.val, h⟩) := iblk_2 m c t n h
  exact (congrArg₂ (fun x w => entry x w _) e0 e1).trans (congrArg (entry _ _) e2)

/-- The array the region leaves. -/
theorem arr3 (i : Fin 8) (j : Fin 6144) : (show FVec Ideal S8x6144 .f32 from (dats m 0 c).arrAt 3 cfg0.N) (ix2 i j)
    = entry (fun k => xs m c (ix2 i k)) (fun k => ws m c (ix2 k j)) (bs m c (ix2 0 j)) := by
  have main : (show FVec Ideal S8x6144 .f32 from (dats m 0 c).arrAt 3 cfg0.N) = fun i : S8x6144.Idx => entry (fun k => xs m c (ix2 (i 0) k)) (fun k => ws m c (ix2 k (i 1))) (bs m c (ix2 0 (i 1))) := by
    refine (dats m 0 c).arrAt_eq_of_covers 3 _ (by decide +kernel) fun t hf y => ?_
    blk_simp
    rw [after0_3]
    obtain ⟨R, n, rfl⟩ : ∃ (R : Fin 8) (n : Fin 1536), y = ix2 R n := ⟨y 0, y 1, eq_ix2 _⟩
    have e0 : win0_3.index t 0 = 0 := congrFun (idx0_3 t) 0
    have e1 : win0_3.index t 1 = t.val := congrFun (idx0_3 t) 1
    have hR : (ix2 R n 0).val = R.val := rfl
    have hn : (ix2 R n 1).val = n.val := rfl
    have hN : t.val < 4 := t.isLt
    have hRl := n.isLt
    refine (blk3 m c t R n (by omega)).trans (congrArg₂ (fun (i : Fin 8) (j : Fin 6144) => entry (fun k => xs m c (ix2 i k)) (fun k => ws m c (ix2 k j)) (bs m c (ix2 0 j))) (Fin.ext ?_) (Fin.ext ?_))
    · dsimp only
      blk_simp
      omega
    · dsimp only
      blk_simp
      omega
  rw [main]
  rfl

/-- What the line after the region makes of it. -/
def result : FVec Ideal S4x6144 .f32 := extractStridedSlice S4x6144 ![0, 0] (show FVec Ideal S8x6144 .f32 from (dats m 0 c).arrAt 3 cfg0.N) slices_S8x6144_S4x6144_0_0

theorem result_at (r : Fin 4) (n : Fin 6144) : result m c (ix2 r n)
    = entry (fun k => (m ((c.tc : Thread nD τ).loc main_arg0) : FVec Ideal S4x1024 .f32) (ix2 r k)) (fun k => (m ((c.tc : Thread nD τ).loc main_arg1) : FVec Ideal S1024x6144 .f32) (ix2 k n))
        ((m ((c.tc : Thread nD τ).loc main_arg2) : FVec Ideal S6144 .f32) (Idealize.ShloMosaic.ix1 n)) := by
  have e0 : ∀ k, xs m c (ix2 (⟨r.val, by omega⟩ : Fin 8) k) = (m ((c.tc : Thread nD τ).loc main_arg0) : FVec Ideal S4x1024 .f32) (ix2 r k) := fun k => by
    rw [V_v0]; exact pad_at _ _ r k
  have e1 : ws m c = (m ((c.tc : Thread nD τ).loc main_arg1) : FVec Ideal S1024x6144 .f32) := V_main_arg1 m c
  have e2 : bs m c (ix2 0 n) = (m ((c.tc : Thread nD τ).loc main_arg2) : FVec Ideal S6144 .f32) (Idealize.ShloMosaic.ix1 n) := by
    rw [V_v1]; exact row_cast3 _ n
  unfold result
  refine (slice_at _ r n).trans ((arr3 m c _ n).trans ?_)
  simp only [e0, e1, e2]

theorem tail_v3 : Pipeline.afterTail₀ cfgs (dats m) 0 (V0 m) [hostOps1] c main_v3 = result m c := by
  have hw : Pipeline.withArrays (cfgs 0).spec c (V0 m c) (fun w => (dats m 0 c).arrAt w (cfgs 0).N) (Proc.devRef .tc (Pipeline.arrRef spec0 3)) = (dats m 0 c).arrAt 3 cfg0.N :=
    Pipeline.withArrays_arr spec0 (by decide) c (V0 m c) _ 3
  unfold Pipeline.afterTail₀ result
  rw [← hw]
  generalize Pipeline.withArrays (cfgs 0).spec c (V0 m c) (fun w => (dats m 0 c).arrAt w (cfgs 0).N) = W
  after_reads_simp

variable (ρ : Dev nD → PrngReg)

/-- Every run ends with the result at `result` and the arguments unchanged. -/
theorem run_value : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v3 (Pipeline.mem_restRefs_of main_v3 (by decide) (by decide))).trans (tail_v3 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩) (run_main m ρ)

end Cert.Kernel3Ideal.Gen
-- ==== Proof.ModEqual.lean ====
module

public import proofs.«01_k».proof.Defs
public import proofs.«01_k».proof.Proof.Gen.Reference3Ideal.Run
public import proofs.«01_k».proof.Proof.ModArr

@[expose] public section

set_option maxRecDepth 16384

noncomputable section

namespace Cert.Reference3Ideal.Value

open Cert.Reference3Ideal Cert.Reference3Ideal.Gen Idealize.ShloMosaic Idealize.ShloMosaic.TcCoe Idealize.SL.Sem
open Cert.Modulation

/-- The modulation's reference, read at an index. -/
theorem ref_at (x : FVec Ideal S4x1024 .f32) (w : FVec Ideal S1024x6144 .f32) (b : FVec Ideal S6144 .f32) (r : Fin 4) (n : Fin 6144) :
    (addf (Host.dotGeneral dot_S4x1024_S1024x6144_S4x6144_1_0_0_1_n_n none (mulf x (Host.divf (broadcastInDim S4x1024 ![] bcast_S_S4x1024 (constant S_ .f32 0x3F800000#32)) (addf (broadcastInDim S4x1024 ![] bcast_S_S4x1024 (constant S_ .f32 0x3F800000#32)) (Host.exp (Host.negf x))))) w) (broadcastInDim S4x6144 ![0, 1] bcast_S1x6144_S4x6144_0_1 (broadcastInDim S1x6144 ![1] bcast_S6144_S1x6144_1 b)) : FVec Ideal S4x6144 .f32) (ix2 r n)
      = entry (fun k => x (ix2 r k)) (fun k => w (ix2 k n)) (b (Idealize.ShloMosaic.ix1 n)) := by
  unfold entry
  pointwise

end Cert.Reference3Ideal.Value

namespace Cert.ModEqual

open Idealize.ShloMosaic Idealize.SL.Sem

/-! # The modulation's kernel and reference end with equal results -/

theorem algebraic : Cert.algebraic_Kernel3Ideal_Reference3Ideal := by
  intro m g m' g' hpre hargs
  refine ⟨fun c => Cert.Kernel3Ideal.Gen.result m c, Cert.Kernel3Ideal.Gen.run_value m g, ?_⟩
  refine (θ_run Cert.Reference3Ideal.defs _ _).mono (fun r h c => ?_) (Cert.Reference3Ideal.Value.run (F := Ideal) m' g')
  obtain ⟨h0, h1⟩ := h c
  obtain ⟨a0, a1, a2⟩ := hargs c
  refine ⟨h0.trans ?_, h1⟩
  rw [a0, a1, a2]
  funext i
  rw [eq_ix2 i]
  exact (Cert.Reference3Ideal.Value.ref_at _ _ _ _ _).trans (Cert.Kernel3Ideal.Gen.result_at m c _ _).symm

end Cert.ModEqual
-- ==== Proof.lean ====
/- The frames of the three programs, the named constants, and the equality of kernel and reference, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Value
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Frame
public import proofs.«01_k».proof.Proof.Gen.Reference3Ideal
public import proofs.«01_k».proof.Proof.Gen.Reference3Ideal.Run
public import proofs.«01_k».proof.Proof.Run
public import proofs.«01_k».proof.Proof.Bits.Run
public import proofs.«01_k».proof.Proof.Finite
public import proofs.«01_k».proof.Proof.Equal
public import proofs.«01_k».proof.Proof.MergeEqual
public import proofs.«01_k».proof.Proof.ModEqual
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel's own program ends, leaves its arguments, and every counter at zero. -/
theorem frame_kernel : Cert.quiescent_Kernel := fun m ρ _ =>
  (θ_run Cert.Kernel.defs _ _).mono (fun _ h => ⟨fun c => ⟨(h.1 c).1, (h.1 c).2.1, (h.1 c).2.2.1, (h.1 c).2.2.2.1, (h.1 c).2.2.2.2.1⟩, h.2⟩) (Cert.Kernel.Gen.run_main m ρ)
/-- So does the ideal program, -/
theorem frame_ideal : Cert.quiescent_KernelIdeal := fun m ρ _ =>
  (θ_run Cert.KernelIdeal.defs _ _).mono (fun _ h => ⟨fun c => ⟨(h.1 c).1, (h.1 c).2.1, (h.1 c).2.2.1, (h.1 c).2.2.2.1, (h.1 c).2.2.2.2.1⟩, h.2⟩) (Cert.KernelIdeal.Gen.run_main m ρ)
theorem frame_ideal_pre : Cert.quiescent_KernelIdeal_pre_finite := fun m ρ _ => frame_ideal m ρ trivial
/-- and the reference. -/
theorem frame_reference : Cert.quiescent_ReferenceIdeal := fun m ρ _ =>
  (θ_run Cert.ReferenceIdeal.defs _ _).mono (fun r h => ⟨fun c => (h c).2.2.2, sem_eq_zero_of_no_sems (by decide) r.2⟩) (Cert.ReferenceIdeal.Value.run (F := Ideal) m ρ)
theorem frame_reference_pre : Cert.quiescent_ReferenceIdeal_pre_finite := fun m ρ _ => frame_reference m ρ trivial
/-- The two named constants are what their names say. -/
theorem named : Cert.preserves_Kernel_KernelIdeal :=
  ⟨IdealRules.named_const.statement _ _ _ _ _ rfl, IdealRules.named_const.statement _ _ _ _ _ rfl⟩

/-- The merge's own program, its ideal program, -/
theorem frame_kernel2 : Cert.quiescent_Kernel2 := fun m ρ _ => Cert.Kernel2.Gen.frame m ρ
theorem frame_ideal2 : Cert.quiescent_Kernel2Ideal := fun m ρ _ => Cert.Kernel2Ideal.Gen.frame m ρ
/-- and its reference end and leave their arguments as well. -/
theorem frame_reference2 : Cert.quiescent_Reference2Ideal := fun m ρ _ =>
  (θ_run Cert.Reference2Ideal.defs _ _).mono (fun r h => ⟨fun c => (h c).2.2.2, sem_eq_zero_of_no_sems (by decide) r.2⟩) (Cert.Reference2Ideal.Value.run (F := Ideal) m ρ)

/-- The modulation's own program, its ideal program, -/
theorem frame_kernel3 : Cert.quiescent_Kernel3 := fun m ρ _ => Cert.Kernel3.Gen.frame m ρ
theorem frame_ideal3 : Cert.quiescent_Kernel3Ideal := fun m ρ _ => Cert.Kernel3Ideal.Gen.frame m ρ
/-- and its reference end and leave their arguments too. -/
theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite.shapes,
    frame_kernel, frame_ideal, frame_ideal_pre, frame_reference, frame_reference_pre, frame_kernel2, frame_ideal2, frame_reference2, frame_kernel3, frame_ideal3, frame_reference3, named, Cert.Equal.algebraic, trivial, Cert.MergeEqual.algebraic, trivial, Cert.ModEqual.algebraic⟩

end Cert.Proof

end
